-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_pre_value [hPre_pre_value : Cert.Pre_pre_value.Facts] (m : (ℓ : Loc Cert.KernelIdeal.nD Cert.KernelIdeal.τ Cert.KernelIdeal.sig) → Buf (Elt Ideal) ℓ) : Prop :=
  ∀ c : Dev Cert.KernelIdeal.nD,
    (Cert.Pre_pre_value.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_value [hPre_pre_value : Cert.Pre_pre_value.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_value.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre_value [hKernelIdeal : Cert.KernelIdeal.Facts] [hPre_pre_value : Cert.Pre_pre_value.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_value m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre_value [hReferenceIdeal : Cert.ReferenceIdeal.Facts] [hPre_pre_value : Cert.Pre_pre_value.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_value m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre_value [hKernelIdeal : Cert.KernelIdeal.Facts] [hReferenceIdeal : Cert.ReferenceIdeal.Facts] [hPre_pre_value : Cert.Pre_pre_value.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_value m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts) (hPre_pre_value : Cert.Pre_pre_value.Facts),
    quiescent_Kernel (hKernel := hKernel) (hPre_pre := hPre_pre)
    ∧ quiescent_KernelIdeal (hKernelIdeal := hKernelIdeal) (hPre_pre := hPre_pre)
    ∧ quiescent_KernelIdeal_pre_pre_value (hKernelIdeal := hKernelIdeal) (hPre_pre_value := hPre_pre_value)
    ∧ quiescent_ReferenceIdeal (hReferenceIdeal := hReferenceIdeal)
    ∧ quiescent_ReferenceIdeal_pre_pre_value (hReferenceIdeal := hReferenceIdeal) (hPre_pre_value := hPre_pre_value)
    ∧ preserves_Kernel_KernelIdeal
    ∧ algebraic_KernelIdeal_ReferenceIdeal_pre_pre_value (hKernelIdeal := hKernelIdeal) (hReferenceIdeal := hReferenceIdeal) (hPre_pre_value := hPre_pre_value)
-- ==== Pre_pre.lean ====
abbrev S52x48x128 : Shape := ⟨3, ![52, 48, 128]⟩
abbrev S52x46080x128 : Shape := ⟨3, ![52, 46080, 128]⟩
abbrev S4 : Shape := ⟨1, ![4]⟩
abbrev S52x46080x32 : Shape := ⟨3, ![52, 46080, 32]⟩
abbrev S52x257 : Shape := ⟨2, ![52, 257]⟩
abbrev S52x256 : Shape := ⟨2, ![52, 256]⟩
abbrev S52x1 : Shape := ⟨2, ![52, 1]⟩
abbrev S52 : Shape := ⟨1, ![52]⟩
abbrev S_ : Shape := ⟨0, ![]⟩

class Facts : Prop where
  slices_S52x257_S52x256_0_1 : S52x257.Slices ![0, 1] S52x256
  slices_S52x257_S52x256_0_0 : S52x257.Slices ![0, 0] S52x256
  slices_S52x257_S52x1_0_256 : S52x257.Slices ![0, 256] S52x1
  shapeCasts_S52x1_S52 : S52x1.ShapeCasts S52
  slices_S52x257_S52x1_0_0 : S52x257.Slices ![0, 0] S52x1
  bcast_S_S52 : S_.BroadcastsInDim S52 (![] : Fin 0 → Fin S52.rank)
  reducesTo_S52_S_d0 : S52.ReducesTo [0] S_
  h_S_ : 0 < S_.numel
  bcast_S_S52x256 : S_.BroadcastsInDim S52x256 (![] : Fin 0 → Fin S52x256.rank)
  reducesTo_S52x256_S_d0_1 : S52x256.ReducesTo [0, 1] S_

variable [Facts]

def fn_part1 {F : FTy → Type} [FloatOps F] (main_v4 : IVec S52 32) (main_v17 : IVec S_ 1) : IVec S_ 1 :=
  let main_c_5 : IVec S_ 32 := constantI S_ 32 1#32
  let main_v18 : IVec S52 32 := broadcastInDim S52 ![] bcast_S_S52 main_c_5
  let main_v19 : IVec S52 1 := cmpi .sge main_v4 main_v18
  let main_c_6 : IVec S_ 1 := constantI S_ 1 1#1
  let main_v20 : IVec S_ 1 := (fun x v => Host.reduce IntOp.andi x v reducesTo_S52_S_d0 h_S_) main_v19 main_c_6
  let main_v21 : IVec S_ 1 := andi main_v17 main_v20
  let main_c_7 : IVec S_ 32 := constantI S_ 32 46080#32
  let main_v22 : IVec S52 32 := broadcastInDim S52 ![] bcast_S_S52 main_c_7
  let main_v23 : IVec S52 1 := cmpi .sle main_v4 main_v22
  let main_c_8 : IVec S_ 1 := constantI S_ 1 1#1
  let main_v24 : IVec S_ 1 := (fun x v => Host.reduce IntOp.andi x v reducesTo_S52_S_d0 h_S_) main_v23 main_c_8
  let main_v25 : IVec S_ 1 := andi main_v21 main_v24
  main_v25

def fn {F : FTy → Type} [FloatOps F] (main_arg0 : FVec F S52x48x128 .bf16) (main_arg1 : IVec S52x46080x128 16) (main_arg2 : FVec F S4 .f32) (main_arg3 : IVec S52x46080x32 8) (main_arg4 : IVec S52x257 32) : IVec S_ 1 :=
  let main_v0 : IVec S52x256 32 := (extractStridedSlice S52x256 ![0, 1] · slices_S52x257_S52x256_0_1) main_arg4
  let main_v1 : IVec S52x256 32 := (extractStridedSlice S52x256 ![0, 0] · slices_S52x257_S52x256_0_0) main_arg4
  let main_v2 : IVec S52x256 32 := subi main_v0 main_v1
  let main_v3 : IVec S52x1 32 := (extractStridedSlice S52x1 ![0, 256] · slices_S52x257_S52x1_0_256) main_arg4
  let main_v4 : IVec S52 32 := shapeCast S52 main_v3 shapeCasts_S52x1_S52
  let main_v5 : IVec S52x1 32 := (extractStridedSlice S52x1 ![0, 0] · slices_S52x257_S52x1_0_0) main_arg4
  let main_v6 : IVec S52 32 := shapeCast S52 main_v5 shapeCasts_S52x1_S52
  let main_c : IVec S_ 32 := constantI S_ 32 0#32
  let main_v7 : IVec S52 32 := broadcastInDim S52 ![] bcast_S_S52 main_c
  let main_v8 : IVec S52 1 := cmpi .sge main_v6 main_v7
  let main_c_0 : IVec S_ 1 := constantI S_ 1 1#1
  let main_v9 : IVec S_ 1 := (fun x v => Host.reduce IntOp.andi x v reducesTo_S52_S_d0 h_S_) main_v8 main_c_0
  let main_c_1 : IVec S_ 32 := constantI S_ 32 0#32
  let main_v10 : IVec S52x256 32 := broadcastInDim S52x256 ![] bcast_S_S52x256 main_c_1
  let main_v11 : IVec S52x256 1 := cmpi .sge main_v2 main_v10
  let main_c_2 : IVec S_ 1 := constantI S_ 1 1#1
  let main_v12 : IVec S_ 1 := (fun x v => Host.reduce IntOp.andi x v reducesTo_S52x256_S_d0_1 h_S_) main_v11 main_c_2
  let main_v13 : IVec S_ 1 := andi main_v9 main_v12
  let main_c_3 : IVec S_ 32 := constantI S_ 32 180#32
  let main_v14 : IVec S52x256 32 := broadcastInDim S52x256 ![] bcast_S_S52x256 main_c_3
  let main_v15 : IVec S52x256 1 := cmpi .sle main_v2 main_v14
  let main_c_4 : IVec S_ 1 := constantI S_ 1 1#1
  let main_v16 : IVec S_ 1 := (fun x v => Host.reduce IntOp.andi x v reducesTo_S52x256_S_d0_1 h_S_) main_v15 main_c_4
  let main_v17 : IVec S_ 1 := andi main_v13 main_v16
  fn_part1 (F := F) main_v4 main_v17
-- ==== Pre_pre_value.lean ====
abbrev S52x48x128 : Shape := ⟨3, ![52, 48, 128]⟩
abbrev S52x46080x128 : Shape := ⟨3, ![52, 46080, 128]⟩
abbrev S4 : Shape := ⟨1, ![4]⟩
abbrev S52x46080x32 : Shape := ⟨3, ![52, 46080, 32]⟩
abbrev S52x257 : Shape := ⟨2, ![52, 257]⟩
abbrev S_ : Shape := ⟨0, ![]⟩
abbrev S1 : Shape := ⟨1, ![1]⟩
abbrev S52x46080 : Shape := ⟨2, ![52, 46080]⟩
abbrev S46080 : Shape := ⟨1, ![46080]⟩
abbrev S1x46080 : Shape := ⟨2, ![1, 46080]⟩
abbrev S52x1 : Shape := ⟨2, ![52, 1]⟩
abbrev S52x256 : Shape := ⟨2, ![52, 256]⟩
abbrev S52 : Shape := ⟨1, ![52]⟩

class Facts : Prop where
  natLt_16_32 : 16 < 32
  bcast_S_S52x46080x128 : S_.BroadcastsInDim S52x46080x128 (![] : Fin 0 → Fin S52x46080x128.rank)
  natLt_8_32 : 8 < 32
  bcast_S_S52x46080x32 : S_.BroadcastsInDim S52x46080x32 (![] : Fin 0 → Fin S52x46080x32.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  slicesBy_S52x46080x128_S52x46080x32_0s1_0s1_0s4 : S52x46080x128.SlicesBy (![0, 0, 0] : Fin 3 → Nat) ![1, 1, 4] S52x46080x32
  reducesTo_S52x46080x32_S52x46080_d2 : S52x46080x32.ReducesTo [2] S52x46080
  h_S_ : 0 < S_.numel
  slicesBy_S52x46080x128_S52x46080x32_0s1_0s1_1s4 : S52x46080x128.SlicesBy (![0, 0, 1] : Fin 3 → Nat) ![1, 1, 4] S52x46080x32
  slicesBy_S52x46080x128_S52x46080x32_0s1_0s1_2s4 : S52x46080x128.SlicesBy (![0, 0, 2] : Fin 3 → Nat) ![1, 1, 4] S52x46080x32
  slicesBy_S52x46080x128_S52x46080x32_0s1_0s1_3s4 : S52x46080x128.SlicesBy (![0, 0, 3] : Fin 3 → Nat) ![1, 1, 4] S52x46080x32
  bcast_S46080_S1x46080_1 : S46080.BroadcastsInDim S1x46080 (![1] : Fin 1 → Fin S1x46080.rank)
  slices_S52x257_S52x1_0_0 : S52x257.Slices ![0, 0] S52x1
  bcast_S1x46080_S52x46080_0_1 : S1x46080.BroadcastsInDim S52x46080 (![0, 1] : Fin 2 → Fin S52x46080.rank)
  bcast_S52x1_S52x46080_0_1 : S52x1.BroadcastsInDim S52x46080 (![0, 1] : Fin 2 → Fin S52x46080.rank)
  slices_S52x257_S52x1_0_256 : S52x257.Slices ![0, 256] S52x1
  slices_S52x257_S52x256_0_1 : S52x257.Slices ![0, 1] S52x256
  slices_S52x257_S52x256_0_0 : S52x257.Slices ![0, 0] S52x256
  shapeCasts_S52x1_S52 : S52x1.ShapeCasts S52
  bcast_S_S52 : S_.BroadcastsInDim S52 (![] : Fin 0 → Fin S52.rank)
  reducesTo_S52_S_d0 : S52.ReducesTo [0] S_
  bcast_S_S52x256 : S_.BroadcastsInDim S52x256 (![] : Fin 0 → Fin S52x256.rank)
  reducesTo_S52x256_S_d0_1 : S52x256.ReducesTo [0, 1] S_
  bcast_S_S52x46080 : S_.BroadcastsInDim S52x46080 (![] : Fin 0 → Fin S52x46080.rank)
  reducesTo_S52x46080_S_d0_1 : S52x46080.ReducesTo [0, 1] S_

variable [Facts]

def fn_where {F : FTy → Type} [FloatOps F] (arg0 : IVec S52x46080x32 1) (arg1 : FVec F S_ .f32) (arg2 : FVec F S_ .f32) : FVec F S52x46080x32 .f32 :=
  let v0 : FVec F S52x46080x32 .f32 := broadcastInDim S52x46080x32 ![] bcast_S_S52x46080x32 arg1
  let v1 : FVec F S52x46080x32 .f32 := broadcastInDim S52x46080x32 ![] bcast_S_S52x46080x32 arg2
  let v2 : FVec F S52x46080x32 .f32 := select arg0 v0 v1
  v2

def fn_where_0 {F : FTy → Type} [FloatOps F] (arg0 : IVec S52x46080x32 1) (arg1 : FVec F S52x46080x32 .f32) (arg2 : FVec F S52x46080x32 .f32) : FVec F S52x46080x32 .f32 :=
  let v0 : FVec F S52x46080x32 .f32 := select arg0 arg1 arg2
  v0

def fn_part8 {F : FTy → Type} [FloatOps F] (main_v118 : FVec F S52x46080 .f32) (main_v129 : IVec S52x46080 1) (main_v151 : IVec S_ 1) (main_v153 : IVec S52 1) : IVec S_ 1 :=
  let main_c_36 : IVec S_ 1 := constantI S_ 1 1#1
  let main_v154 : IVec S_ 1 := (fun x v => Host.reduce IntOp.andi x v reducesTo_S52_S_d0 h_S_) main_v153 main_c_36
  let main_v155 : IVec S_ 1 := andi main_v151 main_v154
  let main_cst_37 : FVec F S_ .f32 := constant S_ .f32 0x00000000#32
  let main_v156 : FVec F S52x46080 .f32 := broadcastInDim S52x46080 ![] bcast_S_S52x46080 main_cst_37
  let main_v157 : IVec S52x46080 1 := cmpf .ogt main_v118 main_v156
  let main_v158 : IVec S52x46080 1 := ori main_v129 main_v157
  let main_c_38 : IVec S_ 1 := constantI S_ 1 1#1
  let main_v159 : IVec S_ 1 := (fun x v => Host.reduce IntOp.andi x v reducesTo_S52x46080_S_d0_1 h_S_) main_v158 main_c_38
  let main_v160 : IVec S_ 1 := andi main_v155 main_v159
  main_v160

def fn_part7 {F : FTy → Type} [FloatOps F] (main_v118 : FVec F S52x46080 .f32) (main_v129 : IVec S52x46080 1) (main_v132 : IVec S52x256 32) (main_v134 : IVec S52 32) (main_v136 : IVec S52 32) (main_v137 : IVec S52 32) : IVec S_ 1 :=
  let main_v138 : IVec S52 1 := cmpi .sge main_v136 main_v137
  let main_c_28 : IVec S_ 1 := constantI S_ 1 1#1
  let main_v139 : IVec S_ 1 := (fun x v => Host.reduce IntOp.andi x v reducesTo_S52_S_d0 h_S_) main_v138 main_c_28
  let main_c_29 : IVec S_ 32 := constantI S_ 32 0#32
  let main_v140 : IVec S52x256 32 := broadcastInDim S52x256 ![] bcast_S_S52x256 main_c_29
  let main_v141 : IVec S52x256 1 := cmpi .sge main_v132 main_v140
  let main_c_30 : IVec S_ 1 := constantI S_ 1 1#1
  let main_v142 : IVec S_ 1 := (fun x v => Host.reduce IntOp.andi x v reducesTo_S52x256_S_d0_1 h_S_) main_v141 main_c_30
  let main_v143 : IVec S_ 1 := andi main_v139 main_v142
  let main_c_31 : IVec S_ 32 := constantI S_ 32 180#32
  let main_v144 : IVec S52x256 32 := broadcastInDim S52x256 ![] bcast_S_S52x256 main_c_31
  let main_v145 : IVec S52x256 1 := cmpi .sle main_v132 main_v144
  let main_c_32 : IVec S_ 1 := constantI S_ 1 1#1
  let main_v146 : IVec S_ 1 := (fun x v => Host.reduce IntOp.andi x v reducesTo_S52x256_S_d0_1 h_S_) main_v145 main_c_32
  let main_v147 : IVec S_ 1 := andi main_v143 main_v146
  let main_c_33 : IVec S_ 32 := constantI S_ 32 1#32
  let main_v148 : IVec S52 32 := broadcastInDim S52 ![] bcast_S_S52 main_c_33
  let main_v149 : IVec S52 1 := cmpi .sge main_v134 main_v148
  let main_c_34 : IVec S_ 1 := constantI S_ 1 1#1
  let main_v150 : IVec S_ 1 := (fun x v => Host.reduce IntOp.andi x v reducesTo_S52_S_d0 h_S_) main_v149 main_c_34
  let main_v151 : IVec S_ 1 := andi main_v147 main_v150
  let main_c_35 : IVec S_ 32 := constantI S_ 32 46080#32
  let main_v152 : IVec S52 32 := broadcastInDim S52 ![] bcast_S_S52 main_c_35
  let main_v153 : IVec S52 1 := cmpi .sle main_v134 main_v152
  fn_part8 (F := F) main_v118 main_v129 main_v151 main_v153

def fn_part6 {F : FTy → Type} [FloatOps F] (main_arg4 : IVec S52x257 32) (main_v89 : FVec F S52x46080 .f32) (main_v115 : FVec F S52x46080x32 .f32) : IVec S_ 1 :=
  let main_v116 : FVec F S52x46080x32 .f32 := mulf main_v115 main_v115
  let main_cst_26 : FVec F S_ .f32 := constant S_ .f32 0x00000000#32
  let main_v117 : FVec F S52x46080 .f32 := (fun x v => Host.reduceAdd x v reducesTo_S52x46080x32_S52x46080_d2 h_S_) main_v116 main_cst_26
  let main_v118 : FVec F S52x46080 .f32 := addf main_v89 main_v117
  let main_v119 : IVec S46080 32 := iotaInDim S46080 32 0
  let main_v120 : IVec S1x46080 32 := broadcastInDim S1x46080 ![1] bcast_S46080_S1x46080_1 main_v119
  let main_v121 : IVec S52x1 32 := (extractStridedSlice S52x1 ![0, 0] · slices_S52x257_S52x1_0_0) main_arg4
  let main_v122 : IVec S52x46080 32 := broadcastInDim S52x46080 ![0, 1] bcast_S1x46080_S52x46080_0_1 main_v120
  let main_v123 : IVec S52x46080 32 := broadcastInDim S52x46080 ![0, 1] bcast_S52x1_S52x46080_0_1 main_v121
  let main_v124 : IVec S52x46080 1 := cmpi .slt main_v122 main_v123
  let main_v125 : IVec S52x1 32 := (extractStridedSlice S52x1 ![0, 256] · slices_S52x257_S52x1_0_256) main_arg4
  let main_v126 : IVec S52x46080 32 := broadcastInDim S52x46080 ![0, 1] bcast_S1x46080_S52x46080_0_1 main_v120
  let main_v127 : IVec S52x46080 32 := broadcastInDim S52x46080 ![0, 1] bcast_S52x1_S52x46080_0_1 main_v125
  let main_v128 : IVec S52x46080 1 := cmpi .sge main_v126 main_v127
  let main_v129 : IVec S52x46080 1 := ori main_v124 main_v128
  let main_v130 : IVec S52x256 32 := (extractStridedSlice S52x256 ![0, 1] · slices_S52x257_S52x256_0_1) main_arg4
  let main_v131 : IVec S52x256 32 := (extractStridedSlice S52x256 ![0, 0] · slices_S52x257_S52x256_0_0) main_arg4
  let main_v132 : IVec S52x256 32 := subi main_v130 main_v131
  let main_v133 : IVec S52x1 32 := (extractStridedSlice S52x1 ![0, 256] · slices_S52x257_S52x1_0_256) main_arg4
  let main_v134 : IVec S52 32 := shapeCast S52 main_v133 shapeCasts_S52x1_S52
  let main_v135 : IVec S52x1 32 := (extractStridedSlice S52x1 ![0, 0] · slices_S52x257_S52x1_0_0) main_arg4
  let main_v136 : IVec S52 32 := shapeCast S52 main_v135 shapeCasts_S52x1_S52
  let main_c_27 : IVec S_ 32 := constantI S_ 32 0#32
  let main_v137 : IVec S52 32 := broadcastInDim S52 ![] bcast_S_S52 main_c_27
  fn_part7 (F := F) main_v118 main_v129 main_v132 main_v134 main_v136 main_v137

def fn_part5 {F : FTy → Type} [FloatOps F] (main_arg2 : FVec F S4 .f32) (main_arg4 : IVec S52x257 32) (main_v3 : FVec F S52x46080x128 .f32) (main_v89 : FVec F S52x46080 .f32) (main_v90 : IVec S52x46080x32 32) (main_v94 : IVec S52x46080x32 32) (main_c_22 : IVec S_ 32) : IVec S_ 1 :=
  let main_v95 : IVec S52x46080x32 32 := broadcastInDim S52x46080x32 ![] bcast_S_S52x46080x32 main_c_22
  let main_v96 : IVec S52x46080x32 1 := cmpi .ne main_v94 main_v95
  let main_c_23 : IVec S_ 32 := constantI S_ 32 7#32
  let main_v97 : IVec S52x46080x32 32 := broadcastInDim S52x46080x32 ![] bcast_S_S52x46080x32 main_c_23
  let main_v98 : IVec S52x46080x32 32 := Host.shrui main_v90 main_v97
  let main_c_24 : IVec S_ 32 := constantI S_ 32 1#32
  let main_v99 : IVec S52x46080x32 32 := broadcastInDim S52x46080x32 ![] bcast_S_S52x46080x32 main_c_24
  let main_v100 : IVec S52x46080x32 32 := andi main_v98 main_v99
  let main_c_25 : IVec S_ 32 := constantI S_ 32 0#32
  let main_v101 : IVec S52x46080x32 32 := broadcastInDim S52x46080x32 ![] bcast_S_S52x46080x32 main_c_25
  let main_v102 : IVec S52x46080x32 1 := cmpi .ne main_v100 main_v101
  let main_v103 : FVec F S1 .f32 := (extractStridedSlice S1 ![0] · slices_S4_S1_0) main_arg2
  let main_v104 : FVec F S_ .f32 := shapeCast S_ main_v103 shapeCasts_S1_S_
  let main_v105 : FVec F S1 .f32 := (extractStridedSlice S1 ![1] · slices_S4_S1_1) main_arg2
  let main_v106 : FVec F S_ .f32 := shapeCast S_ main_v105 shapeCasts_S1_S_
  let main_v107 : FVec F S1 .f32 := (extractStridedSlice S1 ![2] · slices_S4_S1_2) main_arg2
  let main_v108 : FVec F S_ .f32 := shapeCast S_ main_v107 shapeCasts_S1_S_
  let main_v109 : FVec F S1 .f32 := (extractStridedSlice S1 ![3] · slices_S4_S1_3) main_arg2
  let main_v110 : FVec F S_ .f32 := shapeCast S_ main_v109 shapeCasts_S1_S_
  let main_v111 : FVec F S52x46080x32 .f32 := fn_where (F := F) main_v96 main_v110 main_v108
  let main_v112 : FVec F S52x46080x32 .f32 := fn_where (F := F) main_v96 main_v106 main_v104
  let main_v113 : FVec F S52x46080x32 .f32 := fn_where_0 (F := F) main_v102 main_v111 main_v112
  let main_v114 : FVec F S52x46080x32 .f32 := (Host.slice S52x46080x32 ![0, 0, 3] ![1, 1, 4] · slicesBy_S52x46080x128_S52x46080x32_0s1_0s1_3s4) main_v3
  let main_v115 : FVec F S52x46080x32 .f32 := addf main_v114 main_v113
  fn_part6 (F := F) main_arg4 main_v89 main_v115

def fn_part4 {F : FTy → Type} [FloatOps F] (main_arg2 : FVec F S4 .f32) (main_arg3 : IVec S52x46080x32 8) (main_arg4 : IVec S52x257 32) (main_v3 : FVec F S52x46080x128 .f32) (main_v60 : FVec F S52x46080 .f32) (main_v67 : IVec S52x46080x32 1) (main_v73 : IVec S52x46080x32 1) (main_v74 : FVec F S1 .f32) : IVec S_ 1 :=
  let main_v75 : FVec F S_ .f32 := shapeCast S_ main_v74 shapeCasts_S1_S_
  let main_v76 : FVec F S1 .f32 := (extractStridedSlice S1 ![1] · slices_S4_S1_1) main_arg2
  let main_v77 : FVec F S_ .f32 := shapeCast S_ main_v76 shapeCasts_S1_S_
  let main_v78 : FVec F S1 .f32 := (extractStridedSlice S1 ![2] · slices_S4_S1_2) main_arg2
  let main_v79 : FVec F S_ .f32 := shapeCast S_ main_v78 shapeCasts_S1_S_
  let main_v80 : FVec F S1 .f32 := (extractStridedSlice S1 ![3] · slices_S4_S1_3) main_arg2
  let main_v81 : FVec F S_ .f32 := shapeCast S_ main_v80 shapeCasts_S1_S_
  let main_v82 : FVec F S52x46080x32 .f32 := fn_where (F := F) main_v67 main_v81 main_v79
  let main_v83 : FVec F S52x46080x32 .f32 := fn_where (F := F) main_v67 main_v77 main_v75
  let main_v84 : FVec F S52x46080x32 .f32 := fn_where_0 (F := F) main_v73 main_v82 main_v83
  let main_v85 : FVec F S52x46080x32 .f32 := (Host.slice S52x46080x32 ![0, 0, 2] ![1, 1, 4] · slicesBy_S52x46080x128_S52x46080x32_0s1_0s1_2s4) main_v3
  let main_v86 : FVec F S52x46080x32 .f32 := addf main_v85 main_v84
  let main_v87 : FVec F S52x46080x32 .f32 := mulf main_v86 main_v86
  let main_cst_19 : FVec F S_ .f32 := constant S_ .f32 0x00000000#32
  let main_v88 : FVec F S52x46080 .f32 := (fun x v => Host.reduceAdd x v reducesTo_S52x46080x32_S52x46080_d2 h_S_) main_v87 main_cst_19
  let main_v89 : FVec F S52x46080 .f32 := addf main_v60 main_v88
  let main_v90 : IVec S52x46080x32 32 := (extui 32 · natLt_8_32) main_arg3
  let main_c_20 : IVec S_ 32 := constantI S_ 32 6#32
  let main_v91 : IVec S52x46080x32 32 := broadcastInDim S52x46080x32 ![] bcast_S_S52x46080x32 main_c_20
  let main_v92 : IVec S52x46080x32 32 := Host.shrui main_v90 main_v91
  let main_c_21 : IVec S_ 32 := constantI S_ 32 1#32
  let main_v93 : IVec S52x46080x32 32 := broadcastInDim S52x46080x32 ![] bcast_S_S52x46080x32 main_c_21
  let main_v94 : IVec S52x46080x32 32 := andi main_v92 main_v93
  let main_c_22 : IVec S_ 32 := constantI S_ 32 0#32
  fn_part5 (F := F) main_arg2 main_arg4 main_v3 main_v89 main_v90 main_v94 main_c_22

def fn_part3 {F : FTy → Type} [FloatOps F] (main_arg2 : FVec F S4 .f32) (main_arg3 : IVec S52x46080x32 8) (main_arg4 : IVec S52x257 32) (main_v3 : FVec F S52x46080x128 .f32) (main_v31 : FVec F S52x46080 .f32) (main_v57 : FVec F S52x46080x32 .f32) : IVec S_ 1 :=
  let main_v58 : FVec F S52x46080x32 .f32 := mulf main_v57 main_v57
  let main_cst_12 : FVec F S_ .f32 := constant S_ .f32 0x00000000#32
  let main_v59 : FVec F S52x46080 .f32 := (fun x v => Host.reduceAdd x v reducesTo_S52x46080x32_S52x46080_d2 h_S_) main_v58 main_cst_12
  let main_v60 : FVec F S52x46080 .f32 := addf main_v31 main_v59
  let main_v61 : IVec S52x46080x32 32 := (extui 32 · natLt_8_32) main_arg3
  let main_c_13 : IVec S_ 32 := constantI S_ 32 4#32
  let main_v62 : IVec S52x46080x32 32 := broadcastInDim S52x46080x32 ![] bcast_S_S52x46080x32 main_c_13
  let main_v63 : IVec S52x46080x32 32 := Host.shrui main_v61 main_v62
  let main_c_14 : IVec S_ 32 := constantI S_ 32 1#32
  let main_v64 : IVec S52x46080x32 32 := broadcastInDim S52x46080x32 ![] bcast_S_S52x46080x32 main_c_14
  let main_v65 : IVec S52x46080x32 32 := andi main_v63 main_v64
  let main_c_15 : IVec S_ 32 := constantI S_ 32 0#32
  let main_v66 : IVec S52x46080x32 32 := broadcastInDim S52x46080x32 ![] bcast_S_S52x46080x32 main_c_15
  let main_v67 : IVec S52x46080x32 1 := cmpi .ne main_v65 main_v66
  let main_c_16 : IVec S_ 32 := constantI S_ 32 5#32
  let main_v68 : IVec S52x46080x32 32 := broadcastInDim S52x46080x32 ![] bcast_S_S52x46080x32 main_c_16
  let main_v69 : IVec S52x46080x32 32 := Host.shrui main_v61 main_v68
  let main_c_17 : IVec S_ 32 := constantI S_ 32 1#32
  let main_v70 : IVec S52x46080x32 32 := broadcastInDim S52x46080x32 ![] bcast_S_S52x46080x32 main_c_17
  let main_v71 : IVec S52x46080x32 32 := andi main_v69 main_v70
  let main_c_18 : IVec S_ 32 := constantI S_ 32 0#32
  let main_v72 : IVec S52x46080x32 32 := broadcastInDim S52x46080x32 ![] bcast_S_S52x46080x32 main_c_18
  let main_v73 : IVec S52x46080x32 1 := cmpi .ne main_v71 main_v72
  let main_v74 : FVec F S1 .f32 := (extractStridedSlice S1 ![0] · slices_S4_S1_0) main_arg2
  fn_part4 (F := F) main_arg2 main_arg3 main_arg4 main_v3 main_v60 main_v67 main_v73 main_v74

def fn_part2 {F : FTy → Type} [FloatOps F] (main_arg2 : FVec F S4 .f32) (main_arg3 : IVec S52x46080x32 8) (main_arg4 : IVec S52x257 32) (main_v3 : FVec F S52x46080x128 .f32) (main_v31 : FVec F S52x46080 .f32) (main_v32 : IVec S52x46080x32 32) (main_v36 : IVec S52x46080x32 32) (main_c_8 : IVec S_ 32) : IVec S_ 1 :=
  let main_v37 : IVec S52x46080x32 32 := broadcastInDim S52x46080x32 ![] bcast_S_S52x46080x32 main_c_8
  let main_v38 : IVec S52x46080x32 1 := cmpi .ne main_v36 main_v37
  let main_c_9 : IVec S_ 32 := constantI S_ 32 3#32
  let main_v39 : IVec S52x46080x32 32 := broadcastInDim S52x46080x32 ![] bcast_S_S52x46080x32 main_c_9
  let main_v40 : IVec S52x46080x32 32 := Host.shrui main_v32 main_v39
  let main_c_10 : IVec S_ 32 := constantI S_ 32 1#32
  let main_v41 : IVec S52x46080x32 32 := broadcastInDim S52x46080x32 ![] bcast_S_S52x46080x32 main_c_10
  let main_v42 : IVec S52x46080x32 32 := andi main_v40 main_v41
  let main_c_11 : IVec S_ 32 := constantI S_ 32 0#32
  let main_v43 : IVec S52x46080x32 32 := broadcastInDim S52x46080x32 ![] bcast_S_S52x46080x32 main_c_11
  let main_v44 : IVec S52x46080x32 1 := cmpi .ne main_v42 main_v43
  let main_v45 : FVec F S1 .f32 := (extractStridedSlice S1 ![0] · slices_S4_S1_0) main_arg2
  let main_v46 : FVec F S_ .f32 := shapeCast S_ main_v45 shapeCasts_S1_S_
  let main_v47 : FVec F S1 .f32 := (extractStridedSlice S1 ![1] · slices_S4_S1_1) main_arg2
  let main_v48 : FVec F S_ .f32 := shapeCast S_ main_v47 shapeCasts_S1_S_
  let main_v49 : FVec F S1 .f32 := (extractStridedSlice S1 ![2] · slices_S4_S1_2) main_arg2
  let main_v50 : FVec F S_ .f32 := shapeCast S_ main_v49 shapeCasts_S1_S_
  let main_v51 : FVec F S1 .f32 := (extractStridedSlice S1 ![3] · slices_S4_S1_3) main_arg2
  let main_v52 : FVec F S_ .f32 := shapeCast S_ main_v51 shapeCasts_S1_S_
  let main_v53 : FVec F S52x46080x32 .f32 := fn_where (F := F) main_v38 main_v52 main_v50
  let main_v54 : FVec F S52x46080x32 .f32 := fn_where (F := F) main_v38 main_v48 main_v46
  let main_v55 : FVec F S52x46080x32 .f32 := fn_where_0 (F := F) main_v44 main_v53 main_v54
  let main_v56 : FVec F S52x46080x32 .f32 := (Host.slice S52x46080x32 ![0, 0, 1] ![1, 1, 4] · slicesBy_S52x46080x128_S52x46080x32_0s1_0s1_1s4) main_v3
  let main_v57 : FVec F S52x46080x32 .f32 := addf main_v56 main_v55
  fn_part3 (F := F) main_arg2 main_arg3 main_arg4 main_v3 main_v31 main_v57

def fn_part1 {F : FTy → Type} [FloatOps F] (main_arg2 : FVec F S4 .f32) (main_arg3 : IVec S52x46080x32 8) (main_arg4 : IVec S52x257 32) (main_v3 : FVec F S52x46080x128 .f32) (main_v10 : IVec S52x46080x32 1) (main_v16 : IVec S52x46080x32 1) : IVec S_ 1 :=
  let main_v17 : FVec F S1 .f32 := (extractStridedSlice S1 ![0] · slices_S4_S1_0) main_arg2
  let main_v18 : FVec F S_ .f32 := shapeCast S_ main_v17 shapeCasts_S1_S_
  let main_v19 : FVec F S1 .f32 := (extractStridedSlice S1 ![1] · slices_S4_S1_1) main_arg2
  let main_v20 : FVec F S_ .f32 := shapeCast S_ main_v19 shapeCasts_S1_S_
  let main_v21 : FVec F S1 .f32 := (extractStridedSlice S1 ![2] · slices_S4_S1_2) main_arg2
  let main_v22 : FVec F S_ .f32 := shapeCast S_ main_v21 shapeCasts_S1_S_
  let main_v23 : FVec F S1 .f32 := (extractStridedSlice S1 ![3] · slices_S4_S1_3) main_arg2
  let main_v24 : FVec F S_ .f32 := shapeCast S_ main_v23 shapeCasts_S1_S_
  let main_v25 : FVec F S52x46080x32 .f32 := fn_where (F := F) main_v10 main_v24 main_v22
  let main_v26 : FVec F S52x46080x32 .f32 := fn_where (F := F) main_v10 main_v20 main_v18
  let main_v27 : FVec F S52x46080x32 .f32 := fn_where_0 (F := F) main_v16 main_v25 main_v26
  let main_v28 : FVec F S52x46080x32 .f32 := (Host.slice S52x46080x32 ![0, 0, 0] ![1, 1, 4] · slicesBy_S52x46080x128_S52x46080x32_0s1_0s1_0s4) main_v3
  let main_v29 : FVec F S52x46080x32 .f32 := addf main_v28 main_v27
  let main_v30 : FVec F S52x46080x32 .f32 := mulf main_v29 main_v29
  let main_cst : FVec F S_ .f32 := constant S_ .f32 0x00000000#32
  let main_v31 : FVec F S52x46080 .f32 := (fun x v => Host.reduceAdd x v reducesTo_S52x46080x32_S52x46080_d2 h_S_) main_v30 main_cst
  let main_v32 : IVec S52x46080x32 32 := (extui 32 · natLt_8_32) main_arg3
  let main_c_6 : IVec S_ 32 := constantI S_ 32 2#32
  let main_v33 : IVec S52x46080x32 32 := broadcastInDim S52x46080x32 ![] bcast_S_S52x46080x32 main_c_6
  let main_v34 : IVec S52x46080x32 32 := Host.shrui main_v32 main_v33
  let main_c_7 : IVec S_ 32 := constantI S_ 32 1#32
  let main_v35 : IVec S52x46080x32 32 := broadcastInDim S52x46080x32 ![] bcast_S_S52x46080x32 main_c_7
  let main_v36 : IVec S52x46080x32 32 := andi main_v34 main_v35
  let main_c_8 : IVec S_ 32 := constantI S_ 32 0#32
  fn_part2 (F := F) main_arg2 main_arg3 main_arg4 main_v3 main_v31 main_v32 main_v36 main_c_8

def fn {F : FTy → Type} [FloatOps F] (main_arg0 : FVec F S52x48x128 .bf16) (main_arg1 : IVec S52x46080x128 16) (main_arg2 : FVec F S4 .f32) (main_arg3 : IVec S52x46080x32 8) (main_arg4 : IVec S52x257 32) : IVec S_ 1 :=
  let main_v0 : IVec S52x46080x128 32 := (extui 32 · natLt_16_32) main_arg1
  let main_c : IVec S_ 32 := constantI S_ 32 16#32
  let main_v1 : IVec S52x46080x128 32 := broadcastInDim S52x46080x128 ![] bcast_S_S52x46080x128 main_c
  let main_v2 : IVec S52x46080x128 32 := Host.shli main_v0 main_v1
  let main_v3 : FVec F S52x46080x128 .f32 := bitcastToFloat .f32 main_v2
  let main_v4 : IVec S52x46080x32 32 := (extui 32 · natLt_8_32) main_arg3
  let main_c_0 : IVec S_ 32 := constantI S_ 32 0#32
  let main_v5 : IVec S52x46080x32 32 := broadcastInDim S52x46080x32 ![] bcast_S_S52x46080x32 main_c_0
  let main_v6 : IVec S52x46080x32 32 := Host.shrui main_v4 main_v5
  let main_c_1 : IVec S_ 32 := constantI S_ 32 1#32
  let main_v7 : IVec S52x46080x32 32 := broadcastInDim S52x46080x32 ![] bcast_S_S52x46080x32 main_c_1
  let main_v8 : IVec S52x46080x32 32 := andi main_v6 main_v7
  let main_c_2 : IVec S_ 32 := constantI S_ 32 0#32
  let main_v9 : IVec S52x46080x32 32 := broadcastInDim S52x46080x32 ![] bcast_S_S52x46080x32 main_c_2
  let main_v10 : IVec S52x46080x32 1 := cmpi .ne main_v8 main_v9
  let main_c_3 : IVec S_ 32 := constantI S_ 32 1#32
  let main_v11 : IVec S52x46080x32 32 := broadcastInDim S52x46080x32 ![] bcast_S_S52x46080x32 main_c_3
  let main_v12 : IVec S52x46080x32 32 := Host.shrui main_v4 main_v11
  let main_c_4 : IVec S_ 32 := constantI S_ 32 1#32
  let main_v13 : IVec S52x46080x32 32 := broadcastInDim S52x46080x32 ![] bcast_S_S52x46080x32 main_c_4
  let main_v14 : IVec S52x46080x32 32 := andi main_v12 main_v13
  let main_c_5 : IVec S_ 32 := constantI S_ 32 0#32
  let main_v15 : IVec S52x46080x32 32 := broadcastInDim S52x46080x32 ![] bcast_S_S52x46080x32 main_c_5
  let main_v16 : IVec S52x46080x32 1 := cmpi .ne main_v14 main_v15
  fn_part1 (F := F) main_arg2 main_arg3 main_arg4 main_v3 main_v10 main_v16
-- ==== Kernel.lean ====
abbrev S52x48x128 : Shape := ⟨3, ![52, 48, 128]⟩
abbrev S52x46080x128 : Shape := ⟨3, ![52, 46080, 128]⟩
abbrev S4 : Shape := ⟨1, ![4]⟩
abbrev S52x46080x32 : Shape := ⟨3, ![52, 46080, 32]⟩
abbrev S52x257 : Shape := ⟨2, ![52, 257]⟩
abbrev S52x48x8x2x8 : Shape := ⟨5, ![52, 48, 8, 2, 8]⟩
abbrev S1x4 : Shape := ⟨2, ![1, 4]⟩
abbrev S2x4 : Shape := ⟨2, ![2, 4]⟩
abbrev S8 : Shape := ⟨1, ![8]⟩
abbrev S8x1 : Shape := ⟨2, ![8, 1]⟩
abbrev S8x128 : Shape := ⟨2, ![8, 128]⟩
abbrev S52x32x46080 : Shape := ⟨3, ![52, 32, 46080]⟩
abbrev S52x46080x8x2x8 : Shape := ⟨5, ![52, 46080, 8, 2, 8]⟩
abbrev S52x46080x8x1x8 : Shape := ⟨5, ![52, 46080, 8, 1, 8]⟩
abbrev S52x46080x8x8 : Shape := ⟨4, ![52, 46080, 8, 8]⟩
abbrev S_ : Shape := ⟨0, ![]⟩
abbrev S52x180x2x128x64 : Shape := ⟨5, ![52, 180, 2, 128, 64]⟩
abbrev S52x180x128x2x64 : Shape := ⟨5, ![52, 180, 128, 2, 64]⟩
abbrev S52x23040x128 : Shape := ⟨3, ![52, 23040, 128]⟩
abbrev S52x48x256 : Shape := ⟨3, ![52, 48, 256]⟩
abbrev S52x1x256 : Shape := ⟨3, ![52, 1, 256]⟩
abbrev S1x48x128 : Shape := ⟨3, ![1, 48, 128]⟩
abbrev S1x48x256 : Shape := ⟨3, ![1, 48, 256]⟩
abbrev S1x1x256 : Shape := ⟨3, ![1, 1, 256]⟩
abbrev S2x640x128 : Shape := ⟨3, ![2, 640, 128]⟩
abbrev S2x32x1280 : Shape := ⟨3, ![2, 32, 1280]⟩
abbrev S363x48x128 : Shape := ⟨3, ![363, 48, 128]⟩
abbrev S1 : Shape := ⟨1, ![1]⟩
abbrev S2x2 : Shape := ⟨2, ![2, 2]⟩
abbrev S1x1 : Shape := ⟨2, ![1, 1]⟩
abbrev S1x640x128 : Shape := ⟨3, ![1, 640, 128]⟩
abbrev S640x128 : Shape := ⟨2, ![640, 128]⟩
abbrev S1x32x1280 : Shape := ⟨3, ![1, 32, 1280]⟩
abbrev S32x1280 : Shape := ⟨2, ![32, 1280]⟩
abbrev S48x128 : Shape := ⟨2, ![48, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S8x128x1 : Shape := ⟨3, ![8, 128, 1]⟩
abbrev S128 : Shape := ⟨1, ![128]⟩
abbrev S1x128 : Shape := ⟨2, ![1, 128]⟩
abbrev S48 : Shape := ⟨1, ![48]⟩
abbrev S48x1 : Shape := ⟨2, ![48, 1]⟩
abbrev S1x1x128 : Shape := ⟨3, ![1, 1, 128]⟩

abbrev nBuf : Space → Nat
  | .hbm => 31
  | .vmem => 10
  | .smem => 2
  | _ => 0

abbrev bufTy : (tb : Table) → Fin (tcTables nBuf tb) → BufTy
  | .hbm, ⟨0, _⟩ => ⟨S52x48x128, .bf16⟩
  | .hbm, ⟨1, _⟩ => ⟨S52x46080x128, .i16⟩
  | .hbm, ⟨2, _⟩ => ⟨S4, .f32⟩
  | .hbm, ⟨3, _⟩ => ⟨S52x46080x32, .i8⟩
  | .hbm, ⟨4, _⟩ => ⟨S52x257, .i32⟩
  | .hbm, ⟨5, _⟩ => ⟨S52x48x8x2x8, .bf16⟩
  | .hbm, ⟨6, _⟩ => ⟨S52x48x8x2x8, .bf16⟩
  | .hbm, ⟨7, _⟩ => ⟨S52x48x128, .bf16⟩
  | .hbm, ⟨8, _⟩ => ⟨S1x4, .f32⟩
  | .hbm, ⟨9, _⟩ => ⟨S2x4, .f32⟩
  | .hbm, ⟨10, _⟩ => ⟨S8, .f32⟩
  | .hbm, ⟨11, _⟩ => ⟨S8x1, .f32⟩
  | .hbm, ⟨12, _⟩ => ⟨S8x128, .f32⟩
  | .hbm, ⟨13, _⟩ => ⟨S52x32x46080, .i8⟩
  | .hbm, ⟨14, _⟩ => ⟨S52x46080x8x2x8, .i16⟩
  | .hbm, ⟨15, _⟩ => ⟨S52x46080x8x2x8, .i32⟩
  | .hbm, ⟨16, _⟩ => ⟨S52x46080x8x1x8, .i32⟩
  | .hbm, ⟨17, _⟩ => ⟨S52x46080x8x8, .i32⟩
  | .hbm, ⟨18, _⟩ => ⟨S52x46080x8x1x8, .i32⟩
  | .hbm, ⟨19, _⟩ => ⟨S52x46080x8x8, .i32⟩
  | .hbm, ⟨20, _⟩ => ⟨S_, .i32⟩
  | .hbm, ⟨21, _⟩ => ⟨S52x46080x8x8, .i32⟩
  | .hbm, ⟨22, _⟩ => ⟨S52x46080x8x8, .i32⟩
  | .hbm, ⟨23, _⟩ => ⟨S52x46080x8x8, .i32⟩
  | .hbm, ⟨24, _⟩ => ⟨S52x46080x8x8, .i32⟩
  | .hbm, ⟨25, _⟩ => ⟨S52x180x2x128x64, .i32⟩
  | .hbm, ⟨26, _⟩ => ⟨S52x180x128x2x64, .i32⟩
  | .hbm, ⟨27, _⟩ => ⟨S52x23040x128, .i32⟩
  | .hbm, ⟨28, _⟩ => ⟨S52x23040x128, .i32⟩
  | .hbm, ⟨29, _⟩ => ⟨S52x48x256, .f32⟩
  | .hbm, ⟨30, _⟩ => ⟨S52x1x256, .f32⟩
  | .local _ .vmem, ⟨0, _⟩ => ⟨S8x128, .f32⟩
  | .local _ .vmem, ⟨1, _⟩ => ⟨S1x48x128, .bf16⟩
  | .local _ .vmem, ⟨2, _⟩ => ⟨S1x48x128, .bf16⟩
  | .local _ .vmem, ⟨3, _⟩ => ⟨S1x48x256, .f32⟩
  | .local _ .vmem, ⟨4, _⟩ => ⟨S1x48x256, .f32⟩
  | .local _ .vmem, ⟨5, _⟩ => ⟨S1x1x256, .f32⟩
  | .local _ .vmem, ⟨6, _⟩ => ⟨S1x1x256, .f32⟩
  | .local _ .vmem, ⟨7, _⟩ => ⟨S2x640x128, .i32⟩
  | .local _ .vmem, ⟨8, _⟩ => ⟨S2x32x1280, .i8⟩
  | .local _ .vmem, ⟨9, _⟩ => ⟨S363x48x128, .f32⟩
  | .local _ .smem, ⟨0, _⟩ => ⟨S52x257, .i32⟩
  | .local _ .smem, ⟨1, _⟩ => ⟨S1, .i32⟩
  | _, _ => ⟨S52x48x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_scratch3 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![52], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_40 : BitVec 32 := 0#32
  c0_i32_40
def k0_mult2 : BitVec 32 :=
  let c0_i32_41 : BitVec 32 := 0#32
  c0_i32_41
def k0_off1 (i : grid0.Coords) : Fin 2 → Nat :=
  let arg0 : BitVec 32 := BitVec.ofNat 32 (i 0).val
  let v3 : Index := Scalar.indexCast arg0
  let c256 : Index := 256#32
  ![v3.toNat, 256]
@[reducible] def k0_t1_loop (v4 : BitVec 32) : Scf.Loop 32 :=
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_13 : BitVec 32 := 1#32
  ⟨c0_i32_10, v31, c1_i32_13⟩

def k0_mult3 (v4 : BitVec 32) (k0_t1 : Fin (k0_t1_loop v4).trips) : BitVec 32 :=
  let c0_i32_10 : BitVec 32 := 0#32
  let c1_i32_13 : BitVec 32 := 1#32
  let arg13 : BitVec 32 := Scf.iv c0_i32_10 c1_i32_13 k0_t1
  let c1_i32_46 : BitVec 32 := 1#32
  let v70 : BitVec 32 := Scalar.addi arg13 c1_i32_46
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v71 : BitVec 1 := Scalar.cmpi .sge v70 v22
  let c0_i32_49 : BitVec 32 := 0#32
  let c1_i32_48 : BitVec 32 := 1#32
  let v74 : BitVec 32 := Scalar.addi arg13 c1_i32_48
  let v75 : BitVec 32 := Scalar.select v71 c0_i32_49 v74
  let c640_i32_628 : BitVec 32 := 640#32
  let v2466 : BitVec 32 := Scalar.muli v75 c640_i32_628
  v2466
def k0_cond2 (i : grid0.Coords) (v4 : BitVec 32) (k0_t1 : Fin (k0_t1_loop v4).trips) : BitVec 1 :=
  let c0_i32_10 : BitVec 32 := 0#32
  let c1_i32_13 : BitVec 32 := 1#32
  let arg13 : BitVec 32 := Scf.iv c0_i32_10 c1_i32_13 k0_t1
  let c1_i32_46 : BitVec 32 := 1#32
  let v70 : BitVec 32 := Scalar.addi arg13 c1_i32_46
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v71 : BitVec 1 := Scalar.cmpi .sge v70 v22
  let arg0 : BitVec 32 := BitVec.ofNat 32 (i 0).val
  let c1_i32_47 : BitVec 32 := 1#32
  let v72 : BitVec 32 := Scalar.addi arg0 c1_i32_47
  let v73 : BitVec 32 := Scalar.select v71 v72 arg0
  let c52_i32 : BitVec 32 := 52#32
  let v76 : BitVec 1 := Scalar.cmpi .slt v73 c52_i32
  let v77 : BitVec 32 := Scalar.extui v76
  let c0_i32_50 : BitVec 32 := 0#32
  let v78 : BitVec 1 := Scalar.cmpi .ne v77 c0_i32_50
  v78

def k0_mult4 (v4 : BitVec 32) (k0_t1 : Fin (k0_t1_loop v4).trips) : BitVec 32 :=
  let c0_i32_10 : BitVec 32 := 0#32
  let c1_i32_13 : BitVec 32 := 1#32
  let arg13 : BitVec 32 := Scf.iv c0_i32_10 c1_i32_13 k0_t1
  let c1_i32_46 : BitVec 32 := 1#32
  let v70 : BitVec 32 := Scalar.addi arg13 c1_i32_46
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v71 : BitVec 1 := Scalar.cmpi .sge v70 v22
  let c0_i32_49 : BitVec 32 := 0#32
  let c1_i32_48 : BitVec 32 := 1#32
  let v74 : BitVec 32 := Scalar.addi arg13 c1_i32_48
  let v75 : BitVec 32 := Scalar.select v71 c0_i32_49 v74
  let c1280_i32_629 : BitVec 32 := 1280#32
  let v2468 : BitVec 32 := Scalar.muli v75 c1280_i32_629
  v2468
def k0_off2 (v57 : BitVec 32) : Fin 2 → Nat :=
  let c0_i32_630 : BitVec 32 := 0#32
  let c1_i32_627 : BitVec 32 := 1#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2465 : BitVec 32 := Scalar.subi c1_i32_627 v67
  ![0, v2465.toNat]

def k0_off3 (v57 : BitVec 32) : Fin 3 → Nat :=
  let c1_i32_627 : BitVec 32 := 1#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2465 : BitVec 32 := Scalar.subi c1_i32_627 v67
  let c0_i32_631 : BitVec 32 := 0#32
  let c0_i32_632 : BitVec 32 := 0#32
  ![v2465.toNat, 0, 0]
def k0_off4 (i : grid0.Coords) (v4 : BitVec 32) (k0_t1 : Fin (k0_t1_loop v4).trips) : Fin 3 → Nat :=
  let c0_i32_10 : BitVec 32 := 0#32
  let c1_i32_13 : BitVec 32 := 1#32
  let arg13 : BitVec 32 := Scf.iv c0_i32_10 c1_i32_13 k0_t1
  let c1_i32_46 : BitVec 32 := 1#32
  let v70 : BitVec 32 := Scalar.addi arg13 c1_i32_46
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v71 : BitVec 1 := Scalar.cmpi .sge v70 v22
  let arg0 : BitVec 32 := BitVec.ofNat 32 (i 0).val
  let c1_i32_47 : BitVec 32 := 1#32
  let v72 : BitVec 32 := Scalar.addi arg0 c1_i32_47
  let v73 : BitVec 32 := Scalar.select v71 v72 arg0
  let c0_i32_49 : BitVec 32 := 0#32
  let c1_i32_48 : BitVec 32 := 1#32
  let v74 : BitVec 32 := Scalar.addi arg13 c1_i32_48
  let v75 : BitVec 32 := Scalar.select v71 c0_i32_49 v74
  let c640_i32_628 : BitVec 32 := 640#32
  let v2466 : BitVec 32 := Scalar.muli v75 c640_i32_628
  let v2467 : BitVec 32 := v2466
  let c0_i32_633 : BitVec 32 := 0#32
  ![v73.toNat, v2467.toNat, 0]
def k0_off5 (v57 : BitVec 32) : Fin 2 → Nat :=
  let c1_i32_634 : BitVec 32 := 1#32
  let c1_i32_627 : BitVec 32 := 1#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2465 : BitVec 32 := Scalar.subi c1_i32_627 v67
  ![1, v2465.toNat]
def k0_off6 (v57 : BitVec 32) : Fin 3 → Nat :=
  let c1_i32_627 : BitVec 32 := 1#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2465 : BitVec 32 := Scalar.subi c1_i32_627 v67
  let c0_i32_635 : BitVec 32 := 0#32
  let c0_i32_636 : BitVec 32 := 0#32
  ![v2465.toNat, 0, 0]
def k0_off7 (i : grid0.Coords) (v4 : BitVec 32) (k0_t1 : Fin (k0_t1_loop v4).trips) : Fin 3 → Nat :=
  let c0_i32_10 : BitVec 32 := 0#32
  let c1_i32_13 : BitVec 32 := 1#32
  let arg13 : BitVec 32 := Scf.iv c0_i32_10 c1_i32_13 k0_t1
  let c1_i32_46 : BitVec 32 := 1#32
  let v70 : BitVec 32 := Scalar.addi arg13 c1_i32_46
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v71 : BitVec 1 := Scalar.cmpi .sge v70 v22
  let arg0 : BitVec 32 := BitVec.ofNat 32 (i 0).val
  let c1_i32_47 : BitVec 32 := 1#32
  let v72 : BitVec 32 := Scalar.addi arg0 c1_i32_47
  let v73 : BitVec 32 := Scalar.select v71 v72 arg0
  let c0_i32_637 : BitVec 32 := 0#32
  let c0_i32_49 : BitVec 32 := 0#32
  let c1_i32_48 : BitVec 32 := 1#32
  let v74 : BitVec 32 := Scalar.addi arg13 c1_i32_48
  let v75 : BitVec 32 := Scalar.select v71 c0_i32_49 v74
  let c1280_i32_629 : BitVec 32 := 1280#32
  let v2468 : BitVec 32 := Scalar.muli v75 c1280_i32_629
  let v2469 : BitVec 32 := v2468
  ![v73.toNat, 0, v2469.toNat]
def k0_mult5 (v4 : BitVec 32) (k0_t1 : Fin (k0_t1_loop v4).trips) : BitVec 32 :=
  let c0_i32_10 : BitVec 32 := 0#32
  let c1_i32_13 : BitVec 32 := 1#32
  let arg13 : BitVec 32 := Scf.iv c0_i32_10 c1_i32_13 k0_t1
  let c640_i32 : BitVec 32 := 640#32
  let v79 : BitVec 32 := Scalar.muli arg13 c640_i32
  v79
def k0_mult6 (v4 : BitVec 32) (k0_t1 : Fin (k0_t1_loop v4).trips) : BitVec 32 :=
  let c0_i32_10 : BitVec 32 := 0#32
  let c1_i32_13 : BitVec 32 := 1#32
  let arg13 : BitVec 32 := Scf.iv c0_i32_10 c1_i32_13 k0_t1
  let c1280_i32_51 : BitVec 32 := 1280#32
  let v81 : BitVec 32 := Scalar.muli arg13 c1280_i32_51
  v81
def k0_off8 (v57 : BitVec 32) : Fin 2 → Nat :=
  let c0_i32_52 : BitVec 32 := 0#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  ![0, v67.toNat]
def k0_off9 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let c0_i32_53 : BitVec 32 := 0#32
  let c0_i32_54 : BitVec 32 := 0#32
  ![v67.toNat, 0, 0]
def k0_off10 (i : grid0.Coords) (v4 : BitVec 32) (k0_t1 : Fin (k0_t1_loop v4).trips) : Fin 3 → Nat :=
  let arg0 : BitVec 32 := BitVec.ofNat 32 (i 0).val
  let c0_i32_10 : BitVec 32 := 0#32
  let c1_i32_13 : BitVec 32 := 1#32
  let arg13 : BitVec 32 := Scf.iv c0_i32_10 c1_i32_13 k0_t1
  let c640_i32 : BitVec 32 := 640#32
  let v79 : BitVec 32 := Scalar.muli arg13 c640_i32
  let v80 : BitVec 32 := v79
  let c0_i32_55 : BitVec 32 := 0#32
  ![arg0.toNat, v80.toNat, 0]
def k0_off11 (v57 : BitVec 32) : Fin 2 → Nat :=
  let c1_i32_56 : BitVec 32 := 1#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  ![1, v67.toNat]
def k0_off12 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let c0_i32_57 : BitVec 32 := 0#32
  let c0_i32_58 : BitVec 32 := 0#32
  ![v67.toNat, 0, 0]
def k0_off13 (i : grid0.Coords) (v4 : BitVec 32) (k0_t1 : Fin (k0_t1_loop v4).trips) : Fin 3 → Nat :=
  let arg0 : BitVec 32 := BitVec.ofNat 32 (i 0).val
  let c0_i32_59 : BitVec 32 := 0#32
  let c0_i32_10 : BitVec 32 := 0#32
  let c1_i32_13 : BitVec 32 := 1#32
  let arg13 : BitVec 32 := Scf.iv c0_i32_10 c1_i32_13 k0_t1
  let c1280_i32_51 : BitVec 32 := 1280#32
  let v81 : BitVec 32 := Scalar.muli arg13 c1280_i32_51
  let v82 : BitVec 32 := v81
  ![arg0.toNat, 0, v82.toNat]
def k0_off14 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v95 : Index := Scalar.indexCast v67
  let c0_60 : Index := 0#32
  let c0_61 : Index := 0#32
  ![v95.toNat, 0, 0]
def k0_off15 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v107 : Index := Scalar.indexCast v67
  let c0_62 : Index := 0#32
  let c0_63 : Index := 0#32
  ![v107.toNat, 0, 0]
def k0_off16 (v4 : BitVec 32) (k0_t1 : Fin (k0_t1_loop v4).trips) (c0_i32_98 : BitVec 32) (c0_i32_100 : BitVec 32) : Fin 3 → Nat :=
  let c0_i32_10 : BitVec 32 := 0#32
  let c1_i32_13 : BitVec 32 := 1#32
  let arg13 : BitVec 32 := Scf.iv c0_i32_10 c1_i32_13 k0_t1
  let c5_i32 : BitVec 32 := 5#32
  let v326 : BitVec 32 := Scalar.muli arg13 c5_i32
  let v327 : BitVec 32 := Scalar.addi v326 c0_i32_98
  let c2_i32_99 : BitVec 32 := 2#32
  let v328 : BitVec 32 := Scalar.muli v327 c2_i32_99
  let v329 : BitVec 32 := Scalar.addi v328 c0_i32_100
  let v330 : Index := Scalar.indexCast v329
  let c0_101 : Index := 0#32
  let c0_102 : Index := 0#32
  ![v330.toNat, 0, 0]
def k0_off17 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v342 : Index := Scalar.indexCast v67
  let c0_103 : Index := 0#32
  let c128_104 : Index := 128#32
  ![v342.toNat, 0, 128]
def k0_off18 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v569 : Index := Scalar.indexCast v67
  let c128_161 : Index := 128#32
  let c0_162 : Index := 0#32
  ![v569.toNat, 128, 0]
def k0_off19 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v581 : Index := Scalar.indexCast v67
  let c0_163 : Index := 0#32
  let c256_164 : Index := 256#32
  ![v581.toNat, 0, 256]
def k0_off20 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v816 : Index := Scalar.indexCast v67
  let c0_221 : Index := 0#32
  let c384 : Index := 384#32
  ![v816.toNat, 0, 384]
def k0_off21 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1043 : Index := Scalar.indexCast v67
  let c256_278 : Index := 256#32
  let c0_279 : Index := 0#32
  ![v1043.toNat, 256, 0]
def k0_off22 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1055 : Index := Scalar.indexCast v67
  let c0_280 : Index := 0#32
  let c512 : Index := 512#32
  ![v1055.toNat, 0, 512]
def k0_off23 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1290 : Index := Scalar.indexCast v67
  let c0_337 : Index := 0#32
  let c640 : Index := 640#32
  ![v1290.toNat, 0, 640]
def k0_off24 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1517 : Index := Scalar.indexCast v67
  let c384_394 : Index := 384#32
  let c0_395 : Index := 0#32
  ![v1517.toNat, 384, 0]
def k0_off25 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1529 : Index := Scalar.indexCast v67
  let c0_396 : Index := 0#32
  let c768 : Index := 768#32
  ![v1529.toNat, 0, 768]
def k0_off26 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1764 : Index := Scalar.indexCast v67
  let c0_453 : Index := 0#32
  let c896 : Index := 896#32
  ![v1764.toNat, 0, 896]
def k0_off27 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1991 : Index := Scalar.indexCast v67
  let c512_510 : Index := 512#32
  let c0_511 : Index := 0#32
  ![v1991.toNat, 512, 0]
def k0_off28 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2003 : Index := Scalar.indexCast v67
  let c0_512 : Index := 0#32
  let c1024 : Index := 1024#32
  ![v2003.toNat, 0, 1024]
def k0_off29 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2238 : Index := Scalar.indexCast v67
  let c0_569 : Index := 0#32
  let c1152 : Index := 1152#32
  ![v2238.toNat, 0, 1152]

def k0_chk2 (i : grid0.Coords) (v4 : BitVec 32) (k0_t1 : Fin (k0_t1_loop v4).trips) (v57 : BitVec 32) : Prop :=
  (∀ (k0_h2 : k0_cond2 i v4 k0_t1 = 1#1), ∀ a, (k0_off2 v57) a + S1x1.size a ≤ S2x2.size a) ∧
  (∀ (k0_h2 : k0_cond2 i v4 k0_t1 = 1#1), ∀ a, (k0_off3 v57) a + S1x640x128.size a ≤ S2x640x128.size a) ∧
  (∀ (k0_h2 : k0_cond2 i v4 k0_t1 = 1#1), ∀ a, (k0_off5 v57) a + S1x1.size a ≤ S2x2.size a) ∧
  (∀ (k0_h2 : k0_cond2 i v4 k0_t1 = 1#1), ∀ a, (k0_off6 v57) a + S1x32x1280.size a ≤ S2x32x1280.size a) ∧
  (∀ (k0_h2 : k0_cond2 i v4 k0_t1 = 1#1), ∀ (hinb : ∀ a, (k0_off6 v57) a + S1x32x1280.size a ≤ S2x32x1280.size a), (Rect.unit (s := S2x32x1280) (k0_off6 v57) S1x32x1280.size hinb).WholeWords (EltTy.packing .i8)) ∧
  (∀ a, (k0_off8 v57) a + S1x1.size a ≤ S2x2.size a) ∧
  (∀ a, (k0_off9 v57) a + S1x640x128.size a ≤ S2x640x128.size a) ∧
  (∀ a, (k0_off11 v57) a + S1x1.size a ≤ S2x2.size a) ∧
  (∀ a, (k0_off12 v57) a + S1x32x1280.size a ≤ S2x32x1280.size a) ∧
  (∀ (hinb : ∀ a, (k0_off12 v57) a + S1x32x1280.size a ≤ S2x32x1280.size a), (Rect.unit (s := S2x32x1280) (k0_off12 v57) S1x32x1280.size hinb).WholeWords (EltTy.packing .i8)) ∧
  (∀ a, (k0_off14 v57) a + S1x128x128.size a ≤ S2x640x128.size a) ∧
  (∀ a, (k0_off15 v57) a + S1x32x128.size a ≤ S2x32x1280.size a) ∧
  (∀ a, (k0_off17 v57) a + S1x32x128.size a ≤ S2x32x1280.size a) ∧
  (∀ a, (k0_off18 v57) a + S1x128x128.size a ≤ S2x640x128.size a) ∧
  (∀ a, (k0_off19 v57) a + S1x32x128.size a ≤ S2x32x1280.size a) ∧
  (∀ a, (k0_off20 v57) a + S1x32x128.size a ≤ S2x32x1280.size a) ∧
  (∀ a, (k0_off21 v57) a + S1x128x128.size a ≤ S2x640x128.size a) ∧
  (∀ a, (k0_off22 v57) a + S1x32x128.size a ≤ S2x32x1280.size a) ∧
  (∀ a, (k0_off23 v57) a + S1x32x128.size a ≤ S2x32x1280.size a) ∧
  (∀ a, (k0_off24 v57) a + S1x128x128.size a ≤ S2x640x128.size a) ∧
  (∀ a, (k0_off25 v57) a + S1x32x128.size a ≤ S2x32x1280.size a) ∧
  (∀ a, (k0_off26 v57) a + S1x32x128.size a ≤ S2x32x1280.size a) ∧
  (∀ a, (k0_off27 v57) a + S1x128x128.size a ≤ S2x640x128.size a) ∧
  (∀ a, (k0_off28 v57) a + S1x32x128.size a ≤ S2x32x1280.size a) ∧
  (∀ a, (k0_off29 v57) a + S1x32x128.size a ≤ S2x32x1280.size a)
theorem k0_off2_inb : ∀ (i : grid0.Coords) (v4 : BitVec 32) (k0_t1 : Fin (k0_t1_loop v4).trips) (v57 : BitVec 32) (k0_hw2 : k0_chk2 i v4 k0_t1 v57), ∀ (k0_h2 : k0_cond2 i v4 k0_t1 = 1#1), ∀ a, (k0_off2 v57) a + S1x1.size a ≤ S2x2.size a := fun i v4 k0_t1 v57 k0_hw2 k0_h2 => k0_hw2.1 k0_h2
theorem k0_off3_inb : ∀ (i : grid0.Coords) (v4 : BitVec 32) (k0_t1 : Fin (k0_t1_loop v4).trips) (v57 : BitVec 32) (k0_hw2 : k0_chk2 i v4 k0_t1 v57), ∀ (k0_h2 : k0_cond2 i v4 k0_t1 = 1#1), ∀ a, (k0_off3 v57) a + S1x640x128.size a ≤ S2x640x128.size a := fun i v4 k0_t1 v57 k0_hw2 k0_h2 => k0_hw2.2.1 k0_h2
theorem k0_off5_inb : ∀ (i : grid0.Coords) (v4 : BitVec 32) (k0_t1 : Fin (k0_t1_loop v4).trips) (v57 : BitVec 32) (k0_hw2 : k0_chk2 i v4 k0_t1 v57), ∀ (k0_h2 : k0_cond2 i v4 k0_t1 = 1#1), ∀ a, (k0_off5 v57) a + S1x1.size a ≤ S2x2.size a := fun i v4 k0_t1 v57 k0_hw2 k0_h2 => k0_hw2.2.2.1 k0_h2
theorem k0_off6_inb : ∀ (i : grid0.Coords) (v4 : BitVec 32) (k0_t1 : Fin (k0_t1_loop v4).trips) (v57 : BitVec 32) (k0_hw2 : k0_chk2 i v4 k0_t1 v57), ∀ (k0_h2 : k0_cond2 i v4 k0_t1 = 1#1), ∀ a, (k0_off6 v57) a + S1x32x1280.size a ≤ S2x32x1280.size a := fun i v4 k0_t1 v57 k0_hw2 k0_h2 => k0_hw2.2.2.2.1 k0_h2
theorem k0_off6_wordsi8 : ∀ (i : grid0.Coords) (v4 : BitVec 32) (k0_t1 : Fin (k0_t1_loop v4).trips) (v57 : BitVec 32) (k0_hw2 : k0_chk2 i v4 k0_t1 v57), ∀ (k0_h2 : k0_cond2 i v4 k0_t1 = 1#1), (Rect.unit (s := S2x32x1280) (k0_off6 v57) S1x32x1280.size (k0_off6_inb i v4 k0_t1 v57 k0_hw2 k0_h2)).WholeWords (EltTy.packing .i8) := fun i v4 k0_t1 v57 k0_hw2 k0_h2 => k0_hw2.2.2.2.2.1 k0_h2 (k0_off6_inb i v4 k0_t1 v57 k0_hw2 k0_h2)
theorem k0_off8_inb : ∀ (i : grid0.Coords) (v4 : BitVec 32) (k0_t1 : Fin (k0_t1_loop v4).trips) (v57 : BitVec 32) (k0_hw2 : k0_chk2 i v4 k0_t1 v57), ∀ a, (k0_off8 v57) a + S1x1.size a ≤ S2x2.size a := fun i v4 k0_t1 v57 k0_hw2 => k0_hw2.2.2.2.2.2.1
theorem k0_off9_inb : ∀ (i : grid0.Coords) (v4 : BitVec 32) (k0_t1 : Fin (k0_t1_loop v4).trips) (v57 : BitVec 32) (k0_hw2 : k0_chk2 i v4 k0_t1 v57), ∀ a, (k0_off9 v57) a + S1x640x128.size a ≤ S2x640x128.size a := fun i v4 k0_t1 v57 k0_hw2 => k0_hw2.2.2.2.2.2.2.1
theorem k0_off11_inb : ∀ (i : grid0.Coords) (v4 : BitVec 32) (k0_t1 : Fin (k0_t1_loop v4).trips) (v57 : BitVec 32) (k0_hw2 : k0_chk2 i v4 k0_t1 v57), ∀ a, (k0_off11 v57) a + S1x1.size a ≤ S2x2.size a := fun i v4 k0_t1 v57 k0_hw2 => k0_hw2.2.2.2.2.2.2.2.1
theorem k0_off12_inb : ∀ (i : grid0.Coords) (v4 : BitVec 32) (k0_t1 : Fin (k0_t1_loop v4).trips) (v57 : BitVec 32) (k0_hw2 : k0_chk2 i v4 k0_t1 v57), ∀ a, (k0_off12 v57) a + S1x32x1280.size a ≤ S2x32x1280.size a := fun i v4 k0_t1 v57 k0_hw2 => k0_hw2.2.2.2.2.2.2.2.2.1
theorem k0_off12_wordsi8 : ∀ (i : grid0.Coords) (v4 : BitVec 32) (k0_t1 : Fin (k0_t1_loop v4).trips) (v57 : BitVec 32) (k0_hw2 : k0_chk2 i v4 k0_t1 v57), (Rect.unit (s := S2x32x1280) (k0_off12 v57) S1x32x1280.size (k0_off12_inb i v4 k0_t1 v57 k0_hw2)).WholeWords (EltTy.packing .i8) := fun i v4 k0_t1 v57 k0_hw2 => k0_hw2.2.2.2.2.2.2.2.2.2.1 (k0_off12_inb i v4 k0_t1 v57 k0_hw2)
theorem k0_off14_inb : ∀ (i : grid0.Coords) (v4 : BitVec 32) (k0_t1 : Fin (k0_t1_loop v4).trips) (v57 : BitVec 32) (k0_hw2 : k0_chk2 i v4 k0_t1 v57), ∀ a, (k0_off14 v57) a + S1x128x128.size a ≤ S2x640x128.size a := fun i v4 k0_t1 v57 k0_hw2 => k0_hw2.2.2.2.2.2.2.2.2.2.2.1
theorem k0_off15_inb : ∀ (i : grid0.Coords) (v4 : BitVec 32) (k0_t1 : Fin (k0_t1_loop v4).trips) (v57 : BitVec 32) (k0_hw2 : k0_chk2 i v4 k0_t1 v57), ∀ a, (k0_off15 v57) a + S1x32x128.size a ≤ S2x32x1280.size a := fun i v4 k0_t1 v57 k0_hw2 => k0_hw2.2.2.2.2.2.2.2.2.2.2.2.1
theorem k0_off17_inb : ∀ (i : grid0.Coords) (v4 : BitVec 32) (k0_t1 : Fin (k0_t1_loop v4).trips) (v57 : BitVec 32) (k0_hw2 : k0_chk2 i v4 k0_t1 v57), ∀ a, (k0_off17 v57) a + S1x32x128.size a ≤ S2x32x1280.size a := fun i v4 k0_t1 v57 k0_hw2 => k0_hw2.2.2.2.2.2.2.2.2.2.2.2.2.1
theorem k0_off18_inb : ∀ (i : grid0.Coords) (v4 : BitVec 32) (k0_t1 : Fin (k0_t1_loop v4).trips) (v57 : BitVec 32) (k0_hw2 : k0_chk2 i v4 k0_t1 v57), ∀ a, (k0_off18 v57) a + S1x128x128.size a ≤ S2x640x128.size a := fun i v4 k0_t1 v57 k0_hw2 => k0_hw2.2.2.2.2.2.2.2.2.2.2.2.2.2.1
theorem k0_off19_inb : ∀ (i : grid0.Coords) (v4 : BitVec 32) (k0_t1 : Fin (k0_t1_loop v4).trips) (v57 : BitVec 32) (k0_hw2 : k0_chk2 i v4 k0_t1 v57), ∀ a, (k0_off19 v57) a + S1x32x128.size a ≤ S2x32x1280.size a := fun i v4 k0_t1 v57 k0_hw2 => k0_hw2.2.2.2.2.2.2.2.2.2.2.2.2.2.2.1
theorem k0_off20_inb : ∀ (i : grid0.Coords) (v4 : BitVec 32) (k0_t1 : Fin (k0_t1_loop v4).trips) (v57 : BitVec 32) (k0_hw2 : k0_chk2 i v4 k0_t1 v57), ∀ a, (k0_off20 v57) a + S1x32x128.size a ≤ S2x32x1280.size a := fun i v4 k0_t1 v57 k0_hw2 => k0_hw2.2.2.2.2.2.2.2.2.2.2.2.2.2.2.2.1
theorem k0_off21_inb : ∀ (i : grid0.Coords) (v4 : BitVec 32) (k0_t1 : Fin (k0_t1_loop v4).trips) (v57 : BitVec 32) (k0_hw2 : k0_chk2 i v4 k0_t1 v57), ∀ a, (k0_off21 v57) a + S1x128x128.size a ≤ S2x640x128.size a := fun i v4 k0_t1 v57 k0_hw2 => k0_hw2.2.2.2.2.2.2.2.2.2.2.2.2.2.2.2.2.1
theorem k0_off22_inb : ∀ (i : grid0.Coords) (v4 : BitVec 32) (k0_t1 : Fin (k0_t1_loop v4).trips) (v57 : BitVec 32) (k0_hw2 : k0_chk2 i v4 k0_t1 v57), ∀ a, (k0_off22 v57) a + S1x32x128.size a ≤ S2x32x1280.size a := fun i v4 k0_t1 v57 k0_hw2 => k0_hw2.2.2.2.2.2.2.2.2.2.2.2.2.2.2.2.2.2.1
theorem k0_off23_inb : ∀ (i : grid0.Coords) (v4 : BitVec 32) (k0_t1 : Fin (k0_t1_loop v4).trips) (v57 : BitVec 32) (k0_hw2 : k0_chk2 i v4 k0_t1 v57), ∀ a, (k0_off23 v57) a + S1x32x128.size a ≤ S2x32x1280.size a := fun i v4 k0_t1 v57 k0_hw2 => k0_hw2.2.2.2.2.2.2.2.2.2.2.2.2.2.2.2.2.2.2.1
theorem k0_off24_inb : ∀ (i : grid0.Coords) (v4 : BitVec 32) (k0_t1 : Fin (k0_t1_loop v4).trips) (v57 : BitVec 32) (k0_hw2 : k0_chk2 i v4 k0_t1 v57), ∀ a, (k0_off24 v57) a + S1x128x128.size a ≤ S2x640x128.size a := fun i v4 k0_t1 v57 k0_hw2 => k0_hw2.2.2.2.2.2.2.2.2.2.2.2.2.2.2.2.2.2.2.2.1
theorem k0_off25_inb : ∀ (i : grid0.Coords) (v4 : BitVec 32) (k0_t1 : Fin (k0_t1_loop v4).trips) (v57 : BitVec 32) (k0_hw2 : k0_chk2 i v4 k0_t1 v57), ∀ a, (k0_off25 v57) a + S1x32x128.size a ≤ S2x32x1280.size a := fun i v4 k0_t1 v57 k0_hw2 => k0_hw2.2.2.2.2.2.2.2.2.2.2.2.2.2.2.2.2.2.2.2.2.1
theorem k0_off26_inb : ∀ (i : grid0.Coords) (v4 : BitVec 32) (k0_t1 : Fin (k0_t1_loop v4).trips) (v57 : BitVec 32) (k0_hw2 : k0_chk2 i v4 k0_t1 v57), ∀ a, (k0_off26 v57) a + S1x32x128.size a ≤ S2x32x1280.size a := fun i v4 k0_t1 v57 k0_hw2 => k0_hw2.2.2.2.2.2.2.2.2.2.2.2.2.2.2.2.2.2.2.2.2.2.1
theorem k0_off27_inb : ∀ (i : grid0.Coords) (v4 : BitVec 32) (k0_t1 : Fin (k0_t1_loop v4).trips) (v57 : BitVec 32) (k0_hw2 : k0_chk2 i v4 k0_t1 v57), ∀ a, (k0_off27 v57) a + S1x128x128.size a ≤ S2x640x128.size a := fun i v4 k0_t1 v57 k0_hw2 => k0_hw2.2.2.2.2.2.2.2.2.2.2.2.2.2.2.2.2.2.2.2.2.2.2.1
theorem k0_off28_inb : ∀ (i : grid0.Coords) (v4 : BitVec 32) (k0_t1 : Fin (k0_t1_loop v4).trips) (v57 : BitVec 32) (k0_hw2 : k0_chk2 i v4 k0_t1 v57), ∀ a, (k0_off28 v57) a + S1x32x128.size a ≤ S2x32x1280.size a := fun i v4 k0_t1 v57 k0_hw2 => k0_hw2.2.2.2.2.2.2.2.2.2.2.2.2.2.2.2.2.2.2.2.2.2.2.2.1
theorem k0_off29_inb : ∀ (i : grid0.Coords) (v4 : BitVec 32) (k0_t1 : Fin (k0_t1_loop v4).trips) (v57 : BitVec 32) (k0_hw2 : k0_chk2 i v4 k0_t1 v57), ∀ a, (k0_off29 v57) a + S1x32x128.size a ≤ S2x32x1280.size a := fun i v4 k0_t1 v57 k0_hw2 => k0_hw2.2.2.2.2.2.2.2.2.2.2.2.2.2.2.2.2.2.2.2.2.2.2.2.2

@[reducible] def k0_t2_loop (v4 : BitVec 32) : Scf.Loop 32 :=
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let v28 : BitVec 32 := Scalar.addi c0_i32_10 v27
  let c1_i32_14 : BitVec 32 := 1#32
  ⟨v31, v28, c1_i32_14⟩
def k0_mult7 (v4 : BitVec 32) (k0_t2 : Fin (k0_t2_loop v4).trips) : BitVec 32 :=
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg13 : BitVec 32 := Scf.iv v31 c1_i32_14 k0_t2
  let c1_i32_46 : BitVec 32 := 1#32
  let v70 : BitVec 32 := Scalar.addi arg13 c1_i32_46
  let v71 : BitVec 1 := Scalar.cmpi .sge v70 v22
  let c0_i32_49 : BitVec 32 := 0#32
  let c1_i32_48 : BitVec 32 := 1#32
  let v74 : BitVec 32 := Scalar.addi arg13 c1_i32_48
  let v75 : BitVec 32 := Scalar.select v71 c0_i32_49 v74
  let c640_i32_628 : BitVec 32 := 640#32
  let v2466 : BitVec 32 := Scalar.muli v75 c640_i32_628
  v2466
def k0_cond3 (i : grid0.Coords) (v4 : BitVec 32) (k0_t2 : Fin (k0_t2_loop v4).trips) : BitVec 1 :=
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg13 : BitVec 32 := Scf.iv v31 c1_i32_14 k0_t2
  let c1_i32_46 : BitVec 32 := 1#32
  let v70 : BitVec 32 := Scalar.addi arg13 c1_i32_46
  let v71 : BitVec 1 := Scalar.cmpi .sge v70 v22
  let arg0 : BitVec 32 := BitVec.ofNat 32 (i 0).val
  let c1_i32_47 : BitVec 32 := 1#32
  let v72 : BitVec 32 := Scalar.addi arg0 c1_i32_47
  let v73 : BitVec 32 := Scalar.select v71 v72 arg0
  let c52_i32 : BitVec 32 := 52#32
  let v76 : BitVec 1 := Scalar.cmpi .slt v73 c52_i32
  let v77 : BitVec 32 := Scalar.extui v76
  let c0_i32_50 : BitVec 32 := 0#32
  let v78 : BitVec 1 := Scalar.cmpi .ne v77 c0_i32_50
  v78

def k0_mult8 (v4 : BitVec 32) (k0_t2 : Fin (k0_t2_loop v4).trips) : BitVec 32 :=
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg13 : BitVec 32 := Scf.iv v31 c1_i32_14 k0_t2
  let c1_i32_46 : BitVec 32 := 1#32
  let v70 : BitVec 32 := Scalar.addi arg13 c1_i32_46
  let v71 : BitVec 1 := Scalar.cmpi .sge v70 v22
  let c0_i32_49 : BitVec 32 := 0#32
  let c1_i32_48 : BitVec 32 := 1#32
  let v74 : BitVec 32 := Scalar.addi arg13 c1_i32_48
  let v75 : BitVec 32 := Scalar.select v71 c0_i32_49 v74
  let c1280_i32_629 : BitVec 32 := 1280#32
  let v2468 : BitVec 32 := Scalar.muli v75 c1280_i32_629
  v2468
def k0_off30 (v57 : BitVec 32) : Fin 2 → Nat :=
  let c0_i32_630 : BitVec 32 := 0#32
  let c1_i32_627 : BitVec 32 := 1#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2465 : BitVec 32 := Scalar.subi c1_i32_627 v67
  ![0, v2465.toNat]

def k0_off31 (v57 : BitVec 32) : Fin 3 → Nat :=
  let c1_i32_627 : BitVec 32 := 1#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2465 : BitVec 32 := Scalar.subi c1_i32_627 v67
  let c0_i32_631 : BitVec 32 := 0#32
  let c0_i32_632 : BitVec 32 := 0#32
  ![v2465.toNat, 0, 0]
def k0_off32 (i : grid0.Coords) (v4 : BitVec 32) (k0_t2 : Fin (k0_t2_loop v4).trips) : Fin 3 → Nat :=
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg13 : BitVec 32 := Scf.iv v31 c1_i32_14 k0_t2
  let c1_i32_46 : BitVec 32 := 1#32
  let v70 : BitVec 32 := Scalar.addi arg13 c1_i32_46
  let v71 : BitVec 1 := Scalar.cmpi .sge v70 v22
  let arg0 : BitVec 32 := BitVec.ofNat 32 (i 0).val
  let c1_i32_47 : BitVec 32 := 1#32
  let v72 : BitVec 32 := Scalar.addi arg0 c1_i32_47
  let v73 : BitVec 32 := Scalar.select v71 v72 arg0
  let c0_i32_49 : BitVec 32 := 0#32
  let c1_i32_48 : BitVec 32 := 1#32
  let v74 : BitVec 32 := Scalar.addi arg13 c1_i32_48
  let v75 : BitVec 32 := Scalar.select v71 c0_i32_49 v74
  let c640_i32_628 : BitVec 32 := 640#32
  let v2466 : BitVec 32 := Scalar.muli v75 c640_i32_628
  let v2467 : BitVec 32 := v2466
  let c0_i32_633 : BitVec 32 := 0#32
  ![v73.toNat, v2467.toNat, 0]
def k0_off33 (v57 : BitVec 32) : Fin 2 → Nat :=
  let c1_i32_634 : BitVec 32 := 1#32
  let c1_i32_627 : BitVec 32 := 1#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2465 : BitVec 32 := Scalar.subi c1_i32_627 v67
  ![1, v2465.toNat]
def k0_off34 (v57 : BitVec 32) : Fin 3 → Nat :=
  let c1_i32_627 : BitVec 32 := 1#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2465 : BitVec 32 := Scalar.subi c1_i32_627 v67
  let c0_i32_635 : BitVec 32 := 0#32
  let c0_i32_636 : BitVec 32 := 0#32
  ![v2465.toNat, 0, 0]
def k0_off35 (i : grid0.Coords) (v4 : BitVec 32) (k0_t2 : Fin (k0_t2_loop v4).trips) : Fin 3 → Nat :=
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg13 : BitVec 32 := Scf.iv v31 c1_i32_14 k0_t2
  let c1_i32_46 : BitVec 32 := 1#32
  let v70 : BitVec 32 := Scalar.addi arg13 c1_i32_46
  let v71 : BitVec 1 := Scalar.cmpi .sge v70 v22
  let arg0 : BitVec 32 := BitVec.ofNat 32 (i 0).val
  let c1_i32_47 : BitVec 32 := 1#32
  let v72 : BitVec 32 := Scalar.addi arg0 c1_i32_47
  let v73 : BitVec 32 := Scalar.select v71 v72 arg0
  let c0_i32_637 : BitVec 32 := 0#32
  let c0_i32_49 : BitVec 32 := 0#32
  let c1_i32_48 : BitVec 32 := 1#32
  let v74 : BitVec 32 := Scalar.addi arg13 c1_i32_48
  let v75 : BitVec 32 := Scalar.select v71 c0_i32_49 v74
  let c1280_i32_629 : BitVec 32 := 1280#32
  let v2468 : BitVec 32 := Scalar.muli v75 c1280_i32_629
  let v2469 : BitVec 32 := v2468
  ![v73.toNat, 0, v2469.toNat]
def k0_mult9 (v4 : BitVec 32) (k0_t2 : Fin (k0_t2_loop v4).trips) : BitVec 32 :=
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg13 : BitVec 32 := Scf.iv v31 c1_i32_14 k0_t2
  let c640_i32 : BitVec 32 := 640#32
  let v79 : BitVec 32 := Scalar.muli arg13 c640_i32
  v79
def k0_mult10 (v4 : BitVec 32) (k0_t2 : Fin (k0_t2_loop v4).trips) : BitVec 32 :=
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg13 : BitVec 32 := Scf.iv v31 c1_i32_14 k0_t2
  let c1280_i32_51 : BitVec 32 := 1280#32
  let v81 : BitVec 32 := Scalar.muli arg13 c1280_i32_51
  v81
def k0_off36 (v57 : BitVec 32) : Fin 2 → Nat :=
  let c0_i32_52 : BitVec 32 := 0#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  ![0, v67.toNat]
def k0_off37 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let c0_i32_53 : BitVec 32 := 0#32
  let c0_i32_54 : BitVec 32 := 0#32
  ![v67.toNat, 0, 0]
def k0_off38 (i : grid0.Coords) (v4 : BitVec 32) (k0_t2 : Fin (k0_t2_loop v4).trips) : Fin 3 → Nat :=
  let arg0 : BitVec 32 := BitVec.ofNat 32 (i 0).val
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg13 : BitVec 32 := Scf.iv v31 c1_i32_14 k0_t2
  let c640_i32 : BitVec 32 := 640#32
  let v79 : BitVec 32 := Scalar.muli arg13 c640_i32
  let v80 : BitVec 32 := v79
  let c0_i32_55 : BitVec 32 := 0#32
  ![arg0.toNat, v80.toNat, 0]
def k0_off39 (v57 : BitVec 32) : Fin 2 → Nat :=
  let c1_i32_56 : BitVec 32 := 1#32
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  ![1, v67.toNat]
def k0_off40 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let c0_i32_57 : BitVec 32 := 0#32
  let c0_i32_58 : BitVec 32 := 0#32
  ![v67.toNat, 0, 0]
def k0_off41 (i : grid0.Coords) (v4 : BitVec 32) (k0_t2 : Fin (k0_t2_loop v4).trips) : Fin 3 → Nat :=
  let arg0 : BitVec 32 := BitVec.ofNat 32 (i 0).val
  let c0_i32_59 : BitVec 32 := 0#32
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg13 : BitVec 32 := Scf.iv v31 c1_i32_14 k0_t2
  let c1280_i32_51 : BitVec 32 := 1280#32
  let v81 : BitVec 32 := Scalar.muli arg13 c1280_i32_51
  let v82 : BitVec 32 := v81
  ![arg0.toNat, 0, v82.toNat]
def k0_off42 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v95 : Index := Scalar.indexCast v67
  let c0_60 : Index := 0#32
  let c0_61 : Index := 0#32
  ![v95.toNat, 0, 0]
def k0_off43 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v107 : Index := Scalar.indexCast v67
  let c0_62 : Index := 0#32
  let c0_63 : Index := 0#32
  ![v107.toNat, 0, 0]
def k0_off44 (v4 : BitVec 32) (k0_t2 : Fin (k0_t2_loop v4).trips) (c0_i32_98 : BitVec 32) (c0_i32_100 : BitVec 32) : Fin 3 → Nat :=
  let c0_i32_10 : BitVec 32 := 0#32
  let c1279_i32 : BitVec 32 := 1279#32
  let v5 : BitVec 32 := Scalar.addi v4 c1279_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c1280_i32 : BitVec 32 := 1280#32
  let c0_i32_3 : BitVec 32 := 0#32
  let v12 : BitVec 1 := Scalar.cmpi .sgt c1280_i32 c0_i32_3
  let v13 : BitVec 32 := Scalar.extui v12
  let c0_i32_4 : BitVec 32 := 0#32
  let v14 : BitVec 1 := Scalar.cmpi .slt c1280_i32 c0_i32_4
  let v15 : BitVec 32 := Scalar.extui v14
  let v16 : BitVec 32 := Scalar.subi v13 v15
  let v17 : BitVec 1 := Scalar.cmpi .ne v11 v16
  let v18 : BitVec 32 := Scalar.remsi v5 c1280_i32
  let c0_i32_5 : BitVec 32 := 0#32
  let v19 : BitVec 1 := Scalar.cmpi .ne v18 c0_i32_5
  let v20 : BitVec 1 := Scalar.andi v17 v19
  let v6 : BitVec 32 := Scalar.divsi v5 c1280_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg13 : BitVec 32 := Scf.iv v31 c1_i32_14 k0_t2
  let c5_i32 : BitVec 32 := 5#32
  let v326 : BitVec 32 := Scalar.muli arg13 c5_i32
  let v327 : BitVec 32 := Scalar.addi v326 c0_i32_98
  let c2_i32_99 : BitVec 32 := 2#32
  let v328 : BitVec 32 := Scalar.muli v327 c2_i32_99
  let v329 : BitVec 32 := Scalar.addi v328 c0_i32_100
  let v330 : Index := Scalar.indexCast v329
  let c0_101 : Index := 0#32
  let c0_102 : Index := 0#32
  ![v330.toNat, 0, 0]

def k0_chk1 (i : grid0.Coords) (v4 : BitVec 32) : Prop :=
  ((k0_t1_loop v4).OK) ∧
  (∀ k0_t1 : Fin (k0_t1_loop v4).trips, ∀ (k0_h2 : k0_cond2 i v4 k0_t1 = 1#1), 640 ∣ (k0_mult3 v4 k0_t1).toNat) ∧
  (∀ k0_t1 : Fin (k0_t1_loop v4).trips, ∀ (k0_h2 : k0_cond2 i v4 k0_t1 = 1#1), 1280 ∣ (k0_mult4 v4 k0_t1).toNat) ∧
  (∀ k0_t1 : Fin (k0_t1_loop v4).trips, ∀ (k0_h2 : k0_cond2 i v4 k0_t1 = 1#1), ∀ a, (k0_off4 i v4 k0_t1) a + S1x640x128.size a ≤ S52x23040x128.size a) ∧
  (∀ k0_t1 : Fin (k0_t1_loop v4).trips, ∀ (k0_h2 : k0_cond2 i v4 k0_t1 = 1#1), ∀ a, (k0_off7 i v4 k0_t1) a + S1x32x1280.size a ≤ S52x32x46080.size a) ∧
  (∀ k0_t1 : Fin (k0_t1_loop v4).trips, ∀ (k0_h2 : k0_cond2 i v4 k0_t1 = 1#1), ∀ (hinb : ∀ a, (k0_off7 i v4 k0_t1) a + S1x32x1280.size a ≤ S52x32x46080.size a), (Rect.unit (s := S52x32x46080) (k0_off7 i v4 k0_t1) S1x32x1280.size hinb).WholeWords (EltTy.packing .i8)) ∧
  (∀ k0_t1 : Fin (k0_t1_loop v4).trips, 640 ∣ (k0_mult5 v4 k0_t1).toNat) ∧
  (∀ k0_t1 : Fin (k0_t1_loop v4).trips, 1280 ∣ (k0_mult6 v4 k0_t1).toNat) ∧
  (∀ k0_t1 : Fin (k0_t1_loop v4).trips, ∀ a, (k0_off10 i v4 k0_t1) a + S1x640x128.size a ≤ S52x23040x128.size a) ∧
  (∀ k0_t1 : Fin (k0_t1_loop v4).trips, ∀ a, (k0_off13 i v4 k0_t1) a + S1x32x1280.size a ≤ S52x32x46080.size a) ∧
  (∀ k0_t1 : Fin (k0_t1_loop v4).trips, ∀ (hinb : ∀ a, (k0_off13 i v4 k0_t1) a + S1x32x1280.size a ≤ S52x32x46080.size a), (Rect.unit (s := S52x32x46080) (k0_off13 i v4 k0_t1) S1x32x1280.size hinb).WholeWords (EltTy.packing .i8)) ∧
  (∀ k0_t1 : Fin (k0_t1_loop v4).trips, ∀ (r₁ : Fin 5) (r₂ : Fin 2), ∀ a, (k0_off16 v4 k0_t1 (BitVec.ofNat 32 r₁.val) (BitVec.ofNat 32 r₂.val)) a + S1x48x128.size a ≤ S363x48x128.size a) ∧
  ((k0_t2_loop v4).OK) ∧
  (∀ k0_t2 : Fin (k0_t2_loop v4).trips, ∀ (k0_h3 : k0_cond3 i v4 k0_t2 = 1#1), 640 ∣ (k0_mult7 v4 k0_t2).toNat) ∧
  (∀ k0_t2 : Fin (k0_t2_loop v4).trips, ∀ (k0_h3 : k0_cond3 i v4 k0_t2 = 1#1), 1280 ∣ (k0_mult8 v4 k0_t2).toNat) ∧
  (∀ k0_t2 : Fin (k0_t2_loop v4).trips, ∀ (k0_h3 : k0_cond3 i v4 k0_t2 = 1#1), ∀ a, (k0_off32 i v4 k0_t2) a + S1x640x128.size a ≤ S52x23040x128.size a) ∧
  (∀ k0_t2 : Fin (k0_t2_loop v4).trips, ∀ (k0_h3 : k0_cond3 i v4 k0_t2 = 1#1), ∀ a, (k0_off35 i v4 k0_t2) a + S1x32x1280.size a ≤ S52x32x46080.size a) ∧
  (∀ k0_t2 : Fin (k0_t2_loop v4).trips, ∀ (k0_h3 : k0_cond3 i v4 k0_t2 = 1#1), ∀ (hinb : ∀ a, (k0_off35 i v4 k0_t2) a + S1x32x1280.size a ≤ S52x32x46080.size a), (Rect.unit (s := S52x32x46080) (k0_off35 i v4 k0_t2) S1x32x1280.size hinb).WholeWords (EltTy.packing .i8)) ∧
  (∀ k0_t2 : Fin (k0_t2_loop v4).trips, 640 ∣ (k0_mult9 v4 k0_t2).toNat) ∧
  (∀ k0_t2 : Fin (k0_t2_loop v4).trips, 1280 ∣ (k0_mult10 v4 k0_t2).toNat) ∧
  (∀ k0_t2 : Fin (k0_t2_loop v4).trips, ∀ a, (k0_off38 i v4 k0_t2) a + S1x640x128.size a ≤ S52x23040x128.size a) ∧
  (∀ k0_t2 : Fin (k0_t2_loop v4).trips, ∀ a, (k0_off41 i v4 k0_t2) a + S1x32x1280.size a ≤ S52x32x46080.size a) ∧
  (∀ k0_t2 : Fin (k0_t2_loop v4).trips, ∀ (hinb : ∀ a, (k0_off41 i v4 k0_t2) a + S1x32x1280.size a ≤ S52x32x46080.size a), (Rect.unit (s := S52x32x46080) (k0_off41 i v4 k0_t2) S1x32x1280.size hinb).WholeWords (EltTy.packing .i8)) ∧
  (∀ k0_t2 : Fin (k0_t2_loop v4).trips, ∀ (r₁ : Fin 5) (r₂ : Fin 2), ∀ a, (k0_off44 v4 k0_t2 (BitVec.ofNat 32 r₁.val) (BitVec.ofNat 32 r₂.val)) a + S1x48x128.size a ≤ S363x48x128.size a)
theorem k0_t1_ok : ∀ (i : grid0.Coords) (v4 : BitVec 32) (k0_hw1 : k0_chk1 i v4), (k0_t1_loop v4).OK := fun i v4 k0_hw1 => k0_hw1.1
theorem k0_mult3_dvd : ∀ (i : grid0.Coords) (v4 : BitVec 32) (k0_hw1 : k0_chk1 i v4) (k0_t1 : Fin (k0_t1_loop v4).trips), ∀ (k0_h2 : k0_cond2 i v4 k0_t1 = 1#1), 640 ∣ (k0_mult3 v4 k0_t1).toNat := fun i v4 k0_hw1 k0_t1 k0_h2 => k0_hw1.2.1 k0_t1 k0_h2
theorem k0_mult4_dvd : ∀ (i : grid0.Coords) (v4 : BitVec 32) (k0_hw1 : k0_chk1 i v4) (k0_t1 : Fin (k0_t1_loop v4).trips), ∀ (k0_h2 : k0_cond2 i v4 k0_t1 = 1#1), 1280 ∣ (k0_mult4 v4 k0_t1).toNat := fun i v4 k0_hw1 k0_t1 k0_h2 => k0_hw1.2.2.1 k0_t1 k0_h2
theorem k0_off4_inb : ∀ (i : grid0.Coords) (v4 : BitVec 32) (k0_hw1 : k0_chk1 i v4) (k0_t1 : Fin (k0_t1_loop v4).trips), ∀ (k0_h2 : k0_cond2 i v4 k0_t1 = 1#1), ∀ a, (k0_off4 i v4 k0_t1) a + S1x640x128.size a ≤ S52x23040x128.size a := fun i v4 k0_hw1 k0_t1 k0_h2 => k0_hw1.2.2.2.1 k0_t1 k0_h2
theorem k0_off7_inb : ∀ (i : grid0.Coords) (v4 : BitVec 32) (k0_hw1 : k0_chk1 i v4) (k0_t1 : Fin (k0_t1_loop v4).trips), ∀ (k0_h2 : k0_cond2 i v4 k0_t1 = 1#1), ∀ a, (k0_off7 i v4 k0_t1) a + S1x32x1280.size a ≤ S52x32x46080.size a := fun i v4 k0_hw1 k0_t1 k0_h2 => k0_hw1.2.2.2.2.1 k0_t1 k0_h2
theorem k0_off7_wordsi8 : ∀ (i : grid0.Coords) (v4 : BitVec 32) (k0_hw1 : k0_chk1 i v4) (k0_t1 : Fin (k0_t1_loop v4).trips), ∀ (k0_h2 : k0_cond2 i v4 k0_t1 = 1#1), (Rect.unit (s := S52x32x46080) (k0_off7 i v4 k0_t1) S1x32x1280.size (k0_off7_inb i v4 k0_hw1 k0_t1 k0_h2)).WholeWords (EltTy.packing .i8) := fun i v4 k0_hw1 k0_t1 k0_h2 => k0_hw1.2.2.2.2.2.1 k0_t1 k0_h2 (k0_off7_inb i v4 k0_hw1 k0_t1 k0_h2)
theorem k0_mult5_dvd : ∀ (i : grid0.Coords) (v4 : BitVec 32) (k0_hw1 : k0_chk1 i v4) (k0_t1 : Fin (k0_t1_loop v4).trips), 640 ∣ (k0_mult5 v4 k0_t1).toNat := fun i v4 k0_hw1 k0_t1 => k0_hw1.2.2.2.2.2.2.1 k0_t1
theorem k0_mult6_dvd : ∀ (i : grid0.Coords) (v4 : BitVec 32) (k0_hw1 : k0_chk1 i v4) (k0_t1 : Fin (k0_t1_loop v4).trips), 1280 ∣ (k0_mult6 v4 k0_t1).toNat := fun i v4 k0_hw1 k0_t1 => k0_hw1.2.2.2.2.2.2.2.1 k0_t1
theorem k0_off10_inb : ∀ (i : grid0.Coords) (v4 : BitVec 32) (k0_hw1 : k0_chk1 i v4) (k0_t1 : Fin (k0_t1_loop v4).trips), ∀ a, (k0_off10 i v4 k0_t1) a + S1x640x128.size a ≤ S52x23040x128.size a := fun i v4 k0_hw1 k0_t1 => k0_hw1.2.2.2.2.2.2.2.2.1 k0_t1
theorem k0_off13_inb : ∀ (i : grid0.Coords) (v4 : BitVec 32) (k0_hw1 : k0_chk1 i v4) (k0_t1 : Fin (k0_t1_loop v4).trips), ∀ a, (k0_off13 i v4 k0_t1) a + S1x32x1280.size a ≤ S52x32x46080.size a := fun i v4 k0_hw1 k0_t1 => k0_hw1.2.2.2.2.2.2.2.2.2.1 k0_t1
theorem k0_off13_wordsi8 : ∀ (i : grid0.Coords) (v4 : BitVec 32) (k0_hw1 : k0_chk1 i v4) (k0_t1 : Fin (k0_t1_loop v4).trips), (Rect.unit (s := S52x32x46080) (k0_off13 i v4 k0_t1) S1x32x1280.size (k0_off13_inb i v4 k0_hw1 k0_t1)).WholeWords (EltTy.packing .i8) := fun i v4 k0_hw1 k0_t1 => k0_hw1.2.2.2.2.2.2.2.2.2.2.1 k0_t1 (k0_off13_inb i v4 k0_hw1 k0_t1)
theorem k0_off16_inb : ∀ (i : grid0.Coords) (v4 : BitVec 32) (k0_hw1 : k0_chk1 i v4) (k0_t1 : Fin (k0_t1_loop v4).trips), ∀ (r₁ : Fin 5) (r₂ : Fin 2), ∀ a, (k0_off16 v4 k0_t1 (BitVec.ofNat 32 r₁.val) (BitVec.ofNat 32 r₂.val)) a + S1x48x128.size a ≤ S363x48x128.size a := fun i v4 k0_hw1 k0_t1 r₁ r₂ => k0_hw1.2.2.2.2.2.2.2.2.2.2.2.1 k0_t1 r₁ r₂
theorem k0_t2_ok : ∀ (i : grid0.Coords) (v4 : BitVec 32) (k0_hw1 : k0_chk1 i v4), (k0_t2_loop v4).OK := fun i v4 k0_hw1 => k0_hw1.2.2.2.2.2.2.2.2.2.2.2.2.1
theorem k0_mult7_dvd : ∀ (i : grid0.Coords) (v4 : BitVec 32) (k0_hw1 : k0_chk1 i v4) (k0_t2 : Fin (k0_t2_loop v4).trips), ∀ (k0_h3 : k0_cond3 i v4 k0_t2 = 1#1), 640 ∣ (k0_mult7 v4 k0_t2).toNat := fun i v4 k0_hw1 k0_t2 k0_h3 => k0_hw1.2.2.2.2.2.2.2.2.2.2.2.2.2.1 k0_t2 k0_h3
theorem k0_mult8_dvd : ∀ (i : grid0.Coords) (v4 : BitVec 32) (k0_hw1 : k0_chk1 i v4) (k0_t2 : Fin (k0_t2_loop v4).trips), ∀ (k0_h3 : k0_cond3 i v4 k0_t2 = 1#1), 1280 ∣ (k0_mult8 v4 k0_t2).toNat := fun i v4 k0_hw1 k0_t2 k0_h3 => k0_hw1.2.2.2.2.2.2.2.2.2.2.2.2.2.2.1 k0_t2 k0_h3
theorem k0_off32_inb : ∀ (i : grid0.Coords) (v4 : BitVec 32) (k0_hw1 : k0_chk1 i v4) (k0_t2 : Fin (k0_t2_loop v4).trips), ∀ (k0_h3 : k0_cond3 i v4 k0_t2 = 1#1), ∀ a, (k0_off32 i v4 k0_t2) a + S1x640x128.size a ≤ S52x23040x128.size a := fun i v4 k0_hw1 k0_t2 k0_h3 => k0_hw1.2.2.2.2.2.2.2.2.2.2.2.2.2.2.2.1 k0_t2 k0_h3
theorem k0_off35_inb : ∀ (i : grid0.Coords) (v4 : BitVec 32) (k0_hw1 : k0_chk1 i v4) (k0_t2 : Fin (k0_t2_loop v4).trips), ∀ (k0_h3 : k0_cond3 i v4 k0_t2 = 1#1), ∀ a, (k0_off35 i v4 k0_t2) a + S1x32x1280.size a ≤ S52x32x46080.size a := fun i v4 k0_hw1 k0_t2 k0_h3 => k0_hw1.2.2.2.2.2.2.2.2.2.2.2.2.2.2.2.2.1 k0_t2 k0_h3
theorem k0_off35_wordsi8 : ∀ (i : grid0.Coords) (v4 : BitVec 32) (k0_hw1 : k0_chk1 i v4) (k0_t2 : Fin (k0_t2_loop v4).trips), ∀ (k0_h3 : k0_cond3 i v4 k0_t2 = 1#1), (Rect.unit (s := S52x32x46080) (k0_off35 i v4 k0_t2) S1x32x1280.size (k0_off35_inb i v4 k0_hw1 k0_t2 k0_h3)).WholeWords (EltTy.packing .i8) := fun i v4 k0_hw1 k0_t2 k0_h3 => k0_hw1.2.2.2.2.2.2.2.2.2.2.2.2.2.2.2.2.2.1 k0_t2 k0_h3 (k0_off35_inb i v4 k0_hw1 k0_t2 k0_h3)
theorem k0_mult9_dvd : ∀ (i : grid0.Coords) (v4 : BitVec 32) (k0_hw1 : k0_chk1 i v4) (k0_t2 : Fin (k0_t2_loop v4).trips), 640 ∣ (k0_mult9 v4 k0_t2).toNat := fun i v4 k0_hw1 k0_t2 => k0_hw1.2.2.2.2.2.2.2.2.2.2.2.2.2.2.2.2.2.2.1 k0_t2
theorem k0_mult10_dvd : ∀ (i : grid0.Coords) (v4 : BitVec 32) (k0_hw1 : k0_chk1 i v4) (k0_t2 : Fin (k0_t2_loop v4).trips), 1280 ∣ (k0_mult10 v4 k0_t2).toNat := fun i v4 k0_hw1 k0_t2 => k0_hw1.2.2.2.2.2.2.2.2.2.2.2.2.2.2.2.2.2.2.2.1 k0_t2
theorem k0_off38_inb : ∀ (i : grid0.Coords) (v4 : BitVec 32) (k0_hw1 : k0_chk1 i v4) (k0_t2 : Fin (k0_t2_loop v4).trips), ∀ a, (k0_off38 i v4 k0_t2) a + S1x640x128.size a ≤ S52x23040x128.size a := fun i v4 k0_hw1 k0_t2 => k0_hw1.2.2.2.2.2.2.2.2.2.2.2.2.2.2.2.2.2.2.2.2.1 k0_t2
theorem k0_off41_inb : ∀ (i : grid0.Coords) (v4 : BitVec 32) (k0_hw1 : k0_chk1 i v4) (k0_t2 : Fin (k0_t2_loop v4).trips), ∀ a, (k0_off41 i v4 k0_t2) a + S1x32x1280.size a ≤ S52x32x46080.size a := fun i v4 k0_hw1 k0_t2 => k0_hw1.2.2.2.2.2.2.2.2.2.2.2.2.2.2.2.2.2.2.2.2.2.1 k0_t2
theorem k0_off41_wordsi8 : ∀ (i : grid0.Coords) (v4 : BitVec 32) (k0_hw1 : k0_chk1 i v4) (k0_t2 : Fin (k0_t2_loop v4).trips), (Rect.unit (s := S52x32x46080) (k0_off41 i v4 k0_t2) S1x32x1280.size (k0_off41_inb i v4 k0_hw1 k0_t2)).WholeWords (EltTy.packing .i8) := fun i v4 k0_hw1 k0_t2 => k0_hw1.2.2.2.2.2.2.2.2.2.2.2.2.2.2.2.2.2.2.2.2.2.2.1 k0_t2 (k0_off41_inb i v4 k0_hw1 k0_t2)
theorem k0_off44_inb : ∀ (i : grid0.Coords) (v4 : BitVec 32) (k0_hw1 : k0_chk1 i v4) (k0_t2 : Fin (k0_t2_loop v4).trips), ∀ (r₁ : Fin 5) (r₂ : Fin 2), ∀ a, (k0_off44 v4 k0_t2 (BitVec.ofNat 32 r₁.val) (BitVec.ofNat 32 r₂.val)) a + S1x48x128.size a ≤ S363x48x128.size a := fun i v4 k0_hw1 k0_t2 r₁ r₂ => k0_hw1.2.2.2.2.2.2.2.2.2.2.2.2.2.2.2.2.2.2.2.2.2.2.2 k0_t2 r₁ r₂

def k0_off45 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v342 : Index := Scalar.indexCast v67
  let c0_103 : Index := 0#32
  let c128_104 : Index := 128#32
  ![v342.toNat, 0, 128]
def k0_off46 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v569 : Index := Scalar.indexCast v67
  let c128_161 : Index := 128#32
  let c0_162 : Index := 0#32
  ![v569.toNat, 128, 0]
def k0_off47 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v581 : Index := Scalar.indexCast v67
  let c0_163 : Index := 0#32
  let c256_164 : Index := 256#32
  ![v581.toNat, 0, 256]
def k0_off48 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v816 : Index := Scalar.indexCast v67
  let c0_221 : Index := 0#32
  let c384 : Index := 384#32
  ![v816.toNat, 0, 384]
def k0_off49 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1043 : Index := Scalar.indexCast v67
  let c256_278 : Index := 256#32
  let c0_279 : Index := 0#32
  ![v1043.toNat, 256, 0]
def k0_off50 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1055 : Index := Scalar.indexCast v67
  let c0_280 : Index := 0#32
  let c512 : Index := 512#32
  ![v1055.toNat, 0, 512]
def k0_off51 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1290 : Index := Scalar.indexCast v67
  let c0_337 : Index := 0#32
  let c640 : Index := 640#32
  ![v1290.toNat, 0, 640]
def k0_off52 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1517 : Index := Scalar.indexCast v67
  let c384_394 : Index := 384#32
  let c0_395 : Index := 0#32
  ![v1517.toNat, 384, 0]
def k0_off53 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1529 : Index := Scalar.indexCast v67
  let c0_396 : Index := 0#32
  let c768 : Index := 768#32
  ![v1529.toNat, 0, 768]
def k0_off54 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1764 : Index := Scalar.indexCast v67
  let c0_453 : Index := 0#32
  let c896 : Index := 896#32
  ![v1764.toNat, 0, 896]
def k0_off55 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v1991 : Index := Scalar.indexCast v67
  let c512_510 : Index := 512#32
  let c0_511 : Index := 0#32
  ![v1991.toNat, 512, 0]
def k0_off56 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2003 : Index := Scalar.indexCast v67
  let c0_512 : Index := 0#32
  let c1024 : Index := 1024#32
  ![v2003.toNat, 0, 1024]
def k0_off57 (v57 : BitVec 32) : Fin 3 → Nat :=
  let c2_i32 : BitVec 32 := 2#32
  let c0_i32_39 : BitVec 32 := 0#32
  let v58 : BitVec 1 := Scalar.cmpi .eq c2_i32 c0_i32_39
  let c1_i32_40 : BitVec 32 := 1#32
  let v59 : BitVec 32 := Scalar.select v58 c1_i32_40 c2_i32
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let v2238 : Index := Scalar.indexCast v67
  let c0_569 : Index := 0#32
  let c1152 : Index := 1152#32
  ![v2238.toNat, 0, 1152]

def k0_chk3 (i : grid0.Coords) (v4 : BitVec 32) (k0_t2 : Fin (k0_t2_loop v4).trips) (v57 : BitVec 32) : Prop :=
  (∀ (k0_h3 : k0_cond3 i v4 k0_t2 = 1#1), ∀ a, (k0_off30 v57) a + S1x1.size a ≤ S2x2.size a) ∧
  (∀ (k0_h3 : k0_cond3 i v4 k0_t2 = 1#1), ∀ a, (k0_off31 v57) a + S1x640x128.size a ≤ S2x640x128.size a) ∧
  (∀ (k0_h3 : k0_cond3 i v4 k0_t2 = 1#1), ∀ a, (k0_off33 v57) a + S1x1.size a ≤ S2x2.size a) ∧
  (∀ (k0_h3 : k0_cond3 i v4 k0_t2 = 1#1), ∀ a, (k0_off34 v57) a + S1x32x1280.size a ≤ S2x32x1280.size a) ∧
  (∀ (k0_h3 : k0_cond3 i v4 k0_t2 = 1#1), ∀ (hinb : ∀ a, (k0_off34 v57) a + S1x32x1280.size a ≤ S2x32x1280.size a), (Rect.unit (s := S2x32x1280) (k0_off34 v57) S1x32x1280.size hinb).WholeWords (EltTy.packing .i8)) ∧
  (∀ a, (k0_off36 v57) a + S1x1.size a ≤ S2x2.size a) ∧
  (∀ a, (k0_off37 v57) a + S1x640x128.size a ≤ S2x640x128.size a) ∧
  (∀ a, (k0_off39 v57) a + S1x1.size a ≤ S2x2.size a) ∧
  (∀ a, (k0_off40 v57) a + S1x32x1280.size a ≤ S2x32x1280.size a) ∧
  (∀ (hinb : ∀ a, (k0_off40 v57) a + S1x32x1280.size a ≤ S2x32x1280.size a), (Rect.unit (s := S2x32x1280) (k0_off40 v57) S1x32x1280.size hinb).WholeWords (EltTy.packing .i8)) ∧
  (∀ a, (k0_off42 v57) a + S1x128x128.size a ≤ S2x640x128.size a) ∧
  (∀ a, (k0_off43 v57) a + S1x32x128.size a ≤ S2x32x1280.size a) ∧
  (∀ a, (k0_off45 v57) a + S1x32x128.size a ≤ S2x32x1280.size a) ∧
  (∀ a, (k0_off46 v57) a + S1x128x128.size a ≤ S2x640x128.size a) ∧
  (∀ a, (k0_off47 v57) a + S1x32x128.size a ≤ S2x32x1280.size a) ∧
  (∀ a, (k0_off48 v57) a + S1x32x128.size a ≤ S2x32x1280.size a) ∧
  (∀ a, (k0_off49 v57) a + S1x128x128.size a ≤ S2x640x128.size a) ∧
  (∀ a, (k0_off50 v57) a + S1x32x128.size a ≤ S2x32x1280.size a) ∧
  (∀ a, (k0_off51 v57) a + S1x32x128.size a ≤ S2x32x1280.size a) ∧
  (∀ a, (k0_off52 v57) a + S1x128x128.size a ≤ S2x640x128.size a) ∧
  (∀ a, (k0_off53 v57) a + S1x32x128.size a ≤ S2x32x1280.size a) ∧
  (∀ a, (k0_off54 v57) a + S1x32x128.size a ≤ S2x32x1280.size a) ∧
  (∀ a, (k0_off55 v57) a + S1x128x128.size a ≤ S2x640x128.size a) ∧
  (∀ a, (k0_off56 v57) a + S1x32x128.size a ≤ S2x32x1280.size a) ∧
  (∀ a, (k0_off57 v57) a + S1x32x128.size a ≤ S2x32x1280.size a)
theorem k0_off30_inb : ∀ (i : grid0.Coords) (v4 : BitVec 32) (k0_t2 : Fin (k0_t2_loop v4).trips) (v57 : BitVec 32) (k0_hw3 : k0_chk3 i v4 k0_t2 v57), ∀ (k0_h3 : k0_cond3 i v4 k0_t2 = 1#1), ∀ a, (k0_off30 v57) a + S1x1.size a ≤ S2x2.size a := fun i v4 k0_t2 v57 k0_hw3 k0_h3 => k0_hw3.1 k0_h3
theorem k0_off31_inb : ∀ (i : grid0.Coords) (v4 : BitVec 32) (k0_t2 : Fin (k0_t2_loop v4).trips) (v57 : BitVec 32) (k0_hw3 : k0_chk3 i v4 k0_t2 v57), ∀ (k0_h3 : k0_cond3 i v4 k0_t2 = 1#1), ∀ a, (k0_off31 v57) a + S1x640x128.size a ≤ S2x640x128.size a := fun i v4 k0_t2 v57 k0_hw3 k0_h3 => k0_hw3.2.1 k0_h3
theorem k0_off33_inb : ∀ (i : grid0.Coords) (v4 : BitVec 32) (k0_t2 : Fin (k0_t2_loop v4).trips) (v57 : BitVec 32) (k0_hw3 : k0_chk3 i v4 k0_t2 v57), ∀ (k0_h3 : k0_cond3 i v4 k0_t2 = 1#1), ∀ a, (k0_off33 v57) a + S1x1.size a ≤ S2x2.size a := fun i v4 k0_t2 v57 k0_hw3 k0_h3 => k0_hw3.2.2.1 k0_h3
theorem k0_off34_inb : ∀ (i : grid0.Coords) (v4 : BitVec 32) (k0_t2 : Fin (k0_t2_loop v4).trips) (v57 : BitVec 32) (k0_hw3 : k0_chk3 i v4 k0_t2 v57), ∀ (k0_h3 : k0_cond3 i v4 k0_t2 = 1#1), ∀ a, (k0_off34 v57) a + S1x32x1280.size a ≤ S2x32x1280.size a := fun i v4 k0_t2 v57 k0_hw3 k0_h3 => k0_hw3.2.2.2.1 k0_h3
theorem k0_off34_wordsi8 : ∀ (i : grid0.Coords) (v4 : BitVec 32) (k0_t2 : Fin (k0_t2_loop v4).trips) (v57 : BitVec 32) (k0_hw3 : k0_chk3 i v4 k0_t2 v57), ∀ (k0_h3 : k0_cond3 i v4 k0_t2 = 1#1), (Rect.unit (s := S2x32x1280) (k0_off34 v57) S1x32x1280.size (k0_off34_inb i v4 k0_t2 v57 k0_hw3 k0_h3)).WholeWords (EltTy.packing .i8) := fun i v4 k0_t2 v57 k0_hw3 k0_h3 => k0_hw3.2.2.2.2.1 k0_h3 (k0_off34_inb i v4 k0_t2 v57 k0_hw3 k0_h3)
theorem k0_off36_inb : ∀ (i : grid0.Coords) (v4 : BitVec 32) (k0_t2 : Fin (k0_t2_loop v4).trips) (v57 : BitVec 32) (k0_hw3 : k0_chk3 i v4 k0_t2 v57), ∀ a, (k0_off36 v57) a + S1x1.size a ≤ S2x2.size a := fun i v4 k0_t2 v57 k0_hw3 => k0_hw3.2.2.2.2.2.1
theorem k0_off37_inb : ∀ (i : grid0.Coords) (v4 : BitVec 32) (k0_t2 : Fin (k0_t2_loop v4).trips) (v57 : BitVec 32) (k0_hw3 : k0_chk3 i v4 k0_t2 v57), ∀ a, (k0_off37 v57) a + S1x640x128.size a ≤ S2x640x128.size a := fun i v4 k0_t2 v57 k0_hw3 => k0_hw3.2.2.2.2.2.2.1
theorem k0_off39_inb : ∀ (i : grid0.Coords) (v4 : BitVec 32) (k0_t2 : Fin (k0_t2_loop v4).trips) (v57 : BitVec 32) (k0_hw3 : k0_chk3 i v4 k0_t2 v57), ∀ a, (k0_off39 v57) a + S1x1.size a ≤ S2x2.size a := fun i v4 k0_t2 v57 k0_hw3 => k0_hw3.2.2.2.2.2.2.2.1
theorem k0_off40_inb : ∀ (i : grid0.Coords) (v4 : BitVec 32) (k0_t2 : Fin (k0_t2_loop v4).trips) (v57 : BitVec 32) (k0_hw3 : k0_chk3 i v4 k0_t2 v57), ∀ a, (k0_off40 v57) a + S1x32x1280.size a ≤ S2x32x1280.size a := fun i v4 k0_t2 v57 k0_hw3 => k0_hw3.2.2.2.2.2.2.2.2.1
theorem k0_off40_wordsi8 : ∀ (i : grid0.Coords) (v4 : BitVec 32) (k0_t2 : Fin (k0_t2_loop v4).trips) (v57 : BitVec 32) (k0_hw3 : k0_chk3 i v4 k0_t2 v57), (Rect.unit (s := S2x32x1280) (k0_off40 v57) S1x32x1280.size (k0_off40_inb i v4 k0_t2 v57 k0_hw3)).WholeWords (EltTy.packing .i8) := fun i v4 k0_t2 v57 k0_hw3 => k0_hw3.2.2.2.2.2.2.2.2.2.1 (k0_off40_inb i v4 k0_t2 v57 k0_hw3)
theorem k0_off42_inb : ∀ (i : grid0.Coords) (v4 : BitVec 32) (k0_t2 : Fin (k0_t2_loop v4).trips) (v57 : BitVec 32) (k0_hw3 : k0_chk3 i v4 k0_t2 v57), ∀ a, (k0_off42 v57) a + S1x128x128.size a ≤ S2x640x128.size a := fun i v4 k0_t2 v57 k0_hw3 => k0_hw3.2.2.2.2.2.2.2.2.2.2.1
theorem k0_off43_inb : ∀ (i : grid0.Coords) (v4 : BitVec 32) (k0_t2 : Fin (k0_t2_loop v4).trips) (v57 : BitVec 32) (k0_hw3 : k0_chk3 i v4 k0_t2 v57), ∀ a, (k0_off43 v57) a + S1x32x128.size a ≤ S2x32x1280.size a := fun i v4 k0_t2 v57 k0_hw3 => k0_hw3.2.2.2.2.2.2.2.2.2.2.2.1
theorem k0_off45_inb : ∀ (i : grid0.Coords) (v4 : BitVec 32) (k0_t2 : Fin (k0_t2_loop v4).trips) (v57 : BitVec 32) (k0_hw3 : k0_chk3 i v4 k0_t2 v57), ∀ a, (k0_off45 v57) a + S1x32x128.size a ≤ S2x32x1280.size a := fun i v4 k0_t2 v57 k0_hw3 => k0_hw3.2.2.2.2.2.2.2.2.2.2.2.2.1
theorem k0_off46_inb : ∀ (i : grid0.Coords) (v4 : BitVec 32) (k0_t2 : Fin (k0_t2_loop v4).trips) (v57 : BitVec 32) (k0_hw3 : k0_chk3 i v4 k0_t2 v57), ∀ a, (k0_off46 v57) a + S1x128x128.size a ≤ S2x640x128.size a := fun i v4 k0_t2 v57 k0_hw3 => k0_hw3.2.2.2.2.2.2.2.2.2.2.2.2.2.1
theorem k0_off47_inb : ∀ (i : grid0.Coords) (v4 : BitVec 32) (k0_t2 : Fin (k0_t2_loop v4).trips) (v57 : BitVec 32) (k0_hw3 : k0_chk3 i v4 k0_t2 v57), ∀ a, (k0_off47 v57) a + S1x32x128.size a ≤ S2x32x1280.size a := fun i v4 k0_t2 v57 k0_hw3 => k0_hw3.2.2.2.2.2.2.2.2.2.2.2.2.2.2.1
theorem k0_off48_inb : ∀ (i : grid0.Coords) (v4 : BitVec 32) (k0_t2 : Fin (k0_t2_loop v4).trips) (v57 : BitVec 32) (k0_hw3 : k0_chk3 i v4 k0_t2 v57), ∀ a, (k0_off48 v57) a + S1x32x128.size a ≤ S2x32x1280.size a := fun i v4 k0_t2 v57 k0_hw3 => k0_hw3.2.2.2.2.2.2.2.2.2.2.2.2.2.2.2.1
theorem k0_off49_inb : ∀ (i : grid0.Coords) (v4 : BitVec 32) (k0_t2 : Fin (k0_t2_loop v4).trips) (v57 : BitVec 32) (k0_hw3 : k0_chk3 i v4 k0_t2 v57), ∀ a, (k0_off49 v57) a + S1x128x128.size a ≤ S2x640x128.size a := fun i v4 k0_t2 v57 k0_hw3 => k0_hw3.2.2.2.2.2.2.2.2.2.2.2.2.2.2.2.2.1
theorem k0_off50_inb : ∀ (i : grid0.Coords) (v4 : BitVec 32) (k0_t2 : Fin (k0_t2_loop v4).trips) (v57 : BitVec 32) (k0_hw3 : k0_chk3 i v4 k0_t2 v57), ∀ a, (k0_off50 v57) a + S1x32x128.size a ≤ S2x32x1280.size a := fun i v4 k0_t2 v57 k0_hw3 => k0_hw3.2.2.2.2.2.2.2.2.2.2.2.2.2.2.2.2.2.1
theorem k0_off51_inb : ∀ (i : grid0.Coords) (v4 : BitVec 32) (k0_t2 : Fin (k0_t2_loop v4).trips) (v57 : BitVec 32) (k0_hw3 : k0_chk3 i v4 k0_t2 v57), ∀ a, (k0_off51 v57) a + S1x32x128.size a ≤ S2x32x1280.size a := fun i v4 k0_t2 v57 k0_hw3 => k0_hw3.2.2.2.2.2.2.2.2.2.2.2.2.2.2.2.2.2.2.1
theorem k0_off52_inb : ∀ (i : grid0.Coords) (v4 : BitVec 32) (k0_t2 : Fin (k0_t2_loop v4).trips) (v57 : BitVec 32) (k0_hw3 : k0_chk3 i v4 k0_t2 v57), ∀ a, (k0_off52 v57) a + S1x128x128.size a ≤ S2x640x128.size a := fun i v4 k0_t2 v57 k0_hw3 => k0_hw3.2.2.2.2.2.2.2.2.2.2.2.2.2.2.2.2.2.2.2.1
theorem k0_off53_inb : ∀ (i : grid0.Coords) (v4 : BitVec 32) (k0_t2 : Fin (k0_t2_loop v4).trips) (v57 : BitVec 32) (k0_hw3 : k0_chk3 i v4 k0_t2 v57), ∀ a, (k0_off53 v57) a + S1x32x128.size a ≤ S2x32x1280.size a := fun i v4 k0_t2 v57 k0_hw3 => k0_hw3.2.2.2.2.2.2.2.2.2.2.2.2.2.2.2.2.2.2.2.2.1
theorem k0_off54_inb : ∀ (i : grid0.Coords) (v4 : BitVec 32) (k0_t2 : Fin (k0_t2_loop v4).trips) (v57 : BitVec 32) (k0_hw3 : k0_chk3 i v4 k0_t2 v57), ∀ a, (k0_off54 v57) a + S1x32x128.size a ≤ S2x32x1280.size a := fun i v4 k0_t2 v57 k0_hw3 => k0_hw3.2.2.2.2.2.2.2.2.2.2.2.2.2.2.2.2.2.2.2.2.2.1
theorem k0_off55_inb : ∀ (i : grid0.Coords) (v4 : BitVec 32) (k0_t2 : Fin (k0_t2_loop v4).trips) (v57 : BitVec 32) (k0_hw3 : k0_chk3 i v4 k0_t2 v57), ∀ a, (k0_off55 v57) a + S1x128x128.size a ≤ S2x640x128.size a := fun i v4 k0_t2 v57 k0_hw3 => k0_hw3.2.2.2.2.2.2.2.2.2.2.2.2.2.2.2.2.2.2.2.2.2.2.1
theorem k0_off56_inb : ∀ (i : grid0.Coords) (v4 : BitVec 32) (k0_t2 : Fin (k0_t2_loop v4).trips) (v57 : BitVec 32) (k0_hw3 : k0_chk3 i v4 k0_t2 v57), ∀ a, (k0_off56 v57) a + S1x32x128.size a ≤ S2x32x1280.size a := fun i v4 k0_t2 v57 k0_hw3 => k0_hw3.2.2.2.2.2.2.2.2.2.2.2.2.2.2.2.2.2.2.2.2.2.2.2.1
theorem k0_off57_inb : ∀ (i : grid0.Coords) (v4 : BitVec 32) (k0_t2 : Fin (k0_t2_loop v4).trips) (v57 : BitVec 32) (k0_hw3 : k0_chk3 i v4 k0_t2 v57), ∀ a, (k0_off57 v57) a + S1x32x128.size a ≤ S2x32x1280.size a := fun i v4 k0_t2 v57 k0_hw3 => k0_hw3.2.2.2.2.2.2.2.2.2.2.2.2.2.2.2.2.2.2.2.2.2.2.2.2

@[reducible] def k0_t3_loop : Scf.Loop 32 :=
  let c0_i32_16 : BitVec 32 := 0#32
  let c128_i32 : BitVec 32 := 128#32
  let v36 : BitVec 32 := Scalar.addi c0_i32_16 c128_i32
  let c1_i32_17 : BitVec 32 := 1#32
  ⟨c0_i32_16, v36, c1_i32_17⟩
def k0_off58 (i : grid0.Coords) (k0_t3 : Fin k0_t3_loop.trips) : Fin 2 → Nat :=
  let arg0 : BitVec 32 := BitVec.ofNat 32 (i 0).val
  let v58 : Index := Scalar.indexCast arg0
  let c0_i32_38 : BitVec 32 := 0#32
  let c0_i32_16 : BitVec 32 := 0#32
  let c1_i32_17 : BitVec 32 := 1#32
  let arg13 : BitVec 32 := Scf.iv c0_i32_16 c1_i32_17 k0_t3
  let v57 : BitVec 32 := Scalar.addi c0_i32_38 arg13
  let v59 : Index := Scalar.indexCast v57
  ![v58.toNat, v59.toNat]
def k0_off59 (i : grid0.Coords) (k0_t3 : Fin k0_t3_loop.trips) : Fin 2 → Nat :=
  let arg0 : BitVec 32 := BitVec.ofNat 32 (i 0).val
  let v62 : Index := Scalar.indexCast arg0
  let c0_i32_38 : BitVec 32 := 0#32
  let c0_i32_16 : BitVec 32 := 0#32
  let c1_i32_17 : BitVec 32 := 1#32
  let arg13 : BitVec 32 := Scf.iv c0_i32_16 c1_i32_17 k0_t3
  let v57 : BitVec 32 := Scalar.addi c0_i32_38 arg13
  let c1_i32_39 : BitVec 32 := 1#32
  let v61 : BitVec 32 := Scalar.addi v57 c1_i32_39
  let v63 : Index := Scalar.indexCast v61
  ![v62.toNat, v63.toNat]
def k0_off60 (v60 : BitVec 32) (c0_i32_49 : BitVec 32) : Fin 3 → Nat :=
  let c0_i32_41 : BitVec 32 := 0#32
  let v66 : BitVec 1 := Scalar.cmpi .sgt v60 c0_i32_41
  let v67 : BitVec 32 := Scalar.extui v66
  let c0_i32_42 : BitVec 32 := 0#32
  let v68 : BitVec 1 := Scalar.cmpi .slt v60 c0_i32_42
  let v69 : BitVec 32 := Scalar.extui v68
  let v70 : BitVec 32 := Scalar.subi v67 v69
  let c128_i32_40 : BitVec 32 := 128#32
  let c0_i32_43 : BitVec 32 := 0#32
  let v71 : BitVec 1 := Scalar.cmpi .sgt c128_i32_40 c0_i32_43
  let v72 : BitVec 32 := Scalar.extui v71
  let c0_i32_44 : BitVec 32 := 0#32
  let v73 : BitVec 1 := Scalar.cmpi .slt c128_i32_40 c0_i32_44
  let v74 : BitVec 32 := Scalar.extui v73
  let v75 : BitVec 32 := Scalar.subi v72 v74
  let v76 : BitVec 1 := Scalar.cmpi .ne v70 v75
  let v77 : BitVec 32 := Scalar.remsi v60 c128_i32_40
  let c0_i32_45 : BitVec 32 := 0#32
  let v78 : BitVec 1 := Scalar.cmpi .ne v77 c0_i32_45
  let v79 : BitVec 1 := Scalar.andi v76 v78
  let v65 : BitVec 32 := Scalar.divsi v60 c128_i32_40
  let c1_i32_46 : BitVec 32 := 1#32
  let v80 : BitVec 32 := Scalar.subi v65 c1_i32_46
  let v81 : BitVec 32 := Scalar.select v79 v80 v65
  let v91 : BitVec 32 := Scalar.addi v81 c0_i32_49
  let v92 : Index := Scalar.indexCast v91
  let c0_50 : Index := 0#32
  let c0_51 : Index := 0#32
  ![v92.toNat, 0, 0]

def k0_chk4 (v60 : BitVec 32) : Prop :=
  (∀ (r : Fin 3), ∀ a, (k0_off60 v60 (BitVec.ofNat 32 r.val)) a + S1x48x128.size a ≤ S363x48x128.size a)
theorem k0_off60_inb : ∀ (v60 : BitVec 32) (k0_hw4 : k0_chk4 v60), ∀ (r : Fin 3), ∀ a, (k0_off60 v60 (BitVec.ofNat 32 r.val)) a + S1x48x128.size a ≤ S363x48x128.size a := fun v60 k0_hw4 r => k0_hw4 r

@[reducible] def k0_t4_loop : Scf.Loop 32 :=
  let c0_i32_28 : BitVec 32 := 0#32
  let c128_i32_29 : BitVec 32 := 128#32
  let v47 : BitVec 32 := Scalar.addi c0_i32_28 c128_i32_29
  let c1_i32_30 : BitVec 32 := 1#32
  ⟨c0_i32_28, v47, c1_i32_30⟩
def k0_off61 (i : grid0.Coords) (k0_t4 : Fin k0_t4_loop.trips) : Fin 2 → Nat :=
  let arg0 : BitVec 32 := BitVec.ofNat 32 (i 0).val
  let v58 : Index := Scalar.indexCast arg0
  let c128_i32_38 : BitVec 32 := 128#32
  let c0_i32_28 : BitVec 32 := 0#32
  let c1_i32_30 : BitVec 32 := 1#32
  let arg13 : BitVec 32 := Scf.iv c0_i32_28 c1_i32_30 k0_t4
  let v57 : BitVec 32 := Scalar.addi c128_i32_38 arg13
  let v59 : Index := Scalar.indexCast v57
  ![v58.toNat, v59.toNat]
def k0_off62 (i : grid0.Coords) (k0_t4 : Fin k0_t4_loop.trips) : Fin 2 → Nat :=
  let arg0 : BitVec 32 := BitVec.ofNat 32 (i 0).val
  let v62 : Index := Scalar.indexCast arg0
  let c128_i32_38 : BitVec 32 := 128#32
  let c0_i32_28 : BitVec 32 := 0#32
  let c1_i32_30 : BitVec 32 := 1#32
  let arg13 : BitVec 32 := Scf.iv c0_i32_28 c1_i32_30 k0_t4
  let v57 : BitVec 32 := Scalar.addi c128_i32_38 arg13
  let c1_i32_39 : BitVec 32 := 1#32
  let v61 : BitVec 32 := Scalar.addi v57 c1_i32_39
  let v63 : Index := Scalar.indexCast v61
  ![v62.toNat, v63.toNat]
def k0_off63 (v60 : BitVec 32) (c0_i32_49 : BitVec 32) : Fin 3 → Nat :=
  let c0_i32_41 : BitVec 32 := 0#32
  let v66 : BitVec 1 := Scalar.cmpi .sgt v60 c0_i32_41
  let v67 : BitVec 32 := Scalar.extui v66
  let c0_i32_42 : BitVec 32 := 0#32
  let v68 : BitVec 1 := Scalar.cmpi .slt v60 c0_i32_42
  let v69 : BitVec 32 := Scalar.extui v68
  let v70 : BitVec 32 := Scalar.subi v67 v69
  let c128_i32_40 : BitVec 32 := 128#32
  let c0_i32_43 : BitVec 32 := 0#32
  let v71 : BitVec 1 := Scalar.cmpi .sgt c128_i32_40 c0_i32_43
  let v72 : BitVec 32 := Scalar.extui v71
  let c0_i32_44 : BitVec 32 := 0#32
  let v73 : BitVec 1 := Scalar.cmpi .slt c128_i32_40 c0_i32_44
  let v74 : BitVec 32 := Scalar.extui v73
  let v75 : BitVec 32 := Scalar.subi v72 v74
  let v76 : BitVec 1 := Scalar.cmpi .ne v70 v75
  let v77 : BitVec 32 := Scalar.remsi v60 c128_i32_40
  let c0_i32_45 : BitVec 32 := 0#32
  let v78 : BitVec 1 := Scalar.cmpi .ne v77 c0_i32_45
  let v79 : BitVec 1 := Scalar.andi v76 v78
  let v65 : BitVec 32 := Scalar.divsi v60 c128_i32_40
  let c1_i32_46 : BitVec 32 := 1#32
  let v80 : BitVec 32 := Scalar.subi v65 c1_i32_46
  let v81 : BitVec 32 := Scalar.select v79 v80 v65
  let v91 : BitVec 32 := Scalar.addi v81 c0_i32_49
  let v92 : Index := Scalar.indexCast v91
  let c0_50 : Index := 0#32
  let c0_51 : Index := 0#32
  ![v92.toNat, 0, 0]

def k0_chk5 (v60 : BitVec 32) : Prop :=
  (∀ (r : Fin 3), ∀ a, (k0_off63 v60 (BitVec.ofNat 32 r.val)) a + S1x48x128.size a ≤ S363x48x128.size a)
theorem k0_off63_inb : ∀ (v60 : BitVec 32) (k0_hw5 : k0_chk5 v60), ∀ (r : Fin 3), ∀ a, (k0_off63 v60 (BitVec.ofNat 32 r.val)) a + S1x48x128.size a ≤ S363x48x128.size a := fun v60 k0_hw5 r => k0_hw5 r

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S52x257 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x48x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x48x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S52x48x128 : Shape := ⟨3, ![52, 48, 128]⟩
abbrev S52x46080x128 : Shape := ⟨3, ![52, 46080, 128]⟩
abbrev S4 : Shape := ⟨1, ![4]⟩
abbrev S52x46080x32 : Shape := ⟨3, ![52, 46080, 32]⟩
abbrev S52x257 : Shape := ⟨2, ![52, 257]⟩
abbrev S_ : Shape := ⟨0, ![]⟩
abbrev S1 : Shape := ⟨1, ![1]⟩
abbrev S52x46080 : Shape := ⟨2, ![52, 46080]⟩
abbrev S52x48x32 : Shape := ⟨3, ![52, 48, 32]⟩
abbrev S52x46080x48 : Shape := ⟨3, ![52, 46080, 48]⟩
abbrev S52x46080x1 : Shape := ⟨3, ![52, 46080, 1]⟩
abbrev S46080 : Shape := ⟨1, ![46080]⟩
abbrev S1x46080 : Shape := ⟨2, ![1, 46080]⟩
abbrev S52x257x1 : Shape := ⟨3, ![52, 257, 1]⟩
abbrev S1x1x46080 : Shape := ⟨3, ![1, 1, 46080]⟩
abbrev S52x257x46080 : Shape := ⟨3, ![52, 257, 46080]⟩
abbrev S52x1x46080 : Shape := ⟨3, ![52, 1, 46080]⟩
abbrev S256 : Shape := ⟨1, ![256]⟩
abbrev S1x256x1 : Shape := ⟨3, ![1, 256, 1]⟩
abbrev S52x256x46080 : Shape := ⟨3, ![52, 256, 46080]⟩
abbrev S52x256x46080x1 : Shape := ⟨4, ![52, 256, 46080, 1]⟩
abbrev S52x1x46080x48 : Shape := ⟨4, ![52, 1, 46080, 48]⟩
abbrev S52x256x46080x48 : Shape := ⟨4, ![52, 256, 46080, 48]⟩
abbrev S52x256x48 : Shape := ⟨3, ![52, 256, 48]⟩
abbrev S52x256 : Shape := ⟨2, ![52, 256]⟩
abbrev S52x48x256 : Shape := ⟨3, ![52, 48, 256]⟩
abbrev S52x1x256 : Shape := ⟨3, ![52, 1, 256]⟩

abbrev nBuf : Space → Nat
  | .hbm => 221
  | .vmem => 0
  | .smem => 0
  | _ => 0

abbrev hbmTy0_0 (i : Nat) : BufTy := match i % 128 with
  | 0 => ⟨S52x48x128, .bf16⟩
  | 1 => ⟨S52x46080x128, .i16⟩
  | 2 => ⟨S4, .f32⟩
  | 3 => ⟨S52x46080x32, .i8⟩
  | 4 => ⟨S52x257, .i32⟩
  | 5 => ⟨S52x46080x128, .i32⟩
  | 6 => ⟨S_, .i32⟩
  | 7 => ⟨S52x46080x128, .i32⟩
  | 8 => ⟨S52x46080x128, .i32⟩
  | 9 => ⟨S52x46080x128, .f32⟩
  | 10 => ⟨S52x46080x32, .i32⟩
  | 11 => ⟨S_, .i32⟩
  | 12 => ⟨S52x46080x32, .i32⟩
  | 13 => ⟨S52x46080x32, .i32⟩
  | 14 => ⟨S_, .i32⟩
  | 15 => ⟨S52x46080x32, .i32⟩
  | 16 => ⟨S52x46080x32, .i32⟩
  | 17 => ⟨S_, .i32⟩
  | 18 => ⟨S52x46080x32, .i32⟩
  | 19 => ⟨S52x46080x32, .i1⟩
  | 20 => ⟨S_, .i32⟩
  | 21 => ⟨S52x46080x32, .i32⟩
  | 22 => ⟨S52x46080x32, .i32⟩
  | 23 => ⟨S_, .i32⟩
  | 24 => ⟨S52x46080x32, .i32⟩
  | 25 => ⟨S52x46080x32, .i32⟩
  | 26 => ⟨S_, .i32⟩
  | 27 => ⟨S52x46080x32, .i32⟩
  | 28 => ⟨S52x46080x32, .i1⟩
  | 29 => ⟨S1, .f32⟩
  | 30 => ⟨S_, .f32⟩
  | 31 => ⟨S1, .f32⟩
  | 32 => ⟨S_, .f32⟩
  | 33 => ⟨S1, .f32⟩
  | 34 => ⟨S_, .f32⟩
  | 35 => ⟨S1, .f32⟩
  | 36 => ⟨S_, .f32⟩
  | 37 => ⟨S52x46080x32, .f32⟩
  | 38 => ⟨S52x46080x32, .f32⟩
  | 39 => ⟨S52x46080x32, .f32⟩
  | 40 => ⟨S52x46080x32, .f32⟩
  | 41 => ⟨S52x46080x32, .f32⟩
  | 42 => ⟨S52x46080x32, .f32⟩
  | 43 => ⟨S52x46080x32, .f32⟩
  | 44 => ⟨S52x46080x32, .f32⟩
  | 45 => ⟨S52x46080x32, .f32⟩
  | 46 => ⟨S52x46080x32, .f32⟩
  | 47 => ⟨S_, .f32⟩
  | 48 => ⟨S52x46080, .f32⟩
  | 49 => ⟨S52x48x32, .bf16⟩
  | 50 => ⟨S52x46080x32, .bf16⟩
  | 51 => ⟨S52x46080x48, .f32⟩
  | 52 => ⟨S52x46080x32, .i32⟩
  | 53 => ⟨S_, .i32⟩
  | 54 => ⟨S52x46080x32, .i32⟩
  | 55 => ⟨S52x46080x32, .i32⟩
  | 56 => ⟨S_, .i32⟩
  | 57 => ⟨S52x46080x32, .i32⟩
  | 58 => ⟨S52x46080x32, .i32⟩
  | 59 => ⟨S_, .i32⟩
  | 60 => ⟨S52x46080x32, .i32⟩
  | 61 => ⟨S52x46080x32, .i1⟩
  | 62 => ⟨S_, .i32⟩
  | 63 => ⟨S52x46080x32, .i32⟩
  | 64 => ⟨S52x46080x32, .i32⟩
  | 65 => ⟨S_, .i32⟩
  | 66 => ⟨S52x46080x32, .i32⟩
  | 67 => ⟨S52x46080x32, .i32⟩
  | 68 => ⟨S_, .i32⟩
  | 69 => ⟨S52x46080x32, .i32⟩
  | 70 => ⟨S52x46080x32, .i1⟩
  | 71 => ⟨S1, .f32⟩
  | 72 => ⟨S_, .f32⟩
  | 73 => ⟨S1, .f32⟩
  | 74 => ⟨S_, .f32⟩
  | 75 => ⟨S1, .f32⟩
  | 76 => ⟨S_, .f32⟩
  | 77 => ⟨S1, .f32⟩
  | 78 => ⟨S_, .f32⟩
  | 79 => ⟨S52x46080x32, .f32⟩
  | 80 => ⟨S52x46080x32, .f32⟩
  | 81 => ⟨S52x46080x32, .f32⟩
  | 82 => ⟨S52x46080x32, .f32⟩
  | 83 => ⟨S52x46080x32, .f32⟩
  | 84 => ⟨S52x46080x32, .f32⟩
  | 85 => ⟨S52x46080x32, .f32⟩
  | 86 => ⟨S52x46080x32, .f32⟩
  | 87 => ⟨S52x46080x32, .f32⟩
  | 88 => ⟨S52x46080x32, .f32⟩
  | 89 => ⟨S_, .f32⟩
  | 90 => ⟨S52x46080, .f32⟩
  | 91 => ⟨S52x48x32, .bf16⟩
  | 92 => ⟨S52x46080x32, .bf16⟩
  | 93 => ⟨S52x46080x48, .f32⟩
  | 94 => ⟨S52x46080, .f32⟩
  | 95 => ⟨S52x46080x48, .f32⟩
  | 96 => ⟨S52x46080x32, .i32⟩
  | 97 => ⟨S_, .i32⟩
  | 98 => ⟨S52x46080x32, .i32⟩
  | 99 => ⟨S52x46080x32, .i32⟩
  | 100 => ⟨S_, .i32⟩
  | 101 => ⟨S52x46080x32, .i32⟩
  | 102 => ⟨S52x46080x32, .i32⟩
  | 103 => ⟨S_, .i32⟩
  | 104 => ⟨S52x46080x32, .i32⟩
  | 105 => ⟨S52x46080x32, .i1⟩
  | 106 => ⟨S_, .i32⟩
  | 107 => ⟨S52x46080x32, .i32⟩
  | 108 => ⟨S52x46080x32, .i32⟩
  | 109 => ⟨S_, .i32⟩
  | 110 => ⟨S52x46080x32, .i32⟩
  | 111 => ⟨S52x46080x32, .i32⟩
  | 112 => ⟨S_, .i32⟩
  | 113 => ⟨S52x46080x32, .i32⟩
  | 114 => ⟨S52x46080x32, .i1⟩
  | 115 => ⟨S1, .f32⟩
  | 116 => ⟨S_, .f32⟩
  | 117 => ⟨S1, .f32⟩
  | 118 => ⟨S_, .f32⟩
  | 119 => ⟨S1, .f32⟩
  | 120 => ⟨S_, .f32⟩
  | 121 => ⟨S1, .f32⟩
  | 122 => ⟨S_, .f32⟩
  | 123 => ⟨S52x46080x32, .f32⟩
  | 124 => ⟨S52x46080x32, .f32⟩
  | 125 => ⟨S52x46080x32, .f32⟩
  | 126 => ⟨S52x46080x32, .f32⟩
  | 127 => ⟨S52x46080x32, .f32⟩
  | _ => ⟨S52x48x128, .bf16⟩

abbrev hbmTy0_1 (i : Nat) : BufTy := match i % 128 with
  | 0 => ⟨S52x46080x32, .f32⟩
  | 1 => ⟨S52x46080x32, .f32⟩
  | 2 => ⟨S52x46080x32, .f32⟩
  | 3 => ⟨S52x46080x32, .f32⟩
  | 4 => ⟨S52x46080x32, .f32⟩
  | 5 => ⟨S_, .f32⟩
  | 6 => ⟨S52x46080, .f32⟩
  | 7 => ⟨S52x48x32, .bf16⟩
  | 8 => ⟨S52x46080x32, .bf16⟩
  | 9 => ⟨S52x46080x48, .f32⟩
  | 10 => ⟨S52x46080, .f32⟩
  | 11 => ⟨S52x46080x48, .f32⟩
  | 12 => ⟨S52x46080x32, .i32⟩
  | 13 => ⟨S_, .i32⟩
  | 14 => ⟨S52x46080x32, .i32⟩
  | 15 => ⟨S52x46080x32, .i32⟩
  | 16 => ⟨S_, .i32⟩
  | 17 => ⟨S52x46080x32, .i32⟩
  | 18 => ⟨S52x46080x32, .i32⟩
  | 19 => ⟨S_, .i32⟩
  | 20 => ⟨S52x46080x32, .i32⟩
  | 21 => ⟨S52x46080x32, .i1⟩
  | 22 => ⟨S_, .i32⟩
  | 23 => ⟨S52x46080x32, .i32⟩
  | 24 => ⟨S52x46080x32, .i32⟩
  | 25 => ⟨S_, .i32⟩
  | 26 => ⟨S52x46080x32, .i32⟩
  | 27 => ⟨S52x46080x32, .i32⟩
  | 28 => ⟨S_, .i32⟩
  | 29 => ⟨S52x46080x32, .i32⟩
  | 30 => ⟨S52x46080x32, .i1⟩
  | 31 => ⟨S1, .f32⟩
  | 32 => ⟨S_, .f32⟩
  | 33 => ⟨S1, .f32⟩
  | 34 => ⟨S_, .f32⟩
  | 35 => ⟨S1, .f32⟩
  | 36 => ⟨S_, .f32⟩
  | 37 => ⟨S1, .f32⟩
  | 38 => ⟨S_, .f32⟩
  | 39 => ⟨S52x46080x32, .f32⟩
  | 40 => ⟨S52x46080x32, .f32⟩
  | 41 => ⟨S52x46080x32, .f32⟩
  | 42 => ⟨S52x46080x32, .f32⟩
  | 43 => ⟨S52x46080x32, .f32⟩
  | 44 => ⟨S52x46080x32, .f32⟩
  | 45 => ⟨S52x46080x32, .f32⟩
  | 46 => ⟨S52x46080x32, .f32⟩
  | 47 => ⟨S52x46080x32, .f32⟩
  | 48 => ⟨S52x46080x32, .f32⟩
  | 49 => ⟨S_, .f32⟩
  | 50 => ⟨S52x46080, .f32⟩
  | 51 => ⟨S52x48x32, .bf16⟩
  | 52 => ⟨S52x46080x32, .bf16⟩
  | 53 => ⟨S52x46080x48, .f32⟩
  | 54 => ⟨S52x46080, .f32⟩
  | 55 => ⟨S52x46080x48, .f32⟩
  | 56 => ⟨S52x46080, .f32⟩
  | 57 => ⟨S52x46080x1, .f32⟩
  | 58 => ⟨S52x46080x48, .f32⟩
  | 59 => ⟨S52x46080x48, .f32⟩
  | 60 => ⟨S46080, .i32⟩
  | 61 => ⟨S1x46080, .i32⟩
  | 62 => ⟨S52x257x1, .i32⟩
  | 63 => ⟨S1x1x46080, .i32⟩
  | 64 => ⟨S52x257x46080, .i32⟩
  | 65 => ⟨S52x257x46080, .i32⟩
  | 66 => ⟨S52x257x46080, .i1⟩
  | 67 => ⟨S52x257x46080, .i32⟩
  | 68 => ⟨S_, .i32⟩
  | 69 => ⟨S52x46080, .i32⟩
  | 70 => ⟨S_, .i32⟩
  | 71 => ⟨S52x46080, .i32⟩
  | 72 => ⟨S52x46080, .i32⟩
  | 73 => ⟨S52x1x46080, .i32⟩
  | 74 => ⟨S256, .i32⟩
  | 75 => ⟨S1x256x1, .i32⟩
  | 76 => ⟨S52x256x46080, .i32⟩
  | 77 => ⟨S52x256x46080, .i32⟩
  | 78 => ⟨S52x256x46080, .i1⟩
  | 79 => ⟨S52x256x46080x1, .i1⟩
  | 80 => ⟨S52x1x46080x48, .f32⟩
  | 81 => ⟨S_, .f32⟩
  | 82 => ⟨S_, .f32⟩
  | 83 => ⟨S52x256x46080x48, .i1⟩
  | 84 => ⟨S52x256x46080x48, .f32⟩
  | 85 => ⟨S52x256x46080x48, .f32⟩
  | 86 => ⟨S52x256x46080x48, .f32⟩
  | 87 => ⟨S_, .f32⟩
  | 88 => ⟨S52x256x48, .f32⟩
  | 89 => ⟨S_, .f32⟩
  | 90 => ⟨S52x256, .f32⟩
  | 91 => ⟨S52x48x256, .f32⟩
  | 92 => ⟨S52x1x256, .f32⟩
  | _ => ⟨S52x48x128, .bf16⟩

abbrev hbmTy (i : Nat) : BufTy := match i / 128 with
  | 0 => hbmTy0_0 i
  | 1 => hbmTy0_1 i
  | _ => ⟨S52x48x128, .bf16⟩

abbrev bufTy : (tb : Table) → Fin (tcTables nBuf tb) → BufTy
  | .hbm, ⟨i, _⟩ => hbmTy i
  | _, _ => ⟨S52x48x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_v25 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call3_v0 : Ref sig .tc := ⟨.hbm, 79, rfl⟩
abbrev main_call3_v1 : Ref sig .tc := ⟨.hbm, 80, rfl⟩
abbrev main_v56 : Ref sig .tc := ⟨.hbm, 81, rfl⟩
abbrev main_call4_v0 : Ref sig .tc := ⟨.hbm, 82, rfl⟩
abbrev main_call4_v1 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call6_v0 : Ref sig .tc := ⟨.hbm, 123, rfl⟩
abbrev main_call6_v1 : Ref sig .tc := ⟨.hbm, 124, rfl⟩
abbrev main_v89 : Ref sig .tc := ⟨.hbm, 125, rfl⟩
abbrev main_call7_v0 : Ref sig .tc := ⟨.hbm, 126, rfl⟩
abbrev main_call7_v1 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_19 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_20 : Ref sig .tc := ⟨.hbm, 141, rfl⟩
abbrev main_v102 : Ref sig .tc := ⟨.hbm, 142, rfl⟩
abbrev main_v103 : Ref sig .tc := ⟨.hbm, 143, rfl⟩
abbrev main_c_21 : Ref sig .tc := ⟨.hbm, 144, rfl⟩
abbrev main_v104 : Ref sig .tc := ⟨.hbm, 145, rfl⟩
abbrev main_v105 : Ref sig .tc := ⟨.hbm, 146, rfl⟩
abbrev main_c_22 : Ref sig .tc := ⟨.hbm, 147, rfl⟩
abbrev main_v106 : Ref sig .tc := ⟨.hbm, 148, rfl⟩
abbrev main_v107 : Ref sig .tc := ⟨.hbm, 149, rfl⟩
abbrev main_c_23 : Ref sig .tc := ⟨.hbm, 150, rfl⟩
abbrev main_v108 : Ref sig .tc := ⟨.hbm, 151, rfl⟩
abbrev main_v109 : Ref sig .tc := ⟨.hbm, 152, rfl⟩
abbrev main_c_24 : Ref sig .tc := ⟨.hbm, 153, rfl⟩
abbrev main_v110 : Ref sig .tc := ⟨.hbm, 154, rfl⟩
abbrev main_v111 : Ref sig .tc := ⟨.hbm, 155, rfl⟩
abbrev main_c_25 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_call9_v0 : Ref sig .tc := ⟨.hbm, 167, rfl⟩
abbrev main_call9_v1 : Ref sig .tc := ⟨.hbm, 168, rfl⟩
abbrev main_v122 : Ref sig .tc := ⟨.hbm, 169, rfl⟩
abbrev main_call10_v0 : Ref sig .tc := ⟨.hbm, 170, rfl⟩
abbrev main_call10_v1 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_26 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_call12_call0_v0 : Ref sig .tc := ⟨.hbm, 189, rfl⟩
abbrev main_call12_call0_v1 : Ref sig .tc := ⟨.hbm, 190, rfl⟩
abbrev main_call12_call0_v2 : Ref sig .tc := ⟨.hbm, 191, rfl⟩
abbrev main_call12_call0_v3 : Ref sig .tc := ⟨.hbm, 192, rfl⟩
abbrev main_call12_call0_v4 : Ref sig .tc := ⟨.hbm, 193, rfl⟩
abbrev main_call12_call0_v5 : Ref sig .tc := ⟨.hbm, 194, rfl⟩
abbrev main_call12_call0_v6 : Ref sig .tc := ⟨.hbm, 195, rfl⟩
abbrev main_call12_call0_c : Ref sig .tc := ⟨.hbm, 196, rfl⟩
abbrev main_v139 : Ref sig .tc := ⟨.hbm, 197, rfl⟩
abbrev main_c_27 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_28 : Ref sig .tc := ⟨.hbm, 209, rfl⟩
abbrev main_call13_v0 : Ref sig .tc := ⟨.hbm, 210, rfl⟩
abbrev main_call13_v1 : Ref sig .tc := ⟨.hbm, 211, rfl⟩
abbrev main_call13_v2 : Ref sig .tc := ⟨.hbm, 212, rfl⟩
abbrev main_call13_v3 : Ref sig .tc := ⟨.hbm, 213, rfl⟩
abbrev main_v150 : Ref sig .tc := ⟨.hbm, 214, rfl⟩
abbrev main_cst_29 : Ref sig .tc := ⟨.hbm, 215, rfl⟩
abbrev main_v151 : Ref sig .tc := ⟨.hbm, 216, rfl⟩
abbrev main_cst_30 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩

abbrev nD : Nat := 1
abbrev τ : Topo := Topo.v7x

variable {F : FTy → Type} [FloatOps F]
-- ==== Proof.PreFacts.lean ====
/-
  The precondition's side conditions: shapes that slice, broadcast, cast and reduce into one another.
-/
module

public import proofs.«01_k».proof.Pre_pre

@[expose] public section

namespace Cert.Pre_pre

/-- The precondition's stated facts, each decided. -/
theorem facts : Facts where
  slices_S52x257_S52x256_0_1 := by decide
  slices_S52x257_S52x256_0_0 := by decide
  slices_S52x257_S52x1_0_256 := by decide
  shapeCasts_S52x1_S52 := by decide
  slices_S52x257_S52x1_0_0 := by decide
  bcast_S_S52 := by decide
  reducesTo_S52_S_d0 := by decide
  h_S_ := by decide
  bcast_S_S52x256 := by decide
  reducesTo_S52x256_S_d0_1 := by decide

end Cert.Pre_pre

end
-- ==== Proof.K.Words.lean ====
/-
  The kernel's integer chains in closed form. A core's grid point `b` reads the token count `v4` of
  its batch entry and runs `nb v4` blocks of 1280 tokens, the remainder loop behind it none; the
  word kept in scalar memory counts the blocks of all batch entries so far, and its parity names
  the slot of the two-slot buffers.
-/
module

public import proofs.«01_k».proof.Proof.Gen.Kernel.Frame
public import Idealize.ShloMosaic.Lib.Affine
public import Idealize.ShloMosaic.Lib.Ring

@[expose] public section

noncomputable section

namespace Cert.Kernel.Hand

open Cert.Kernel
open Idealize.ShloMosaic Idealize.ShloMosaic.Affine

/-! ## The parity of the block counter -/

/-- The floor-modulo by two as the kernel computes it, as one expression. -/
abbrev parW (x : BitVec 32) : BitVec 32 :=
  Scalar.select (Scalar.andi (Scalar.xori (Scalar.cmpi .slt (Scalar.remsi x (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi x (Scalar.select (Scalar.cmpi .eq 2#32 0#32) 1#32 2#32)) 0#32))
    (Scalar.addi (Scalar.remsi x (Scalar.select (Scalar.cmpi .eq 2#32 0#32) 1#32 2#32)) (Scalar.select (Scalar.cmpi .eq 2#32 0#32) 1#32 2#32))
    (Scalar.remsi x (Scalar.select (Scalar.cmpi .eq 2#32 0#32) 1#32 2#32))

/-- The signed remainder by two is 0, 1 or minus 1 according to the parity and the sign. -/
theorem remsi_two (x : BitVec 32) :
    (x.toNat % 2 = 0 ∧ Scalar.remsi x 2#32 = 0#32) ∨ (x.toNat % 2 = 1 ∧ (Scalar.remsi x 2#32 = 1#32 ∨ Scalar.remsi x 2#32 = 0xFFFFFFFF#32)) := by
  have h : Scalar.remsi x 2#32 = x.srem 2#32 := IntOp.remsi_of_pos _ (by decide)
  rw [h, BitVec.srem_eq]
  have hx := x.isLt
  rcases hm : x.msb with _ | _
  · simp only [show (2#32 : BitVec 32).msb = false from by decide]
    have e : (x % 2#32).toNat = x.toNat % 2 := by simp [BitVec.toNat_umod]
    rcases Nat.mod_two_eq_zero_or_one x.toNat with h0 | h1
    · left; exact ⟨h0, BitVec.eq_of_toNat_eq (by rw [e, h0]; rfl)⟩
    · right; exact ⟨h1, .inl (BitVec.eq_of_toNat_eq (by rw [e, h1]; rfl))⟩
  · simp only [show (2#32 : BitVec 32).msb = false from by decide]
    have hge : 2 ^ 31 ≤ x.toNat := by
      have := (BitVec.msb_eq_true_iff_two_mul_ge (x := x)).1 hm; omega
    have en : (-x).toNat = 2 ^ 32 - x.toNat := by rw [BitVec.toNat_neg]; omega
    have e : ((-x) % 2#32).toNat = x.toNat % 2 := by
      rw [BitVec.toNat_umod, en]; show (2 ^ 32 - x.toNat) % 2 = x.toNat % 2; omega
    rcases Nat.mod_two_eq_zero_or_one x.toNat with h0 | h1
    · left; refine ⟨h0, ?_⟩
      rw [show (-x) % 2#32 = 0#32 from BitVec.eq_of_toNat_eq (by rw [e, h0]; rfl)]; rfl
    · right; refine ⟨h1, .inr ?_⟩
      rw [show (-x) % 2#32 = 1#32 from BitVec.eq_of_toNat_eq (by rw [e, h1]; rfl)]; rfl

/-- The floor-modulo by two of any word is its parity. -/
theorem parW_eq (x : BitVec 32) : parW x = BitVec.ofNat 32 (x.toNat % 2) := by
  have h2 : Scalar.select (Scalar.cmpi .eq 2#32 0#32) 1#32 2#32 = 2#32 := by decide
  unfold parW; rw [h2]
  rcases remsi_two x with ⟨h, e⟩ | ⟨h, e | e⟩ <;> rw [h, e] <;> decide

/-- The parity word is the slot. -/
theorem parW_toNat (x : BitVec 32) : (parW x).toNat = (Ring.sl 2 x.toNat).val := by
  rw [parW_eq]; simp [Ring.sl, Fin.ofNat]; omega

/-- One less the parity is the other slot. -/
theorem one_sub_parW (x : BitVec 32) : (Scalar.subi 1#32 (parW x)).toNat = (Ring.sl 2 (x.toNat + 1)).val := by
  rw [parW_eq]
  have : (Ring.sl 2 (x.toNat + 1)).val = (x.toNat + 1) % 2 := rfl
  rw [this]
  rcases Nat.mod_two_eq_zero_or_one x.toNat with h | h <;> rw [h]
  · rw [show (x.toNat + 1) % 2 = 1 by omega]; decide
  · rw [show (x.toNat + 1) % 2 = 0 by omega]; decide

/-- Slot `s` of the two-slot buffers, at an offset inside it. -/
abbrev slotOff (s : Fin 2) (p q : ℕ) : Fin 3 → Nat := ![s.val, p, q]
/-- The semaphore of stream `k` (0 the rows, 1 the codes) of slot `s`. -/
abbrev semOff (k : ℕ) (s : Fin 2) : Fin 2 → Nat := ![k, s.val]

variable (v : BitVec 32)
/-- The semaphore of the next block's copy, as computed from the counter. -/
theorem off2_eq : k0_off2 v = semOff 0 (Ring.sl 2 (v.toNat + 1)) := congrArg (fun n => ![0, n]) (one_sub_parW v)
/-- The slot of the next block, as computed from the counter. -/
theorem off3_eq : k0_off3 v = slotOff (Ring.sl 2 (v.toNat + 1)) 0 0 := congrArg (fun n => ![n, 0, 0]) (one_sub_parW v)
/-- The semaphore of the next block's copy, as computed from the counter. -/
theorem off5_eq : k0_off5 v = semOff 1 (Ring.sl 2 (v.toNat + 1)) := congrArg (fun n => ![1, n]) (one_sub_parW v)
/-- The slot of the next block, as computed from the counter. -/
theorem off6_eq : k0_off6 v = slotOff (Ring.sl 2 (v.toNat + 1)) 0 0 := congrArg (fun n => ![n, 0, 0]) (one_sub_parW v)
/-- The semaphore of this block's copy, as computed from the counter. -/
theorem off8_eq : k0_off8 v = semOff 0 (Ring.sl 2 v.toNat) := congrArg (fun n => ![0, n]) (parW_toNat v)
/-- The slot of this block, as computed from the counter. -/
theorem off9_eq : k0_off9 v = slotOff (Ring.sl 2 v.toNat) 0 0 := congrArg (fun n => ![n, 0, 0]) (parW_toNat v)
/-- The semaphore of this block's copy, as computed from the counter. -/
theorem off11_eq : k0_off11 v = semOff 1 (Ring.sl 2 v.toNat) := congrArg (fun n => ![1, n]) (parW_toNat v)
/-- The slot of this block, as computed from the counter. -/
theorem off12_eq : k0_off12 v = slotOff (Ring.sl 2 v.toNat) 0 0 := congrArg (fun n => ![n, 0, 0]) (parW_toNat v)
/-- Where the rows from 0 of this block are read. -/
theorem off14_eq : k0_off14 v = slotOff (Ring.sl 2 v.toNat) 0 0 := congrArg (fun n => ![n, 0, 0]) (parW_toNat v)
/-- Where the codes from 0 of this block are read. -/
theorem off15_eq : k0_off15 v = slotOff (Ring.sl 2 v.toNat) 0 0 := congrArg (fun n => ![n, 0, 0]) (parW_toNat v)
/-- Where the codes from 128 of this block are read. -/
theorem off17_eq : k0_off17 v = slotOff (Ring.sl 2 v.toNat) 0 128 := congrArg (fun n => ![n, 0, 128]) (parW_toNat v)
/-- Where the rows from 128 of this block are read. -/
theorem off18_eq : k0_off18 v = slotOff (Ring.sl 2 v.toNat) 128 0 := congrArg (fun n => ![n, 128, 0]) (parW_toNat v)
/-- Where the codes from 256 of this block are read. -/
theorem off19_eq : k0_off19 v = slotOff (Ring.sl 2 v.toNat) 0 256 := congrArg (fun n => ![n, 0, 256]) (parW_toNat v)
/-- Where the codes from 384 of this block are read. -/
theorem off20_eq : k0_off20 v = slotOff (Ring.sl 2 v.toNat) 0 384 := congrArg (fun n => ![n, 0, 384]) (parW_toNat v)
/-- Where the rows from 256 of this block are read. -/
theorem off21_eq : k0_off21 v = slotOff (Ring.sl 2 v.toNat) 256 0 := congrArg (fun n => ![n, 256, 0]) (parW_toNat v)
/-- Where the codes from 512 of this block are read. -/
theorem off22_eq : k0_off22 v = slotOff (Ring.sl 2 v.toNat) 0 512 := congrArg (fun n => ![n, 0, 512]) (parW_toNat v)
/-- Where the codes from 640 of this block are read. -/
theorem off23_eq : k0_off23 v = slotOff (Ring.sl 2 v.toNat) 0 640 := congrArg (fun n => ![n, 0, 640]) (parW_toNat v)
/-- Where the rows from 384 of this block are read. -/
theorem off24_eq : k0_off24 v = slotOff (Ring.sl 2 v.toNat) 384 0 := congrArg (fun n => ![n, 384, 0]) (parW_toNat v)
/-- Where the codes from 768 of this block are read. -/
theorem off25_eq : k0_off25 v = slotOff (Ring.sl 2 v.toNat) 0 768 := congrArg (fun n => ![n, 0, 768]) (parW_toNat v)
/-- Where the codes from 896 of this block are read. -/
theorem off26_eq : k0_off26 v = slotOff (Ring.sl 2 v.toNat) 0 896 := congrArg (fun n => ![n, 0, 896]) (parW_toNat v)
/-- Where the rows from 512 of this block are read. -/
theorem off27_eq : k0_off27 v = slotOff (Ring.sl 2 v.toNat) 512 0 := congrArg (fun n => ![n, 512, 0]) (parW_toNat v)
/-- Where the codes from 1024 of this block are read. -/
theorem off28_eq : k0_off28 v = slotOff (Ring.sl 2 v.toNat) 0 1024 := congrArg (fun n => ![n, 0, 1024]) (parW_toNat v)
/-- Where the codes from 1152 of this block are read. -/
theorem off29_eq : k0_off29 v = slotOff (Ring.sl 2 v.toNat) 0 1152 := congrArg (fun n => ![n, 0, 1152]) (parW_toNat v)

/-- Offsets of a slot are closed: they are known once the slot is. -/
instance (s : Fin 2) (p q : ℕ) : ClosedOff (slotOff s p q) := ⟨slotOff s p q, rfl⟩
instance : ClosedOff (k0_off14 v) := ⟨_, off14_eq v⟩
instance : ClosedOff (k0_off15 v) := ⟨_, off15_eq v⟩
instance : ClosedOff (k0_off17 v) := ⟨_, off17_eq v⟩
instance : ClosedOff (k0_off18 v) := ⟨_, off18_eq v⟩
instance : ClosedOff (k0_off19 v) := ⟨_, off19_eq v⟩
instance : ClosedOff (k0_off20 v) := ⟨_, off20_eq v⟩
instance : ClosedOff (k0_off21 v) := ⟨_, off21_eq v⟩
instance : ClosedOff (k0_off22 v) := ⟨_, off22_eq v⟩
instance : ClosedOff (k0_off23 v) := ⟨_, off23_eq v⟩
instance : ClosedOff (k0_off24 v) := ⟨_, off24_eq v⟩
instance : ClosedOff (k0_off25 v) := ⟨_, off25_eq v⟩
instance : ClosedOff (k0_off26 v) := ⟨_, off26_eq v⟩
instance : ClosedOff (k0_off27 v) := ⟨_, off27_eq v⟩
instance : ClosedOff (k0_off28 v) := ⟨_, off28_eq v⟩
instance : ClosedOff (k0_off29 v) := ⟨_, off29_eq v⟩

/-! ## The number of blocks -/

/-- The number of blocks of 1280 tokens. -/
def nb (v4 : BitVec 32) : ℕ := (v4.toNat + 1279) / 1280

/-- The count of blocks as the kernel computes it (a floor division). -/
abbrev nbW (v4 : BitVec 32) : BitVec 32 :=
  Scalar.select (Scalar.andi (Scalar.cmpi .ne (Scalar.subi (Scalar.extui (Scalar.cmpi .sgt (Scalar.addi v4 1279#32) 0#32)) (Scalar.extui (Scalar.cmpi .slt (Scalar.addi v4 1279#32) 0#32)))
      (Scalar.subi (Scalar.extui (Scalar.cmpi .sgt 1280#32 0#32)) (Scalar.extui (Scalar.cmpi .slt 1280#32 0#32))))
      (Scalar.cmpi .ne (Scalar.remsi (Scalar.addi v4 1279#32) 1280#32) 0#32))
    (Scalar.subi (Scalar.divsi (Scalar.addi v4 1279#32) 1280#32) 1#32) (Scalar.divsi (Scalar.addi v4 1279#32) 1280#32)

/-- A count of tokens a batch entry can hold. -/
structure Cnt (v4 : BitVec 32) : Prop where
  pos : 1 ≤ v4.toNat
  le : v4.toNat ≤ 46080

/-- A word is the number it is said to be. -/
theorem toInt_of_isInt {x : BitVec 32} {e : Int} (h : IsInt x e) : x.toInt = e := by
  delta Affine.IsInt at h; exact h
/-- A word that reads as a number is that number. -/
theorem isInt_of_toInt {x : BitVec 32} {e : Int} (h : x.toInt = e) : IsInt x e := by
  delta Affine.IsInt; exact h
/-- A word below the sign bit is its natural number. -/
theorem isInt_toNat {x : BitVec 32} (h : x.toNat < 2 ^ 31) : IsInt x x.toNat :=
  isInt_of_toInt (by have := BitVec.toInt_eq_toNat_cond x; split at this <;> omega)
/-- A word that is a natural number below the sign bit reads as it. -/
theorem toNat_of_isInt {x : BitVec 32} {n : ℕ} (h : IsInt x n) (hn : n < 2 ^ 31) : x.toNat = n := by
  have h := toInt_of_isInt h; have := BitVec.toInt_eq_toNat_cond x; split at this <;> omega

variable {v4 : BitVec 32} (hv : Cnt v4)
include hv

/-- An entry has a block. -/
theorem nb_pos : 1 ≤ nb v4 := by have := hv.pos; unfold nb; omega
/-- It has at most 36. -/
theorem nb_le : nb v4 ≤ 36 := by have := hv.le; unfold nb; omega

/-- The number of blocks, as computed. -/
theorem isInt_nbW : IsInt (nbW v4) (nb v4) := by
  have h1 := hv.pos; have h2 := hv.le
  have a0 : IsInt v4 v4.toNat := isInt_toNat (by omega)
  have a1 : IsInt (Scalar.addi v4 1279#32) (v4.toNat + 1279) := addi a0 (ofNat (e := 1279) 1279 ⟨rfl, by decide⟩) ⟨rfl, by omega, by omega⟩
  have hp : Scalar.cmpi .sgt (Scalar.addi v4 1279#32) 0#32 = 1#1 := by
    simp only [Scalar.cmpi, IntOp.cmpi]
    rw [show (0#32 : BitVec 32).slt (Scalar.addi v4 1279#32) = true by simp [BitVec.slt, toInt_of_isInt a1]; omega]; rfl
  have hn : Scalar.cmpi .slt (Scalar.addi v4 1279#32) 0#32 = 0#1 := by
    simp only [Scalar.cmpi, IntOp.cmpi]
    rw [show (Scalar.addi v4 1279#32).slt 0#32 = false by simp [BitVec.slt, toInt_of_isInt a1]; omega]; rfl
  have hd : IsInt (Scalar.divsi (Scalar.addi v4 1279#32) 1280#32) (nb v4) :=
    divsi a1 (ofNat (e := 1280) 1280 ⟨rfl, by decide⟩) ⟨by unfold nb; omega, by omega, by omega⟩
  unfold nbW
  rw [hp, hn]
  have : ∀ c : BitVec 1, Scalar.andi (Scalar.cmpi .ne (Scalar.subi (Scalar.extui 1#1) (Scalar.extui 0#1))
      (Scalar.subi (Scalar.extui (Scalar.cmpi .sgt 1280#32 0#32)) (Scalar.extui (Scalar.cmpi .slt 1280#32 0#32)))) c = 0#1 := by decide
  rw [this]; exact hd

/-- The trip count as the loop computes it. -/
theorem isInt_n1 : IsInt (Scalar.addi 0#32 (Scalar.muli (Scalar.divsi (Scalar.subi (nbW v4) 0#32) 1#32) 1#32)) (nb v4) := by
  have h := isInt_nbW hv; have h1 := nb_le hv
  have z : IsInt 0#32 0 := ofNat (e := 0) 0 ⟨rfl, by decide⟩
  have o : IsInt 1#32 1 := ofNat (e := 1) 1 ⟨rfl, by decide⟩
  have s : IsInt (Scalar.subi (nbW v4) 0#32) (nb v4) := subi h z ⟨by omega, by omega, by omega⟩
  exact addi z (muli (e := nb v4) (divsi_one (e := nb v4) s o ⟨rfl, rfl⟩) o ⟨by omega, by omega, by omega⟩) ⟨by omega, by omega, by omega⟩
/-- The end of the loop as it is computed. -/
theorem isInt_n2 : IsInt (Scalar.addi 0#32 (Scalar.subi (nbW v4) 0#32)) (nb v4) := by
  have h := isInt_nbW hv; have h1 := nb_le hv
  have z : IsInt 0#32 0 := ofNat (e := 0) 0 ⟨rfl, by decide⟩
  exact addi z (subi (e := nb v4) h z ⟨by omega, by omega, by omega⟩) ⟨by omega, by omega, by omega⟩

/-- The block loop runs `nb v4` trips, -/
theorem trips1_eq : (k0_t1_loop v4).trips = nb v4 := by
  show Scf.trips 0#32 (Scalar.addi 0#32 (Scalar.muli (Scalar.divsi (Scalar.subi (nbW v4) 0#32) 1#32) 1#32)) 1#32 = _
  exact trips_eq (ofNat (e := 0) 0 ⟨rfl, by decide⟩) (isInt_n1 hv) (ofNat (e := 1) 1 ⟨rfl, by decide⟩) _ ⟨by omega, by omega⟩
/-- the loop behind it none. -/
theorem trips2_eq : (k0_t2_loop v4).trips = 0 := by
  show Scf.trips (Scalar.addi 0#32 (Scalar.muli (Scalar.divsi (Scalar.subi (nbW v4) 0#32) 1#32) 1#32)) (Scalar.addi 0#32 (Scalar.subi (nbW v4) 0#32)) 1#32 = 0
  exact trips_eq (isInt_n1 hv) (isInt_n2 hv) (ofNat (e := 1) 1 ⟨rfl, by decide⟩) _ ⟨by omega, by omega⟩

/-- A trip is one of the blocks. -/
theorem trip_lt (t : Fin (k0_t1_loop v4).trips) : t.val < nb v4 := by rw [← trips1_eq hv]; exact t.isLt

/-- The counter of the loop is the number of the trip. -/
theorem isInt_iv (t : Fin (k0_t1_loop v4).trips) : IsInt (Scf.iv 0#32 1#32 t.val) t.val := by
  have h := trip_lt hv t; have h1 := nb_le hv
  exact iv (ofNat (e := 0) 0 ⟨rfl, by decide⟩) (ofNat (e := 1) 1 ⟨rfl, by decide⟩) t.val ⟨by omega, by omega, by omega⟩

/-! ## Which block is fetched next -/

/-- The batch entry of the block after block `t` of entry `b`, -/
def nxB (v4 : BitVec 32) (b t : ℕ) : ℕ := if t + 1 < nb v4 then b else b + 1
/-- and the block's number in it. -/
def nxT (v4 : BitVec 32) (t : ℕ) : ℕ := if t + 1 < nb v4 then t + 1 else 0

/-- The comparison that tells the last block. -/
abbrev lastW (v4 : BitVec 32) (t : ℕ) : BitVec 1 := Scalar.cmpi .sge (Scalar.addi (Scf.iv 0#32 1#32 t) 1#32) (nbW v4)

/-- The bit that says that a trip is the last. -/
theorem lastW_eq (t : Fin (k0_t1_loop v4).trips) : lastW v4 t.val = if t.val + 1 < nb v4 then 0#1 else 1#1 := by
  have h := trip_lt hv t; have h1 := nb_le hv
  have a : IsInt (Scalar.addi (Scf.iv 0#32 1#32 t.val) 1#32) (t.val + 1) := addi (isInt_iv hv t) (ofNat (e := 1) 1 ⟨rfl, by decide⟩) ⟨rfl, by omega, by omega⟩
  have hn := isInt_nbW hv
  unfold lastW; generalize Scalar.addi (Scf.iv 0#32 1#32 t.val) 1#32 = x at a ⊢; generalize nbW v4 = y at hn ⊢
  simp only [Scalar.cmpi, IntOp.cmpi]
  have : (y.sle x) = decide (nb v4 ≤ t.val + 1) := by
    rw [BitVec.sle, toInt_of_isInt a, toInt_of_isInt hn]; congr 1; apply propext; omega
  simp only [this]
  by_cases hc : t.val + 1 < nb v4
  · rw [if_pos hc, decide_eq_false (by omega)]; rfl
  · rw [if_neg hc, decide_eq_true (by omega)]; rfl

/-- The entry of the next block, as computed. -/
theorem isInt_nxB (i : grid0.Coords) (t : Fin (k0_t1_loop v4).trips) :
    IsInt (Scalar.select (lastW v4 t.val) (Scalar.addi (BitVec.ofNat 32 (i 0).val) 1#32) (BitVec.ofNat 32 (i 0).val)) (nxB v4 (i 0).val t.val : ℕ) := by
  have hi : (i 0).val < 52 := (i 0).isLt
  have b0 : IsInt (BitVec.ofNat 32 (i 0).val) (i 0).val := ofNat _ ⟨rfl, by omega⟩
  have b1 : IsInt (Scalar.addi (BitVec.ofNat 32 (i 0).val) 1#32) ((i 0).val + 1) := addi b0 (ofNat (e := 1) 1 ⟨rfl, by decide⟩) ⟨rfl, by omega, by omega⟩
  rw [lastW_eq hv t]; unfold nxB
  split
  · exact select_fails (by decide) b1 b0 rfl
  · exact select_holds rfl b1 b0 (by push_cast; rfl)

/-- The number of the next block, as computed. -/
theorem isInt_nxT (t : Fin (k0_t1_loop v4).trips) :
    IsInt (Scalar.select (lastW v4 t.val) 0#32 (Scalar.addi (Scf.iv 0#32 1#32 t.val) 1#32)) (nxT v4 t.val : ℕ) := by
  have h := trip_lt hv t; have h1 := nb_le hv
  have z : IsInt 0#32 0 := ofNat (e := 0) 0 ⟨rfl, by decide⟩
  have a : IsInt (Scalar.addi (Scf.iv 0#32 1#32 t.val) 1#32) (t.val + 1) := addi (isInt_iv hv t) (ofNat (e := 1) 1 ⟨rfl, by decide⟩) ⟨rfl, by omega, by omega⟩
  rw [lastW_eq hv t]; unfold nxT
  split
  · exact select_fails (by decide) z a (by push_cast; rfl)
  · exact select_holds rfl z a rfl

/-- It is below 36. -/
theorem nxT_lt (t : ℕ) : nxT v4 t < 36 := by have := nb_le hv; unfold nxT; split <;> omega

/-- A next block exists but after the last block of the last entry. -/
theorem cond2_iff (i : grid0.Coords) (t : Fin (k0_t1_loop v4).trips) : k0_cond2 i v4 t = 1#1 ↔ nxB v4 (i 0).val t.val < 52 := by
  have h := isInt_nxB hv i t
  have hi : (i 0).val < 52 := (i 0).isLt
  show Scalar.cmpi .ne (Scalar.extui (Scalar.cmpi .slt (Scalar.select (lastW v4 t.val) (Scalar.addi (BitVec.ofNat 32 (i 0).val) 1#32) (BitVec.ofNat 32 (i 0).val)) 52#32)) 0#32 = 1#1 ↔ _
  generalize Scalar.select (lastW v4 t.val) (Scalar.addi (BitVec.ofNat 32 (i 0).val) 1#32) (BitVec.ofNat 32 (i 0).val) = x at h
  have : Scalar.cmpi .slt x 52#32 = if nxB v4 (i 0).val t.val < 52 then 1#1 else 0#1 := by
    simp only [Scalar.cmpi, IntOp.cmpi]
    have : (x.slt 52#32) = decide (nxB v4 (i 0).val t.val < 52) := by
      rw [BitVec.slt, toInt_of_isInt h]; congr 1; apply propext
      rw [show (52#32 : BitVec 32).toInt = 52 from by decide]; omega
    simp only [this]; by_cases hc : nxB v4 (i 0).val t.val < 52 <;> simp [hc]
  rw [this]; split
  · simp [*]; decide
  · simp [*]; decide

/-! ## The offsets of blocks and score tiles -/

/-- The offset of block `j` of entry `b` in the packed rows, -/
abbrev rowOff (b j : ℕ) : Fin 3 → Nat := ![b, 640 * j, 0]
/-- and in the codes. -/
abbrev codeOff (b j : ℕ) : Fin 3 → Nat := ![b, 0, 1280 * j]

/-- Where the next block of rows is. -/
theorem off4_eq (i : grid0.Coords) (t : Fin (k0_t1_loop v4).trips) : k0_off4 i v4 t = rowOff (nxB v4 (i 0).val t.val) (nxT v4 t.val) := by
  have h := nxT_lt hv t.val
  exact vec_cons (isInt_nxB hv i t) rfl (vec_cons (muli (e := 640 * nxT v4 t.val) (isInt_nxT hv t) (ofNat (e := 640) 640 ⟨rfl, by decide⟩) ⟨by omega, by omega, by omega⟩) (by push_cast; rfl) rfl)
/-- Where the next block of codes is. -/
theorem off7_eq (i : grid0.Coords) (t : Fin (k0_t1_loop v4).trips) : k0_off7 i v4 t = codeOff (nxB v4 (i 0).val t.val) (nxT v4 t.val) := by
  have h := nxT_lt hv t.val
  have m : IsInt (Scalar.muli _ 1280#32) (1280 * nxT v4 t.val : ℕ) := muli (isInt_nxT hv t) (ofNat (e := 1280) 1280 ⟨rfl, by decide⟩) ⟨by push_cast; omega, by omega, by push_cast; omega⟩
  exact vec_cons (isInt_nxB hv i t) rfl (congrArg (fun n => ![0, n]) (toNat_of_isInt m (by omega)))
/-- Where this block of rows is. -/
theorem off10_eq (i : grid0.Coords) (t : Fin (k0_t1_loop v4).trips) : k0_off10 i v4 t = rowOff (i 0).val t.val := by
  have h := trip_lt hv t; have h1 := nb_le hv; have hi : (i 0).val < 52 := (i 0).isLt
  exact vec_cons (ofNat (e := (i 0).val) _ ⟨rfl, by omega⟩) rfl (vec_cons (muli (e := 640 * t.val) (isInt_iv hv t) (ofNat (e := 640) 640 ⟨rfl, by decide⟩) ⟨by omega, by omega, by omega⟩) (by push_cast; rfl) rfl)
/-- Where this block of codes is. -/
theorem off13_eq (i : grid0.Coords) (t : Fin (k0_t1_loop v4).trips) : k0_off13 i v4 t = codeOff (i 0).val t.val := by
  have h := trip_lt hv t; have h1 := nb_le hv; have hi : (i 0).val < 52 := (i 0).isLt
  have m : IsInt (Scalar.muli _ 1280#32) (1280 * t.val : ℕ) := muli (isInt_iv hv t) (ofNat (e := 1280) 1280 ⟨rfl, by decide⟩) ⟨by push_cast; omega, by omega, by push_cast; omega⟩
  exact vec_cons (ofNat (e := (i 0).val) _ ⟨rfl, by omega⟩) rfl (congrArg (fun n => ![0, n]) (toNat_of_isInt m (by omega)))

/-- Score tile `n` of the scratch. -/
abbrev tileOff (n : ℕ) : Fin 3 → Nat := ![n, 0, 0]

/-- Where a tile of scores is stored. -/
theorem off16_eq (t : Fin (k0_t1_loop v4).trips) (c : Fin 5) (h : Fin 2) :
    k0_off16 v4 t (BitVec.ofNat 32 c.val) (BitVec.ofNat 32 h.val) = tileOff ((t.val * 5 + c.val) * 2 + h.val) := by
  have ht := trip_lt hv t; have h1 := nb_le hv; have hc := c.isLt; have hh := h.isLt
  have a : IsInt (Scalar.muli (Scf.iv 0#32 1#32 t.val) 5#32) (t.val * 5 : ℕ) := muli (isInt_iv hv t) (ofNat (e := 5) 5 ⟨rfl, by decide⟩) ⟨by push_cast; omega, by omega, by push_cast; omega⟩
  have b : IsInt (Scalar.addi _ (BitVec.ofNat 32 c.val)) (t.val * 5 + c.val : ℕ) := addi a (ofNat (e := c.val) _ ⟨rfl, by omega⟩) ⟨by push_cast; omega, by omega, by push_cast; omega⟩
  have d : IsInt (Scalar.muli _ 2#32) ((t.val * 5 + c.val) * 2 : ℕ) := muli b (ofNat (e := 2) 2 ⟨rfl, by decide⟩) ⟨by push_cast; omega, by omega, by push_cast; omega⟩
  have e : IsInt (Scalar.addi _ (BitVec.ofNat 32 h.val)) ((t.val * 5 + c.val) * 2 + h.val : ℕ) := addi d (ofNat (e := h.val) _ ⟨rfl, by omega⟩) ⟨by push_cast; omega, by omega, by push_cast; omega⟩
  exact vec_cons (indexCast e) rfl rfl

end Cert.Kernel.Hand
-- ==== Proof.K.Pieces.lean ====
/-
  Canonical names of what the kernel's own transfers move — block `t` of batch entry `b` in the two arrays left in HBM,
  slot `s` of the two buffers and its two semaphores —, the resources of a slot free and in flight, and the
  sharing of the two arrays: each slot has its own read share of both.
-/
module

public import proofs.«01_k».proof.Proof.K.Words
public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Transfers
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the proof. -/
abbrev UU (nD : Nat) (τ : Topo) : Type := Pipeline.UD sig nD τ
/-- The proof's algebra: the pipeline library's beside the transfers' counters. -/
local notation "𝕄" => MT nD τ sig Unit (Elt F) ℕ (UU nD τ) ℕ
/-- No variants: no loop of the program needs one. -/
abbrev 𝒱₀ : Variants := Variants.none

/-- Equal assertions entail each other. -/
theorem entails_of_eq {P Q : sProp 𝕄} (e : P = Q) : P ⊢ Q := e ▸ .rfl

/-! ## Canonical names -/

/-- The packed rows in memory. -/
abbrev rowsM : Memref sig .tc .hbm S52x23040x128 .i32 := Memref.whole main_v22
/-- The codes in memory. -/
abbrev codesM : Memref sig .tc .hbm S52x32x46080 .i8 := Memref.whole main_v8
/-- The two-slot buffer of rows. -/
abbrev rbufM : Memref sig .tc .vmem S2x640x128 .i32 := Memref.whole cc0_scratch0
/-- The two-slot buffer of codes. -/
abbrev cbufM : Memref sig .tc .vmem S2x32x1280 .i8 := Memref.whole cc0_scratch1
/-- The buffer of tiles of scores. -/
abbrev scoreM : Memref sig .tc .vmem S363x48x128 .f32 := Memref.whole cc0_scratch2
/-- The counter of blocks. -/
abbrev stM : Memref sig .tc .smem S1 .i32 := Memref.whole cc0_scratch3

/-- A block of rows lies in its array. -/
theorem rowOff_inb (b : Fin 52) (t : Fin 36) : ∀ a, rowOff b.val t.val a + S1x640x128.size a ≤ S52x23040x128.size a := by
  have := b.isLt; have := t.isLt; intro a; fin_cases a
  · show b.val + 1 ≤ 52; omega
  · show 640 * t.val + 640 ≤ 23040; omega
  · show 0 + 128 ≤ 128; omega
/-- A block of codes lies in its array. -/
theorem codeOff_inb (b : Fin 52) (t : Fin 36) : ∀ a, codeOff b.val t.val a + S1x32x1280.size a ≤ S52x32x46080.size a := by
  have := b.isLt; have := t.isLt; intro a; fin_cases a
  · show b.val + 1 ≤ 52; omega
  · show 0 + 32 ≤ 32; omega
  · show 1280 * t.val + 1280 ≤ 46080; omega
/-- A slot of rows lies in its buffer. -/
theorem rslot_inb (s : Fin 2) : ∀ a, slotOff s 0 0 a + S1x640x128.size a ≤ S2x640x128.size a := by
  have := s.isLt; intro a; fin_cases a
  · show s.val + 1 ≤ 2; omega
  · show 0 + 640 ≤ 640; omega
  · show 0 + 128 ≤ 128; omega
/-- A slot of codes lies in its buffer. -/
theorem cslot_inb (s : Fin 2) : ∀ a, slotOff s 0 0 a + S1x32x1280.size a ≤ S2x32x1280.size a := by
  have := s.isLt; intro a; fin_cases a
  · show s.val + 1 ≤ 2; omega
  · show 0 + 32 ≤ 32; omega
  · show 0 + 1280 ≤ 1280; omega
/-- A semaphore lies in its array. -/
theorem semOff_inb (k s : Fin 2) : ∀ a, semOff k.val s a + S1x1.size a ≤ S2x2.size a := by
  have := s.isLt; have := k.isLt; intro a; fin_cases a
  · show k.val + 1 ≤ 2; omega
  · show s.val + 1 ≤ 2; omega

/-- Block `t` of entry `b` in the packed rows, as the body slices and squeezes it; -/
def rblk (b : Fin 52) (t : Fin 36) : Memref sig .tc .hbm S640x128 .i32 :=
  (rowsM.slice (Rect.unit (s := S52x23040x128) (rowOff b.val t.val) S1x640x128.size (rowOff_inb b t)) (fun _ => rfl)).squeeze S640x128 squeezes_S1x640x128_S640x128
/-- and in the codes. -/
def cblk (b : Fin 52) (t : Fin 36) : Memref sig .tc .hbm S32x1280 .i8 :=
  (codesM.slice (Rect.unit (s := S52x32x46080) (codeOff b.val t.val) S1x32x1280.size (codeOff_inb b t)) (fun _ => rfl)).squeeze S32x1280 squeezes_S1x32x1280_S32x1280
/-- Slot `s` of the buffer of rows, -/
def rslot (s : Fin 2) : Memref sig .tc .vmem S640x128 .i32 :=
  (rbufM.slice (Rect.unit (s := S2x640x128) (slotOff s 0 0) S1x640x128.size (rslot_inb s)) (fun _ => rfl)).squeeze S640x128 squeezes_S1x640x128_S640x128
/-- and of the buffer of codes. -/
def cslot (s : Fin 2) : Memref sig .tc .vmem S32x1280 .i8 :=
  (cbufM.slice (Rect.unit (s := S2x32x1280) (slotOff s 0 0) S1x32x1280.size (cslot_inb s)) (fun _ => rfl)).squeeze S32x1280 squeezes_S1x32x1280_S32x1280
/-- The semaphore of stream `k` and slot `s`. -/
def csm (k s : Fin 2) : DmaSems sig S_ :=
  (cc0_scratch4.slice (Rect.unit (s := S2x2) (semOff k.val s) S1x1.size (semOff_inb k s))).squeeze S_ squeezes_S1x1_S_

/-- A slice at an offset equal to that of a semaphore is that semaphore. -/
theorem csm_congr {off : Fin 2 → Nat} {k s : Fin 2} (e : off = semOff k.val s) (hh) :
    (cc0_scratch4.slice (Rect.unit (s := S2x2) off S1x1.size hh)).squeeze S_ squeezes_S1x1_S_ = csm k s :=
  congrArg (fun A : DmaSems sig S1x1 => A.squeeze S_ squeezes_S1x1_S_) (SemArray.slice_unit_congr _ e _ _)
/-- A slice at an offset equal to that of a slot of rows is that slot of rows. -/
theorem rslot_congr {off : Fin 3 → Nat} {s : Fin 2} (e : off = slotOff s 0 0) (hh hs) :
    (rbufM.slice (Rect.unit (s := S2x640x128) off S1x640x128.size hh) hs).squeeze S640x128 squeezes_S1x640x128_S640x128 = rslot s :=
  congrArg (fun M : Memref sig .tc .vmem S1x640x128 .i32 => M.squeeze S640x128 squeezes_S1x640x128_S640x128) (Memref.slice_unit_congr _ e _ _ _ _)
/-- A slice at an offset equal to that of a slot of codes is that slot of codes. -/
theorem cslot_congr {off : Fin 3 → Nat} {s : Fin 2} (e : off = slotOff s 0 0) (hh hs) :
    (cbufM.slice (Rect.unit (s := S2x32x1280) off S1x32x1280.size hh) hs).squeeze S32x1280 squeezes_S1x32x1280_S32x1280 = cslot s :=
  congrArg (fun M : Memref sig .tc .vmem S1x32x1280 .i8 => M.squeeze S32x1280 squeezes_S1x32x1280_S32x1280) (Memref.slice_unit_congr _ e _ _ _ _)
/-- A slice at an offset equal to that of a block of rows is that block of rows. -/
theorem rblk_congr {off : Fin 3 → Nat} {b : Fin 52} {t : Fin 36} (e : off = rowOff b.val t.val) (hh hs) :
    (rowsM.slice (Rect.unit (s := S52x23040x128) off S1x640x128.size hh) hs).squeeze S640x128 squeezes_S1x640x128_S640x128 = rblk b t :=
  congrArg (fun M : Memref sig .tc .hbm S1x640x128 .i32 => M.squeeze S640x128 squeezes_S1x640x128_S640x128) (Memref.slice_unit_congr _ e _ _ _ _)
/-- A slice at an offset equal to that of a block of codes is that block of codes. -/
theorem cblk_congr {off : Fin 3 → Nat} {b : Fin 52} {t : Fin 36} (e : off = codeOff b.val t.val) (hh hs) :
    (codesM.slice (Rect.unit (s := S52x32x46080) off S1x32x1280.size hh) hs).squeeze S32x1280 squeezes_S1x32x1280_S32x1280 = cblk b t :=
  congrArg (fun M : Memref sig .tc .hbm S1x32x1280 .i8 => M.squeeze S32x1280 squeezes_S1x32x1280_S32x1280) (Memref.slice_unit_congr _ e _ _ _ _)

/-! ### The first block's literal slices -/

/-- The semaphore of the first copy of rows. -/
@[sl_canon] theorem semL0 (hh) : (cc0_scratch4.slice (Rect.unit (s := S2x2) ![0, 0] S1x1.size hh)).squeeze S_ squeezes_S1x1_S_ = csm 0 0 := csm_congr (by decide) _
/-- The semaphore of the first copy of codes. -/
@[sl_canon] theorem semL1 (hh) : (cc0_scratch4.slice (Rect.unit (s := S2x2) ![1, 0] S1x1.size hh)).squeeze S_ squeezes_S1x1_S_ = csm 1 0 := csm_congr (by decide) _
/-- Where the first block of rows goes. -/
@[sl_canon] theorem rslotL (hh hs) : (rbufM.slice (Rect.unit (s := S2x640x128) ![0, 0, 0] S1x640x128.size hh) hs).squeeze S640x128 squeezes_S1x640x128_S640x128 = rslot 0 := rslot_congr (by decide) _ _
/-- Where the first block of codes goes. -/
@[sl_canon] theorem cslotL (hh hs) : (cbufM.slice (Rect.unit (s := S2x32x1280) ![0, 0, 0] S1x32x1280.size hh) hs).squeeze S32x1280 squeezes_S1x32x1280_S32x1280 = cslot 0 := cslot_congr (by decide) _ _
/-- The first block of rows. -/
@[sl_canon] theorem rblkL (hh hs) : (rowsM.slice (Rect.unit (s := S52x23040x128) ![0, 0, 0] S1x640x128.size hh) hs).squeeze S640x128 squeezes_S1x640x128_S640x128 = rblk 0 0 := rblk_congr (by decide) _ _
/-- The first block of codes. -/
@[sl_canon] theorem cblkL (hh hs) : (codesM.slice (Rect.unit (s := S52x32x46080) ![0, 0, 0] S1x32x1280.size hh) hs).squeeze S32x1280 squeezes_S1x32x1280_S32x1280 = cblk 0 0 := cblk_congr (by decide) _ _

/-! ### A trip's slices: block `t` waited in the counter's slot, the next block issued into the other slot -/

section Trip
variable (v : BitVec 32)
/-- The semaphore a trip waits on for its rows. -/
@[sl_canon] theorem sem8 (hh) : (cc0_scratch4.slice (Rect.unit (s := S2x2) (k0_off8 v) S1x1.size hh)).squeeze S_ squeezes_S1x1_S_ = csm 0 (Ring.sl 2 v.toNat) := csm_congr (off8_eq v) _
/-- The semaphore a trip waits on for its codes. -/
@[sl_canon] theorem sem11 (hh) : (cc0_scratch4.slice (Rect.unit (s := S2x2) (k0_off11 v) S1x1.size hh)).squeeze S_ squeezes_S1x1_S_ = csm 1 (Ring.sl 2 v.toNat) := csm_congr (off11_eq v) _
/-- The semaphore of the next copy of rows. -/
@[sl_canon] theorem sem2 (hh) : (cc0_scratch4.slice (Rect.unit (s := S2x2) (k0_off2 v) S1x1.size hh)).squeeze S_ squeezes_S1x1_S_ = csm 0 (Ring.sl 2 (v.toNat + 1)) := csm_congr (off2_eq v) _
/-- The semaphore of the next copy of codes. -/
@[sl_canon] theorem sem5 (hh) : (cc0_scratch4.slice (Rect.unit (s := S2x2) (k0_off5 v) S1x1.size hh)).squeeze S_ squeezes_S1x1_S_ = csm 1 (Ring.sl 2 (v.toNat + 1)) := csm_congr (off5_eq v) _
/-- The slot of rows a trip reads. -/
@[sl_canon] theorem rslot9 (hh hs) : (rbufM.slice (Rect.unit (s := S2x640x128) (k0_off9 v) S1x640x128.size hh) hs).squeeze S640x128 squeezes_S1x640x128_S640x128 = rslot (Ring.sl 2 v.toNat) := rslot_congr (off9_eq v) _ _
/-- The slot of codes a trip reads. -/
@[sl_canon] theorem cslot12 (hh hs) : (cbufM.slice (Rect.unit (s := S2x32x1280) (k0_off12 v) S1x32x1280.size hh) hs).squeeze S32x1280 squeezes_S1x32x1280_S32x1280 = cslot (Ring.sl 2 v.toNat) := cslot_congr (off12_eq v) _ _
/-- The slot the next rows go to. -/
@[sl_canon] theorem rslot3 (hh hs) : (rbufM.slice (Rect.unit (s := S2x640x128) (k0_off3 v) S1x640x128.size hh) hs).squeeze S640x128 squeezes_S1x640x128_S640x128 = rslot (Ring.sl 2 (v.toNat + 1)) := rslot_congr (off3_eq v) _ _
/-- The slot the next codes go to. -/
@[sl_canon] theorem cslot6 (hh hs) : (cbufM.slice (Rect.unit (s := S2x32x1280) (k0_off6 v) S1x32x1280.size hh) hs).squeeze S32x1280 squeezes_S1x32x1280_S32x1280 = cslot (Ring.sl 2 (v.toNat + 1)) := cslot_congr (off6_eq v) _ _

/-- The current block's entry and number, as canonical indices. -/
abbrev curB (i : grid0.Coords) : Fin 52 := Ring.bk 52 (i 0).val
/-- The block a trip works on. -/
abbrev curT (t : ℕ) : Fin 36 := Ring.bk 36 t
/-- The entry of the block after it. -/
abbrev nextB (i : grid0.Coords) (v4 : BitVec 32) (t : ℕ) : Fin 52 := Ring.bk 52 (nxB v4 (i 0).val t)
/-- The number of the block after it. -/
abbrev nextT (v4 : BitVec 32) (t : ℕ) : Fin 36 := Ring.bk 36 (nxT v4 t)

variable {v4 : BitVec 32} (i : grid0.Coords) (t : Fin (k0_t1_loop v4).trips)
/-- The block of rows a trip waits for. -/
@[sl_canon] theorem rblk10 (hv : Cnt v4) (hh hs) : (rowsM.slice (Rect.unit (s := S52x23040x128) (k0_off10 i v4 t) S1x640x128.size hh) hs).squeeze S640x128 squeezes_S1x640x128_S640x128 = rblk (curB i) (curT t.val) :=
  rblk_congr (by have hi : (i 0).val < 52 := (i 0).isLt
                 rw [off10_eq hv, Ring.bk_val hi, Ring.bk_val (Nat.lt_of_lt_of_le (trip_lt hv t) (nb_le hv))]) _ _
/-- The block of codes a trip waits for. -/
@[sl_canon] theorem cblk13 (hv : Cnt v4) (hh hs) : (codesM.slice (Rect.unit (s := S52x32x46080) (k0_off13 i v4 t) S1x32x1280.size hh) hs).squeeze S32x1280 squeezes_S1x32x1280_S32x1280 = cblk (curB i) (curT t.val) :=
  cblk_congr (by have hi : (i 0).val < 52 := (i 0).isLt
                 rw [off13_eq hv, Ring.bk_val hi, Ring.bk_val (Nat.lt_of_lt_of_le (trip_lt hv t) (nb_le hv))]) _ _
/-- The next block of rows. -/
@[sl_canon] theorem rblk4 (hv : Cnt v4) (hn : nxB v4 (i 0).val t.val < 52) (hh hs) : (rowsM.slice (Rect.unit (s := S52x23040x128) (k0_off4 i v4 t) S1x640x128.size hh) hs).squeeze S640x128 squeezes_S1x640x128_S640x128 = rblk (nextB i v4 t.val) (nextT v4 t.val) :=
  rblk_congr (by rw [off4_eq hv, Ring.bk_val hn, Ring.bk_val (nxT_lt hv _)]) _ _
/-- The next block of codes. -/
@[sl_canon] theorem cblk7 (hv : Cnt v4) (hn : nxB v4 (i 0).val t.val < 52) (hh hs) : (codesM.slice (Rect.unit (s := S52x32x46080) (k0_off7 i v4 t) S1x32x1280.size hh) hs).squeeze S32x1280 squeezes_S1x32x1280_S32x1280 = cblk (nextB i v4 t.val) (nextT v4 t.val) :=
  cblk_congr (by rw [off7_eq hv, Ring.bk_val hn, Ring.bk_val (nxT_lt hv _)]) _ _
end Trip

/-! ## The pieces: a block lent, the rest of its array's share, a slot held, its cells, a slot in flight -/

section Pieces
variable (c : Dev nD) (XR : Buf (Elt F) (rowsM.view.loc (c : Thread nD τ))) (XC : Buf (Elt F) (codesM.view.loc (c : Thread nD τ)))

/-- Slot `s`'s share of an array left in HBM. -/
abbrev hq (s : Fin 2) : PosShare TreeShare := Transfers.dealOf fullShare Finset.univ s

/-- A semaphore at zero. -/
abbrev cellP (k s : Fin 2) : sProp 𝕄 := semVal ((c : Thread nD τ), SemLoc.dma (csm k s).sem) 0
/-- Owning a slot of rows. -/
abbrev rslotP (s : Fin 2) (f : Buf (Elt F) ((rslot s).view.loc (c : Thread nD τ))) : sProp 𝕄 :=
  (rslot s).view.loc (c : Thread nD τ) ↦[(rslot s).view.set]{fullShare} f
/-- Owning a slot of codes. -/
abbrev cslotP (s : Fin 2) (f : Buf (Elt F) ((cslot s).view.loc (c : Thread nD τ))) : sProp 𝕄 :=
  (cslot s).view.loc (c : Thread nD τ) ↦[(cslot s).view.set]{fullShare} f
/-- Block `t` of entry `b`, at slot `s`'s share. -/
abbrev rhome (s : Fin 2) (b : Fin 52) (t : Fin 36) : sProp 𝕄 := (rblk b t).view.loc (c : Thread nD τ) ↦[(rblk b t).view.set]{hq s} XR
/-- A share of a block of codes. -/
abbrev chome (s : Fin 2) (b : Fin 52) (t : Fin 36) : sProp 𝕄 := (cblk b t).view.loc (c : Thread nD τ) ↦[(cblk b t).view.set]{hq s} XC
/-- An array's share whole, and but for a block. -/
def rtok (s : Fin 2) : sProp 𝕄 := rowsM.view.loc (c : Thread nD τ) ↦{hq s} XR
/-- A share of the codes. -/
def ctok (s : Fin 2) : sProp 𝕄 := codesM.view.loc (c : Thread nD τ) ↦{hq s} XC
/-- The share of the rows outside a block. -/
def rrest (s : Fin 2) (b : Fin 52) (t : Fin 36) : sProp 𝕄 := (rblk b t).view.loc (c : Thread nD τ) ↦[Finset.univ \ (rblk b t).view.set]{hq s} XR
/-- The share of the codes outside a block. -/
def crest (s : Fin 2) (b : Fin 52) (t : Fin 36) : sProp 𝕄 := (cblk b t).view.loc (c : Thread nD τ) ↦[Finset.univ \ (cblk b t).view.set]{hq s} XC

/-- A share of the rows is one of a block and one of the rest. -/
theorem rtok_split (s : Fin 2) (b : Fin 52) (t : Fin 36) : rtok (F := F) c XR s ⊢ iprop(rhome c XR s b t ∗ rrest c XR s b t) := by
  unfold rtok rrest
  exact (pointsTo_split_subset (Finset.subset_univ (rblk b t).view.set)).1
/-- The two make it again. -/
theorem rtok_join (s : Fin 2) (b : Fin 52) (t : Fin 36) : iprop(rhome c XR s b t ∗ rrest c XR s b t) ⊢ rtok (F := F) c XR s := by
  unfold rtok rrest
  exact (pointsTo_split_subset (Finset.subset_univ (rblk b t).view.set)).2
/-- A share of the codes is one of a block and one of the rest. -/
theorem ctok_split (s : Fin 2) (b : Fin 52) (t : Fin 36) : ctok (F := F) c XC s ⊢ iprop(chome c XC s b t ∗ crest c XC s b t) := by
  unfold ctok crest
  exact (pointsTo_split_subset (Finset.subset_univ (cblk b t).view.set)).1
/-- The two make it again. -/
theorem ctok_join (s : Fin 2) (b : Fin 52) (t : Fin 36) : iprop(chome c XC s b t ∗ crest c XC s b t) ⊢ ctok (F := F) c XC s := by
  unfold ctok crest
  exact (pointsTo_split_subset (Finset.subset_univ (cblk b t).view.set)).2

/-- The words of a block, as a slot's payload. -/
abbrev rpay (b : Fin 52) (t : Fin 36) : S640x128.Idx → Elt F .i32 := ReadAs.same.apply ((rblk b t).view.read (Elt F) XR)
/-- The bytes a block of codes has. -/
abbrev cpay (b : Fin 52) (t : Fin 36) : S32x1280.Idx → Elt F .i8 := ReadAs.same.apply ((cblk b t).view.read (Elt F) XC)
/-- What a block's transfer leaves in slot `s` over prior contents `f`. -/
abbrev rland (s : Fin 2) (b : Fin 52) (t : Fin 36) (f : Buf (Elt F) ((rslot s).view.loc (c : Thread nD τ))) : Buf (Elt F) ((rslot s).view.loc (c : Thread nD τ)) :=
  (rslot s).view.writes (Elt F) f [⟨Rect.whole S640x128, rpay c XR b t⟩]
/-- A slot of codes after a block has landed in it. -/
abbrev cland (s : Fin 2) (b : Fin 52) (t : Fin 36) (f : Buf (Elt F) ((cslot s).view.loc (c : Thread nD τ))) : Buf (Elt F) ((cslot s).view.loc (c : Thread nD τ)) :=
  (cslot s).view.writes (Elt F) f [⟨Rect.whole S32x1280, cpay c XC b t⟩]
/-- Slot `s` in flight with a block of rows, and of codes. -/
abbrev rflight (s : Fin 2) (b : Fin 52) (t : Fin 36) (f : Buf (Elt F) ((rslot s).view.loc (c : Thread nD τ))) : sProp 𝕄 :=
  Transfers.Flight (countersEmb (U := UU nD τ)) (c : Thread nD τ) (SemLoc.dma (csm 0 s).sem) () 10240 iprop(rslotP c s (rland c XR s b t f) ∗ rhome c XR s b t)
/-- A block of codes in flight to a slot. -/
abbrev cflight (s : Fin 2) (b : Fin 52) (t : Fin 36) (f : Buf (Elt F) ((cslot s).view.loc (c : Thread nD τ))) : sProp 𝕄 :=
  Transfers.Flight (countersEmb (U := UU nD τ)) (c : Thread nD τ) (SemLoc.dma (csm 1 s).sem) () 1280 iprop(cslotP c s (cland c XC s b t f) ∗ chome c XC s b t)

/-- Slot `s` free: both its cells at zero, both buffers' slots at anything, its shares whole. -/
def free (s : Fin 2) : sProp 𝕄 :=
  iprop(cellP c 0 s ∗ cellP c 1 s ∗ (∃ f, rslotP c s f) ∗ (∃ f, cslotP c s f) ∗ rtok c XR s ∗ ctok c XC s)
/-- Slot `s` in flight with block `t` of entry `b`. -/
def inflight (s : Fin 2) (b : Fin 52) (t : Fin 36) : sProp 𝕄 :=
  iprop((∃ f, rflight c XR s b t f) ∗ (∃ f, cflight c XC s b t f) ∗ rrest c XR s b t ∗ crest c XC s b t)
end Pieces

end Cert.Kernel.Hand
-- ==== Proof.K.Checks.lean ====
/-
  The side conditions the body assumes at run-time words, from what the argument condition says of
  them: the token count between 1 and 46080, an offset at most 46080; the slot conditions hold of any word.
-/
module

public import proofs.«01_k».proof.Proof.K.Words

@[expose] public section

noncomputable section

namespace Cert.Kernel.Hand

open Cert.Kernel
open Idealize.ShloMosaic Idealize.ShloMosaic.Affine

/-- A product of words that does not wrap is a multiple of its factor. -/
theorem dvd_muli {x : BitVec 32} {n k : ℕ} (h : IsInt x n) (hn : n * k < 2 ^ 31) (hk : k < 2 ^ 31) : k ∣ (Scalar.muli x (BitVec.ofNat 32 k)).toNat := by
  have m : IsInt (Scalar.muli x (BitVec.ofNat 32 k)) (n * k : ℕ) := muli h (ofNat (e := k) k ⟨rfl, by omega⟩) ⟨by push_cast; rfl, by omega, by exact_mod_cast hn⟩
  rw [toNat_of_isInt m hn]; exact ⟨n, Nat.mul_comm _ _⟩

/-- The conditions the block loop's arithmetic meets, at a count of tokens. -/
theorem chk1_of (i : grid0.Coords) {v4 : BitVec 32} (hv : Cnt v4) : k0_chk1 i v4 := by
  have h1 := nb_le hv
  have hi : (i 0).val < 52 := (i 0).isLt
  have no : ∀ t : Fin (k0_t2_loop v4).trips, False := fun t => Nat.not_lt_zero _ (Nat.lt_of_lt_of_eq t.isLt (trips2_eq hv))
  have o1 : IsInt 1#32 1 := ofNat (e := 1) 1 ⟨rfl, by decide⟩
  have z : IsInt 0#32 0 := ofNat (e := 0) 0 ⟨rfl, by decide⟩
  refine ⟨?_, fun t h2 => ?_, fun t h2 => ?_, fun t h2 a => ?_, fun t h2 a => ?_, fun t h2 hinb => ?_, fun t => ?_, fun t => ?_, fun t a => ?_, fun t a => ?_,
    fun t hinb => ?_, fun t c h a => ?_, ?_, fun t => (no t).elim, fun t => (no t).elim, fun t => (no t).elim, fun t => (no t).elim, fun t => (no t).elim,
    fun t => (no t).elim, fun t => (no t).elim, fun t => (no t).elim, fun t => (no t).elim, fun t => (no t).elim, fun t => (no t).elim⟩
  · show (0 : ℤ) < (1#32 : BitVec 32).toInt ∧ (0#32 : BitVec 32).toInt + (k0_t1_loop v4).trips * (1#32 : BitVec 32).toInt < 2 ^ 31
    rw [trips1_eq hv, show (1#32 : BitVec 32).toInt = 1 from by decide, show (0#32 : BitVec 32).toInt = 0 from by decide]; omega
  · have := nxT_lt hv t.val
    exact dvd_muli (k := 640) (isInt_nxT hv t) (by omega) (by decide)
  · have := nxT_lt hv t.val
    exact dvd_muli (k := 1280) (isInt_nxT hv t) (by omega) (by decide)
  · have hn := (cond2_iff hv i t).1 h2; have := nxT_lt hv t.val
    rw [off4_eq hv]; fin_cases a
    · show nxB v4 (i 0).val t.val + 1 ≤ 52; omega
    · show 640 * nxT v4 t.val + 640 ≤ 23040; omega
    · show 0 + 128 ≤ 128; omega
  · have hn := (cond2_iff hv i t).1 h2; have := nxT_lt hv t.val
    rw [off7_eq hv]; fin_cases a
    · show nxB v4 (i 0).val t.val + 1 ≤ 52; omega
    · show 0 + 32 ≤ 32; omega
    · show 1280 * nxT v4 t.val + 1280 ≤ 46080; omega
  · exact words_rows (by decide) (by rw [off7_eq hv]; rfl) rfl
  · have := trip_lt hv t
    exact dvd_muli (k := 640) (isInt_iv hv t) (by omega) (by decide)
  · have := trip_lt hv t
    exact dvd_muli (k := 1280) (isInt_iv hv t) (by omega) (by decide)
  · have := trip_lt hv t
    rw [off10_eq hv]; fin_cases a
    · show (i 0).val + 1 ≤ 52; omega
    · show 640 * t.val + 640 ≤ 23040; omega
    · show 0 + 128 ≤ 128; omega
  · have := trip_lt hv t
    rw [off13_eq hv]; fin_cases a
    · show (i 0).val + 1 ≤ 52; omega
    · show 0 + 32 ≤ 32; omega
    · show 1280 * t.val + 1280 ≤ 46080; omega
  · exact words_rows (by decide) (by rw [off13_eq hv]; rfl) rfl
  · have := trip_lt hv t; have := c.isLt; have := h.isLt
    rw [off16_eq hv]; fin_cases a
    · show (t.val * 5 + c.val) * 2 + h.val + 1 ≤ 363; omega
    · show 0 + 48 ≤ 48; omega
    · show 0 + 128 ≤ 128; omega
  · show (0 : ℤ) < (1#32 : BitVec 32).toInt ∧ (Scalar.addi 0#32 (Scalar.muli (Scalar.divsi (Scalar.subi (nbW v4) 0#32) 1#32) 1#32)).toInt
      + (k0_t2_loop v4).trips * (1#32 : BitVec 32).toInt < 2 ^ 31
    rw [trips2_eq hv, toInt_of_isInt (isInt_n1 hv), show (1#32 : BitVec 32).toInt = 1 from by decide]; omega

/-- A rectangle that starts in a slot and fits into it lies in the buffer. -/
theorem slot_inb {off : Fin 3 → ℕ} {n r l : ℕ} {s : Fin 2} {p q R L : ℕ} (e : off = slotOff s p q) (hp : p + r ≤ R) (hq : q + l ≤ L) :
    ∀ a, off a + (![1, r, l] : Fin 3 → ℕ) a ≤ (![2, R, L] : Fin 3 → ℕ) a := by
  subst e; have := s.isLt; intro a; fin_cases a
  · show s.val + 1 ≤ 2; omega
  · exact hp
  · exact hq
/-- A semaphore of the four is one of the array. -/
theorem sem_inb {off : Fin 2 → ℕ} {k : ℕ} {s : Fin 2} (e : off = semOff k s) (hk : k < 2) :
    ∀ a, off a + (![1, 1] : Fin 2 → ℕ) a ≤ (![2, 2] : Fin 2 → ℕ) a := by
  subst e; have := s.isLt; intro a; fin_cases a
  · exact hk
  · show s.val + 1 ≤ 2; omega

/-- The conditions on a trip's slot hold of any counter word. -/
theorem chk2_of (i : grid0.Coords) (v4 : BitVec 32) (t : Fin (k0_t1_loop v4).trips) (v : BitVec 32) : k0_chk2 i v4 t v := by
  refine ⟨fun _ => sem_inb (off2_eq v) (by decide), fun _ => slot_inb (n := 0) (off3_eq v) (by decide) (by decide), fun _ => sem_inb (off5_eq v) (by decide),
    fun _ => slot_inb (n := 0) (off6_eq v) (by decide) (by decide), fun _ hinb => words_rows (by decide) (by rw [off6_eq v]; rfl) rfl,
    sem_inb (off8_eq v) (by decide), slot_inb (n := 0) (off9_eq v) (by decide) (by decide), sem_inb (off11_eq v) (by decide),
    slot_inb (n := 0) (off12_eq v) (by decide) (by decide), fun hinb => words_rows (by decide) (by rw [off12_eq v]; rfl) rfl,
    slot_inb (n := 0) (off14_eq v) (by decide) (by decide), slot_inb (n := 0) (off15_eq v) (by decide) (by decide), slot_inb (n := 0) (off17_eq v) (by decide) (by decide),
    slot_inb (n := 0) (off18_eq v) (by decide) (by decide), slot_inb (n := 0) (off19_eq v) (by decide) (by decide), slot_inb (n := 0) (off20_eq v) (by decide) (by decide),
    slot_inb (n := 0) (off21_eq v) (by decide) (by decide), slot_inb (n := 0) (off22_eq v) (by decide) (by decide), slot_inb (n := 0) (off23_eq v) (by decide) (by decide),
    slot_inb (n := 0) (off24_eq v) (by decide) (by decide), slot_inb (n := 0) (off25_eq v) (by decide) (by decide), slot_inb (n := 0) (off26_eq v) (by decide) (by decide),
    slot_inb (n := 0) (off27_eq v) (by decide) (by decide), slot_inb (n := 0) (off28_eq v) (by decide) (by decide), slot_inb (n := 0) (off29_eq v) (by decide) (by decide)⟩

/-! ## The documents' tiles -/

/-- The first tile of a document at an offset `w`, as the kernel computes it (a floor division). -/
abbrev tileW (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 128#32 0#32)) (Scalar.extui (Scalar.cmpi .slt 128#32 0#32))))
      (Scalar.cmpi .ne (Scalar.remsi w 128#32) 0#32))
    (Scalar.subi (Scalar.divsi w 128#32) 1#32) (Scalar.divsi w 128#32)

/-- The tile of an offset, as a number. -/
theorem isInt_tileW {w : BitVec 32} (h : w.toNat ≤ 46080) : IsInt (tileW w) (w.toNat / 128 : ℕ) := by
  have a0 : IsInt w w.toNat := isInt_toNat (by omega)
  have hd : IsInt (Scalar.divsi w 128#32) (w.toNat / 128 : ℕ) :=
    divsi a0 (ofNat (e := 128) 128 ⟨rfl, by decide⟩) ⟨by push_cast; rfl, by omega, by omega⟩
  have hn : Scalar.cmpi .slt w 0#32 = 0#1 := by
    simp only [Scalar.cmpi, IntOp.cmpi]
    rw [show w.slt 0#32 = false by simp [BitVec.slt, toInt_of_isInt a0]]; rfl
  unfold tileW
  by_cases hz : w.toNat = 0
  · have : w = 0#32 := BitVec.eq_of_toNat_eq hz
    subst this; exact isInt_of_toInt (by decide)
  · have hp : Scalar.cmpi .sgt w 0#32 = 1#1 := by
      simp only [Scalar.cmpi, IntOp.cmpi]
      rw [show (0#32 : BitVec 32).slt w = true by simp [BitVec.slt, toInt_of_isInt a0]; omega]; rfl
    rw [hp, hn]
    have : ∀ c : BitVec 1, Scalar.andi (Scalar.cmpi .ne (Scalar.subi (Scalar.extui 1#1) (Scalar.extui 0#1))
        (Scalar.subi (Scalar.extui (Scalar.cmpi .sgt 128#32 0#32)) (Scalar.extui (Scalar.cmpi .slt 128#32 0#32)))) c = 0#1 := by decide
    rw [this]; exact hd

/-- Tile `r` of a document's three. -/
theorem off60_eq {w : BitVec 32} (h : w.toNat ≤ 46080) (r : Fin 3) : k0_off60 w (BitVec.ofNat 32 r.val) = tileOff (w.toNat / 128 + r.val) := by
  have hr := r.isLt
  exact vec_cons (indexCast (e := (w.toNat / 128 + r.val : ℕ)) (addi (isInt_tileW h) (ofNat (e := r.val) _ ⟨rfl, by omega⟩) ⟨by push_cast; rfl, by omega, by omega⟩)) rfl rfl
/-- The same for the second half of the documents. -/
theorem off63_eq {w : BitVec 32} (h : w.toNat ≤ 46080) (r : Fin 3) : k0_off63 w (BitVec.ofNat 32 r.val) = tileOff (w.toNat / 128 + r.val) := by
  have hr := r.isLt
  exact vec_cons (indexCast (e := (w.toNat / 128 + r.val : ℕ)) (addi (isInt_tileW h) (ofNat (e := r.val) _ ⟨rfl, by omega⟩) ⟨by push_cast; rfl, by omega, by omega⟩)) rfl rfl

/-- A tile of the 363 lies in the buffer of scores. -/
theorem tile_inb {off : Fin 3 → ℕ} {n : ℕ} (e : off = tileOff n) (hn : n < 363) :
    ∀ a, off a + S1x48x128.size a ≤ S363x48x128.size a := by
  subst e; intro a; fin_cases a
  · show n + 1 ≤ 363; omega
  · show 0 + 48 ≤ 48; omega
  · show 0 + 128 ≤ 128; omega
/-- The tiles that a document of the first half reads lie in the buffer. -/
theorem chk4_of {w : BitVec 32} (h : w.toNat ≤ 46080) : k0_chk4 w := fun r => tile_inb (off60_eq h r) (by have := r.isLt; omega)
/-- Those of the second half do too. -/
theorem chk5_of {w : BitVec 32} (h : w.toNat ≤ 46080) : k0_chk5 w := fun r => tile_inb (off63_eq h r) (by have := r.isLt; omega)

/-! ## The entries of the offsets read -/

/-- Where the row count of an entry is read. -/
theorem off1_eq (i : grid0.Coords) : k0_off1 i = ![(i 0).val, 256] := by
  have hi : (i 0).val < 52 := (i 0).isLt
  exact vec_cons (indexCast (ofNat (e := (i 0).val) _ ⟨rfl, by omega⟩)) rfl rfl

/-- The loop over the first half of the documents has 128 trips. -/
theorem trips3_eq : k0_t3_loop.trips = 128 := by decide
/-- The loop over the second half has as many. -/
theorem trips4_eq : k0_t4_loop.trips = 128 := by decide
/-- Where the first offset of a document of the first half is read. -/
theorem off58_eq (i : grid0.Coords) (k : Fin k0_t3_loop.trips) : k0_off58 i k = ![(i 0).val, k.val] := by
  have hi : (i 0).val < 52 := (i 0).isLt
  have hk : k.val < 128 := trips3_eq ▸ k.isLt
  have e : IsInt (Scf.iv 0#32 1#32 k.val) k.val := iv (ofNat (e := 0) 0 ⟨rfl, by decide⟩) (ofNat (e := 1) 1 ⟨rfl, by decide⟩) k.val ⟨by omega, by omega, by omega⟩
  have f : IsInt (Scalar.addi 0#32 (Scf.iv 0#32 1#32 k.val)) (k.val : ℕ) := addi (ofNat (e := 0) 0 ⟨rfl, by decide⟩) e ⟨by omega, by omega, by omega⟩
  exact vec_cons (indexCast (ofNat (e := (i 0).val) _ ⟨rfl, by omega⟩)) rfl (vec_cons (indexCast f) rfl rfl)
/-- Where its end is read. -/
theorem off59_eq (i : grid0.Coords) (k : Fin k0_t3_loop.trips) : k0_off59 i k = ![(i 0).val, k.val + 1] := by
  have hi : (i 0).val < 52 := (i 0).isLt
  have hk : k.val < 128 := trips3_eq ▸ k.isLt
  have e : IsInt (Scf.iv 0#32 1#32 k.val) k.val := iv (ofNat (e := 0) 0 ⟨rfl, by decide⟩) (ofNat (e := 1) 1 ⟨rfl, by decide⟩) k.val ⟨by omega, by omega, by omega⟩
  have f : IsInt (Scalar.addi 0#32 (Scf.iv 0#32 1#32 k.val)) (k.val : ℕ) := addi (ofNat (e := 0) 0 ⟨rfl, by decide⟩) e ⟨by omega, by omega, by omega⟩
  have g : IsInt (Scalar.addi (Scalar.addi 0#32 (Scf.iv 0#32 1#32 k.val)) 1#32) (k.val + 1 : ℕ) := addi f (ofNat (e := 1) 1 ⟨rfl, by decide⟩) ⟨by push_cast; rfl, by omega, by omega⟩
  exact vec_cons (indexCast (ofNat (e := (i 0).val) _ ⟨rfl, by omega⟩)) rfl (vec_cons (indexCast g) rfl rfl)
/-- Where the first offset of a document of the second half is read. -/
theorem off61_eq (i : grid0.Coords) (k : Fin k0_t4_loop.trips) : k0_off61 i k = ![(i 0).val, 128 + k.val] := by
  have hi : (i 0).val < 52 := (i 0).isLt
  have hk : k.val < 128 := trips4_eq ▸ k.isLt
  have e : IsInt (Scf.iv 0#32 1#32 k.val) k.val := iv (ofNat (e := 0) 0 ⟨rfl, by decide⟩) (ofNat (e := 1) 1 ⟨rfl, by decide⟩) k.val ⟨by omega, by omega, by omega⟩
  have f : IsInt (Scalar.addi 128#32 (Scf.iv 0#32 1#32 k.val)) (128 + k.val : ℕ) := addi (ofNat (e := 128) 128 ⟨rfl, by decide⟩) e ⟨by push_cast; rfl, by omega, by omega⟩
  exact vec_cons (indexCast (ofNat (e := (i 0).val) _ ⟨rfl, by omega⟩)) rfl (vec_cons (indexCast f) rfl rfl)
/-- Where its end is read. -/
theorem off62_eq (i : grid0.Coords) (k : Fin k0_t4_loop.trips) : k0_off62 i k = ![(i 0).val, 128 + k.val + 1] := by
  have hi : (i 0).val < 52 := (i 0).isLt
  have hk : k.val < 128 := trips4_eq ▸ k.isLt
  have e : IsInt (Scf.iv 0#32 1#32 k.val) k.val := iv (ofNat (e := 0) 0 ⟨rfl, by decide⟩) (ofNat (e := 1) 1 ⟨rfl, by decide⟩) k.val ⟨by omega, by omega, by omega⟩
  have f : IsInt (Scalar.addi 128#32 (Scf.iv 0#32 1#32 k.val)) (128 + k.val : ℕ) := addi (ofNat (e := 128) 128 ⟨rfl, by decide⟩) e ⟨by push_cast; rfl, by omega, by omega⟩
  have g : IsInt (Scalar.addi (Scalar.addi 128#32 (Scf.iv 0#32 1#32 k.val)) 1#32) (128 + k.val + 1 : ℕ) := addi f (ofNat (e := 1) 1 ⟨rfl, by decide⟩) ⟨by push_cast; rfl, by omega, by omega⟩
  exact vec_cons (indexCast (ofNat (e := (i 0).val) _ ⟨rfl, by omega⟩)) rfl (vec_cons (indexCast g) rfl rfl)

end Cert.Kernel.Hand
-- ==== Proof.K.Trip.lean ====
/-
  One trip of the block loop: the next block (of this batch entry or the next one's first) issued into the
  other slot, the current one waited, ten score tiles stored.
-/
module

public import proofs.«01_k».proof.Proof.K.Pieces
public import proofs.«01_k».proof.Proof.K.Checks
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (XR : Buf (Elt F) (rowsM.view.loc (c : Thread nD τ))) (XC : Buf (Elt F) (codesM.view.loc (c : Thread nD τ)))

/-- Owning the counter. -/
abbrev stP (g : Buf (Elt F) (stM.view.loc (c : Thread nD τ))) : sProp 𝕄 := stM.view.loc (c : Thread nD τ) ↦[stM.view.set]{fullShare} g
/-- Owning the tiles of scores. -/
abbrev scP (g : Buf (Elt F) (scoreM.view.loc (c : Thread nD τ))) : sProp 𝕄 := scoreM.view.loc (c : Thread nD τ) ↦[scoreM.view.set]{fullShare} g
/-- The block counter: the state's one word. -/
abbrev wd (g : Buf (Elt F) (stM.view.loc (c : Thread nD τ))) : BitVec 32 :=
  stM.view.readAt (Elt F) (Rect.unit (s := S1) ![0] S1.size inb_S1_S1_0).toLoadRect g (Shape.Idx.first (by decide))

variable (i : grid0.Coords)
  (arg1 : Memref sig .tc .smem S52x257 .i32) (harg1 : arg1.IsWhole) (arg2 : Memref sig .tc .vmem S8x128 .f32) (harg2 : arg2.IsWhole)
  (arg3 : Memref sig .tc .vmem S1x48x128 .bf16) (harg3 : arg3.IsWhole) (arg6 : Memref sig .tc .vmem S1x48x256 .f32) (harg6 : arg6.IsWhole)
  (arg7 : Memref sig .tc .vmem S1x1x256 .f32) (harg7 : arg7.IsWhole) (arg0 : BitVec 32) (v4 : BitVec 32) (hw1 : k0_chk1 i v4) (v22 : BitVec 32)
  (v24 : FVec F S48x128 .bf16) (v26 : FVec F S8x128 .f32)

/-- One trip's program on the given staging memrefs. -/
abbrev tripG (t : Fin (k0_t1_loop v4).trips) (a : BitVec 32) : Prog (TpuEff nD τ sig (Elt F) Λ₀ .tc) (BitVec 32) :=
  k0_t1_body (F := F) i arg1 harg1 arg2 harg2 arg3 harg3 codesM (Memref.isWhole_whole _) rowsM (Memref.isWhole_whole _) arg6 harg6 arg7 harg7
    rbufM (Memref.isWhole_whole _) cbufM (Memref.isWhole_whole _) scoreM (Memref.isWhole_whole _) stM (Memref.isWhole_whole _) cc0_scratch4 arg0 v4 hw1 v22 v24 v26 t a

/-- The two slots before block `t` of entry `b`, the counter's parity naming the current one: the block in flight in it
    and the other slot free; past the last entry both free. -/
def slotsAt (n b t : ℕ) : sProp 𝕄 :=
  if b < 52 then iprop(inflight c XR XC (Ring.sl 2 n) (Ring.bk 52 b) (Ring.bk 36 t) ∗ free c XR XC (Ring.sl 2 (n + 1)))
  else iprop(free c XR XC (Ring.sl 2 n) ∗ free c XR XC (Ring.sl 2 (n + 1)))

/-- The slot of the next block is the other one. -/
theorem sl_toNat_add (w : BitVec 32) : Ring.sl 2 (w + 1#32).toNat = Ring.sl 2 (w.toNat + 1) := by
  have := w.isLt
  have e : (w + 1#32).toNat = (w.toNat + 1) % 2 ^ 32 := by rw [BitVec.toNat_add]; rfl
  apply Fin.ext; show (w + 1#32).toNat % 2 = (w.toNat + 1) % 2; rw [e]; omega
/-- The slot after the next is the same again. -/
theorem sl_toNat_add2 (w : BitVec 32) : Ring.sl 2 ((w + 1#32).toNat + 1) = Ring.sl 2 w.toNat := by
  have := w.isLt
  have e : (w + 1#32).toNat = (w.toNat + 1) % 2 ^ 32 := by rw [BitVec.toNat_add]; rfl
  apply Fin.ext; show ((w + 1#32).toNat + 1) % 2 = w.toNat % 2; rw [e]; omega

/-- The counter after a store of `x`. -/
theorem wd_write (gS : Buf (Elt F) (stM.view.loc (c : Thread nD τ))) (x : BitVec 32) (inb) :
    wd c (stM.view.writes (Elt F) gS [⟨Rect.unit (s := S1) ![0] S1.size inb, fun _ => x⟩]) = x := by
  have := View.readAt_writes_full stM.view gS (off := ![0]) (off' := ![0]) inb inb_S1_S1_0 (fun _ => x) []
  exact congrFun this _

/-- What a trip does, storing the pieces `L` into the score tiles: the counter goes up by one, the next block takes
    the current one's place. -/
def TripSpec (t : Fin (k0_t1_loop v4).trips) (w : BitVec 32) (L : List (View.Piece (Elt F) S363x48x128 .f32)) : Prop :=
  ∀ (a : BitVec 32) (gS) (hS : wd c gS = w) (gT) (W : Waits sig Unit),
    iprop(owes (c : Thread nD τ) 0 W ∗ stP c gS ∗ scP c gT ∗ slotsAt c XR XC w.toNat (i 0).val t.val)
      ⊢ wp frame (wpE (defs₀ (F := F)) 𝒱₀ (c : Thread nD τ) none) Set.univ
        (tripG i arg1 harg1 arg2 harg2 arg3 harg3 arg6 harg6 arg7 harg7 arg0 v4 hw1 v22 v24 v26 t a)
        (fun _ => iprop((∃ W, owes (c : Thread nD τ) 0 W) ∗ (∃ g, ⌜wd c g = w + 1#32⌝ ∗ stP c g) ∗ scP c (scoreM.view.writes (Elt F) gT L)
          ∗ slotsAt c XR XC (w + 1#32).toNat (nxB v4 (i 0).val t.val) (nxT v4 t.val)))

set_option maxHeartbeats 4000000 in
/-- A trip with a next block: it is issued into the other slot, the current one waited, ten tiles stored. -/
def tripA (hv : Cnt v4) (t : Fin (k0_t1_loop v4).trips) (hn : nxB v4 (i 0).val t.val < 52) (w : BitVec 32) :
    { L : List (View.Piece (Elt F) S363x48x128 .f32) // TripSpec c XR XC i arg1 harg1 arg2 harg2 arg3 harg3 arg6 harg6 arg7 harg7 arg0 v4 hw1 v22 v24 v26 t w L } := by
  refine ⟨?L, ?run⟩
  case run =>
    have hi : (i 0).val < 52 := (i 0).isLt
    unfold TripSpec slotsAt
    rw [if_pos hi, if_pos hn, sl_toNat_add, sl_toNat_add2]
    intro a gS hS gT W
    have hcond : k0_cond2 i v4 t = 1#1 := (cond2_iff hv i t).2 hn
    unfold inflight free
    iintro ⟨HO, Hst, Hsc, ⟨⟨%fr, HFr⟩, ⟨%fc, HFc⟩, Hrr, Hrc⟩, Hc0, Hc1, ⟨%fr', Hs0⟩, ⟨%fc', Hs1⟩, Htr, Htc⟩
    ihave Hr := (rtok_split c XR (Ring.sl 2 (w.toNat + 1)) (nextB i v4 t.val) (nextT v4 t.val)) $$ Htr
    ihave Hc := (ctok_split c XC (Ring.sl 2 (w.toNat + 1)) (nextB i v4 t.val) (nextT v4 t.val)) $$ Htc
    icases Hr with ⟨Hh0, Hr0⟩
    icases Hc with ⟨Hh1, Hr1⟩
    dsimp only [tripG]
    sl_unfold [k0_t1_body]
    sl_exec_parts
    have hr : tripA.sl.r c gS = w := hS
    rw [hr]
    sl_exec_parts (disch := first | exact chk2_of _ _ _ _ | assumption)
    sl_step
    isplitl [HO]; · iexists _; iexact HO
    isplitl [Hst]
    · iexists _; isplitr; rotate_left; · iexact Hst
      ipureintro; exact wd_write c gS _ _
    isplitl [Hsc]; · iexact Hsc
    isplitl [Hc0 Hc1 Hr0 Hr1]
    · isplitl [Hc0]; · iexists fr'; iexact Hc0
      isplitl [Hc1]; · iexists fc'; iexact Hc1
      isplitl [Hr0]; · iexact Hr0
      iexact Hr1
    isplitl [HFr]; · iexact HFr
    isplitl [HFc]; · iexact HFc
    isplitl [HFr_dst]; · iexists _; iexact HFr_dst
    isplitl [HFc_dst]; · iexists _; iexact HFc_dst
    isplitl [HFr_src Hrr]
    · iapply (rtok_join c XR (Ring.sl 2 w.toNat) (curB i) (curT t.val))
      isplitl [HFr_src]; · iexact HFr_src
      iexact Hrr
    iapply (ctok_join c XC (Ring.sl 2 w.toNat) (curB i) (curT t.val))
    isplitl [HFc_src]; · iexact HFc_src
    iexact Hrc
set_option maxHeartbeats 4000000 in
/-- The last trip of the last batch entry: no block is issued, the current one waited, ten tiles stored. -/
def tripB (hv : Cnt v4) (t : Fin (k0_t1_loop v4).trips) (hn : ¬ nxB v4 (i 0).val t.val < 52) (w : BitVec 32) :
    { L : List (View.Piece (Elt F) S363x48x128 .f32) // TripSpec c XR XC i arg1 harg1 arg2 harg2 arg3 harg3 arg6 harg6 arg7 harg7 arg0 v4 hw1 v22 v24 v26 t w L } := by
  refine ⟨?L, ?run⟩
  case run =>
    have hi : (i 0).val < 52 := (i 0).isLt
    unfold TripSpec slotsAt
    rw [if_pos hi, if_neg hn, sl_toNat_add, sl_toNat_add2]
    intro a gS hS gT W
    have hcond : ¬ k0_cond2 i v4 t = 1#1 := fun h => hn ((cond2_iff hv i t).1 h)
    unfold inflight free
    iintro ⟨HO, Hst, Hsc, ⟨⟨%fr, HFr⟩, ⟨%fc, HFc⟩, Hrr, Hrc⟩, Hc0, Hc1, ⟨%fr', Hs0⟩, ⟨%fc', Hs1⟩, Htr, Htc⟩
    dsimp only [tripG]
    sl_unfold [k0_t1_body]
    sl_exec_parts
    have hr : tripB.sl.r c gS = w := hS
    rw [hr]
    sl_exec_parts (disch := first | exact chk2_of _ _ _ _ | assumption)
    sl_step
    isplitl [HO]; · iexists _; iexact HO
    isplitl [Hst]
    · iexists _; isplitr; rotate_left; · iexact Hst
      ipureintro; exact wd_write c gS _ _
    isplitl [Hsc]; · iexact Hsc
    isplitl [Hc0 Hc1 Hs0 Hs1 Htr Htc]
    · isplitl [Hc0]; · iexact Hc0
      isplitl [Hc1]; · iexact Hc1
      isplitl [Hs0]; · iexists _; iexact Hs0
      isplitl [Hs1]; · iexists _; iexact Hs1
      isplitl [Htr]; · iexact Htr
      iexact Htc
    isplitl [HFr]; · iexact HFr
    isplitl [HFc]; · iexact HFc
    isplitl [HFr_dst]; · iexists _; iexact HFr_dst
    isplitl [HFc_dst]; · iexists _; iexact HFc_dst
    isplitl [HFr_src Hrr]
    · iapply (rtok_join c XR (Ring.sl 2 w.toNat) (curB i) (curT t.val))
      isplitl [HFr_src]; · iexact HFr_src
      iexact Hrr
    iapply (ctok_join c XC (Ring.sl 2 w.toNat) (curB i) (curT t.val))
    isplitl [HFc_src]; · iexact HFc_src
    iexact Hrc

/-- A trip, whether or not a next block exists. -/
def trip (hv : Cnt v4) (t : Fin (k0_t1_loop v4).trips) (w : BitVec 32) :
    { L : List (View.Piece (Elt F) S363x48x128 .f32) // TripSpec c XR XC i arg1 harg1 arg2 harg2 arg3 harg3 arg6 harg6 arg7 harg7 arg0 v4 hw1 v22 v24 v26 t w L } :=
  if hn : nxB v4 (i 0).val t.val < 52 then tripA c XR XC i arg1 harg1 arg2 harg2 arg3 harg3 arg6 harg6 arg7 harg7 arg0 v4 hw1 v22 v24 v26 hv t hn w else tripB c XR XC i arg1 harg1 arg2 harg2 arg3 harg3 arg6 harg6 arg7 harg7 arg0 v4 hw1 v22 v24 v26 hv t hn w
end Trip
end Cert.Kernel.Hand
-- ==== Proof.K.Loops.lean ====
/-
  The body's loops: the invariants of the block loop (and of the remainder loop behind it, which runs no trip),
  and one trip of each of the two loops over the documents.
-/
module

public import proofs.«01_k».proof.Proof.K.Trip

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XR : Buf (Elt F) (rowsM.view.loc (c : Thread nD τ))) (XC : Buf (Elt F) (codesM.view.loc (c : Thread nD τ)))
variable (i : grid0.Coords)
  (arg1 : Memref sig .tc .smem S52x257 .i32) (harg1 : arg1.IsWhole) (arg2 : Memref sig .tc .vmem S8x128 .f32) (harg2 : arg2.IsWhole)
  (arg3 : Memref sig .tc .vmem S1x48x128 .bf16) (harg3 : arg3.IsWhole) (arg6 : Memref sig .tc .vmem S1x48x256 .f32) (harg6 : arg6.IsWhole)
  (arg7 : Memref sig .tc .vmem S1x1x256 .f32) (harg7 : arg7.IsWhole)

section Blocks
variable (arg0 : BitVec 32) (v4 : BitVec 32) (hw1 : k0_chk1 i v4) (v22 : BitVec 32) (v24 : FVec F S48x128 .bf16) (v26 : FVec F S8x128 .f32)

/-- A pure fact in front of the resources may be assumed. -/
theorem pure_front {φ : Prop} {Q R : sProp 𝕄} (h : φ → Q ⊢ R) : iprop(⌜φ⌝ ∗ Q) ⊢ R := by
  iintro ⟨%hφ, H⟩
  iapply (h hφ) $$ H

/-- The pieces a trip stores. -/
@[irreducible] def tripL (hv : Cnt v4) (t : Fin (k0_t1_loop v4).trips) (w : BitVec 32) : List (View.Piece (Elt F) S363x48x128 .f32) :=
  (trip c XR XC i arg1 harg1 arg2 harg2 arg3 harg3 arg6 harg6 arg7 harg7 arg0 v4 hw1 v22 v24 v26 hv t w).1

/-- A trip stores those pieces and passes the ring on. -/
theorem tripL_spec (hv : Cnt v4) (t : Fin (k0_t1_loop v4).trips) (w : BitVec 32) :
    TripSpec c XR XC i arg1 harg1 arg2 harg2 arg3 harg3 arg6 harg6 arg7 harg7 arg0 v4 hw1 v22 v24 v26 t w (tripL c XR XC i arg1 harg1 arg2 harg2 arg3 harg3 arg6 harg6 arg7 harg7 arg0 v4 hw1 v22 v24 v26 hv t w) := by
  rw [tripL]
  exact (trip c XR XC i arg1 harg1 arg2 harg2 arg3 harg3 arg6 harg6 arg7 harg7 arg0 v4 hw1 v22 v24 v26 hv t w).2

/-- What the score tiles may hold before trip `t`: at the loop's entry anything, then each trip's pieces on top. -/
inductive Acc (hv : Cnt v4) : ℕ → Buf (Elt F) (scoreM.view.loc (c : Thread nD τ)) → Prop
  | zero (g) : Acc hv 0 g
  | succ (t : Fin (k0_t1_loop v4).trips) (w : BitVec 32) (g) (h : Acc hv t.val g) :
      Acc hv (t.val + 1) (scoreM.view.writes (Elt F) g (tripL c XR XC i arg1 harg1 arg2 harg2 arg3 harg3 arg6 harg6 arg7 harg7 arg0 v4 hw1 v22 v24 v26 hv t w))

/-- The block before trip `t`: past the last of entry `b`, the first of the next entry. -/
abbrev atB (v4 : BitVec 32) (b t : ℕ) : ℕ := if t < nb v4 then b else b + 1
/-- Its number in that entry. -/
abbrev atT (v4 : BitVec 32) (t : ℕ) : ℕ := if t < nb v4 then t else 0

/-- The block loop's resources before trip `t`. -/
@[irreducible] def blocksAt (hv : Cnt v4) (t : ℕ) : sProp 𝕄 :=
  iprop(∃ gS gT, ⌜Acc c XR XC i arg1 harg1 arg2 harg2 arg3 harg3 arg6 harg6 arg7 harg7 arg0 v4 hw1 v22 v24 v26 hv t gT⌝
    ∗ (∃ W, owes (c : Thread nD τ) 0 W) ∗ stP c gS ∗ scP c gT ∗ slotsAt c XR XC (wd c gS).toNat (atB v4 (i 0).val t) (atT v4 t))

/-- A trip that stores the pieces `L` takes the loop's resources before it to those after it. -/
theorem blocks_core (hv : Cnt v4) (t : Fin (k0_t1_loop v4).trips) (a : BitVec 32) (gS gT) (L : List (View.Piece (Elt F) S363x48x128 .f32))
    (hL : TripSpec c XR XC i arg1 harg1 arg2 harg2 arg3 harg3 arg6 harg6 arg7 harg7 arg0 v4 hw1 v22 v24 v26 t (wd c gS) L) (hA : Acc c XR XC i arg1 harg1 arg2 harg2 arg3 harg3 arg6 harg6 arg7 harg7 arg0 v4 hw1 v22 v24 v26 hv (t.val + 1) (scoreM.view.writes (Elt F) gT L)) :
    iprop((∃ W, owes (c : Thread nD τ) 0 W) ∗ stP c gS ∗ scP c gT ∗ slotsAt c XR XC (wd c gS).toNat (atB v4 (i 0).val t.val) (atT v4 t.val))
      ⊢ wp frame (wpE (defs₀ (F := F)) 𝒱₀ (c : Thread nD τ) none) Set.univ
        (tripG i arg1 harg1 arg2 harg2 arg3 harg3 arg6 harg6 arg7 harg7 arg0 v4 hw1 v22 v24 v26 t a)
        (fun _ => blocksAt c XR XC i arg1 harg1 arg2 harg2 arg3 harg3 arg6 harg6 arg7 harg7 arg0 v4 hw1 v22 v24 v26 hv (t.val + 1)) := by
  have ht := trip_lt hv t
  have e1 : atB v4 (i 0).val t.val = (i 0).val := if_pos ht
  have e2 : atT v4 t.val = t.val := if_pos ht
  rw [e1, e2]
  refine sep_exists_right.1.trans (exists_elim fun W => ?_)
  refine (hL a gS rfl gT W).trans (wp_mono _ _ _ fun _ => ?_)
  iintro ⟨⟨%W', HO⟩, ⟨%g, %hg, Hst⟩, Hsc, Hsl⟩
  unfold blocksAt
  iexists g, _
  isplitr; · ipureintro; exact hA
  isplitl [HO]; · iexists _; iexact HO
  isplitl [Hst]; · iexact Hst
  isplitl [Hsc]; · iexact Hsc
  rw [hg]; iexact Hsl

/-- What is true before a trip is true, one further, after it. -/
theorem blocks_step (hv : Cnt v4) (t : Fin (k0_t1_loop v4).trips) (a : BitVec 32) :
    blocksAt c XR XC i arg1 harg1 arg2 harg2 arg3 harg3 arg6 harg6 arg7 harg7 arg0 v4 hw1 v22 v24 v26 hv t.val
      ⊢ wp frame (wpE (defs₀ (F := F)) 𝒱₀ (c : Thread nD τ) none) Set.univ
        (tripG i arg1 harg1 arg2 harg2 arg3 harg3 arg6 harg6 arg7 harg7 arg0 v4 hw1 v22 v24 v26 t a)
        (fun _ => blocksAt c XR XC i arg1 harg1 arg2 harg2 arg3 harg3 arg6 harg6 arg7 harg7 arg0 v4 hw1 v22 v24 v26 hv (t.val + 1)) := by
  rw [blocksAt]
  refine exists_elim fun gS => exists_elim fun gT => ?_
  exact pure_front fun hA => (blocks_core c XR XC i arg1 harg1 arg2 harg2 arg3 harg3 arg6 harg6 arg7 harg7 arg0 v4 hw1 v22 v24 v26 hv t a gS gT _ (tripL_spec c XR XC i arg1 harg1 arg2 harg2 arg3 harg3 arg6 harg6 arg7 harg7 arg0 v4 hw1 v22 v24 v26 hv t (wd c gS)) (Acc.succ t (wd c gS) gT hA))

set_option warn.classDefReducibility false in
/-- The block loop's invariant. -/
@[sl_loop] def loopInv1 (hv : Cnt v4) :
    LoopInvTy_k0_t1 (F := F) Unit ℕ (UU nD τ) ℕ 𝒱₀ c none Set.univ i arg1 harg1 arg2 harg2 arg3 harg3 codesM (Memref.isWhole_whole _) rowsM (Memref.isWhole_whole _)
      arg6 harg6 arg7 harg7 rbufM (Memref.isWhole_whole _) cbufM (Memref.isWhole_whole _) scoreM (Memref.isWhole_whole _) stM (Memref.isWhole_whole _) cc0_scratch4
      arg0 v4 hw1 v22 v24 v26 0#32 where
  inv t _ := blocksAt c XR XC i arg1 harg1 arg2 harg2 arg3 harg3 arg6 harg6 arg7 harg7 arg0 v4 hw1 v22 v24 v26 hv t
  step := by
    intro t a
    iintro H
    iapply (wp_wand_r Idealize.ShloMosaic.frame (wpE (defs₀ (F := F)) 𝒱₀ (c : Thread nD τ) none) Set.univ)
    isplitl [H]
    · iapply (blocks_step c XR XC i arg1 harg1 arg2 harg2 arg3 harg3 arg6 harg6 arg7 harg7 arg0 v4 hw1 v22 v24 v26 hv t a); iexact H
    · iintro %_ H'
      iexact H'

set_option warn.classDefReducibility false in
/-- The remainder loop's invariant: the block loop's resources at its exit; it runs no trip. -/
@[sl_loop] def loopInv2 (hv : Cnt v4) (v31 init : BitVec 32) :
    LoopInvTy_k0_t2 (F := F) Unit ℕ (UU nD τ) ℕ 𝒱₀ c none Set.univ i arg1 harg1 arg2 harg2 arg3 harg3 codesM (Memref.isWhole_whole _) rowsM (Memref.isWhole_whole _)
      arg6 harg6 arg7 harg7 rbufM (Memref.isWhole_whole _) cbufM (Memref.isWhole_whole _) scoreM (Memref.isWhole_whole _) stM (Memref.isWhole_whole _) cc0_scratch4
      arg0 v4 hw1 v22 v24 v26 v31 init where
  inv _ _ := blocksAt c XR XC i arg1 harg1 arg2 harg2 arg3 harg3 arg6 harg6 arg7 harg7 arg0 v4 hw1 v22 v24 v26 hv (k0_t1_loop v4).trips
  step k _ := (Nat.not_lt_zero _ (Nat.lt_of_lt_of_eq k.isLt (trips2_eq hv))).elim
end Blocks

section Docs
variable (arg0 : BitVec 32) (v34 : IVec S48x128 32) (cst : F .f32)

/-- The offsets' staging buffer holds the entry's offsets, each at most 46080. -/
def OffOK (g : Buf (Elt F) (arg1.view.loc (c : Thread nD τ))) : Prop :=
  ∀ (off : Fin 2 → ℕ) (inb : ∀ a, off a + S1x1.size a ≤ S52x257.size a) (j),
    (arg1.view.readAt (Elt F) (Rect.unit (s := S52x257) off S1x1.size inb).toLoadRect g j : BitVec 32).toNat ≤ 46080

/-- Owning the staged offsets. -/
abbrev offP (g : Buf (Elt F) (arg1.view.loc (c : Thread nD τ))) : sProp 𝕄 := arg1.view.loc (c : Thread nD τ) ↦[arg1.view.set]{fullShare} g

set_option maxHeartbeats 4000000 in
/-- One document of the first half: the carried maxima with the document's put in. -/
def docA (g : Buf (Elt F) (arg1.view.loc (c : Thread nD τ))) (hg : OffOK c arg1 g) (gT : Buf (Elt F) (scoreM.view.loc (c : Thread nD τ))) (k : Fin k0_t3_loop.trips) (a : FVec F S48x128 .f32) :
    { f : FVec F S48x128 .f32 // iprop(offP c arg1 g ∗ scP c gT)
      ⊢ wp frame (wpE (defs₀ (F := F)) 𝒱₀ (c : Thread nD τ) none) Set.univ
        (k0_t3_body (F := F) i arg1 harg1 arg2 harg2 arg3 harg3 codesM (Memref.isWhole_whole _) rowsM (Memref.isWhole_whole _)
          arg6 harg6 arg7 harg7 rbufM (Memref.isWhole_whole _) cbufM (Memref.isWhole_whole _) scoreM (Memref.isWhole_whole _) stM (Memref.isWhole_whole _) cc0_scratch4 arg0 v34 cst k a)
        (fun r => iprop(⌜r = f⌝ ∗ offP c arg1 g ∗ scP c gT)) } := by
  refine ⟨?f, ?run⟩
  case run =>
    iintro ⟨Hof, Hsc⟩
    sl_unfold [k0_t3_body]
    sl_exec_parts (disch := first | exact chk4_of (hg _ _ _) | assumption)
    sl_step
    isplitr
    · ipureintro
      exact rfl
    isplitl [Hof]; · iexact Hof
    iexact Hsc

/-- The maxima carried before document `k` of the first half. -/
def docAccA (g : Buf (Elt F) (arg1.view.loc (c : Thread nD τ))) (hg : OffOK c arg1 g) (gT : Buf (Elt F) (scoreM.view.loc (c : Thread nD τ))) : ℕ → FVec F S48x128 .f32
  | 0 => k0_pay5
  | k + 1 => if h : k < k0_t3_loop.trips then
      (docA c i arg1 harg1 arg2 harg2 arg3 harg3 arg6 harg6 arg7 harg7 arg0 v34 cst g hg gT ⟨k, h⟩ (docAccA g hg gT k)).1
    else docAccA g hg gT k

/-- The first half's resources before document `k`, carrying `a`. -/
@[irreducible] def docsAtA (g : Buf (Elt F) (arg1.view.loc (c : Thread nD τ))) (gT : Buf (Elt F) (scoreM.view.loc (c : Thread nD τ))) (k : ℕ) (a : FVec F S48x128 .f32) : sProp 𝕄 :=
  iprop(⌜∃ hg : OffOK c arg1 g, a = docAccA c i arg1 harg1 arg2 harg2 arg3 harg3 arg6 harg6 arg7 harg7 arg0 v34 cst g hg gT k⌝ ∗ offP c arg1 g ∗ scP c gT)

set_option warn.classDefReducibility false in
/-- The invariant of the loop over the first half's documents. -/
@[sl_loop] def loopInv3 (g : Buf (Elt F) (arg1.view.loc (c : Thread nD τ))) (gT : Buf (Elt F) (scoreM.view.loc (c : Thread nD τ))) (init : FVec F S48x128 .f32) :
    LoopInvTy_k0_t3 (F := F) Unit ℕ (UU nD τ) ℕ 𝒱₀ c none Set.univ i arg1 harg1 arg2 harg2 arg3 harg3 codesM (Memref.isWhole_whole _) rowsM (Memref.isWhole_whole _)
      arg6 harg6 arg7 harg7 rbufM (Memref.isWhole_whole _) cbufM (Memref.isWhole_whole _) scoreM (Memref.isWhole_whole _) stM (Memref.isWhole_whole _) cc0_scratch4 arg0 v34 cst init where
  inv k a := docsAtA c i arg1 harg1 arg2 harg2 arg3 harg3 arg6 harg6 arg7 harg7 arg0 v34 cst g gT k a
  step k a := by
    rw [docsAtA]
    iintro ⟨%h, Hof, Hsc⟩
    obtain ⟨hg, rfl⟩ := h
    iapply (wp_wand_r Idealize.ShloMosaic.frame (wpE (defs₀ (F := F)) 𝒱₀ (c : Thread nD τ) none) Set.univ)
    isplitl [Hof Hsc]
    · iapply (docA c i arg1 harg1 arg2 harg2 arg3 harg3 arg6 harg6 arg7 harg7 arg0 v34 cst g hg gT k _).2
      isplitl [Hof]; · iexact Hof
      iexact Hsc
    · iintro %r ⟨%hr, Hof, Hsc⟩
      unfold docsAtA
      isplitr
      · ipureintro
        exact ⟨hg, hr.trans (by rw [docAccA, dif_pos k.isLt])⟩
      isplitl [Hof]; · iexact Hof
      iexact Hsc

set_option maxHeartbeats 4000000 in
/-- One document of the second half: the carried maxima with the document's put in. -/
def docB (g : Buf (Elt F) (arg1.view.loc (c : Thread nD τ))) (hg : OffOK c arg1 g) (gT : Buf (Elt F) (scoreM.view.loc (c : Thread nD τ))) (k : Fin k0_t4_loop.trips) (a : FVec F S48x128 .f32) :
    { f : FVec F S48x128 .f32 // iprop(offP c arg1 g ∗ scP c gT)
      ⊢ wp frame (wpE (defs₀ (F := F)) 𝒱₀ (c : Thread nD τ) none) Set.univ
        (k0_t4_body (F := F) i arg1 harg1 arg2 harg2 arg3 harg3 codesM (Memref.isWhole_whole _) rowsM (Memref.isWhole_whole _)
          arg6 harg6 arg7 harg7 rbufM (Memref.isWhole_whole _) cbufM (Memref.isWhole_whole _) scoreM (Memref.isWhole_whole _) stM (Memref.isWhole_whole _) cc0_scratch4 arg0 v34 cst k a)
        (fun r => iprop(⌜r = f⌝ ∗ offP c arg1 g ∗ scP c gT)) } := by
  refine ⟨?f, ?run⟩
  case run =>
    iintro ⟨Hof, Hsc⟩
    sl_unfold [k0_t4_body]
    sl_exec_parts (disch := first | exact chk5_of (hg _ _ _) | assumption)
    sl_step
    isplitr
    · ipureintro
      exact rfl
    isplitl [Hof]; · iexact Hof
    iexact Hsc

/-- The maxima carried before document `k` of the second half. -/
def docAccB (g : Buf (Elt F) (arg1.view.loc (c : Thread nD τ))) (hg : OffOK c arg1 g) (gT : Buf (Elt F) (scoreM.view.loc (c : Thread nD τ))) : ℕ → FVec F S48x128 .f32
  | 0 => k0_pay5
  | k + 1 => if h : k < k0_t4_loop.trips then
      (docB c i arg1 harg1 arg2 harg2 arg3 harg3 arg6 harg6 arg7 harg7 arg0 v34 cst g hg gT ⟨k, h⟩ (docAccB g hg gT k)).1
    else docAccB g hg gT k

/-- The second half's resources before document `k`, carrying `a`. -/
@[irreducible] def docsAtB (g : Buf (Elt F) (arg1.view.loc (c : Thread nD τ))) (gT : Buf (Elt F) (scoreM.view.loc (c : Thread nD τ))) (k : ℕ) (a : FVec F S48x128 .f32) : sProp 𝕄 :=
  iprop(⌜∃ hg : OffOK c arg1 g, a = docAccB c i arg1 harg1 arg2 harg2 arg3 harg3 arg6 harg6 arg7 harg7 arg0 v34 cst g hg gT k⌝ ∗ offP c arg1 g ∗ scP c gT)

set_option warn.classDefReducibility false in
/-- The invariant of the loop over the second half's documents. -/
@[sl_loop] def loopInv4 (g : Buf (Elt F) (arg1.view.loc (c : Thread nD τ))) (gT : Buf (Elt F) (scoreM.view.loc (c : Thread nD τ))) (init : FVec F S48x128 .f32) :
    LoopInvTy_k0_t4 (F := F) Unit ℕ (UU nD τ) ℕ 𝒱₀ c none Set.univ i arg1 harg1 arg2 harg2 arg3 harg3 codesM (Memref.isWhole_whole _) rowsM (Memref.isWhole_whole _)
      arg6 harg6 arg7 harg7 rbufM (Memref.isWhole_whole _) cbufM (Memref.isWhole_whole _) scoreM (Memref.isWhole_whole _) stM (Memref.isWhole_whole _) cc0_scratch4 arg0 v34 cst init where
  inv k a := docsAtB c i arg1 harg1 arg2 harg2 arg3 harg3 arg6 harg6 arg7 harg7 arg0 v34 cst g gT k a
  step k a := by
    rw [docsAtB]
    iintro ⟨%h, Hof, Hsc⟩
    obtain ⟨hg, rfl⟩ := h
    iapply (wp_wand_r Idealize.ShloMosaic.frame (wpE (defs₀ (F := F)) 𝒱₀ (c : Thread nD τ) none) Set.univ)
    isplitl [Hof Hsc]
    · iapply (docB c i arg1 harg1 arg2 harg2 arg3 harg3 arg6 harg6 arg7 harg7 arg0 v34 cst g hg gT k _).2
      isplitl [Hof]; · iexact Hof
      iexact Hsc
    · iintro %r ⟨%hr, Hof, Hsc⟩
      unfold docsAtB
      isplitr
      · ipureintro
        exact ⟨hg, hr.trans (by rw [docAccB, dif_pos k.isLt])⟩
      isplitl [Hof]; · iexact Hof
      iexact Hsc
end Docs
end Cert.Kernel.Hand
-- ==== Proof.K.Body.lean ====
/-
  One grid point's body, run from its entry to its exit on given staging memrefs.
-/
module

public import proofs.«01_k».proof.Proof.K.Loops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XR : Buf (Elt F) (rowsM.view.loc (c : Thread nD τ))) (XC : Buf (Elt F) (codesM.view.loc (c : Thread nD τ)))
variable (i : grid0.Coords)
  (arg1 : Memref sig .tc .smem S52x257 .i32) (harg1 : arg1.IsWhole) (arg2 : Memref sig .tc .vmem S8x128 .f32) (harg2 : arg2.IsWhole)
  (arg3 : Memref sig .tc .vmem S1x48x128 .bf16) (harg3 : arg3.IsWhole) (arg6 : Memref sig .tc .vmem S1x48x256 .f32) (harg6 : arg6.IsWhole)
  (arg7 : Memref sig .tc .vmem S1x1x256 .f32) (harg7 : arg7.IsWhole)

/-- The body on the given staging memrefs. -/
abbrev bodyG : Prog (TpuEff nD τ sig (Elt F) Λ₀ .tc) PUnit :=
  cc0_score (F := F) i arg1 harg1 arg2 harg2 arg3 harg3 codesM (Memref.isWhole_whole _) rowsM (Memref.isWhole_whole _)
    arg6 harg6 arg7 harg7 rbufM (Memref.isWhole_whole _) cbufM (Memref.isWhole_whole _) scoreM (Memref.isWhole_whole _) stM (Memref.isWhole_whole _) cc0_scratch4

/-- Owning the staged bucket weights. -/
abbrev wtP (g : Buf (Elt F) (arg2.view.loc (c : Thread nD τ))) : sProp 𝕄 := arg2.view.loc (c : Thread nD τ) ↦[arg2.view.set]{fullShare} g
/-- Owning the staged queries. -/
abbrev qP (g : Buf (Elt F) (arg3.view.loc (c : Thread nD τ))) : sProp 𝕄 := arg3.view.loc (c : Thread nD τ) ↦[arg3.view.set]{fullShare} g
/-- Owning the staged block of maxima. -/
abbrev tokP (g : Buf (Elt F) (arg6.view.loc (c : Thread nD τ))) : sProp 𝕄 := arg6.view.loc (c : Thread nD τ) ↦[arg6.view.set]{fullShare} g
/-- Owning the staged block of sums. -/
abbrev sumP (g : Buf (Elt F) (arg7.view.loc (c : Thread nD τ))) : sProp 𝕄 := arg7.view.loc (c : Thread nD τ) ↦[arg7.view.set]{fullShare} g

/-- The entry's row count, as the body reads it; -/
abbrev cntOf (g : Buf (Elt F) (arg1.view.loc (c : Thread nD τ))) : BitVec 32 :=
  arg1.view.readAt (Elt F) (Rect.unit (s := S52x257) (k0_off1 i) S1x1.size (k0_off1_inb i)).toLoadRect g (Shape.Idx.first (by show 0 < S1x1.numel; decide))
/-- its queries, -/
abbrev qOf (g : Buf (Elt F) (arg3.view.loc (c : Thread nD τ))) : FVec F S48x128 .bf16 :=
  shapeCast S48x128 (arg3.view.readAt (Elt F) (Rect.unit (s := S1x48x128) ![0, 0, 0] S1x48x128.size inb_S1x48x128_S1x48x128_0_0_0).toLoadRect g) shapeCasts_S1x48x128_S48x128
/-- and the bucket weights. -/
abbrev wtOf (g : Buf (Elt F) (arg2.view.loc (c : Thread nD τ))) : FVec F S8x128 .f32 :=
  shapeCast S8x128 (arg2.view.readAt (Elt F) (Rect.unit (s := S8x128) ![0, 0] S8x128.size inb_S8x128_S8x128_0_0).toLoadRect g) shapeCasts_S8x128_S8x128

/-- The first point alone starts the first copies. -/
theorem cond1_iff : k0_cond1 i = 1#1 ↔ (i 0).val = 0 := by
  have h : ∀ n : Fin 52, (Scalar.cmpi .ne (Scalar.extui (Scalar.cmpi .eq (BitVec.ofNat 32 n.val) 0#32) : BitVec 32) 0#32 = 1#1) ↔ n.val = 0 := by decide
  exact h (i 0)

/-- What the slots and the counter hold before entry `b`: at the first both slots are free, later the entry's first
    block is in flight. -/
def entry (b : ℕ) : sProp 𝕄 :=
  if b = 0 then iprop(free c XR XC 0 ∗ free c XR XC 1 ∗ ∃ g, stP c g) else iprop(∃ g, stP c g ∗ slotsAt c XR XC (wd c g).toNat b 0)

/-- The block loop's resources of an entry, at trip `t`. -/
abbrev blocksOf (gO : Buf (Elt F) (arg1.view.loc (c : Thread nD τ))) (hv : Cnt (cntOf c i arg1 gO)) (gW : Buf (Elt F) (arg2.view.loc (c : Thread nD τ))) (gQ : Buf (Elt F) (arg3.view.loc (c : Thread nD τ))) (t : ℕ) : sProp 𝕄 :=
  blocksAt c XR XC i arg1 harg1 arg2 harg2 arg3 harg3 arg6 harg6 arg7 harg7 (BitVec.ofNat 32 (i 0).val) (cntOf c i arg1 gO) (chk1_of i hv) (nbW (cntOf c i arg1 gO))
    (qOf c arg3 gQ) (wtOf c arg2 gW) hv t

/-- The body's first part on the given staging memrefs. -/
abbrev partG : Prog (TpuEff nD τ sig (Elt F) Λ₀ .tc) (Σ' (arg0 : BitVec 32) (v34 : IVec S48x128 32), F .f32) :=
  k0_part105 (F := F) i arg1 harg1 arg2 harg2 arg3 harg3 codesM (Memref.isWhole_whole _) rowsM (Memref.isWhole_whole _)
    arg6 harg6 arg7 harg7 rbufM (Memref.isWhole_whole _) cbufM (Memref.isWhole_whole _) scoreM (Memref.isWhole_whole _) stM (Memref.isWhole_whole _) cc0_scratch4

set_option maxHeartbeats 4000000 in
/-- The first part at a later entry: its first block is in flight already. -/
theorem prefixRun1 (h0 : (i 0).val ≠ 0) (gO : Buf (Elt F) (arg1.view.loc (c : Thread nD τ))) (hv : Cnt (cntOf c i arg1 gO)) (gW gQ gT) (W : Waits sig Unit) :
    iprop(offP c arg1 gO ∗ wtP c arg2 gW ∗ qP c arg3 gQ ∗ owes (c : Thread nD τ) 0 W ∗ scP c gT ∗ entry c XR XC (i 0).val)
      ⊢ wp frame (wpE (defs₀ (F := F)) 𝒱₀ (c : Thread nD τ) none) Set.univ (partG i arg1 harg1 arg2 harg2 arg3 harg3 arg6 harg6 arg7 harg7)
        (fun r => iprop(⌜r = ⟨BitVec.ofNat 32 (i 0).val, iota .tc S48x128 32 [1] iota_S48x128_d1_w32, FloatOps.ofBits .f32 0#32⟩⌝
          ∗ offP c arg1 gO ∗ wtP c arg2 gW ∗ qP c arg3 gQ
          ∗ blocksOf c XR XC i arg1 harg1 arg2 harg2 arg3 harg3 arg6 harg6 arg7 harg7 gO hv gW gQ (k0_t1_loop (cntOf c i arg1 gO)).trips)) := by
  have hc : ¬ k0_cond1 i = 1#1 := fun h => h0 ((cond1_iff i).1 h)
  rw [entry, if_neg h0]
  iintro ⟨Hof, Hwt, Hq, HW, Hsc, ⟨%gS, Hst, Hsl⟩⟩
  dsimp only [partG]
  sl_unfold [k0_part105]
  sl_exec_parts
  have hv' : Cnt (prefixRun1.sl.r c i arg1 gO) := hv
  have hchk : k0_chk1 i (prefixRun1.sl.r c i arg1 gO) := chk1_of i hv'
  sl_exec_parts
  have e0 : atB (prefixRun1.sl.r c i arg1 gO) (i 0).val 0 = (i 0).val := if_pos (nb_pos hv')
  have e1 : atT (prefixRun1.sl.r c i arg1 gO) 0 = 0 := if_pos (nb_pos hv')
  ihave HB : blocksAt c XR XC i arg1 harg1 arg2 harg2 arg3 harg3 arg6 harg6 arg7 harg7 (BitVec.ofNat 32 (i 0).val) (prefixRun1.sl.r c i arg1 gO) hchk (prefixRun1.sl.v22 c i arg1 gO)
    (prefixRun1.sl.v24 c arg3 gQ) (prefixRun1.sl.v26 c arg2 gW) hv' 0 $$ [HW Hsc Hst Hsl]
  · unfold blocksAt
    iexists gS, gT
    isplitr; · ipureintro; exact Acc.zero gT
    isplitl [HW]; · iexists _; iexact HW
    isplitl [Hst]; · iexact Hst
    isplitl [Hsc]; · iexact Hsc
    irw [e0, e1]
    iexact Hsl
  sl_exec_parts
  sl_step
  isplitr; · ipureintro; rfl
  isplitl [Hof]; · iexact Hof
  isplitl [Hwt]; · iexact Hwt
  isplitl [Hq]; · iexact Hq
  iexact HB
set_option maxHeartbeats 4000000 in
/-- The first part at the first entry: it issues the first block. -/
theorem prefixRun0 (h0 : (i 0).val = 0) (gO : Buf (Elt F) (arg1.view.loc (c : Thread nD τ))) (hv : Cnt (cntOf c i arg1 gO)) (gW gQ gT) (W : Waits sig Unit) :
    iprop(offP c arg1 gO ∗ wtP c arg2 gW ∗ qP c arg3 gQ ∗ owes (c : Thread nD τ) 0 W ∗ scP c gT ∗ entry c XR XC (i 0).val)
      ⊢ wp frame (wpE (defs₀ (F := F)) 𝒱₀ (c : Thread nD τ) none) Set.univ (partG i arg1 harg1 arg2 harg2 arg3 harg3 arg6 harg6 arg7 harg7)
        (fun r => iprop(⌜r = ⟨BitVec.ofNat 32 (i 0).val, iota .tc S48x128 32 [1] iota_S48x128_d1_w32, FloatOps.ofBits .f32 0#32⟩⌝
          ∗ offP c arg1 gO ∗ wtP c arg2 gW ∗ qP c arg3 gQ
          ∗ blocksOf c XR XC i arg1 harg1 arg2 harg2 arg3 harg3 arg6 harg6 arg7 harg7 gO hv gW gQ (k0_t1_loop (cntOf c i arg1 gO)).trips)) := by
  have hc : k0_cond1 i = 1#1 := (cond1_iff i).2 h0
  rw [entry, if_pos h0, free]
  iintro ⟨Hof, Hwt, Hq, HW, Hsc, ⟨Hc0, Hc1, ⟨%fr, Hs0⟩, ⟨%fc, Hs1⟩, Htr, Htc⟩, Hf1, ⟨%gS, Hst⟩⟩
  ihave Hr := (rtok_split (F := F) c XR 0 0 0) $$ Htr
  ihave Hc := (ctok_split (F := F) c XC 0 0 0) $$ Htc
  icases Hr with ⟨Hh0, Hr0⟩
  icases Hc with ⟨Hh1, Hr1⟩
  dsimp only [partG]
  sl_unfold [k0_part105]
  sl_exec_parts
  have hv' : Cnt (prefixRun0.sl.r_1 c i arg1 gO) := hv
  have hchk : k0_chk1 i (prefixRun0.sl.r_1 c i arg1 gO) := chk1_of i hv'
  sl_exec_parts
  have e0 : atB (prefixRun0.sl.r_1 c i arg1 gO) (i 0).val 0 = (i 0).val := if_pos (nb_pos hv')
  have e1 : atT (prefixRun0.sl.r_1 c i arg1 gO) 0 = 0 := if_pos (nb_pos hv')
  ihave HB : blocksAt c XR XC i arg1 harg1 arg2 harg2 arg3 harg3 arg6 harg6 arg7 harg7 (BitVec.ofNat 32 (i 0).val) (prefixRun0.sl.r_1 c i arg1 gO) hchk (prefixRun0.sl.v22 c i arg1 gO)
    (prefixRun0.sl.v24 c arg3 gQ) (prefixRun0.sl.v26 c arg2 gW) hv' 0 $$ [HW Hsc Hst Hc0 Hc1 Hr0 Hr1 Hf1]
  · unfold blocksAt
    iexists _, gT
    isplitr; · ipureintro; exact Acc.zero gT
    isplitl [HW]; · iexists _; iexact HW
    isplitl [Hst]; · iexact Hst
    isplitl [Hsc]; · iexact Hsc
    irw [e0, e1, h0, wd_write]
    unfold slotsAt
    rw [if_pos (by decide : (0 : ℕ) < 52)]
    isplitr [Hf1]
    · unfold inflight
      isplitl [Hc0]; · iexists fr; iexact Hc0
      isplitl [Hc1]; · iexists fc; iexact Hc1
      isplitl [Hr0]; · iexact Hr0
      iexact Hr1
    iexact Hf1
  sl_exec_parts
  sl_step
  isplitr; · ipureintro; rfl
  isplitl [Hof]; · iexact Hof
  isplitl [Hwt]; · iexact Hwt
  isplitl [Hq]; · iexact Hq
  iexact HB

/-- The first part of the body, at any entry. -/
theorem prefixRun (gO : Buf (Elt F) (arg1.view.loc (c : Thread nD τ))) (hv : Cnt (cntOf c i arg1 gO)) (gW gQ gT) (W : Waits sig Unit) :
    iprop(offP c arg1 gO ∗ wtP c arg2 gW ∗ qP c arg3 gQ ∗ owes (c : Thread nD τ) 0 W ∗ scP c gT ∗ entry c XR XC (i 0).val)
      ⊢ wp frame (wpE (defs₀ (F := F)) 𝒱₀ (c : Thread nD τ) none) Set.univ (partG i arg1 harg1 arg2 harg2 arg3 harg3 arg6 harg6 arg7 harg7)
        (fun r => iprop(⌜r = ⟨BitVec.ofNat 32 (i 0).val, iota .tc S48x128 32 [1] iota_S48x128_d1_w32, FloatOps.ofBits .f32 0#32⟩⌝
          ∗ offP c arg1 gO ∗ wtP c arg2 gW ∗ qP c arg3 gQ
          ∗ blocksOf c XR XC i arg1 harg1 arg2 harg2 arg3 harg3 arg6 harg6 arg7 harg7 gO hv gW gQ (k0_t1_loop (cntOf c i arg1 gO)).trips)) := by
  by_cases h0 : (i 0).val = 0
  · exact prefixRun0 c XR XC i arg1 harg1 arg2 harg2 arg3 harg3 arg6 harg6 arg7 harg7 h0 gO hv gW gQ gT W
  · exact prefixRun1 c XR XC i arg1 harg1 arg2 harg2 arg3 harg3 arg6 harg6 arg7 harg7 h0 gO hv gW gQ gT W

/-- The maxima of the two halves' documents, from the score tiles `gT`. -/
abbrev maxA (gO : Buf (Elt F) (arg1.view.loc (c : Thread nD τ))) (hO : OffOK c arg1 gO) (gT : Buf (Elt F) (scoreM.view.loc (c : Thread nD τ))) : FVec F S48x128 .f32 :=
  docAccA c i arg1 harg1 arg2 harg2 arg3 harg3 arg6 harg6 arg7 harg7 (BitVec.ofNat 32 (i 0).val) (iota .tc S48x128 32 [1] iota_S48x128_d1_w32) (FloatOps.ofBits .f32 4286578688#32) gO hO gT k0_t3_loop.trips
/-- The maxima of documents 128 to 255, one lane each. -/
abbrev maxB (gO : Buf (Elt F) (arg1.view.loc (c : Thread nD τ))) (hO : OffOK c arg1 gO) (gT : Buf (Elt F) (scoreM.view.loc (c : Thread nD τ))) : FVec F S48x128 .f32 :=
  docAccB c i arg1 harg1 arg2 harg2 arg3 harg3 arg6 harg6 arg7 harg7 (BitVec.ofNat 32 (i 0).val) (iota .tc S48x128 32 [1] iota_S48x128_d1_w32) (FloatOps.ofBits .f32 4286578688#32) gO hO gT k0_t4_loop.trips

/-- The two results' staging buffers at the body's exit. -/
abbrev tokOut (g6 : Buf (Elt F) (arg6.view.loc (c : Thread nD τ))) (x y : FVec F S48x128 .f32) : Buf (Elt F) (arg6.view.loc (c : Thread nD τ)) :=
  arg6.view.writes (Elt F) g6 [⟨Rect.unit ![0, 0, 128] S1x48x128.size inb_S1x48x256_S1x48x128_0_0_128, k0_pay7 y⟩, ⟨Rect.unit ![0, 0, 0] S1x48x128.size inb_S1x48x256_S1x48x128_0_0_0, k0_pay3 x⟩]
/-- The block of sums after both halves are stored. -/
abbrev sumOut (g7 : Buf (Elt F) (arg7.view.loc (c : Thread nD τ))) (x y : FVec F S48x128 .f32) : Buf (Elt F) (arg7.view.loc (c : Thread nD τ)) :=
  arg7.view.writes (Elt F) g7 [⟨Rect.unit ![0, 0, 128] S1x1x128.size inb_S1x1x256_S1x1x128_0_0_128, k0_pay8 y⟩, ⟨Rect.unit ![0, 0, 0] S1x1x128.size inb_S1x1x256_S1x1x128_0_0_0, k0_pay4 x⟩]

/-- The score tiles an entry's blocks can leave. -/
abbrev TilesOf (gO : Buf (Elt F) (arg1.view.loc (c : Thread nD τ))) (hv : Cnt (cntOf c i arg1 gO)) (gW : Buf (Elt F) (arg2.view.loc (c : Thread nD τ))) (gQ : Buf (Elt F) (arg3.view.loc (c : Thread nD τ)))
    (gT : Buf (Elt F) (scoreM.view.loc (c : Thread nD τ))) : Prop :=
  Acc c XR XC i arg1 harg1 arg2 harg2 arg3 harg3 arg6 harg6 arg7 harg7 (BitVec.ofNat 32 (i 0).val) (cntOf c i arg1 gO) (chk1_of i hv) (nbW (cntOf c i arg1 gO))
    (qOf c arg3 gQ) (wtOf c arg2 gW) hv (k0_t1_loop (cntOf c i arg1 gO)).trips gT

/-- What the body hands back. -/
def bodyPost (gO : Buf (Elt F) (arg1.view.loc (c : Thread nD τ))) (hO : OffOK c arg1 gO) (hv : Cnt (cntOf c i arg1 gO)) (gW : Buf (Elt F) (arg2.view.loc (c : Thread nD τ))) (gQ : Buf (Elt F) (arg3.view.loc (c : Thread nD τ)))
    (g6 : Buf (Elt F) (arg6.view.loc (c : Thread nD τ))) (g7 : Buf (Elt F) (arg7.view.loc (c : Thread nD τ))) : sProp 𝕄 :=
  iprop(offP c arg1 gO ∗ wtP c arg2 gW ∗ qP c arg3 gQ ∗ (∃ W, owes (c : Thread nD τ) 0 W) ∗ entry c XR XC ((i 0).val + 1)
    ∗ ∃ gT, ⌜TilesOf c XR XC i arg1 harg1 arg2 harg2 arg3 harg3 arg6 harg6 arg7 harg7 gO hv gW gQ gT⌝ ∗ scP c gT
      ∗ tokP c arg6 (tokOut c arg6 g6 (maxA c i arg1 harg1 arg2 harg2 arg3 harg3 arg6 harg6 arg7 harg7 gO hO gT) (maxB c i arg1 harg1 arg2 harg2 arg3 harg3 arg6 harg6 arg7 harg7 gO hO gT))
      ∗ sumP c arg7 (sumOut c arg7 g7 (maxA c i arg1 harg1 arg2 harg2 arg3 harg3 arg6 harg6 arg7 harg7 gO hO gT) (maxB c i arg1 harg1 arg2 harg2 arg3 harg3 arg6 harg6 arg7 harg7 gO hO gT)))

/-- After an entry's last block the next entry's first one is in flight. -/
theorem slots_end (gO : Buf (Elt F) (arg1.view.loc (c : Thread nD τ))) (hv : Cnt (cntOf c i arg1 gO)) (n : ℕ) :
    slotsAt c XR XC n (atB (cntOf c i arg1 gO) (i 0).val (k0_t1_loop (cntOf c i arg1 gO)).trips) (atT (cntOf c i arg1 gO) (k0_t1_loop (cntOf c i arg1 gO)).trips)
      ⊢ slotsAt (F := F) c XR XC n ((i 0).val + 1) 0 := by
  have ht : ¬ (k0_t1_loop (cntOf c i arg1 gO)).trips < nb (cntOf c i arg1 gO) := by rw [trips1_eq hv]; exact lt_irrefl _
  rw [show atB (cntOf c i arg1 gO) (i 0).val (k0_t1_loop (cntOf c i arg1 gO)).trips = (i 0).val + 1 from if_neg ht,
    show atT (cntOf c i arg1 gO) (k0_t1_loop (cntOf c i arg1 gO)).trips = 0 from if_neg ht]

set_option maxHeartbeats 4000000 in
/-- The body: its first part, the two loops over the documents, the two halves of both results stored. -/
theorem bodyRun (gO : Buf (Elt F) (arg1.view.loc (c : Thread nD τ))) (hO : OffOK c arg1 gO) (hv : Cnt (cntOf c i arg1 gO)) (gW gQ g6 g7 gT) (W : Waits sig Unit) (Q : PUnit → sProp 𝕄) :
    iprop((offP c arg1 gO ∗ wtP c arg2 gW ∗ qP c arg3 gQ ∗ tokP c arg6 g6 ∗ sumP c arg7 g7 ∗ owes (c : Thread nD τ) 0 W ∗ scP c gT
        ∗ entry c XR XC (i 0).val) ∗ (bodyPost c XR XC i arg1 harg1 arg2 harg2 arg3 harg3 arg6 harg6 arg7 harg7 gO hO hv gW gQ g6 g7 -∗ Q ⟨⟩))
      ⊢ wp frame (wpE (defs₀ (F := F)) 𝒱₀ (c : Thread nD τ) none) Set.univ (bodyG i arg1 harg1 arg2 harg2 arg3 harg3 arg6 harg6 arg7 harg7) Q := by
  dsimp only [bodyG]
  rw [cc0_score_eq_skeleton]
  unfold cc0_score_skel
  rw [wp_bind]
  iintro ⟨⟨Hof, Hwt, Hq, Htok, Hsum, HW, Hsc, He⟩, Hk⟩
  iapply (wp_wand_r Idealize.ShloMosaic.frame (wpE (defs₀ (F := F)) 𝒱₀ (c : Thread nD τ) none) Set.univ)
  isplitl [Hof Hwt Hq HW Hsc He]
  · iapply (prefixRun c XR XC i arg1 harg1 arg2 harg2 arg3 harg3 arg6 harg6 arg7 harg7 gO hv gW gQ gT W)
    isplitl [Hof]; · iexact Hof
    isplitl [Hwt]; · iexact Hwt
    isplitl [Hq]; · iexact Hq
    isplitl [HW]; · iexact HW
    isplitl [Hsc]; · iexact Hsc
    iexact He
  iintro %r ⟨%hr, Hof, Hwt, Hq, HB⟩
  subst hr
  dsimp only [blocksOf]
  unfold blocksAt
  icases HB with ⟨%gS, %gT, %hA, ⟨%W, HW⟩, Hst, Hsc, Hsl⟩
  ihave HD : docsAtA c i arg1 harg1 arg2 harg2 arg3 harg3 arg6 harg6 arg7 harg7 (BitVec.ofNat 32 (i 0).val) (iota .tc S48x128 32 [1] iota_S48x128_d1_w32)
    (FloatOps.ofBits .f32 4286578688#32) gO gT 0 (k0_pay1 (FloatOps.ofBits .f32 0#32)) $$ [Hof Hsc]
  · unfold docsAtA
    isplitr; · ipureintro; exact ⟨hO, by rw [docAccA]; rfl⟩
    isplitl [Hof]; · iexact Hof
    iexact Hsc
  sl_exec_parts
  unfold docsAtA
  icases HD with ⟨%hD, Hof, Hsc⟩
  obtain ⟨-, rfl⟩ := hD
  ihave HE : docsAtB c i arg1 harg1 arg2 harg2 arg3 harg3 arg6 harg6 arg7 harg7 (BitVec.ofNat 32 (i 0).val) (iota .tc S48x128 32 [1] iota_S48x128_d1_w32)
    (FloatOps.ofBits .f32 4286578688#32) gO gT 0 k0_pay5 $$ [Hof Hsc]
  · unfold docsAtB
    isplitr; · ipureintro; exact ⟨hO, by rw [docAccB]⟩
    isplitl [Hof]; · iexact Hof
    iexact Hsc
  sl_exec_parts
  unfold docsAtB
  icases HE with ⟨%hE, Hof, Hsc⟩
  obtain ⟨-, rfl⟩ := hE
  sl_step
  iapply Hk
  unfold bodyPost
  isplitl [Hof]; · iexact Hof
  isplitl [Hwt]; · iexact Hwt
  isplitl [Hq]; · iexact Hq
  isplitl [HW]; · iexists W; iexact HW
  isplitl [Hst Hsl]
  · unfold entry
    rw [if_neg (Nat.succ_ne_zero _)]
    iexists gS
    isplitl [Hst]; · iexact Hst
    iapply (slots_end c XR XC i arg1 gO hv)
    iexact Hsl
  iexists gT
  isplitr; · ipureintro; exact hA
  isplitl [Hsc]; · iexact Hsc
  isplitl [Htok]; · iexact Htok
  iexact Hsum
end Cert.Kernel.Hand
-- ==== Proof.K.Slots.lean ====
/-
  The kernel's buffers as its slots hold them: each of the two buffers is its two slots, each of the two arrays left in
  HBM is dealt to the two slots, the four transfer semaphores are the two streams' of the two slots.
-/
module

public import proofs.«01_k».proof.Proof.K.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The indices of a slot of rows. -/
abbrev R2 (s : Fin 2) : Finset S2x640x128.Idx := (Rect.unit (s := S2x640x128) (slotOff s 0 0) S1x640x128.size (rslot_inb s)).set
/-- The indices of a slot of codes. -/
abbrev C2 (s : Fin 2) : Finset S2x32x1280.Idx := (Rect.unit (s := S2x32x1280) (slotOff s 0 0) S1x32x1280.size (cslot_inb s)).set

/-- A slot of rows reaches those indices. -/
theorem rslot_set (s : Fin 2) : (rslot s : Memref sig .tc .vmem _ _).view.set = R2 s := (View.set_reshape _ _).trans (View.set_slice_whole _ _)
/-- A slot of codes reaches those indices. -/
theorem cslot_set (s : Fin 2) : (cslot s : Memref sig .tc .vmem _ _).view.set = C2 s := (View.set_reshape _ _).trans (View.set_slice_whole _ _)

/-- An index is in the slot that its first coordinate names. -/
theorem mem_R2 (s : Fin 2) (y : S2x640x128.Idx) : y ∈ R2 s ↔ (y 0).val = s.val := by
  rw [Rect.mem_set_unit]
  have h1 : (y 1).val < 640 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 640; omega
    · show 0 ≤ (y 2).val ∧ (y 2).val < 0 + 128; omega
/-- The same for the codes. -/
theorem mem_C2 (s : Fin 2) (y : S2x32x1280.Idx) : y ∈ C2 s ↔ (y 0).val = s.val := by
  rw [Rect.mem_set_unit]
  have h1 : (y 1).val < 32 := (y 1).isLt
  have h2 : (y 2).val < 1280 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 32; omega
    · show 0 ≤ (y 2).val ∧ (y 2).val < 0 + 1280; omega
/-- The two slots of rows are apart. -/
theorem R2_disjoint : ∀ s s' : Fin 2, s ≠ s' → Disjoint (R2 s) (R2 s') := by
  intro s s' hne; rw [Finset.disjoint_left]; intro y hy hy'; rw [mem_R2] at hy hy'; exact hne (Fin.ext (hy.symm.trans hy'))
/-- The two slots of codes are apart. -/
theorem C2_disjoint : ∀ s s' : Fin 2, s ≠ s' → Disjoint (C2 s) (C2 s') := by
  intro s s' hne; rw [Finset.disjoint_left]; intro y hy hy'; rw [mem_C2] at hy hy'; exact hne (Fin.ext (hy.symm.trans hy'))
/-- They are all of the buffer of rows. -/
theorem R2_cover : (Finset.univ : Finset (Fin 2)).biUnion R2 = Finset.univ := by
  ext y; simp only [Finset.mem_biUnion, Finset.mem_univ, true_and, iff_true]; exact ⟨(y 0).cast (by decide), by rw [mem_R2]; rfl⟩
/-- They are all of the buffer of codes. -/
theorem C2_cover : (Finset.univ : Finset (Fin 2)).biUnion C2 = Finset.univ := by
  ext y; simp only [Finset.mem_biUnion, Finset.mem_univ, true_and, iff_true]; exact ⟨(y 0).cast (by decide), by rw [mem_C2]; rfl⟩

/-- A conjunction over the two slots. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

variable (c : Dev nD)

/-- Owning a slot of rows is owning its indices of the buffer. -/
theorem rslotP_eq (s : Fin 2) (f) : rslotP c s f = (((c : Thread nD τ).loc cc0_scratch0) ↦[R2 s]{fullShare} f : sProp 𝕄) :=
  congrArg (fun S => (_ ↦[S]{fullShare} f : sProp 𝕄)) (rslot_set s)
/-- Owning a slot of codes is owning its indices of the buffer. -/
theorem cslotP_eq (s : Fin 2) (f) : cslotP c s f = (((c : Thread nD τ).loc cc0_scratch1) ↦[C2 s]{fullShare} f : sProp 𝕄) :=
  congrArg (fun S => (_ ↦[S]{fullShare} f : sProp 𝕄)) (cslot_set s)

/-- The buffer of rows whole is its two slots, and back. -/
theorem rbuf_split : iprop(∃ f : Buf (Elt F) ((c : Thread nD τ).loc cc0_scratch0), ((c : Thread nD τ).loc cc0_scratch0) ↦{fullShare} f)
    ⊢ (iprop((∃ f, rslotP c 0 f) ∗ ∃ f, rslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) R2 R2_disjoint R2_cover f).trans (bigSep_fin2 _))) $$ H
  icases H2 with ⟨H0, H1⟩
  isplitl [H0]
  · iexists f; iapply (entails_of_eq (rslotP_eq c 0 f).symm); iexact H0
  · iexists f; iapply (entails_of_eq (rslotP_eq c 1 f).symm); iexact H1
/-- The two slots of rows make the buffer. -/
theorem rbuf_join : iprop((∃ f, rslotP c 0 f) ∗ ∃ f, rslotP c 1 f)
    ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) R2 R2_disjoint R2_cover f0)
  irw [bigSep_fin2]
  isplitl [H0]
  · iexists f0; iapply (entails_of_eq (rslotP_eq c 0 f0)); iexact H0
  · iexists f1; iapply (entails_of_eq (rslotP_eq c 1 f1)); iexact H1
/-- The buffer of codes whole is its two slots, and back. -/
theorem cbuf_split : iprop(∃ f : Buf (Elt F) ((c : Thread nD τ).loc cc0_scratch1), ((c : Thread nD τ).loc cc0_scratch1) ↦{fullShare} f)
    ⊢ (iprop((∃ f, cslotP c 0 f) ∗ ∃ f, cslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) C2 C2_disjoint C2_cover f).trans (bigSep_fin2 _))) $$ H
  icases H2 with ⟨H0, H1⟩
  isplitl [H0]
  · iexists f; iapply (entails_of_eq (cslotP_eq c 0 f).symm); iexact H0
  · iexists f; iapply (entails_of_eq (cslotP_eq c 1 f).symm); iexact H1
/-- The two slots of codes make the buffer. -/
theorem cbuf_join : iprop((∃ f, cslotP c 0 f) ∗ ∃ f, cslotP c 1 f)
    ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) C2 C2_disjoint C2_cover f0)
  irw [bigSep_fin2]
  isplitl [H0]
  · iexists f0; iapply (entails_of_eq (cslotP_eq c 0 f0)); iexact H0
  · iexists f1; iapply (entails_of_eq (cslotP_eq c 1 f1)); iexact H1

/-- The two arrays dealt to the two slots. -/
theorem rows_deal (XR : Buf (Elt F) (rowsM.view.loc (c : Thread nD τ))) :
    (((c : Thread nD τ).loc main_v22) ↦{fullShare} XR : sProp 𝕄) = iprop(rtok c XR 0 ∗ rtok c XR 1) := by
  rw [Transfers.pointsTo_deal (Finset.univ : Finset (Fin 2)) (Finset.univ_nonempty) fullShare, bigSep_fin2]; rfl
/-- The codes, dealt in two shares, one for each slot. -/
theorem codes_deal (XC : Buf (Elt F) (codesM.view.loc (c : Thread nD τ))) :
    (((c : Thread nD τ).loc main_v8) ↦{fullShare} XC : sProp 𝕄) = iprop(ctok c XC 0 ∗ ctok c XC 1) := by
  rw [Transfers.pointsTo_deal (Finset.univ : Finset (Fin 2)) (Finset.univ_nonempty) fullShare, bigSep_fin2]; rfl

/-! ## The kernel's own semaphores, and the buffers it reads in HBM -/

/-- The four semaphores of the copies. -/
abbrev osem0 : Fin 4 → SemLoc sig := fun j => (![SemLoc.dma 8, SemLoc.dma 9, SemLoc.dma 10, SemLoc.dma 11] : Fin 4 → SemLoc sig) j
/-- They are the call's own. -/
theorem ownSemFacts0 : Pipeline.OwnSemFacts spec0 osem0 := by decide
/-- The semaphores at zero, one by one. -/
theorem ownSems00_eq : (Pipeline.ownSems0 (Ix := Unit) (Name := ℕ) (U := UU nD τ) (Lvl := ℕ) (Val := Elt F) (τ := τ) osem0 c : sProp 𝕄)
    = iprop(cellP c 0 0 ∗ cellP c 0 1 ∗ cellP c 1 0 ∗ cellP c 1 1) := by
  rw [Pipeline.ownSems0_eq_of_list c osem0 [0, 1, 2, 3] (by decide) (by decide)]; rfl

/-- The arrays that the copies read. -/
def H0 : Finset (Ref sig .tc) := {main_v8, main_v22}
/-- No window stages them. -/
theorem H0_sub : H0 ⊆ Pipeline.restRefs sig spec0 := by decide
/-- Owning them, one by one. -/
theorem hbmPts0_eq (V : (b : Ref sig .tc) → Buf (Elt F) ((c : Thread nD τ).loc b)) :
    (bigSep H0 (fun b => ((c : Thread nD τ).loc b) ↦{fullShare} V b) : sProp 𝕄)
      = iprop((((c : Thread nD τ).loc main_v8) ↦{fullShare} V main_v8) ∗ (((c : Thread nD τ).loc main_v22) ↦{fullShare} V main_v22)) := by
  rw [show H0 = insert main_v8 {main_v22} from rfl, bigSep_insert (by decide), bigSep_singleton]; rfl

/-- The two slots by the counter's parity are the two slots. -/
theorem two_of_roles (P : Fin 2 → sProp 𝕄) (T : ℕ) : iprop(P (Ring.sl 2 T) ∗ P (Ring.sl 2 (T + 1))) ⊢ iprop(P 0 ∗ P 1) := by
  rcases Nat.mod_two_eq_zero_or_one T with h | h
  · have e0 : Ring.sl 2 T = 0 := Fin.ext (by simp [Ring.sl, Fin.ofNat, h])
    have e1 : Ring.sl 2 (T + 1) = 1 := Fin.ext (by simp [Ring.sl, Fin.ofNat]; omega)
    rw [e0, e1]
  · have e0 : Ring.sl 2 T = 1 := Fin.ext (by simp [Ring.sl, Fin.ofNat, h])
    have e1 : Ring.sl 2 (T + 1) = 0 := Fin.ext (by simp [Ring.sl, Fin.ofNat]; omega)
    rw [e0, e1]; iintro ⟨H1, H0⟩; isplitl [H0] <;> iassumption

end Cert.Kernel.Hand
-- ==== Proof.Offs.lean ====
/-
  What the precondition says of the offsets: along a batch entry they never go down, each document has at most 180
  rows, and the last offset, the entry's row count, is between 1 and 46080.
-/
module

public import proofs.«01_k».proof.Pre_pre
public import Idealize.ShloMosaic.Lib.ReduceAll
public import Idealize.ShloMosaic.Lib.Pipeline.Value

@[expose] public section

namespace Cert.Offs

open Idealize.ShloMosaic

/-- The shape of the array of offsets. -/
abbrev S : Shape := ⟨2, ![52, 257]⟩
/-- The index of offset `n` of entry `b`. -/
def at2 (b : Fin 52) (n : Fin 257) : S.Idx := fun a => ⟨![b.val, n.val] a, by fin_cases a; exacts [b.isLt, n.isLt]⟩

/-- The offsets' array is one of row offsets of documents of at most 180 rows. -/
structure OK (A : S.Idx → BitVec 32) : Prop where
  step : ∀ (b : Fin 52) (d : Fin 256), (A (at2 b d.castSucc)).toNat ≤ (A (at2 b d.succ)).toNat ∧ (A (at2 b d.succ)).toNat ≤ (A (at2 b d.castSucc)).toNat + 180
  pos : ∀ b : Fin 52, 1 ≤ (A (at2 b (Fin.last 256))).toNat
  le : ∀ j, (A j).toNat ≤ 46080

/-- Every index is that of an offset of an entry. -/
theorem eq_at2 (j : S.Idx) : j = at2 (j 0) (j 1) := by
  funext a; apply Fin.ext; fin_cases a <;> rfl

/-- Words going up by at most 180 from a nonnegative first one to a last one of at most 46080 do so as naturals, all of
    them at most 46080. -/
theorem of_steps (a : ℕ → BitVec 32) (h0 : 0 ≤ (a 0).toInt) (hs : ∀ n < 256, 0 ≤ (a (n + 1) - a n).toInt ∧ (a (n + 1) - a n).toInt ≤ 180)
    (h1 : 1 ≤ (a 256).toInt) (h2 : (a 256).toInt ≤ 46080) :
    (∀ n < 256, (a n).toNat ≤ (a (n + 1)).toNat ∧ (a (n + 1)).toNat ≤ (a n).toNat + 180) ∧ 1 ≤ (a 256).toNat ∧ ∀ n ≤ 256, (a n).toNat ≤ 46080 := by
  have hb : ∀ n ≤ 256, (a n).toNat ≤ 2 ^ 31 + 180 * n := by
    intro n
    induction n with
    | zero => intro _; have hc := BitVec.toInt_eq_toNat_cond (a 0); have := (a 0).isLt; split at hc <;> omega
    | succ n ih =>
      intro hn
      have i1 := ih (by omega)
      have i2 := hs n (by omega)
      have e : (a (n + 1)).toNat = ((a n).toNat + (a (n + 1) - a n).toNat) % 2 ^ 32 := by
        rw [← BitVec.toNat_add]; congr 1; rw [BitVec.add_comm, BitVec.sub_add_cancel]
      have hc := BitVec.toInt_eq_toNat_cond (a (n + 1) - a n)
      have := (a (n + 1) - a n).isLt
      split at hc <;> omega
  have st : ∀ n < 256, (a n).toNat ≤ (a (n + 1)).toNat ∧ (a (n + 1)).toNat ≤ (a n).toNat + 180 := by
    intro n hn
    have i1 := hb n (by omega)
    have i2 := hs n hn
    have e : (a (n + 1)).toNat = ((a n).toNat + (a (n + 1) - a n).toNat) % 2 ^ 32 := by
      rw [← BitVec.toNat_add]; congr 1; rw [BitVec.add_comm, BitVec.sub_add_cancel]
    have hc := BitVec.toInt_eq_toNat_cond (a (n + 1) - a n)
    have := (a (n + 1) - a n).isLt
    split at hc <;> omega
  have hl : 1 ≤ (a 256).toNat ∧ (a 256).toNat ≤ 46080 := by
    have hc := BitVec.toInt_eq_toNat_cond (a 256); have := (a 256).isLt; split at hc <;> omega
  refine ⟨st, hl.1, fun n hn => ?_⟩
  have key : ∀ k ≤ 256, (a (256 - k)).toNat ≤ 46080 := by
    intro k
    induction k with
    | zero => intro _; exact hl.2
    | succ k ih =>
      intro hk
      have := (st (256 - (k + 1)) (by omega)).1
      rw [show 256 - (k + 1) + 1 = 256 - k by omega] at this
      exact this.trans (ih (by omega))
  have := key (256 - n) (by omega)
  rwa [show 256 - (256 - n) = n by omega] at this

/-- There is one index of a scalar. -/
instance : Subsingleton Cert.Pre_pre.S_.Idx := ⟨fun a b => funext fun x => x.elim0⟩

/-- Of two bits whose and is one, both are one. -/
theorem andi_one {x y : BitVec 1} (h : IntOp.andi x y = 1#1) : x = 1#1 ∧ y = 1#1 := by
  revert x y; decide

/-- The precondition's array all ones says the offsets are such. -/
theorem ok_of_pre {F : FTy → Type} [FloatOps F] [Cert.Pre_pre.Facts] (x0 : FVec F Cert.Pre_pre.S52x48x128 .bf16) (x1 : IVec Cert.Pre_pre.S52x46080x128 16) (x2 : FVec F Cert.Pre_pre.S4 .f32)
    (x3 : IVec Cert.Pre_pre.S52x46080x32 8) (A : IVec Cert.Pre_pre.S52x257 32) (h : Cert.Pre_pre.fn x0 x1 x2 x3 A = fun _ => 1#1) : OK A := by
  have e := congrFun h (fun a => a.elim0)
  simp only [Cert.Pre_pre.fn, Cert.Pre_pre.fn_part1, andi] at e
  obtain ⟨ea, e5⟩ := andi_one e
  obtain ⟨eb, e4⟩ := andi_one ea
  obtain ⟨ec, e3⟩ := andi_one eb
  obtain ⟨e1, e2⟩ := andi_one ec
  have f1 := Host.reduce_andi_all _ _ _ _ _ e1
  have f2 := Host.reduce_andi_all _ _ _ _ _ e2
  have f3 := Host.reduce_andi_all _ _ _ _ _ e3
  have f4 := Host.reduce_andi_all _ _ _ _ _ e4
  have f5 := Host.reduce_andi_all _ _ _ _ _ e5
  have g1 := fun i => IntOp.cmpi_sge.1 (f1 i)
  have g2 := fun i => IntOp.cmpi_sge.1 (f2 i)
  have g3 := fun i => IntOp.cmpi_sle.1 (f3 i)
  have g4 := fun i => IntOp.cmpi_sge.1 (f4 i)
  have g5 := fun i => IntOp.cmpi_sle.1 (f5 i)
  clear f1 f2 f3 f4 f5 e1 e2 e3 e4 e5 e ea eb ec h
  have hc : ∀ {n : ℕ} (x : Cert.Pre_pre.S52x1.Idx → BitVec n) (hh) (k : Cert.Pre_pre.S52x1.Idx), shapeCast Cert.Pre_pre.S52 x hh ((Shape.reshapeEquiv hh).symm k) = x k :=
    fun x hh k => by unfold shapeCast; rw [Equiv.apply_symm_apply]
  let k1 (b : Fin 52) : Cert.Pre_pre.S52x1.Idx := fun a => ⟨![b.val, 0] a, by fin_cases a; exacts [b.isLt, Nat.one_pos]⟩
  let k2 (b : Fin 52) (d : Fin 256) : Cert.Pre_pre.S52x256.Idx := fun a => ⟨![b.val, d.val] a, by fin_cases a; exacts [b.isLt, d.isLt]⟩
  have c0 : ∀ b hs, extractStridedSlice Cert.Pre_pre.S52x1 ![0, 0] A hs (k1 b) = A (at2 b 0) := fun b hs =>
    extractStridedSlice_apply _ _ _ _ _ fun a => by fin_cases a <;> simp [k1, at2]
  have c256 : ∀ b hs, extractStridedSlice Cert.Pre_pre.S52x1 ![0, 256] A hs (k1 b) = A (at2 b (Fin.last 256)) := fun b hs =>
    extractStridedSlice_apply _ _ _ _ _ fun a => by fin_cases a <;> simp [k1, at2]
  have d0 : ∀ b d hs, extractStridedSlice Cert.Pre_pre.S52x256 ![0, 0] A hs (k2 b d) = A (at2 b d.castSucc) := fun b d hs =>
    extractStridedSlice_apply _ _ _ _ _ fun a => by fin_cases a <;> simp [k2, at2]
  have d1 : ∀ b d hs, extractStridedSlice Cert.Pre_pre.S52x256 ![0, 1] A hs (k2 b d) = A (at2 b d.succ) := fun b d hs =>
    extractStridedSlice_apply _ _ _ _ _ fun a => by fin_cases a <;> simp [k2, at2, Nat.add_comm]
  have z1 := fun b => g1 ((Shape.reshapeEquiv Cert.Pre_pre.Facts.shapeCasts_S52x1_S52).symm (k1 b))
  have z4 := fun b => g4 ((Shape.reshapeEquiv Cert.Pre_pre.Facts.shapeCasts_S52x1_S52).symm (k1 b))
  have z5 := fun b => g5 ((Shape.reshapeEquiv Cert.Pre_pre.Facts.shapeCasts_S52x1_S52).symm (k1 b))
  have z2 := fun b d => g2 (k2 b d)
  have z3 := fun b d => g3 (k2 b d)
  simp only [hc, c0, c256, broadcastInDim, constantI] at z1 z4 z5
  simp only [subi, d0, d1, broadcastInDim, constantI] at z2 z3
  have key : ∀ b : Fin 52, _ := fun b => of_steps (fun n => A (at2 b (Fin.ofNat 257 n))) (by simpa using z1 b)
    (fun n hn => by
      have a1 := z2 b ⟨n, hn⟩
      have a2 := z3 b ⟨n, hn⟩
      have e1 : (⟨n, hn⟩ : Fin 256).castSucc = Fin.ofNat 257 n := Fin.ext (by simp [Fin.ofNat]; omega)
      have e2 : (⟨n, hn⟩ : Fin 256).succ = Fin.ofNat 257 (n + 1) := Fin.ext (by simp [Fin.ofNat]; omega)
      rw [e1, e2] at a1 a2
      exact ⟨by simpa [IntOp.subi] using a1, by simpa [IntOp.subi] using a2⟩)
    (by simpa using z4 b) (by simpa using z5 b)
  have en : ∀ n : Fin 257, Fin.ofNat 257 n.val = n := fun n => Fin.ext (Nat.mod_eq_of_lt n.isLt)
  refine ⟨fun b d => ?_, fun b => ?_, fun j => ?_⟩
  · have := (key b).1 d.val d.isLt
    simp only [← Fin.val_castSucc d] at this
    rwa [en, show Fin.ofNat 257 (d.castSucc.val + 1) = d.succ from Fin.ext (Nat.mod_eq_of_lt (by have := d.isLt; simp; omega))] at this
  · exact (key b).2.1
  · rw [eq_at2 j]
    have := (key (j 0)).2.2 (j 1).val (Nat.lt_succ_iff.1 (j 1).isLt)
    have e1 : Fin.ofNat 257 (j 1).val = j 1 := en (j 1)
    rwa [e1] at this

end Cert.Offs
-- ==== Proof.K.Launch.lean ====
/-
  The run: the call's 52 grid points one after the other, what each leaves in the two results' blocks stated as a
  relation (the score tiles past an entry's last block hold what earlier entries left there), the frame of the run.
-/
module

public import proofs.«01_k».proof.Proof.K.Slots
public import proofs.«01_k».proof.Proof.Offs
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]
local notation "𝕄" => MT nD τ sig Unit (Elt F) ℕ (UU nD τ) ℕ
variable (m : (ℓ : Loc nD τ sig) → Buf (Elt F) ℓ) (ρ : Dev nD → PrngReg)

/-- The five windows' staging memrefs at a point. -/
abbrev a1 (t : Fin cfg0.N) : Memref sig .tc .smem S52x257 .i32 := win0_0.stage (cfg0.slots t 0)
/-- The buffer that holds the bucket weights of point `t`. -/
abbrev a2 (t : Fin cfg0.N) : Memref sig .tc .vmem S8x128 .f32 := win0_1.stage (cfg0.slots t 1)
/-- The buffer that holds the queries of point `t`. -/
abbrev a3 (t : Fin cfg0.N) : Memref sig .tc .vmem S1x48x128 .bf16 := win0_2.stage (cfg0.slots t 2)
/-- The buffer that holds the maxima of point `t`. -/
abbrev a6 (t : Fin cfg0.N) : Memref sig .tc .vmem S1x48x256 .f32 := win0_3.stage (cfg0.slots t 3)
/-- The buffer that holds the sums of point `t`. -/
abbrev a7 (t : Fin cfg0.N) : Memref sig .tc .vmem S1x1x256 .f32 := win0_4.stage (cfg0.slots t 4)
/-- It is a whole buffer. -/
abbrev h1 (t : Fin cfg0.N) : (a1 t).IsWhole := hstage0_0 ((cfg0.slots t 0).cast nbuf0_0)
/-- It is a whole buffer. -/
abbrev h2 (t : Fin cfg0.N) : (a2 t).IsWhole := hstage0_1 ((cfg0.slots t 1).cast nbuf0_1)
/-- It is a whole buffer. -/
abbrev h3 (t : Fin cfg0.N) : (a3 t).IsWhole := hstage0_2 ((cfg0.slots t 2).cast nbuf0_2)
/-- It is a whole buffer. -/
abbrev h6 (t : Fin cfg0.N) : (a6 t).IsWhole := hstage0_3 ((cfg0.slots t 3).cast nbuf0_3)
/-- It is a whole buffer. -/
abbrev h7 (t : Fin cfg0.N) : (a7 t).IsWhole := hstage0_4 ((cfg0.slots t 4).cast nbuf0_4)
/-- The two arrays left in HBM, as the region finds them. -/
abbrev XR (c : Dev nD) : Buf (Elt F) (rowsM.view.loc (c : Thread nD τ)) := V m c main_v22
/-- The codes as the call finds them. -/
abbrev XC (c : Dev nD) : Buf (Elt F) (codesM.view.loc (c : Thread nD τ)) := V m c main_v8
/-- The three inputs' staging buffers at a point. -/
abbrev gO (c : Dev nD) (t : Fin cfg0.N) : Buf (Elt F) ((a1 t).view.loc (c : Thread nD τ)) := (a1 t).view.rep (iblk m c 0 t)
/-- The staged weights of point `t`. -/
abbrev gW (c : Dev nD) (t : Fin cfg0.N) : Buf (Elt F) ((a2 t).view.loc (c : Thread nD τ)) := (a2 t).view.rep (iblk m c 1 t)
/-- The staged queries of point `t`. -/
abbrev gQ (c : Dev nD) (t : Fin cfg0.N) : Buf (Elt F) ((a3 t).view.loc (c : Thread nD τ)) := (a3 t).view.rep (iblk m c 2 t)

/-- The precondition as the proof uses it. -/
def PreOK : Prop := ∀ c : Dev nD, Cert.Offs.OK (m ((c : Thread nD τ).loc main_arg4))

/-- The grid has one axis: the coordinate of point `t` is `t`. -/
theorem coords_val (t : Fin cfg0.N) : ((grid0.coords t) 0).val = t.val := by
  have h : ∀ t : Fin 52, ((grid0.coords (t.cast N_0.symm)) 0).val = t.val := by decide
  exact h (t.cast N_0)

variable {m}

/-- A word of the offsets' block is the array's. -/
theorem gO_at (c : Dev nD) (t : Fin cfg0.N) (off : Fin 2 → ℕ) (inb : ∀ a, off a + S1x1.size a ≤ S52x257.size a) (j) (k : S52x257.Idx) (hk : ∀ a, (k a).val = off a) :
    ((a1 t).view.readAt (Elt F) (Rect.unit (s := S52x257) off S1x1.size inb).toLoadRect (gO m c t) j : BitVec 32) = m ((c : Thread nD τ).loc main_arg4) k := by
  rw [View.readAt_apply, View.read_rep]
  unfold iblk; rw [View.read_apply]
  have e := V_main_arg4 m c
  refine (congrFun e _).trans (congrArg (m ((c : Thread nD τ).loc main_arg4)) (funext fun a => Fin.ext ?_))
  have hj : (j a).val = 0 := Nat.lt_one_iff.1 (by have := (j a).isLt; fin_cases a <;> exact this)
  rw [hk a]
  fin_cases a
  · show 0 * 52 + 1 * (off 0 + 1 * (j 0).val) = off 0
    have : (j 0).val = 0 := hj
    omega
  · show 0 * 257 + 1 * (off 1 + 1 * (j 1).val) = off 1
    have : (j 1).val = 0 := hj
    omega

/-- The staged offsets are as the body needs them. -/
theorem offOK (h : PreOK m) (c : Dev nD) (t : Fin cfg0.N) : OffOK c (a1 t) (gO m c t) := by
  intro off inb j
  rw [gO_at c t off inb j (fun a => ⟨off a, by have := inb a; fin_cases a <;> exact this⟩) (fun _ => rfl)]
  exact (h c).le _
/-- An entry's row count is from 1 to 46080. -/
theorem cntOK (h : PreOK m) (c : Dev nD) (t : Fin cfg0.N) : Cnt (cntOf c (grid0.coords t) (a1 t) (gO m c t)) := by
  have hi : ((grid0.coords t) 0).val < 52 := ((grid0.coords t) 0).isLt
  have e : cntOf c (grid0.coords t) (a1 t) (gO m c t) = m ((c : Thread nD τ).loc main_arg4) (Cert.Offs.at2 ⟨_, hi⟩ (Fin.last 256)) :=
    gO_at c t _ _ _ _ (fun a => by
      have : ∀ n : Fin 52, (BitVec.ofNat 32 n.val).toNat = n.val := by decide
      fin_cases a
      · exact (this ⟨_, hi⟩).symm
      · rfl)
  rw [e]
  exact ⟨(h c).pos _, (h c).le _⟩

variable (m)
/-- The score tiles the body may leave at a point. -/
abbrev Tiles (h : PreOK m) (c : Dev nD) (t : Fin cfg0.N) (gT : Buf (Elt F) (scoreM.view.loc (c : Thread nD τ))) : Prop :=
  TilesOf c (XR m c) (XC m c) (grid0.coords t) (a1 t) (h1 t) (a2 t) (h2 t) (a3 t) (h3 t) (a6 t) (h6 t) (a7 t) (h7 t) (gO m c t) (cntOK h c t) (gW m c t) (gQ m c t) gT
/-- The maxima of documents 0 to 127 at point `t`, from given tiles. -/
abbrev mA (h : PreOK m) (c : Dev nD) (t : Fin cfg0.N) (gT : Buf (Elt F) (scoreM.view.loc (c : Thread nD τ))) : FVec F S48x128 .f32 :=
  maxA c (grid0.coords t) (a1 t) (h1 t) (a2 t) (h2 t) (a3 t) (h3 t) (a6 t) (h6 t) (a7 t) (h7 t) (gO m c t) (offOK h c t) gT
/-- The maxima of documents 128 to 255 at point `t`, from given tiles. -/
abbrev mB (h : PreOK m) (c : Dev nD) (t : Fin cfg0.N) (gT : Buf (Elt F) (scoreM.view.loc (c : Thread nD τ))) : FVec F S48x128 .f32 :=
  maxB c (grid0.coords t) (a1 t) (h1 t) (a2 t) (h2 t) (a3 t) (h3 t) (a6 t) (h6 t) (a7 t) (h7 t) (gO m c t) (offOK h c t) gT

/-- What the body may leave in the two results' staging buffers at a point. -/
def TokRel (h : PreOK m) (c : Dev nD) (t : Fin cfg0.N) (X : S1x48x256.Idx → Elt F .f32) : Prop :=
  ∃ gT g6, Tiles m h c t gT ∧ X = (a6 t).view.read (Elt F) (tokOut c (a6 t) g6 (mA m h c t gT) (mB m h c t gT))
/-- What point `t` leaves in the block of sums, from the same tiles. -/
def SumRel (h : PreOK m) (c : Dev nD) (t : Fin cfg0.N) (X : S1x1x256.Idx → Elt F .f32) : Prop :=
  ∃ gT g7, Tiles m h c t gT ∧ X = (a7 t).view.read (Elt F) (sumOut c (a7 t) g7 (mA m h c t gT) (mB m h c t gT))

/-- What the kernel holds of its own before entry `b`. -/
def Φ (c : Dev nD) (b : ℕ) : sProp 𝕄 := iprop(entry c (XR m c) (XC m c) b ∗ (∃ g, scP c g) ∗ (∃ r, prngReg c r))

/-- The data of the run: the arrays, what each window may hold after a point, and what is carried from point to point. -/
def rdat (h : PreOK m) (c : Dev nD) : RDat τ (Elt F) Unit ℕ (UU nD τ) ℕ cfg0 c where
  A w := V m c (Pipeline.arrRef spec0 w)
  after w t _ X := match w with
    | ⟨0, _⟩ => X = iblk m c 0 t
    | ⟨1, _⟩ => X = iblk m c 1 t
    | ⟨2, _⟩ => X = iblk m c 2 t
    | ⟨3, _⟩ => TokRel m h c t X
    | ⟨4, _⟩ => SumRel m h c t X
  Φ t := Φ m c t.val
  q _ := fullShare
  owed _ := 0

/-- A point finds the offsets in window 0. -/
theorem finds_0 (h : PreOK m) (c : Dev nD) (t : Fin cfg0.N) (Y) (hY : (rdat m h c).Finds 0 t Y) : Y = iblk m c 0 t := by
  by_cases hf : (cfg0.win 0).fetch t = true
  · obtain ⟨d, rfl⟩ := ((rdat m h c).finds_of_fetch hf Y).1 hY
    rfl
  · have hf' : (cfg0.win 0).fetch t = false := by simpa using hf
    have ht : t.val ≠ 0 := fun e => hf ((fetch0_0 t).2 (by rw [e]))
    rcases ((rdat m h c).finds_of_pos hf' ht Y).1 hY with e | ⟨_, _, e⟩
    · exact absurd e (by simp [Window.flush])
    · exact e
/-- A point finds the weights in window 1. -/
theorem finds_1 (h : PreOK m) (c : Dev nD) (t : Fin cfg0.N) (Y) (hY : (rdat m h c).Finds 1 t Y) : Y = iblk m c 1 t := by
  by_cases hf : (cfg0.win 1).fetch t = true
  · obtain ⟨d, rfl⟩ := ((rdat m h c).finds_of_fetch hf Y).1 hY
    rfl
  · have hf' : (cfg0.win 1).fetch t = false := by simpa using hf
    have ht : t.val ≠ 0 := fun e => hf ((fetch0_1 t).2 (by rw [e]))
    rcases ((rdat m h c).finds_of_pos hf' ht Y).1 hY with e | ⟨_, _, e⟩
    · exact absurd e (by simp [Window.flush])
    · exact e
/-- A point finds the entry's queries in window 2. -/
theorem finds_2 (h : PreOK m) (c : Dev nD) (t : Fin cfg0.N) (Y) (hY : (rdat m h c).Finds 2 t Y) : Y = iblk m c 2 t := by
  obtain ⟨d, rfl⟩ := ((rdat m h c).finds_of_fetch (fetch0_2 t) Y).1 hY
  rfl

/-- The body of point `t`, with its buffers as arguments. -/
theorem defs₀_row (t : Fin cfg0.N) : (defs₀ (F := F)) .tc cfg0.body (cfg0.bodyArgs t (cfg0.slots t))
    = bodyG (grid0.coords t) (a1 t) (h1 t) (a2 t) (h2 t) (a3 t) (h3 t) (a6 t) (h6 t) (a7 t) (h7 t) := by
  unfold defs₀; rw [Defs.onTc_tc]

set_option backward.isDefEq.respectTransparency.types false in
/-- A point, run from what it finds and what is carried to it, leaves what the data says. -/
theorem body_obligation (h : PreOK m) (c : Dev nD) : (rdat (F := F) m h c).BodyObligation (defs₀ (F := F)) 𝒱₀ () Set.univ := fun t Y hY => by
  rw [bigSep_W0, bigSep_W0, defs₀_row]
  dsimp only
  have e0 := finds_0 m h c t (Y 0) (hY 0)
  have e1 := finds_1 m h c t (Y 1) (hY 1)
  have e2 := finds_2 m h c t (Y 2) (hY 2)
  rw [e0, e1, e2]
  rw [show (rdat m h c).Φ t.castSucc = Φ m c t.val from rfl, show (rdat m h c).Φ t.succ = Φ m c (t.val + 1) from rfl]
  unfold RDat.owesAt Pipeline.owesWithin
  rw [show (rdat m h c).owed t.castSucc = 0 from rfl, show (rdat m h c).owed t.succ = 0 from rfl]
  unfold owns Φ
  have hc := coords_val t
  iintro ⟨⟨He, ⟨%gT, Hsc⟩, Hp⟩, ⟨%W, -, HW⟩, ⟨%g1, %hg1, Hof⟩, ⟨%g2, %hg2, Hwt⟩, ⟨%g3, %hg3, Hq⟩, ⟨%g6, -, Htok⟩, ⟨%g7, -, Hsum⟩⟩
  ihave Hof' := (pointsTo_rep_entails (c : Thread nD τ) (a1 t) g1 fullShare) $$ Hof
  ihave Hwt' := (pointsTo_rep_entails (c : Thread nD τ) (a2 t) g2 fullShare) $$ Hwt
  ihave Hq' := (pointsTo_rep_entails (c : Thread nD τ) (a3 t) g3 fullShare) $$ Hq
  rw [hg1, hg2, hg3]
  rw [← hc]
  iapply (bodyRun c (XR m c) (XC m c) (grid0.coords t) (a1 t) (h1 t) (a2 t) (h2 t) (a3 t) (h3 t) (a6 t) (h6 t) (a7 t) (h7 t) (gO m c t) (offOK h c t) (cntOK h c t) (gW m c t) (gQ m c t) g6 g7 gT W)
  isplitl [Hof' Hwt' Hq' Htok Hsum HW Hsc He]
  · isplitl [Hof']; · iexact Hof'
    isplitl [Hwt']; · iexact Hwt'
    isplitl [Hq']; · iexact Hq'
    isplitl [Htok]; · iexact Htok
    isplitl [Hsum]; · iexact Hsum
    isplitl [HW]; · iexact HW
    isplitl [Hsc]; · iexact Hsc
    iexact He
  unfold bodyPost
  iintro ⟨Hof, Hwt, Hq, ⟨%W', HW⟩, He, ⟨%gT', %hT, Hsc, Htok, Hsum⟩⟩
  isplitl [He Hsc Hp]
  · isplitl [He]; · iexact He
    isplitl [Hsc]; · iexists gT'; iexact Hsc
    iexact Hp
  isplitl [HW]
  · iexists W'; isplitr; · ipureintro; exact fun _ _ => Or.inl trivial
    iexact HW
  isplitl [Hof]
  · iexists (iblk m c 0 t)
    isplitr; · ipureintro; exact rfl
    iexists _; isplitr; rotate_left
    · iexact Hof
    · ipureintro; exact View.read_rep _ _
  isplitl [Hwt]
  · iexists (iblk m c 1 t)
    isplitr; · ipureintro; exact rfl
    iexists _; isplitr; rotate_left
    · iexact Hwt
    · ipureintro; exact View.read_rep _ _
  isplitl [Hq]
  · iexists (iblk m c 2 t)
    isplitr; · ipureintro; exact rfl
    iexists _; isplitr; rotate_left
    · iexact Hq
    · ipureintro; exact View.read_rep _ _
  isplitl [Htok]
  · iexists ((a6 t).view.read (Elt F) (tokOut c (a6 t) g6 (mA m h c t gT') (mB m h c t gT')))
    isplitr; · ipureintro; exact ⟨gT', g6, hT, rfl⟩
    iexists _; isplitr; rotate_left
    · iexact Htok
    · ipureintro; rfl
  iexists ((a7 t).view.read (Elt F) (sumOut c (a7 t) g7 (mA m h c t gT') (mB m h c t gT')))
  isplitr; · ipureintro; exact ⟨gT', g7, hT, rfl⟩
  iexists _; isplitr; rotate_left
  · iexact Hsum
  · ipureintro; rfl

/-! ## The run -/

/-- @main up to the region, at this algebra. -/
theorem hmainD (𝒱₀ : Variants) : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The counter's cells are the whole of its buffer. -/
theorem st_whole (c : Dev nD) : ((∃ f, ((c.tc : Thread nD τ).loc cc0_scratch3 ↦{fullShare} f) : sProp 𝕄) ⊢ ∃ g, stP c g)
    ∧ ((∃ g, stP c g) ⊢ (∃ f, ((c.tc : Thread nD τ).loc cc0_scratch3 ↦{fullShare} f) : sProp 𝕄)) := by
  have e : (stM.view).set = Finset.univ := View.set_whole _
  exact ⟨exists_mono fun g => entails_of_eq (congrArg (fun S => ((c.tc : Thread nD τ).loc cc0_scratch3 ↦[S]{fullShare} g : sProp 𝕄)) e.symm),
    exists_mono fun g => entails_of_eq (congrArg (fun S => ((c.tc : Thread nD τ).loc cc0_scratch3 ↦[S]{fullShare} g : sProp 𝕄)) e)⟩

/-- The tiles' cells are the whole of their buffer. -/
theorem sc_whole (c : Dev nD) : ((∃ f, ((c.tc : Thread nD τ).loc cc0_scratch2 ↦{fullShare} f) : sProp 𝕄) ⊢ ∃ g, scP c g)
    ∧ ((∃ g, scP c g) ⊢ (∃ f, ((c.tc : Thread nD τ).loc cc0_scratch2 ↦{fullShare} f) : sProp 𝕄)) := by
  have e : (scoreM.view).set = Finset.univ := View.set_whole _
  exact ⟨exists_mono fun g => entails_of_eq (congrArg (fun S => ((c.tc : Thread nD τ).loc cc0_scratch2 ↦[S]{fullShare} g : sProp 𝕄)) e.symm),
    exists_mono fun g => entails_of_eq (congrArg (fun S => ((c.tc : Thread nD τ).loc cc0_scratch2 ↦[S]{fullShare} g : sProp 𝕄)) e)⟩

/-- What the launch hands the kernel is its slots free, its counter and its tiles at anything. -/
theorem Φ_in (c : Dev nD) : Pipeline.ΦD osem0 spec0 H0 (V m) c ⊢ Φ m c 0 := by
  rw [Pipeline.ΦD_eq, scopedRest0_eq, ownSems00_eq, hbmPts0_eq, rows_deal, codes_deal]
  unfold Φ entry free
  rw [if_pos rfl]
  iintro ⟨⟨Hr, Hc, Hsc, Hst⟩, Hp, ⟨Ha0, Ha1, Hb0, Hb1⟩, ⟨⟨Htc0, Htc1⟩, ⟨Htr0, Htr1⟩⟩⟩
  ihave Hr2 := (rbuf_split c) $$ Hr
  ihave Hc2 := (cbuf_split c) $$ Hc
  icases Hr2 with ⟨Hr0, Hr1⟩
  icases Hc2 with ⟨Hc0, Hc1⟩
  isplitl [Hr0 Hr1 Hc0 Hc1 Hst Ha0 Ha1 Hb0 Hb1 Htc0 Htc1 Htr0 Htr1]
  · isplitl [Hr0 Hc0 Ha0 Hb0 Htc0 Htr0]
    · isplitl [Ha0]; · iexact Ha0
      isplitl [Hb0]; · iexact Hb0
      isplitl [Hr0]; · iexact Hr0
      isplitl [Hc0]; · iexact Hc0
      isplitl [Htr0]; · iexact Htr0
      iexact Htc0
    isplitl [Hr1 Hc1 Ha1 Hb1 Htc1 Htr1]
    · isplitl [Ha1]; · iexact Ha1
      isplitl [Hb1]; · iexact Hb1
      isplitl [Hr1]; · iexact Hr1
      isplitl [Hc1]; · iexact Hc1
      isplitl [Htr1]; · iexact Htr1
      iexact Htc1
    iapply (st_whole c).1
    iexact Hst
  isplitl [Hsc]
  · iapply (sc_whole c).1
    iexact Hsc
  iexact Hp

/-- After the last entry it hands the same back. -/
theorem Φ_out (c : Dev nD) : Φ m c 52 ⊢ Pipeline.ΦD osem0 spec0 H0 (V m) c := by
  rw [Pipeline.ΦD_eq, scopedRest0_eq, ownSems00_eq, hbmPts0_eq, rows_deal, codes_deal]
  unfold Φ entry slotsAt
  rw [if_neg (by decide)]
  simp only [if_neg (lt_irrefl 52)]
  iintro ⟨⟨%gS, Hst, Hsl⟩, Hsc, Hp⟩
  ihave Hf := (two_of_roles (fun s => free c (XR m c) (XC m c) s) _) $$ Hsl
  unfold free
  icases Hf with ⟨⟨Ha0, Hb0, Hr0, Hc0, Htr0, Htc0⟩, ⟨Ha1, Hb1, Hr1, Hc1, Htr1, Htc1⟩⟩
  isplitl [Hr0 Hr1 Hc0 Hc1 Hsc Hst]
  · isplitl [Hr0 Hr1]
    · iapply (rbuf_join c)
      isplitl [Hr0]; · iexact Hr0
      iexact Hr1
    isplitl [Hc0 Hc1]
    · iapply (cbuf_join c)
      isplitl [Hc0]; · iexact Hc0
      iexact Hc1
    isplitl [Hsc]
    · iapply (sc_whole c).2
      iexact Hsc
    iapply (st_whole c).2
    iexists gS; iexact Hst
  isplitl [Hp]; · iexact Hp
  isplitl [Ha0 Ha1 Hb0 Hb1]
  · isplitl [Ha0]; · iexact Ha0
    isplitl [Ha1]; · iexact Ha1
    isplitl [Hb0]; · iexact Hb0
    iexact Hb1
  isplitl [Htc0 Htc1]
  · isplitl [Htc0]; · iexact Htc0
    iexact Htc1
  isplitl [Htr0]; · iexact Htr0
  iexact Htr1

set_option backward.isDefEq.respectTransparency.types false in
/-- Every run of @main ends, nothing faulting, with the two results' arrays at contents their blocks' relations allow, every other
    buffer of @main as the region found it, every semaphore at zero. -/
theorem run_main (h : PreOK m) : θ_run defs (onTc (τ := τ) (main (F := F))) (s₀ m ρ)
    (fun r => Pipeline.RDat.FramePost (cfgs 0) (rdat m h) (V m) r ∧ r.2.sem = fun _ => 0) :=
  Pipeline.RDat.θ_run_frame_dma (Q' := _) cfgs (0 : Fin 1) launch0 osem0 defs₀ 𝒱₀ (rdat m h) ownSemFacts0 H0 H0_sub m ρ main
    (hbody := body_obligation m h) (hshare := fun c w => (rdat m h c).share_full (fun _ => rfl) w) (howed := fun _ _ => rfl)
    (V := V m) (hmain := hmainD m 𝒱₀) (hA := fun _ _ => rfl) (hin := Φ_in m) (hout := Φ_out m)

/-- The frame. -/
theorem frame_main (h : PreOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r hh => ⟨fun c => ⟨((hh.1 c).2 main_arg0 (Pipeline.mem_restRefs_of main_arg0 (by decide) (by decide))).trans (V_main_arg0 m c),
      ((hh.1 c).2 main_arg1 (Pipeline.mem_restRefs_of main_arg1 (by decide) (by decide))).trans (V_main_arg1 m c),
      ((hh.1 c).2 main_arg2 (Pipeline.mem_restRefs_of main_arg2 (by decide) (by decide))).trans (V_main_arg2 m c),
      ((hh.1 c).2 main_arg3 (Pipeline.mem_restRefs_of main_arg3 (by decide) (by decide))).trans (V_main_arg3 m c),
      (by have := (hh.1 c).1 0
          rw [Pipeline.RDat.ArrAt_in (rdat m h c) 0 rfl] at this
          exact this.trans (V_main_arg4 m c))⟩, hh.2⟩) (run_main m ρ h)

end Cert.Kernel.Hand
-- ==== Proof.KI.Words.lean ====
/-
  The kernel's integer chains in closed form. A core's grid point `b` reads the token count `v4` of
  its batch entry and runs `nb v4` blocks of 1280 tokens, the remainder loop behind it none; the
  word kept in scalar memory counts the blocks of all batch entries so far, and its parity names
  the slot of the two-slot buffers.
-/
module

public import proofs.«01_k».proof.Proof.Gen.KernelIdeal.Frame
public import Idealize.ShloMosaic.Lib.Affine
public import Idealize.ShloMosaic.Lib.Ring

@[expose] public section

noncomputable section

namespace Cert.KernelIdeal.Hand

open Cert.KernelIdeal
open Idealize.ShloMosaic Idealize.ShloMosaic.Affine

/-! ## The parity of the block counter -/

/-- The floor-modulo by two as the kernel computes it, as one expression. -/
abbrev parW (x : BitVec 32) : BitVec 32 :=
  Scalar.select (Scalar.andi (Scalar.xori (Scalar.cmpi .slt (Scalar.remsi x (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi x (Scalar.select (Scalar.cmpi .eq 2#32 0#32) 1#32 2#32)) 0#32))
    (Scalar.addi (Scalar.remsi x (Scalar.select (Scalar.cmpi .eq 2#32 0#32) 1#32 2#32)) (Scalar.select (Scalar.cmpi .eq 2#32 0#32) 1#32 2#32))
    (Scalar.remsi x (Scalar.select (Scalar.cmpi .eq 2#32 0#32) 1#32 2#32))

/-- The signed remainder by two is 0, 1 or minus 1 according to the parity and the sign. -/
theorem remsi_two (x : BitVec 32) :
    (x.toNat % 2 = 0 ∧ Scalar.remsi x 2#32 = 0#32) ∨ (x.toNat % 2 = 1 ∧ (Scalar.remsi x 2#32 = 1#32 ∨ Scalar.remsi x 2#32 = 0xFFFFFFFF#32)) := by
  have h : Scalar.remsi x 2#32 = x.srem 2#32 := IntOp.remsi_of_pos _ (by decide)
  rw [h, BitVec.srem_eq]
  have hx := x.isLt
  rcases hm : x.msb with _ | _
  · simp only [show (2#32 : BitVec 32).msb = false from by decide]
    have e : (x % 2#32).toNat = x.toNat % 2 := by simp [BitVec.toNat_umod]
    rcases Nat.mod_two_eq_zero_or_one x.toNat with h0 | h1
    · left; exact ⟨h0, BitVec.eq_of_toNat_eq (by rw [e, h0]; rfl)⟩
    · right; exact ⟨h1, .inl (BitVec.eq_of_toNat_eq (by rw [e, h1]; rfl))⟩
  · simp only [show (2#32 : BitVec 32).msb = false from by decide]
    have hge : 2 ^ 31 ≤ x.toNat := by
      have := (BitVec.msb_eq_true_iff_two_mul_ge (x := x)).1 hm; omega
    have en : (-x).toNat = 2 ^ 32 - x.toNat := by rw [BitVec.toNat_neg]; omega
    have e : ((-x) % 2#32).toNat = x.toNat % 2 := by
      rw [BitVec.toNat_umod, en]; show (2 ^ 32 - x.toNat) % 2 = x.toNat % 2; omega
    rcases Nat.mod_two_eq_zero_or_one x.toNat with h0 | h1
    · left; refine ⟨h0, ?_⟩
      rw [show (-x) % 2#32 = 0#32 from BitVec.eq_of_toNat_eq (by rw [e, h0]; rfl)]; rfl
    · right; refine ⟨h1, .inr ?_⟩
      rw [show (-x) % 2#32 = 1#32 from BitVec.eq_of_toNat_eq (by rw [e, h1]; rfl)]; rfl

/-- The floor-modulo by two of any word is its parity. -/
theorem parW_eq (x : BitVec 32) : parW x = BitVec.ofNat 32 (x.toNat % 2) := by
  have h2 : Scalar.select (Scalar.cmpi .eq 2#32 0#32) 1#32 2#32 = 2#32 := by decide
  unfold parW; rw [h2]
  rcases remsi_two x with ⟨h, e⟩ | ⟨h, e | e⟩ <;> rw [h, e] <;> decide

/-- The parity word is the slot. -/
theorem parW_toNat (x : BitVec 32) : (parW x).toNat = (Ring.sl 2 x.toNat).val := by
  rw [parW_eq]; simp [Ring.sl, Fin.ofNat]; omega

/-- One less the parity is the other slot. -/
theorem one_sub_parW (x : BitVec 32) : (Scalar.subi 1#32 (parW x)).toNat = (Ring.sl 2 (x.toNat + 1)).val := by
  rw [parW_eq]
  have : (Ring.sl 2 (x.toNat + 1)).val = (x.toNat + 1) % 2 := rfl
  rw [this]
  rcases Nat.mod_two_eq_zero_or_one x.toNat with h | h <;> rw [h]
  · rw [show (x.toNat + 1) % 2 = 1 by omega]; decide
  · rw [show (x.toNat + 1) % 2 = 0 by omega]; decide

/-- Slot `s` of the two-slot buffers, at an offset inside it. -/
abbrev slotOff (s : Fin 2) (p q : ℕ) : Fin 3 → Nat := ![s.val, p, q]
/-- The semaphore of stream `k` (0 the rows, 1 the codes) of slot `s`. -/
abbrev semOff (k : ℕ) (s : Fin 2) : Fin 2 → Nat := ![k, s.val]

variable (v : BitVec 32)
/-- The semaphore of the next block's copy, as computed from the counter. -/
theorem off2_eq : k0_off2 v = semOff 0 (Ring.sl 2 (v.toNat + 1)) := congrArg (fun n => ![0, n]) (one_sub_parW v)
/-- The slot of the next block, as computed from the counter. -/
theorem off3_eq : k0_off3 v = slotOff (Ring.sl 2 (v.toNat + 1)) 0 0 := congrArg (fun n => ![n, 0, 0]) (one_sub_parW v)
/-- The semaphore of the next block's copy, as computed from the counter. -/
theorem off5_eq : k0_off5 v = semOff 1 (Ring.sl 2 (v.toNat + 1)) := congrArg (fun n => ![1, n]) (one_sub_parW v)
/-- The slot of the next block, as computed from the counter. -/
theorem off6_eq : k0_off6 v = slotOff (Ring.sl 2 (v.toNat + 1)) 0 0 := congrArg (fun n => ![n, 0, 0]) (one_sub_parW v)
/-- The semaphore of this block's copy, as computed from the counter. -/
theorem off8_eq : k0_off8 v = semOff 0 (Ring.sl 2 v.toNat) := congrArg (fun n => ![0, n]) (parW_toNat v)
/-- The slot of this block, as computed from the counter. -/
theorem off9_eq : k0_off9 v = slotOff (Ring.sl 2 v.toNat) 0 0 := congrArg (fun n => ![n, 0, 0]) (parW_toNat v)
/-- The semaphore of this block's copy, as computed from the counter. -/
theorem off11_eq : k0_off11 v = semOff 1 (Ring.sl 2 v.toNat) := congrArg (fun n => ![1, n]) (parW_toNat v)
/-- The slot of this block, as computed from the counter. -/
theorem off12_eq : k0_off12 v = slotOff (Ring.sl 2 v.toNat) 0 0 := congrArg (fun n => ![n, 0, 0]) (parW_toNat v)
/-- Where the rows from 0 of this block are read. -/
theorem off14_eq : k0_off14 v = slotOff (Ring.sl 2 v.toNat) 0 0 := congrArg (fun n => ![n, 0, 0]) (parW_toNat v)
/-- Where the codes from 0 of this block are read. -/
theorem off15_eq : k0_off15 v = slotOff (Ring.sl 2 v.toNat) 0 0 := congrArg (fun n => ![n, 0, 0]) (parW_toNat v)
/-- Where the codes from 128 of this block are read. -/
theorem off17_eq : k0_off17 v = slotOff (Ring.sl 2 v.toNat) 0 128 := congrArg (fun n => ![n, 0, 128]) (parW_toNat v)
/-- Where the rows from 128 of this block are read. -/
theorem off18_eq : k0_off18 v = slotOff (Ring.sl 2 v.toNat) 128 0 := congrArg (fun n => ![n, 128, 0]) (parW_toNat v)
/-- Where the codes from 256 of this block are read. -/
theorem off19_eq : k0_off19 v = slotOff (Ring.sl 2 v.toNat) 0 256 := congrArg (fun n => ![n, 0, 256]) (parW_toNat v)
/-- Where the codes from 384 of this block are read. -/
theorem off20_eq : k0_off20 v = slotOff (Ring.sl 2 v.toNat) 0 384 := congrArg (fun n => ![n, 0, 384]) (parW_toNat v)
/-- Where the rows from 256 of this block are read. -/
theorem off21_eq : k0_off21 v = slotOff (Ring.sl 2 v.toNat) 256 0 := congrArg (fun n => ![n, 256, 0]) (parW_toNat v)
/-- Where the codes from 512 of this block are read. -/
theorem off22_eq : k0_off22 v = slotOff (Ring.sl 2 v.toNat) 0 512 := congrArg (fun n => ![n, 0, 512]) (parW_toNat v)
/-- Where the codes from 640 of this block are read. -/
theorem off23_eq : k0_off23 v = slotOff (Ring.sl 2 v.toNat) 0 640 := congrArg (fun n => ![n, 0, 640]) (parW_toNat v)
/-- Where the rows from 384 of this block are read. -/
theorem off24_eq : k0_off24 v = slotOff (Ring.sl 2 v.toNat) 384 0 := congrArg (fun n => ![n, 384, 0]) (parW_toNat v)
/-- Where the codes from 768 of this block are read. -/
theorem off25_eq : k0_off25 v = slotOff (Ring.sl 2 v.toNat) 0 768 := congrArg (fun n => ![n, 0, 768]) (parW_toNat v)
/-- Where the codes from 896 of this block are read. -/
theorem off26_eq : k0_off26 v = slotOff (Ring.sl 2 v.toNat) 0 896 := congrArg (fun n => ![n, 0, 896]) (parW_toNat v)
/-- Where the rows from 512 of this block are read. -/
theorem off27_eq : k0_off27 v = slotOff (Ring.sl 2 v.toNat) 512 0 := congrArg (fun n => ![n, 512, 0]) (parW_toNat v)
/-- Where the codes from 1024 of this block are read. -/
theorem off28_eq : k0_off28 v = slotOff (Ring.sl 2 v.toNat) 0 1024 := congrArg (fun n => ![n, 0, 1024]) (parW_toNat v)
/-- Where the codes from 1152 of this block are read. -/
theorem off29_eq : k0_off29 v = slotOff (Ring.sl 2 v.toNat) 0 1152 := congrArg (fun n => ![n, 0, 1152]) (parW_toNat v)

/-- Offsets of a slot are closed: they are known once the slot is. -/
instance (s : Fin 2) (p q : ℕ) : ClosedOff (slotOff s p q) := ⟨slotOff s p q, rfl⟩
instance : ClosedOff (k0_off14 v) := ⟨_, off14_eq v⟩
instance : ClosedOff (k0_off15 v) := ⟨_, off15_eq v⟩
instance : ClosedOff (k0_off17 v) := ⟨_, off17_eq v⟩
instance : ClosedOff (k0_off18 v) := ⟨_, off18_eq v⟩
instance : ClosedOff (k0_off19 v) := ⟨_, off19_eq v⟩
instance : ClosedOff (k0_off20 v) := ⟨_, off20_eq v⟩
instance : ClosedOff (k0_off21 v) := ⟨_, off21_eq v⟩
instance : ClosedOff (k0_off22 v) := ⟨_, off22_eq v⟩
instance : ClosedOff (k0_off23 v) := ⟨_, off23_eq v⟩
instance : ClosedOff (k0_off24 v) := ⟨_, off24_eq v⟩
instance : ClosedOff (k0_off25 v) := ⟨_, off25_eq v⟩
instance : ClosedOff (k0_off26 v) := ⟨_, off26_eq v⟩
instance : ClosedOff (k0_off27 v) := ⟨_, off27_eq v⟩
instance : ClosedOff (k0_off28 v) := ⟨_, off28_eq v⟩
instance : ClosedOff (k0_off29 v) := ⟨_, off29_eq v⟩

/-! ## The number of blocks -/

/-- The number of blocks of 1280 tokens. -/
def nb (v4 : BitVec 32) : ℕ := (v4.toNat + 1279) / 1280

/-- The count of blocks as the kernel computes it (a floor division). -/
abbrev nbW (v4 : BitVec 32) : BitVec 32 :=
  Scalar.select (Scalar.andi (Scalar.cmpi .ne (Scalar.subi (Scalar.extui (Scalar.cmpi .sgt (Scalar.addi v4 1279#32) 0#32)) (Scalar.extui (Scalar.cmpi .slt (Scalar.addi v4 1279#32) 0#32)))
      (Scalar.subi (Scalar.extui (Scalar.cmpi .sgt 1280#32 0#32)) (Scalar.extui (Scalar.cmpi .slt 1280#32 0#32))))
      (Scalar.cmpi .ne (Scalar.remsi (Scalar.addi v4 1279#32) 1280#32) 0#32))
    (Scalar.subi (Scalar.divsi (Scalar.addi v4 1279#32) 1280#32) 1#32) (Scalar.divsi (Scalar.addi v4 1279#32) 1280#32)

/-- A count of tokens a batch entry can hold. -/
structure Cnt (v4 : BitVec 32) : Prop where
  pos : 1 ≤ v4.toNat
  le : v4.toNat ≤ 46080

/-- A word is the number it is said to be. -/
theorem toInt_of_isInt {x : BitVec 32} {e : Int} (h : IsInt x e) : x.toInt = e := by
  delta Affine.IsInt at h; exact h
/-- A word that reads as a number is that number. -/
theorem isInt_of_toInt {x : BitVec 32} {e : Int} (h : x.toInt = e) : IsInt x e := by
  delta Affine.IsInt; exact h
/-- A word below the sign bit is its natural number. -/
theorem isInt_toNat {x : BitVec 32} (h : x.toNat < 2 ^ 31) : IsInt x x.toNat :=
  isInt_of_toInt (by have := BitVec.toInt_eq_toNat_cond x; split at this <;> omega)
/-- A word that is a natural number below the sign bit reads as it. -/
theorem toNat_of_isInt {x : BitVec 32} {n : ℕ} (h : IsInt x n) (hn : n < 2 ^ 31) : x.toNat = n := by
  have h := toInt_of_isInt h; have := BitVec.toInt_eq_toNat_cond x; split at this <;> omega

variable {v4 : BitVec 32} (hv : Cnt v4)
include hv

/-- An entry has a block. -/
theorem nb_pos : 1 ≤ nb v4 := by have := hv.pos; unfold nb; omega
/-- It has at most 36. -/
theorem nb_le : nb v4 ≤ 36 := by have := hv.le; unfold nb; omega

/-- The number of blocks, as computed. -/
theorem isInt_nbW : IsInt (nbW v4) (nb v4) := by
  have h1 := hv.pos; have h2 := hv.le
  have a0 : IsInt v4 v4.toNat := isInt_toNat (by omega)
  have a1 : IsInt (Scalar.addi v4 1279#32) (v4.toNat + 1279) := addi a0 (ofNat (e := 1279) 1279 ⟨rfl, by decide⟩) ⟨rfl, by omega, by omega⟩
  have hp : Scalar.cmpi .sgt (Scalar.addi v4 1279#32) 0#32 = 1#1 := by
    simp only [Scalar.cmpi, IntOp.cmpi]
    rw [show (0#32 : BitVec 32).slt (Scalar.addi v4 1279#32) = true by simp [BitVec.slt, toInt_of_isInt a1]; omega]; rfl
  have hn : Scalar.cmpi .slt (Scalar.addi v4 1279#32) 0#32 = 0#1 := by
    simp only [Scalar.cmpi, IntOp.cmpi]
    rw [show (Scalar.addi v4 1279#32).slt 0#32 = false by simp [BitVec.slt, toInt_of_isInt a1]; omega]; rfl
  have hd : IsInt (Scalar.divsi (Scalar.addi v4 1279#32) 1280#32) (nb v4) :=
    divsi a1 (ofNat (e := 1280) 1280 ⟨rfl, by decide⟩) ⟨by unfold nb; omega, by omega, by omega⟩
  unfold nbW
  rw [hp, hn]
  have : ∀ c : BitVec 1, Scalar.andi (Scalar.cmpi .ne (Scalar.subi (Scalar.extui 1#1) (Scalar.extui 0#1))
      (Scalar.subi (Scalar.extui (Scalar.cmpi .sgt 1280#32 0#32)) (Scalar.extui (Scalar.cmpi .slt 1280#32 0#32)))) c = 0#1 := by decide
  rw [this]; exact hd

/-- The trip count as the loop computes it. -/
theorem isInt_n1 : IsInt (Scalar.addi 0#32 (Scalar.muli (Scalar.divsi (Scalar.subi (nbW v4) 0#32) 1#32) 1#32)) (nb v4) := by
  have h := isInt_nbW hv; have h1 := nb_le hv
  have z : IsInt 0#32 0 := ofNat (e := 0) 0 ⟨rfl, by decide⟩
  have o : IsInt 1#32 1 := ofNat (e := 1) 1 ⟨rfl, by decide⟩
  have s : IsInt (Scalar.subi (nbW v4) 0#32) (nb v4) := subi h z ⟨by omega, by omega, by omega⟩
  exact addi z (muli (e := nb v4) (divsi_one (e := nb v4) s o ⟨rfl, rfl⟩) o ⟨by omega, by omega, by omega⟩) ⟨by omega, by omega, by omega⟩
/-- The end of the loop as it is computed. -/
theorem isInt_n2 : IsInt (Scalar.addi 0#32 (Scalar.subi (nbW v4) 0#32)) (nb v4) := by
  have h := isInt_nbW hv; have h1 := nb_le hv
  have z : IsInt 0#32 0 := ofNat (e := 0) 0 ⟨rfl, by decide⟩
  exact addi z (subi (e := nb v4) h z ⟨by omega, by omega, by omega⟩) ⟨by omega, by omega, by omega⟩

/-- The block loop runs `nb v4` trips, -/
theorem trips1_eq : (k0_t1_loop v4).trips = nb v4 := by
  show Scf.trips 0#32 (Scalar.addi 0#32 (Scalar.muli (Scalar.divsi (Scalar.subi (nbW v4) 0#32) 1#32) 1#32)) 1#32 = _
  exact trips_eq (ofNat (e := 0) 0 ⟨rfl, by decide⟩) (isInt_n1 hv) (ofNat (e := 1) 1 ⟨rfl, by decide⟩) _ ⟨by omega, by omega⟩
/-- the loop behind it none. -/
theorem trips2_eq : (k0_t2_loop v4).trips = 0 := by
  show Scf.trips (Scalar.addi 0#32 (Scalar.muli (Scalar.divsi (Scalar.subi (nbW v4) 0#32) 1#32) 1#32)) (Scalar.addi 0#32 (Scalar.subi (nbW v4) 0#32)) 1#32 = 0
  exact trips_eq (isInt_n1 hv) (isInt_n2 hv) (ofNat (e := 1) 1 ⟨rfl, by decide⟩) _ ⟨by omega, by omega⟩

/-- A trip is one of the blocks. -/
theorem trip_lt (t : Fin (k0_t1_loop v4).trips) : t.val < nb v4 := by rw [← trips1_eq hv]; exact t.isLt

/-- The counter of the loop is the number of the trip. -/
theorem isInt_iv (t : Fin (k0_t1_loop v4).trips) : IsInt (Scf.iv 0#32 1#32 t.val) t.val := by
  have h := trip_lt hv t; have h1 := nb_le hv
  exact iv (ofNat (e := 0) 0 ⟨rfl, by decide⟩) (ofNat (e := 1) 1 ⟨rfl, by decide⟩) t.val ⟨by omega, by omega, by omega⟩

/-! ## Which block is fetched next -/

/-- The batch entry of the block after block `t` of entry `b`, -/
def nxB (v4 : BitVec 32) (b t : ℕ) : ℕ := if t + 1 < nb v4 then b else b + 1
/-- and the block's number in it. -/
def nxT (v4 : BitVec 32) (t : ℕ) : ℕ := if t + 1 < nb v4 then t + 1 else 0

/-- The comparison that tells the last block. -/
abbrev lastW (v4 : BitVec 32) (t : ℕ) : BitVec 1 := Scalar.cmpi .sge (Scalar.addi (Scf.iv 0#32 1#32 t) 1#32) (nbW v4)

/-- The bit that says that a trip is the last. -/
theorem lastW_eq (t : Fin (k0_t1_loop v4).trips) : lastW v4 t.val = if t.val + 1 < nb v4 then 0#1 else 1#1 := by
  have h := trip_lt hv t; have h1 := nb_le hv
  have a : IsInt (Scalar.addi (Scf.iv 0#32 1#32 t.val) 1#32) (t.val + 1) := addi (isInt_iv hv t) (ofNat (e := 1) 1 ⟨rfl, by decide⟩) ⟨rfl, by omega, by omega⟩
  have hn := isInt_nbW hv
  unfold lastW; generalize Scalar.addi (Scf.iv 0#32 1#32 t.val) 1#32 = x at a ⊢; generalize nbW v4 = y at hn ⊢
  simp only [Scalar.cmpi, IntOp.cmpi]
  have : (y.sle x) = decide (nb v4 ≤ t.val + 1) := by
    rw [BitVec.sle, toInt_of_isInt a, toInt_of_isInt hn]; congr 1; apply propext; omega
  simp only [this]
  by_cases hc : t.val + 1 < nb v4
  · rw [if_pos hc, decide_eq_false (by omega)]; rfl
  · rw [if_neg hc, decide_eq_true (by omega)]; rfl

/-- The entry of the next block, as computed. -/
theorem isInt_nxB (i : grid0.Coords) (t : Fin (k0_t1_loop v4).trips) :
    IsInt (Scalar.select (lastW v4 t.val) (Scalar.addi (BitVec.ofNat 32 (i 0).val) 1#32) (BitVec.ofNat 32 (i 0).val)) (nxB v4 (i 0).val t.val : ℕ) := by
  have hi : (i 0).val < 52 := (i 0).isLt
  have b0 : IsInt (BitVec.ofNat 32 (i 0).val) (i 0).val := ofNat _ ⟨rfl, by omega⟩
  have b1 : IsInt (Scalar.addi (BitVec.ofNat 32 (i 0).val) 1#32) ((i 0).val + 1) := addi b0 (ofNat (e := 1) 1 ⟨rfl, by decide⟩) ⟨rfl, by omega, by omega⟩
  rw [lastW_eq hv t]; unfold nxB
  split
  · exact select_fails (by decide) b1 b0 rfl
  · exact select_holds rfl b1 b0 (by push_cast; rfl)

/-- The number of the next block, as computed. -/
theorem isInt_nxT (t : Fin (k0_t1_loop v4).trips) :
    IsInt (Scalar.select (lastW v4 t.val) 0#32 (Scalar.addi (Scf.iv 0#32 1#32 t.val) 1#32)) (nxT v4 t.val : ℕ) := by
  have h := trip_lt hv t; have h1 := nb_le hv
  have z : IsInt 0#32 0 := ofNat (e := 0) 0 ⟨rfl, by decide⟩
  have a : IsInt (Scalar.addi (Scf.iv 0#32 1#32 t.val) 1#32) (t.val + 1) := addi (isInt_iv hv t) (ofNat (e := 1) 1 ⟨rfl, by decide⟩) ⟨rfl, by omega, by omega⟩
  rw [lastW_eq hv t]; unfold nxT
  split
  · exact select_fails (by decide) z a (by push_cast; rfl)
  · exact select_holds rfl z a rfl

/-- It is below 36. -/
theorem nxT_lt (t : ℕ) : nxT v4 t < 36 := by have := nb_le hv; unfold nxT; split <;> omega

/-- A next block exists but after the last block of the last entry. -/
theorem cond2_iff (i : grid0.Coords) (t : Fin (k0_t1_loop v4).trips) : k0_cond2 i v4 t = 1#1 ↔ nxB v4 (i 0).val t.val < 52 := by
  have h := isInt_nxB hv i t
  have hi : (i 0).val < 52 := (i 0).isLt
  show Scalar.cmpi .ne (Scalar.extui (Scalar.cmpi .slt (Scalar.select (lastW v4 t.val) (Scalar.addi (BitVec.ofNat 32 (i 0).val) 1#32) (BitVec.ofNat 32 (i 0).val)) 52#32)) 0#32 = 1#1 ↔ _
  generalize Scalar.select (lastW v4 t.val) (Scalar.addi (BitVec.ofNat 32 (i 0).val) 1#32) (BitVec.ofNat 32 (i 0).val) = x at h
  have : Scalar.cmpi .slt x 52#32 = if nxB v4 (i 0).val t.val < 52 then 1#1 else 0#1 := by
    simp only [Scalar.cmpi, IntOp.cmpi]
    have : (x.slt 52#32) = decide (nxB v4 (i 0).val t.val < 52) := by
      rw [BitVec.slt, toInt_of_isInt h]; congr 1; apply propext
      rw [show (52#32 : BitVec 32).toInt = 52 from by decide]; omega
    simp only [this]; by_cases hc : nxB v4 (i 0).val t.val < 52 <;> simp [hc]
  rw [this]; split
  · simp [*]; decide
  · simp [*]; decide

/-! ## The offsets of blocks and score tiles -/

/-- The offset of block `j` of entry `b` in the packed rows, -/
abbrev rowOff (b j : ℕ) : Fin 3 → Nat := ![b, 640 * j, 0]
/-- and in the codes. -/
abbrev codeOff (b j : ℕ) : Fin 3 → Nat := ![b, 0, 1280 * j]

/-- Where the next block of rows is. -/
theorem off4_eq (i : grid0.Coords) (t : Fin (k0_t1_loop v4).trips) : k0_off4 i v4 t = rowOff (nxB v4 (i 0).val t.val) (nxT v4 t.val) := by
  have h := nxT_lt hv t.val
  exact vec_cons (isInt_nxB hv i t) rfl (vec_cons (muli (e := 640 * nxT v4 t.val) (isInt_nxT hv t) (ofNat (e := 640) 640 ⟨rfl, by decide⟩) ⟨by omega, by omega, by omega⟩) (by push_cast; rfl) rfl)
/-- Where the next block of codes is. -/
theorem off7_eq (i : grid0.Coords) (t : Fin (k0_t1_loop v4).trips) : k0_off7 i v4 t = codeOff (nxB v4 (i 0).val t.val) (nxT v4 t.val) := by
  have h := nxT_lt hv t.val
  have m : IsInt (Scalar.muli _ 1280#32) (1280 * nxT v4 t.val : ℕ) := muli (isInt_nxT hv t) (ofNat (e := 1280) 1280 ⟨rfl, by decide⟩) ⟨by push_cast; omega, by omega, by push_cast; omega⟩
  exact vec_cons (isInt_nxB hv i t) rfl (congrArg (fun n => ![0, n]) (toNat_of_isInt m (by omega)))
/-- Where this block of rows is. -/
theorem off10_eq (i : grid0.Coords) (t : Fin (k0_t1_loop v4).trips) : k0_off10 i v4 t = rowOff (i 0).val t.val := by
  have h := trip_lt hv t; have h1 := nb_le hv; have hi : (i 0).val < 52 := (i 0).isLt
  exact vec_cons (ofNat (e := (i 0).val) _ ⟨rfl, by omega⟩) rfl (vec_cons (muli (e := 640 * t.val) (isInt_iv hv t) (ofNat (e := 640) 640 ⟨rfl, by decide⟩) ⟨by omega, by omega, by omega⟩) (by push_cast; rfl) rfl)
/-- Where this block of codes is. -/
theorem off13_eq (i : grid0.Coords) (t : Fin (k0_t1_loop v4).trips) : k0_off13 i v4 t = codeOff (i 0).val t.val := by
  have h := trip_lt hv t; have h1 := nb_le hv; have hi : (i 0).val < 52 := (i 0).isLt
  have m : IsInt (Scalar.muli _ 1280#32) (1280 * t.val : ℕ) := muli (isInt_iv hv t) (ofNat (e := 1280) 1280 ⟨rfl, by decide⟩) ⟨by push_cast; omega, by omega, by push_cast; omega⟩
  exact vec_cons (ofNat (e := (i 0).val) _ ⟨rfl, by omega⟩) rfl (congrArg (fun n => ![0, n]) (toNat_of_isInt m (by omega)))

/-- Score tile `n` of the scratch. -/
abbrev tileOff (n : ℕ) : Fin 3 → Nat := ![n, 0, 0]

/-- Where a tile of scores is stored. -/
theorem off16_eq (t : Fin (k0_t1_loop v4).trips) (c : Fin 5) (h : Fin 2) :
    k0_off16 v4 t (BitVec.ofNat 32 c.val) (BitVec.ofNat 32 h.val) = tileOff ((t.val * 5 + c.val) * 2 + h.val) := by
  have ht := trip_lt hv t; have h1 := nb_le hv; have hc := c.isLt; have hh := h.isLt
  have a : IsInt (Scalar.muli (Scf.iv 0#32 1#32 t.val) 5#32) (t.val * 5 : ℕ) := muli (isInt_iv hv t) (ofNat (e := 5) 5 ⟨rfl, by decide⟩) ⟨by push_cast; omega, by omega, by push_cast; omega⟩
  have b : IsInt (Scalar.addi _ (BitVec.ofNat 32 c.val)) (t.val * 5 + c.val : ℕ) := addi a (ofNat (e := c.val) _ ⟨rfl, by omega⟩) ⟨by push_cast; omega, by omega, by push_cast; omega⟩
  have d : IsInt (Scalar.muli _ 2#32) ((t.val * 5 + c.val) * 2 : ℕ) := muli b (ofNat (e := 2) 2 ⟨rfl, by decide⟩) ⟨by push_cast; omega, by omega, by push_cast; omega⟩
  have e : IsInt (Scalar.addi _ (BitVec.ofNat 32 h.val)) ((t.val * 5 + c.val) * 2 + h.val : ℕ) := addi d (ofNat (e := h.val) _ ⟨rfl, by omega⟩) ⟨by push_cast; omega, by omega, by push_cast; omega⟩
  exact vec_cons (indexCast e) rfl rfl

end Cert.KernelIdeal.Hand
-- ==== Proof.KI.Pieces.lean ====
/-
  Canonical names of what the kernel's own transfers move — block `t` of batch entry `b` in the two arrays left in HBM,
  slot `s` of the two buffers and its two semaphores —, the resources of a slot free and in flight, and the
  sharing of the two arrays: each slot has its own read share of both.
-/
module

public import proofs.«01_k».proof.Proof.KI.Words
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Transfers
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the proof. -/
abbrev UU (nD : Nat) (τ : Topo) : Type := Pipeline.UD sig nD τ
/-- The proof's algebra: the pipeline library's beside the transfers' counters. -/
local notation "𝕄" => MT nD τ sig Unit (Elt F) ℕ (UU nD τ) ℕ
/-- No variants: no loop of the program needs one. -/
abbrev 𝒱₀ : Variants := Variants.none

/-- Equal assertions entail each other. -/
theorem entails_of_eq {P Q : sProp 𝕄} (e : P = Q) : P ⊢ Q := e ▸ .rfl

/-! ## Canonical names -/

/-- The packed rows in memory. -/
abbrev rowsM : Memref sig .tc .hbm S52x23040x128 .i32 := Memref.whole main_v22
/-- The codes in memory. -/
abbrev codesM : Memref sig .tc .hbm S52x32x46080 .i8 := Memref.whole main_v8
/-- The two-slot buffer of rows. -/
abbrev rbufM : Memref sig .tc .vmem S2x640x128 .i32 := Memref.whole cc0_scratch0
/-- The two-slot buffer of codes. -/
abbrev cbufM : Memref sig .tc .vmem S2x32x1280 .i8 := Memref.whole cc0_scratch1
/-- The buffer of tiles of scores. -/
abbrev scoreM : Memref sig .tc .vmem S363x48x128 .f32 := Memref.whole cc0_scratch2
/-- The counter of blocks. -/
abbrev stM : Memref sig .tc .smem S1 .i32 := Memref.whole cc0_scratch3

/-- A block of rows lies in its array. -/
theorem rowOff_inb (b : Fin 52) (t : Fin 36) : ∀ a, rowOff b.val t.val a + S1x640x128.size a ≤ S52x23040x128.size a := by
  have := b.isLt; have := t.isLt; intro a; fin_cases a
  · show b.val + 1 ≤ 52; omega
  · show 640 * t.val + 640 ≤ 23040; omega
  · show 0 + 128 ≤ 128; omega
/-- A block of codes lies in its array. -/
theorem codeOff_inb (b : Fin 52) (t : Fin 36) : ∀ a, codeOff b.val t.val a + S1x32x1280.size a ≤ S52x32x46080.size a := by
  have := b.isLt; have := t.isLt; intro a; fin_cases a
  · show b.val + 1 ≤ 52; omega
  · show 0 + 32 ≤ 32; omega
  · show 1280 * t.val + 1280 ≤ 46080; omega
/-- A slot of rows lies in its buffer. -/
theorem rslot_inb (s : Fin 2) : ∀ a, slotOff s 0 0 a + S1x640x128.size a ≤ S2x640x128.size a := by
  have := s.isLt; intro a; fin_cases a
  · show s.val + 1 ≤ 2; omega
  · show 0 + 640 ≤ 640; omega
  · show 0 + 128 ≤ 128; omega
/-- A slot of codes lies in its buffer. -/
theorem cslot_inb (s : Fin 2) : ∀ a, slotOff s 0 0 a + S1x32x1280.size a ≤ S2x32x1280.size a := by
  have := s.isLt; intro a; fin_cases a
  · show s.val + 1 ≤ 2; omega
  · show 0 + 32 ≤ 32; omega
  · show 0 + 1280 ≤ 1280; omega
/-- A semaphore lies in its array. -/
theorem semOff_inb (k s : Fin 2) : ∀ a, semOff k.val s a + S1x1.size a ≤ S2x2.size a := by
  have := s.isLt; have := k.isLt; intro a; fin_cases a
  · show k.val + 1 ≤ 2; omega
  · show s.val + 1 ≤ 2; omega

/-- Block `t` of entry `b` in the packed rows, as the body slices and squeezes it; -/
def rblk (b : Fin 52) (t : Fin 36) : Memref sig .tc .hbm S640x128 .i32 :=
  (rowsM.slice (Rect.unit (s := S52x23040x128) (rowOff b.val t.val) S1x640x128.size (rowOff_inb b t)) (fun _ => rfl)).squeeze S640x128 squeezes_S1x640x128_S640x128
/-- and in the codes. -/
def cblk (b : Fin 52) (t : Fin 36) : Memref sig .tc .hbm S32x1280 .i8 :=
  (codesM.slice (Rect.unit (s := S52x32x46080) (codeOff b.val t.val) S1x32x1280.size (codeOff_inb b t)) (fun _ => rfl)).squeeze S32x1280 squeezes_S1x32x1280_S32x1280
/-- Slot `s` of the buffer of rows, -/
def rslot (s : Fin 2) : Memref sig .tc .vmem S640x128 .i32 :=
  (rbufM.slice (Rect.unit (s := S2x640x128) (slotOff s 0 0) S1x640x128.size (rslot_inb s)) (fun _ => rfl)).squeeze S640x128 squeezes_S1x640x128_S640x128
/-- and of the buffer of codes. -/
def cslot (s : Fin 2) : Memref sig .tc .vmem S32x1280 .i8 :=
  (cbufM.slice (Rect.unit (s := S2x32x1280) (slotOff s 0 0) S1x32x1280.size (cslot_inb s)) (fun _ => rfl)).squeeze S32x1280 squeezes_S1x32x1280_S32x1280
/-- The semaphore of stream `k` and slot `s`. -/
def csm (k s : Fin 2) : DmaSems sig S_ :=
  (cc0_scratch4.slice (Rect.unit (s := S2x2) (semOff k.val s) S1x1.size (semOff_inb k s))).squeeze S_ squeezes_S1x1_S_

/-- A slice at an offset equal to that of a semaphore is that semaphore. -/
theorem csm_congr {off : Fin 2 → Nat} {k s : Fin 2} (e : off = semOff k.val s) (hh) :
    (cc0_scratch4.slice (Rect.unit (s := S2x2) off S1x1.size hh)).squeeze S_ squeezes_S1x1_S_ = csm k s :=
  congrArg (fun A : DmaSems sig S1x1 => A.squeeze S_ squeezes_S1x1_S_) (SemArray.slice_unit_congr _ e _ _)
/-- A slice at an offset equal to that of a slot of rows is that slot of rows. -/
theorem rslot_congr {off : Fin 3 → Nat} {s : Fin 2} (e : off = slotOff s 0 0) (hh hs) :
    (rbufM.slice (Rect.unit (s := S2x640x128) off S1x640x128.size hh) hs).squeeze S640x128 squeezes_S1x640x128_S640x128 = rslot s :=
  congrArg (fun M : Memref sig .tc .vmem S1x640x128 .i32 => M.squeeze S640x128 squeezes_S1x640x128_S640x128) (Memref.slice_unit_congr _ e _ _ _ _)
/-- A slice at an offset equal to that of a slot of codes is that slot of codes. -/
theorem cslot_congr {off : Fin 3 → Nat} {s : Fin 2} (e : off = slotOff s 0 0) (hh hs) :
    (cbufM.slice (Rect.unit (s := S2x32x1280) off S1x32x1280.size hh) hs).squeeze S32x1280 squeezes_S1x32x1280_S32x1280 = cslot s :=
  congrArg (fun M : Memref sig .tc .vmem S1x32x1280 .i8 => M.squeeze S32x1280 squeezes_S1x32x1280_S32x1280) (Memref.slice_unit_congr _ e _ _ _ _)
/-- A slice at an offset equal to that of a block of rows is that block of rows. -/
theorem rblk_congr {off : Fin 3 → Nat} {b : Fin 52} {t : Fin 36} (e : off = rowOff b.val t.val) (hh hs) :
    (rowsM.slice (Rect.unit (s := S52x23040x128) off S1x640x128.size hh) hs).squeeze S640x128 squeezes_S1x640x128_S640x128 = rblk b t :=
  congrArg (fun M : Memref sig .tc .hbm S1x640x128 .i32 => M.squeeze S640x128 squeezes_S1x640x128_S640x128) (Memref.slice_unit_congr _ e _ _ _ _)
/-- A slice at an offset equal to that of a block of codes is that block of codes. -/
theorem cblk_congr {off : Fin 3 → Nat} {b : Fin 52} {t : Fin 36} (e : off = codeOff b.val t.val) (hh hs) :
    (codesM.slice (Rect.unit (s := S52x32x46080) off S1x32x1280.size hh) hs).squeeze S32x1280 squeezes_S1x32x1280_S32x1280 = cblk b t :=
  congrArg (fun M : Memref sig .tc .hbm S1x32x1280 .i8 => M.squeeze S32x1280 squeezes_S1x32x1280_S32x1280) (Memref.slice_unit_congr _ e _ _ _ _)

/-! ### The first block's literal slices -/

/-- The semaphore of the first copy of rows. -/
@[sl_canon] theorem semL0 (hh) : (cc0_scratch4.slice (Rect.unit (s := S2x2) ![0, 0] S1x1.size hh)).squeeze S_ squeezes_S1x1_S_ = csm 0 0 := csm_congr (by decide) _
/-- The semaphore of the first copy of codes. -/
@[sl_canon] theorem semL1 (hh) : (cc0_scratch4.slice (Rect.unit (s := S2x2) ![1, 0] S1x1.size hh)).squeeze S_ squeezes_S1x1_S_ = csm 1 0 := csm_congr (by decide) _
/-- Where the first block of rows goes. -/
@[sl_canon] theorem rslotL (hh hs) : (rbufM.slice (Rect.unit (s := S2x640x128) ![0, 0, 0] S1x640x128.size hh) hs).squeeze S640x128 squeezes_S1x640x128_S640x128 = rslot 0 := rslot_congr (by decide) _ _
/-- Where the first block of codes goes. -/
@[sl_canon] theorem cslotL (hh hs) : (cbufM.slice (Rect.unit (s := S2x32x1280) ![0, 0, 0] S1x32x1280.size hh) hs).squeeze S32x1280 squeezes_S1x32x1280_S32x1280 = cslot 0 := cslot_congr (by decide) _ _
/-- The first block of rows. -/
@[sl_canon] theorem rblkL (hh hs) : (rowsM.slice (Rect.unit (s := S52x23040x128) ![0, 0, 0] S1x640x128.size hh) hs).squeeze S640x128 squeezes_S1x640x128_S640x128 = rblk 0 0 := rblk_congr (by decide) _ _
/-- The first block of codes. -/
@[sl_canon] theorem cblkL (hh hs) : (codesM.slice (Rect.unit (s := S52x32x46080) ![0, 0, 0] S1x32x1280.size hh) hs).squeeze S32x1280 squeezes_S1x32x1280_S32x1280 = cblk 0 0 := cblk_congr (by decide) _ _

/-! ### A trip's slices: block `t` waited in the counter's slot, the next block issued into the other slot -/

section Trip
variable (v : BitVec 32)
/-- The semaphore a trip waits on for its rows. -/
@[sl_canon] theorem sem8 (hh) : (cc0_scratch4.slice (Rect.unit (s := S2x2) (k0_off8 v) S1x1.size hh)).squeeze S_ squeezes_S1x1_S_ = csm 0 (Ring.sl 2 v.toNat) := csm_congr (off8_eq v) _
/-- The semaphore a trip waits on for its codes. -/
@[sl_canon] theorem sem11 (hh) : (cc0_scratch4.slice (Rect.unit (s := S2x2) (k0_off11 v) S1x1.size hh)).squeeze S_ squeezes_S1x1_S_ = csm 1 (Ring.sl 2 v.toNat) := csm_congr (off11_eq v) _
/-- The semaphore of the next copy of rows. -/
@[sl_canon] theorem sem2 (hh) : (cc0_scratch4.slice (Rect.unit (s := S2x2) (k0_off2 v) S1x1.size hh)).squeeze S_ squeezes_S1x1_S_ = csm 0 (Ring.sl 2 (v.toNat + 1)) := csm_congr (off2_eq v) _
/-- The semaphore of the next copy of codes. -/
@[sl_canon] theorem sem5 (hh) : (cc0_scratch4.slice (Rect.unit (s := S2x2) (k0_off5 v) S1x1.size hh)).squeeze S_ squeezes_S1x1_S_ = csm 1 (Ring.sl 2 (v.toNat + 1)) := csm_congr (off5_eq v) _
/-- The slot of rows a trip reads. -/
@[sl_canon] theorem rslot9 (hh hs) : (rbufM.slice (Rect.unit (s := S2x640x128) (k0_off9 v) S1x640x128.size hh) hs).squeeze S640x128 squeezes_S1x640x128_S640x128 = rslot (Ring.sl 2 v.toNat) := rslot_congr (off9_eq v) _ _
/-- The slot of codes a trip reads. -/
@[sl_canon] theorem cslot12 (hh hs) : (cbufM.slice (Rect.unit (s := S2x32x1280) (k0_off12 v) S1x32x1280.size hh) hs).squeeze S32x1280 squeezes_S1x32x1280_S32x1280 = cslot (Ring.sl 2 v.toNat) := cslot_congr (off12_eq v) _ _
/-- The slot the next rows go to. -/
@[sl_canon] theorem rslot3 (hh hs) : (rbufM.slice (Rect.unit (s := S2x640x128) (k0_off3 v) S1x640x128.size hh) hs).squeeze S640x128 squeezes_S1x640x128_S640x128 = rslot (Ring.sl 2 (v.toNat + 1)) := rslot_congr (off3_eq v) _ _
/-- The slot the next codes go to. -/
@[sl_canon] theorem cslot6 (hh hs) : (cbufM.slice (Rect.unit (s := S2x32x1280) (k0_off6 v) S1x32x1280.size hh) hs).squeeze S32x1280 squeezes_S1x32x1280_S32x1280 = cslot (Ring.sl 2 (v.toNat + 1)) := cslot_congr (off6_eq v) _ _

/-- The current block's entry and number, as canonical indices. -/
abbrev curB (i : grid0.Coords) : Fin 52 := Ring.bk 52 (i 0).val
/-- The block a trip works on. -/
abbrev curT (t : ℕ) : Fin 36 := Ring.bk 36 t
/-- The entry of the block after it. -/
abbrev nextB (i : grid0.Coords) (v4 : BitVec 32) (t : ℕ) : Fin 52 := Ring.bk 52 (nxB v4 (i 0).val t)
/-- The number of the block after it. -/
abbrev nextT (v4 : BitVec 32) (t : ℕ) : Fin 36 := Ring.bk 36 (nxT v4 t)

variable {v4 : BitVec 32} (i : grid0.Coords) (t : Fin (k0_t1_loop v4).trips)
/-- The block of rows a trip waits for. -/
@[sl_canon] theorem rblk10 (hv : Cnt v4) (hh hs) : (rowsM.slice (Rect.unit (s := S52x23040x128) (k0_off10 i v4 t) S1x640x128.size hh) hs).squeeze S640x128 squeezes_S1x640x128_S640x128 = rblk (curB i) (curT t.val) :=
  rblk_congr (by have hi : (i 0).val < 52 := (i 0).isLt
                 rw [off10_eq hv, Ring.bk_val hi, Ring.bk_val (Nat.lt_of_lt_of_le (trip_lt hv t) (nb_le hv))]) _ _
/-- The block of codes a trip waits for. -/
@[sl_canon] theorem cblk13 (hv : Cnt v4) (hh hs) : (codesM.slice (Rect.unit (s := S52x32x46080) (k0_off13 i v4 t) S1x32x1280.size hh) hs).squeeze S32x1280 squeezes_S1x32x1280_S32x1280 = cblk (curB i) (curT t.val) :=
  cblk_congr (by have hi : (i 0).val < 52 := (i 0).isLt
                 rw [off13_eq hv, Ring.bk_val hi, Ring.bk_val (Nat.lt_of_lt_of_le (trip_lt hv t) (nb_le hv))]) _ _
/-- The next block of rows. -/
@[sl_canon] theorem rblk4 (hv : Cnt v4) (hn : nxB v4 (i 0).val t.val < 52) (hh hs) : (rowsM.slice (Rect.unit (s := S52x23040x128) (k0_off4 i v4 t) S1x640x128.size hh) hs).squeeze S640x128 squeezes_S1x640x128_S640x128 = rblk (nextB i v4 t.val) (nextT v4 t.val) :=
  rblk_congr (by rw [off4_eq hv, Ring.bk_val hn, Ring.bk_val (nxT_lt hv _)]) _ _
/-- The next block of codes. -/
@[sl_canon] theorem cblk7 (hv : Cnt v4) (hn : nxB v4 (i 0).val t.val < 52) (hh hs) : (codesM.slice (Rect.unit (s := S52x32x46080) (k0_off7 i v4 t) S1x32x1280.size hh) hs).squeeze S32x1280 squeezes_S1x32x1280_S32x1280 = cblk (nextB i v4 t.val) (nextT v4 t.val) :=
  cblk_congr (by rw [off7_eq hv, Ring.bk_val hn, Ring.bk_val (nxT_lt hv _)]) _ _
end Trip

/-! ## The pieces: a block lent, the rest of its array's share, a slot held, its cells, a slot in flight -/

section Pieces
variable (c : Dev nD) (XR : Buf (Elt F) (rowsM.view.loc (c : Thread nD τ))) (XC : Buf (Elt F) (codesM.view.loc (c : Thread nD τ)))

/-- Slot `s`'s share of an array left in HBM. -/
abbrev hq (s : Fin 2) : PosShare TreeShare := Transfers.dealOf fullShare Finset.univ s

/-- A semaphore at zero. -/
abbrev cellP (k s : Fin 2) : sProp 𝕄 := semVal ((c : Thread nD τ), SemLoc.dma (csm k s).sem) 0
/-- Owning a slot of rows. -/
abbrev rslotP (s : Fin 2) (f : Buf (Elt F) ((rslot s).view.loc (c : Thread nD τ))) : sProp 𝕄 :=
  (rslot s).view.loc (c : Thread nD τ) ↦[(rslot s).view.set]{fullShare} f
/-- Owning a slot of codes. -/
abbrev cslotP (s : Fin 2) (f : Buf (Elt F) ((cslot s).view.loc (c : Thread nD τ))) : sProp 𝕄 :=
  (cslot s).view.loc (c : Thread nD τ) ↦[(cslot s).view.set]{fullShare} f
/-- Block `t` of entry `b`, at slot `s`'s share. -/
abbrev rhome (s : Fin 2) (b : Fin 52) (t : Fin 36) : sProp 𝕄 := (rblk b t).view.loc (c : Thread nD τ) ↦[(rblk b t).view.set]{hq s} XR
/-- A share of a block of codes. -/
abbrev chome (s : Fin 2) (b : Fin 52) (t : Fin 36) : sProp 𝕄 := (cblk b t).view.loc (c : Thread nD τ) ↦[(cblk b t).view.set]{hq s} XC
/-- An array's share whole, and but for a block. -/
def rtok (s : Fin 2) : sProp 𝕄 := rowsM.view.loc (c : Thread nD τ) ↦{hq s} XR
/-- A share of the codes. -/
def ctok (s : Fin 2) : sProp 𝕄 := codesM.view.loc (c : Thread nD τ) ↦{hq s} XC
/-- The share of the rows outside a block. -/
def rrest (s : Fin 2) (b : Fin 52) (t : Fin 36) : sProp 𝕄 := (rblk b t).view.loc (c : Thread nD τ) ↦[Finset.univ \ (rblk b t).view.set]{hq s} XR
/-- The share of the codes outside a block. -/
def crest (s : Fin 2) (b : Fin 52) (t : Fin 36) : sProp 𝕄 := (cblk b t).view.loc (c : Thread nD τ) ↦[Finset.univ \ (cblk b t).view.set]{hq s} XC

/-- A share of the rows is one of a block and one of the rest. -/
theorem rtok_split (s : Fin 2) (b : Fin 52) (t : Fin 36) : rtok (F := F) c XR s ⊢ iprop(rhome c XR s b t ∗ rrest c XR s b t) := by
  unfold rtok rrest
  exact (pointsTo_split_subset (Finset.subset_univ (rblk b t).view.set)).1
/-- The two make it again. -/
theorem rtok_join (s : Fin 2) (b : Fin 52) (t : Fin 36) : iprop(rhome c XR s b t ∗ rrest c XR s b t) ⊢ rtok (F := F) c XR s := by
  unfold rtok rrest
  exact (pointsTo_split_subset (Finset.subset_univ (rblk b t).view.set)).2
/-- A share of the codes is one of a block and one of the rest. -/
theorem ctok_split (s : Fin 2) (b : Fin 52) (t : Fin 36) : ctok (F := F) c XC s ⊢ iprop(chome c XC s b t ∗ crest c XC s b t) := by
  unfold ctok crest
  exact (pointsTo_split_subset (Finset.subset_univ (cblk b t).view.set)).1
/-- The two make it again. -/
theorem ctok_join (s : Fin 2) (b : Fin 52) (t : Fin 36) : iprop(chome c XC s b t ∗ crest c XC s b t) ⊢ ctok (F := F) c XC s := by
  unfold ctok crest
  exact (pointsTo_split_subset (Finset.subset_univ (cblk b t).view.set)).2

/-- The words of a block, as a slot's payload. -/
abbrev rpay (b : Fin 52) (t : Fin 36) : S640x128.Idx → Elt F .i32 := ReadAs.same.apply ((rblk b t).view.read (Elt F) XR)
/-- The bytes a block of codes has. -/
abbrev cpay (b : Fin 52) (t : Fin 36) : S32x1280.Idx → Elt F .i8 := ReadAs.same.apply ((cblk b t).view.read (Elt F) XC)
/-- What a block's transfer leaves in slot `s` over prior contents `f`. -/
abbrev rland (s : Fin 2) (b : Fin 52) (t : Fin 36) (f : Buf (Elt F) ((rslot s).view.loc (c : Thread nD τ))) : Buf (Elt F) ((rslot s).view.loc (c : Thread nD τ)) :=
  (rslot s).view.writes (Elt F) f [⟨Rect.whole S640x128, rpay c XR b t⟩]
/-- A slot of codes after a block has landed in it. -/
abbrev cland (s : Fin 2) (b : Fin 52) (t : Fin 36) (f : Buf (Elt F) ((cslot s).view.loc (c : Thread nD τ))) : Buf (Elt F) ((cslot s).view.loc (c : Thread nD τ)) :=
  (cslot s).view.writes (Elt F) f [⟨Rect.whole S32x1280, cpay c XC b t⟩]
/-- Slot `s` in flight with a block of rows, and of codes. -/
abbrev rflight (s : Fin 2) (b : Fin 52) (t : Fin 36) (f : Buf (Elt F) ((rslot s).view.loc (c : Thread nD τ))) : sProp 𝕄 :=
  Transfers.Flight (countersEmb (U := UU nD τ)) (c : Thread nD τ) (SemLoc.dma (csm 0 s).sem) () 10240 iprop(rslotP c s (rland c XR s b t f) ∗ rhome c XR s b t)
/-- A block of codes in flight to a slot. -/
abbrev cflight (s : Fin 2) (b : Fin 52) (t : Fin 36) (f : Buf (Elt F) ((cslot s).view.loc (c : Thread nD τ))) : sProp 𝕄 :=
  Transfers.Flight (countersEmb (U := UU nD τ)) (c : Thread nD τ) (SemLoc.dma (csm 1 s).sem) () 1280 iprop(cslotP c s (cland c XC s b t f) ∗ chome c XC s b t)

/-- Slot `s` free: both its cells at zero, both buffers' slots at anything, its shares whole. -/
def free (s : Fin 2) : sProp 𝕄 :=
  iprop(cellP c 0 s ∗ cellP c 1 s ∗ (∃ f, rslotP c s f) ∗ (∃ f, cslotP c s f) ∗ rtok c XR s ∗ ctok c XC s)
/-- Slot `s` in flight with block `t` of entry `b`. -/
def inflight (s : Fin 2) (b : Fin 52) (t : Fin 36) : sProp 𝕄 :=
  iprop((∃ f, rflight c XR s b t f) ∗ (∃ f, cflight c XC s b t f) ∗ rrest c XR s b t ∗ crest c XC s b t)
end Pieces

end Cert.KernelIdeal.Hand
-- ==== Proof.KI.Checks.lean ====
/-
  The side conditions the body assumes at run-time words, from what the argument condition says of
  them: the token count between 1 and 46080, an offset at most 46080; the slot conditions hold of any word.
-/
module

public import proofs.«01_k».proof.Proof.KI.Words

@[expose] public section

noncomputable section

namespace Cert.KernelIdeal.Hand

open Cert.KernelIdeal
open Idealize.ShloMosaic Idealize.ShloMosaic.Affine

/-- A product of words that does not wrap is a multiple of its factor. -/
theorem dvd_muli {x : BitVec 32} {n k : ℕ} (h : IsInt x n) (hn : n * k < 2 ^ 31) (hk : k < 2 ^ 31) : k ∣ (Scalar.muli x (BitVec.ofNat 32 k)).toNat := by
  have m : IsInt (Scalar.muli x (BitVec.ofNat 32 k)) (n * k : ℕ) := muli h (ofNat (e := k) k ⟨rfl, by omega⟩) ⟨by push_cast; rfl, by omega, by exact_mod_cast hn⟩
  rw [toNat_of_isInt m hn]; exact ⟨n, Nat.mul_comm _ _⟩

/-- The conditions the block loop's arithmetic meets, at a count of tokens. -/
theorem chk1_of (i : grid0.Coords) {v4 : BitVec 32} (hv : Cnt v4) : k0_chk1 i v4 := by
  have h1 := nb_le hv
  have hi : (i 0).val < 52 := (i 0).isLt
  have no : ∀ t : Fin (k0_t2_loop v4).trips, False := fun t => Nat.not_lt_zero _ (Nat.lt_of_lt_of_eq t.isLt (trips2_eq hv))
  have o1 : IsInt 1#32 1 := ofNat (e := 1) 1 ⟨rfl, by decide⟩
  have z : IsInt 0#32 0 := ofNat (e := 0) 0 ⟨rfl, by decide⟩
  refine ⟨?_, fun t h2 => ?_, fun t h2 => ?_, fun t h2 a => ?_, fun t h2 a => ?_, fun t h2 hinb => ?_, fun t => ?_, fun t => ?_, fun t a => ?_, fun t a => ?_,
    fun t hinb => ?_, fun t c h a => ?_, ?_, fun t => (no t).elim, fun t => (no t).elim, fun t => (no t).elim, fun t => (no t).elim, fun t => (no t).elim,
    fun t => (no t).elim, fun t => (no t).elim, fun t => (no t).elim, fun t => (no t).elim, fun t => (no t).elim, fun t => (no t).elim⟩
  · show (0 : ℤ) < (1#32 : BitVec 32).toInt ∧ (0#32 : BitVec 32).toInt + (k0_t1_loop v4).trips * (1#32 : BitVec 32).toInt < 2 ^ 31
    rw [trips1_eq hv, show (1#32 : BitVec 32).toInt = 1 from by decide, show (0#32 : BitVec 32).toInt = 0 from by decide]; omega
  · have := nxT_lt hv t.val
    exact dvd_muli (k := 640) (isInt_nxT hv t) (by omega) (by decide)
  · have := nxT_lt hv t.val
    exact dvd_muli (k := 1280) (isInt_nxT hv t) (by omega) (by decide)
  · have hn := (cond2_iff hv i t).1 h2; have := nxT_lt hv t.val
    rw [off4_eq hv]; fin_cases a
    · show nxB v4 (i 0).val t.val + 1 ≤ 52; omega
    · show 640 * nxT v4 t.val + 640 ≤ 23040; omega
    · show 0 + 128 ≤ 128; omega
  · have hn := (cond2_iff hv i t).1 h2; have := nxT_lt hv t.val
    rw [off7_eq hv]; fin_cases a
    · show nxB v4 (i 0).val t.val + 1 ≤ 52; omega
    · show 0 + 32 ≤ 32; omega
    · show 1280 * nxT v4 t.val + 1280 ≤ 46080; omega
  · exact words_rows (by decide) (by rw [off7_eq hv]; rfl) rfl
  · have := trip_lt hv t
    exact dvd_muli (k := 640) (isInt_iv hv t) (by omega) (by decide)
  · have := trip_lt hv t
    exact dvd_muli (k := 1280) (isInt_iv hv t) (by omega) (by decide)
  · have := trip_lt hv t
    rw [off10_eq hv]; fin_cases a
    · show (i 0).val + 1 ≤ 52; omega
    · show 640 * t.val + 640 ≤ 23040; omega
    · show 0 + 128 ≤ 128; omega
  · have := trip_lt hv t
    rw [off13_eq hv]; fin_cases a
    · show (i 0).val + 1 ≤ 52; omega
    · show 0 + 32 ≤ 32; omega
    · show 1280 * t.val + 1280 ≤ 46080; omega
  · exact words_rows (by decide) (by rw [off13_eq hv]; rfl) rfl
  · have := trip_lt hv t; have := c.isLt; have := h.isLt
    rw [off16_eq hv]; fin_cases a
    · show (t.val * 5 + c.val) * 2 + h.val + 1 ≤ 363; omega
    · show 0 + 48 ≤ 48; omega
    · show 0 + 128 ≤ 128; omega
  · show (0 : ℤ) < (1#32 : BitVec 32).toInt ∧ (Scalar.addi 0#32 (Scalar.muli (Scalar.divsi (Scalar.subi (nbW v4) 0#32) 1#32) 1#32)).toInt
      + (k0_t2_loop v4).trips * (1#32 : BitVec 32).toInt < 2 ^ 31
    rw [trips2_eq hv, toInt_of_isInt (isInt_n1 hv), show (1#32 : BitVec 32).toInt = 1 from by decide]; omega

/-- A rectangle that starts in a slot and fits into it lies in the buffer. -/
theorem slot_inb {off : Fin 3 → ℕ} {n r l : ℕ} {s : Fin 2} {p q R L : ℕ} (e : off = slotOff s p q) (hp : p + r ≤ R) (hq : q + l ≤ L) :
    ∀ a, off a + (![1, r, l] : Fin 3 → ℕ) a ≤ (![2, R, L] : Fin 3 → ℕ) a := by
  subst e; have := s.isLt; intro a; fin_cases a
  · show s.val + 1 ≤ 2; omega
  · exact hp
  · exact hq
/-- A semaphore of the four is one of the array. -/
theorem sem_inb {off : Fin 2 → ℕ} {k : ℕ} {s : Fin 2} (e : off = semOff k s) (hk : k < 2) :
    ∀ a, off a + (![1, 1] : Fin 2 → ℕ) a ≤ (![2, 2] : Fin 2 → ℕ) a := by
  subst e; have := s.isLt; intro a; fin_cases a
  · exact hk
  · show s.val + 1 ≤ 2; omega

/-- The conditions on a trip's slot hold of any counter word. -/
theorem chk2_of (i : grid0.Coords) (v4 : BitVec 32) (t : Fin (k0_t1_loop v4).trips) (v : BitVec 32) : k0_chk2 i v4 t v := by
  refine ⟨fun _ => sem_inb (off2_eq v) (by decide), fun _ => slot_inb (n := 0) (off3_eq v) (by decide) (by decide), fun _ => sem_inb (off5_eq v) (by decide),
    fun _ => slot_inb (n := 0) (off6_eq v) (by decide) (by decide), fun _ hinb => words_rows (by decide) (by rw [off6_eq v]; rfl) rfl,
    sem_inb (off8_eq v) (by decide), slot_inb (n := 0) (off9_eq v) (by decide) (by decide), sem_inb (off11_eq v) (by decide),
    slot_inb (n := 0) (off12_eq v) (by decide) (by decide), fun hinb => words_rows (by decide) (by rw [off12_eq v]; rfl) rfl,
    slot_inb (n := 0) (off14_eq v) (by decide) (by decide), slot_inb (n := 0) (off15_eq v) (by decide) (by decide), slot_inb (n := 0) (off17_eq v) (by decide) (by decide),
    slot_inb (n := 0) (off18_eq v) (by decide) (by decide), slot_inb (n := 0) (off19_eq v) (by decide) (by decide), slot_inb (n := 0) (off20_eq v) (by decide) (by decide),
    slot_inb (n := 0) (off21_eq v) (by decide) (by decide), slot_inb (n := 0) (off22_eq v) (by decide) (by decide), slot_inb (n := 0) (off23_eq v) (by decide) (by decide),
    slot_inb (n := 0) (off24_eq v) (by decide) (by decide), slot_inb (n := 0) (off25_eq v) (by decide) (by decide), slot_inb (n := 0) (off26_eq v) (by decide) (by decide),
    slot_inb (n := 0) (off27_eq v) (by decide) (by decide), slot_inb (n := 0) (off28_eq v) (by decide) (by decide), slot_inb (n := 0) (off29_eq v) (by decide) (by decide)⟩

/-! ## The documents' tiles -/

/-- The first tile of a document at an offset `w`, as the kernel computes it (a floor division). -/
abbrev tileW (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 128#32 0#32)) (Scalar.extui (Scalar.cmpi .slt 128#32 0#32))))
      (Scalar.cmpi .ne (Scalar.remsi w 128#32) 0#32))
    (Scalar.subi (Scalar.divsi w 128#32) 1#32) (Scalar.divsi w 128#32)

/-- The tile of an offset, as a number. -/
theorem isInt_tileW {w : BitVec 32} (h : w.toNat ≤ 46080) : IsInt (tileW w) (w.toNat / 128 : ℕ) := by
  have a0 : IsInt w w.toNat := isInt_toNat (by omega)
  have hd : IsInt (Scalar.divsi w 128#32) (w.toNat / 128 : ℕ) :=
    divsi a0 (ofNat (e := 128) 128 ⟨rfl, by decide⟩) ⟨by push_cast; rfl, by omega, by omega⟩
  have hn : Scalar.cmpi .slt w 0#32 = 0#1 := by
    simp only [Scalar.cmpi, IntOp.cmpi]
    rw [show w.slt 0#32 = false by simp [BitVec.slt, toInt_of_isInt a0]]; rfl
  unfold tileW
  by_cases hz : w.toNat = 0
  · have : w = 0#32 := BitVec.eq_of_toNat_eq hz
    subst this; exact isInt_of_toInt (by decide)
  · have hp : Scalar.cmpi .sgt w 0#32 = 1#1 := by
      simp only [Scalar.cmpi, IntOp.cmpi]
      rw [show (0#32 : BitVec 32).slt w = true by simp [BitVec.slt, toInt_of_isInt a0]; omega]; rfl
    rw [hp, hn]
    have : ∀ c : BitVec 1, Scalar.andi (Scalar.cmpi .ne (Scalar.subi (Scalar.extui 1#1) (Scalar.extui 0#1))
        (Scalar.subi (Scalar.extui (Scalar.cmpi .sgt 128#32 0#32)) (Scalar.extui (Scalar.cmpi .slt 128#32 0#32)))) c = 0#1 := by decide
    rw [this]; exact hd

/-- Tile `r` of a document's three. -/
theorem off60_eq {w : BitVec 32} (h : w.toNat ≤ 46080) (r : Fin 3) : k0_off60 w (BitVec.ofNat 32 r.val) = tileOff (w.toNat / 128 + r.val) := by
  have hr := r.isLt
  exact vec_cons (indexCast (e := (w.toNat / 128 + r.val : ℕ)) (addi (isInt_tileW h) (ofNat (e := r.val) _ ⟨rfl, by omega⟩) ⟨by push_cast; rfl, by omega, by omega⟩)) rfl rfl
/-- The same for the second half of the documents. -/
theorem off63_eq {w : BitVec 32} (h : w.toNat ≤ 46080) (r : Fin 3) : k0_off63 w (BitVec.ofNat 32 r.val) = tileOff (w.toNat / 128 + r.val) := by
  have hr := r.isLt
  exact vec_cons (indexCast (e := (w.toNat / 128 + r.val : ℕ)) (addi (isInt_tileW h) (ofNat (e := r.val) _ ⟨rfl, by omega⟩) ⟨by push_cast; rfl, by omega, by omega⟩)) rfl rfl

/-- A tile of the 363 lies in the buffer of scores. -/
theorem tile_inb {off : Fin 3 → ℕ} {n : ℕ} (e : off = tileOff n) (hn : n < 363) :
    ∀ a, off a + S1x48x128.size a ≤ S363x48x128.size a := by
  subst e; intro a; fin_cases a
  · show n + 1 ≤ 363; omega
  · show 0 + 48 ≤ 48; omega
  · show 0 + 128 ≤ 128; omega
/-- The tiles that a document of the first half reads lie in the buffer. -/
theorem chk4_of {w : BitVec 32} (h : w.toNat ≤ 46080) : k0_chk4 w := fun r => tile_inb (off60_eq h r) (by have := r.isLt; omega)
/-- Those of the second half do too. -/
theorem chk5_of {w : BitVec 32} (h : w.toNat ≤ 46080) : k0_chk5 w := fun r => tile_inb (off63_eq h r) (by have := r.isLt; omega)

/-! ## The entries of the offsets read -/

/-- Where the row count of an entry is read. -/
theorem off1_eq (i : grid0.Coords) : k0_off1 i = ![(i 0).val, 256] := by
  have hi : (i 0).val < 52 := (i 0).isLt
  exact vec_cons (indexCast (ofNat (e := (i 0).val) _ ⟨rfl, by omega⟩)) rfl rfl

/-- The loop over the first half of the documents has 128 trips. -/
theorem trips3_eq : k0_t3_loop.trips = 128 := by decide
/-- The loop over the second half has as many. -/
theorem trips4_eq : k0_t4_loop.trips = 128 := by decide
/-- Where the first offset of a document of the first half is read. -/
theorem off58_eq (i : grid0.Coords) (k : Fin k0_t3_loop.trips) : k0_off58 i k = ![(i 0).val, k.val] := by
  have hi : (i 0).val < 52 := (i 0).isLt
  have hk : k.val < 128 := trips3_eq ▸ k.isLt
  have e : IsInt (Scf.iv 0#32 1#32 k.val) k.val := iv (ofNat (e := 0) 0 ⟨rfl, by decide⟩) (ofNat (e := 1) 1 ⟨rfl, by decide⟩) k.val ⟨by omega, by omega, by omega⟩
  have f : IsInt (Scalar.addi 0#32 (Scf.iv 0#32 1#32 k.val)) (k.val : ℕ) := addi (ofNat (e := 0) 0 ⟨rfl, by decide⟩) e ⟨by omega, by omega, by omega⟩
  exact vec_cons (indexCast (ofNat (e := (i 0).val) _ ⟨rfl, by omega⟩)) rfl (vec_cons (indexCast f) rfl rfl)
/-- Where its end is read. -/
theorem off59_eq (i : grid0.Coords) (k : Fin k0_t3_loop.trips) : k0_off59 i k = ![(i 0).val, k.val + 1] := by
  have hi : (i 0).val < 52 := (i 0).isLt
  have hk : k.val < 128 := trips3_eq ▸ k.isLt
  have e : IsInt (Scf.iv 0#32 1#32 k.val) k.val := iv (ofNat (e := 0) 0 ⟨rfl, by decide⟩) (ofNat (e := 1) 1 ⟨rfl, by decide⟩) k.val ⟨by omega, by omega, by omega⟩
  have f : IsInt (Scalar.addi 0#32 (Scf.iv 0#32 1#32 k.val)) (k.val : ℕ) := addi (ofNat (e := 0) 0 ⟨rfl, by decide⟩) e ⟨by omega, by omega, by omega⟩
  have g : IsInt (Scalar.addi (Scalar.addi 0#32 (Scf.iv 0#32 1#32 k.val)) 1#32) (k.val + 1 : ℕ) := addi f (ofNat (e := 1) 1 ⟨rfl, by decide⟩) ⟨by push_cast; rfl, by omega, by omega⟩
  exact vec_cons (indexCast (ofNat (e := (i 0).val) _ ⟨rfl, by omega⟩)) rfl (vec_cons (indexCast g) rfl rfl)
/-- Where the first offset of a document of the second half is read. -/
theorem off61_eq (i : grid0.Coords) (k : Fin k0_t4_loop.trips) : k0_off61 i k = ![(i 0).val, 128 + k.val] := by
  have hi : (i 0).val < 52 := (i 0).isLt
  have hk : k.val < 128 := trips4_eq ▸ k.isLt
  have e : IsInt (Scf.iv 0#32 1#32 k.val) k.val := iv (ofNat (e := 0) 0 ⟨rfl, by decide⟩) (ofNat (e := 1) 1 ⟨rfl, by decide⟩) k.val ⟨by omega, by omega, by omega⟩
  have f : IsInt (Scalar.addi 128#32 (Scf.iv 0#32 1#32 k.val)) (128 + k.val : ℕ) := addi (ofNat (e := 128) 128 ⟨rfl, by decide⟩) e ⟨by push_cast; rfl, by omega, by omega⟩
  exact vec_cons (indexCast (ofNat (e := (i 0).val) _ ⟨rfl, by omega⟩)) rfl (vec_cons (indexCast f) rfl rfl)
/-- Where its end is read. -/
theorem off62_eq (i : grid0.Coords) (k : Fin k0_t4_loop.trips) : k0_off62 i k = ![(i 0).val, 128 + k.val + 1] := by
  have hi : (i 0).val < 52 := (i 0).isLt
  have hk : k.val < 128 := trips4_eq ▸ k.isLt
  have e : IsInt (Scf.iv 0#32 1#32 k.val) k.val := iv (ofNat (e := 0) 0 ⟨rfl, by decide⟩) (ofNat (e := 1) 1 ⟨rfl, by decide⟩) k.val ⟨by omega, by omega, by omega⟩
  have f : IsInt (Scalar.addi 128#32 (Scf.iv 0#32 1#32 k.val)) (128 + k.val : ℕ) := addi (ofNat (e := 128) 128 ⟨rfl, by decide⟩) e ⟨by push_cast; rfl, by omega, by omega⟩
  have g : IsInt (Scalar.addi (Scalar.addi 128#32 (Scf.iv 0#32 1#32 k.val)) 1#32) (128 + k.val + 1 : ℕ) := addi f (ofNat (e := 1) 1 ⟨rfl, by decide⟩) ⟨by push_cast; rfl, by omega, by omega⟩
  exact vec_cons (indexCast (ofNat (e := (i 0).val) _ ⟨rfl, by omega⟩)) rfl (vec_cons (indexCast g) rfl rfl)

end Cert.KernelIdeal.Hand
-- ==== Proof.KI.Trip.lean ====
/-
  One trip of the block loop: the next block (of this batch entry or the next one's first) issued into the
  other slot, the current one waited, ten score tiles stored.
-/
module

public import proofs.«01_k».proof.Proof.KI.Pieces
public import proofs.«01_k».proof.Proof.KI.Checks
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (XR : Buf (Elt F) (rowsM.view.loc (c : Thread nD τ))) (XC : Buf (Elt F) (codesM.view.loc (c : Thread nD τ)))

/-- Owning the counter. -/
abbrev stP (g : Buf (Elt F) (stM.view.loc (c : Thread nD τ))) : sProp 𝕄 := stM.view.loc (c : Thread nD τ) ↦[stM.view.set]{fullShare} g
/-- Owning the tiles of scores. -/
abbrev scP (g : Buf (Elt F) (scoreM.view.loc (c : Thread nD τ))) : sProp 𝕄 := scoreM.view.loc (c : Thread nD τ) ↦[scoreM.view.set]{fullShare} g
/-- The block counter: the state's one word. -/
abbrev wd (g : Buf (Elt F) (stM.view.loc (c : Thread nD τ))) : BitVec 32 :=
  stM.view.readAt (Elt F) (Rect.unit (s := S1) ![0] S1.size inb_S1_S1_0).toLoadRect g (Shape.Idx.first (by decide))

variable (i : grid0.Coords)
  (arg1 : Memref sig .tc .smem S52x257 .i32) (harg1 : arg1.IsWhole) (arg2 : Memref sig .tc .vmem S8x128 .f32) (harg2 : arg2.IsWhole)
  (arg3 : Memref sig .tc .vmem S1x48x128 .bf16) (harg3 : arg3.IsWhole) (arg6 : Memref sig .tc .vmem S1x48x256 .f32) (harg6 : arg6.IsWhole)
  (arg7 : Memref sig .tc .vmem S1x1x256 .f32) (harg7 : arg7.IsWhole) (arg0 : BitVec 32) (v4 : BitVec 32) (hw1 : k0_chk1 i v4) (v22 : BitVec 32)
  (v24 : FVec F S48x128 .bf16) (v26 : FVec F S8x128 .f32)

/-- One trip's program on the given staging memrefs. -/
abbrev tripG (t : Fin (k0_t1_loop v4).trips) (a : BitVec 32) : Prog (TpuEff nD τ sig (Elt F) Λ₀ .tc) (BitVec 32) :=
  k0_t1_body (F := F) i arg1 harg1 arg2 harg2 arg3 harg3 codesM (Memref.isWhole_whole _) rowsM (Memref.isWhole_whole _) arg6 harg6 arg7 harg7
    rbufM (Memref.isWhole_whole _) cbufM (Memref.isWhole_whole _) scoreM (Memref.isWhole_whole _) stM (Memref.isWhole_whole _) cc0_scratch4 arg0 v4 hw1 v22 v24 v26 t a

/-- The two slots before block `t` of entry `b`, the counter's parity naming the current one: the block in flight in it
    and the other slot free; past the last entry both free. -/
def slotsAt (n b t : ℕ) : sProp 𝕄 :=
  if b < 52 then iprop(inflight c XR XC (Ring.sl 2 n) (Ring.bk 52 b) (Ring.bk 36 t) ∗ free c XR XC (Ring.sl 2 (n + 1)))
  else iprop(free c XR XC (Ring.sl 2 n) ∗ free c XR XC (Ring.sl 2 (n + 1)))

/-- The slot of the next block is the other one. -/
theorem sl_toNat_add (w : BitVec 32) : Ring.sl 2 (w + 1#32).toNat = Ring.sl 2 (w.toNat + 1) := by
  have := w.isLt
  have e : (w + 1#32).toNat = (w.toNat + 1) % 2 ^ 32 := by rw [BitVec.toNat_add]; rfl
  apply Fin.ext; show (w + 1#32).toNat % 2 = (w.toNat + 1) % 2; rw [e]; omega
/-- The slot after the next is the same again. -/
theorem sl_toNat_add2 (w : BitVec 32) : Ring.sl 2 ((w + 1#32).toNat + 1) = Ring.sl 2 w.toNat := by
  have := w.isLt
  have e : (w + 1#32).toNat = (w.toNat + 1) % 2 ^ 32 := by rw [BitVec.toNat_add]; rfl
  apply Fin.ext; show ((w + 1#32).toNat + 1) % 2 = w.toNat % 2; rw [e]; omega

/-- The counter after a store of `x`. -/
theorem wd_write (gS : Buf (Elt F) (stM.view.loc (c : Thread nD τ))) (x : BitVec 32) (inb) :
    wd c (stM.view.writes (Elt F) gS [⟨Rect.unit (s := S1) ![0] S1.size inb, fun _ => x⟩]) = x := by
  have := View.readAt_writes_full stM.view gS (off := ![0]) (off' := ![0]) inb inb_S1_S1_0 (fun _ => x) []
  exact congrFun this _

/-- What a trip does, storing the pieces `L` into the score tiles: the counter goes up by one, the next block takes
    the current one's place. -/
def TripSpec (t : Fin (k0_t1_loop v4).trips) (w : BitVec 32) (L : List (View.Piece (Elt F) S363x48x128 .f32)) : Prop :=
  ∀ (a : BitVec 32) (gS) (hS : wd c gS = w) (gT) (W : Waits sig Unit),
    iprop(owes (c : Thread nD τ) 0 W ∗ stP c gS ∗ scP c gT ∗ slotsAt c XR XC w.toNat (i 0).val t.val)
      ⊢ wp frame (wpE (defs₀ (F := F)) 𝒱₀ (c : Thread nD τ) none) Set.univ
        (tripG i arg1 harg1 arg2 harg2 arg3 harg3 arg6 harg6 arg7 harg7 arg0 v4 hw1 v22 v24 v26 t a)
        (fun _ => iprop((∃ W, owes (c : Thread nD τ) 0 W) ∗ (∃ g, ⌜wd c g = w + 1#32⌝ ∗ stP c g) ∗ scP c (scoreM.view.writes (Elt F) gT L)
          ∗ slotsAt c XR XC (w + 1#32).toNat (nxB v4 (i 0).val t.val) (nxT v4 t.val)))

set_option maxHeartbeats 4000000 in
/-- A trip with a next block: it is issued into the other slot, the current one waited, ten tiles stored. -/
def tripA (hv : Cnt v4) (t : Fin (k0_t1_loop v4).trips) (hn : nxB v4 (i 0).val t.val < 52) (w : BitVec 32) :
    { L : List (View.Piece (Elt F) S363x48x128 .f32) // TripSpec c XR XC i arg1 harg1 arg2 harg2 arg3 harg3 arg6 harg6 arg7 harg7 arg0 v4 hw1 v22 v24 v26 t w L } := by
  refine ⟨?L, ?run⟩
  case run =>
    have hi : (i 0).val < 52 := (i 0).isLt
    unfold TripSpec slotsAt
    rw [if_pos hi, if_pos hn, sl_toNat_add, sl_toNat_add2]
    intro a gS hS gT W
    have hcond : k0_cond2 i v4 t = 1#1 := (cond2_iff hv i t).2 hn
    unfold inflight free
    iintro ⟨HO, Hst, Hsc, ⟨⟨%fr, HFr⟩, ⟨%fc, HFc⟩, Hrr, Hrc⟩, Hc0, Hc1, ⟨%fr', Hs0⟩, ⟨%fc', Hs1⟩, Htr, Htc⟩
    ihave Hr := (rtok_split c XR (Ring.sl 2 (w.toNat + 1)) (nextB i v4 t.val) (nextT v4 t.val)) $$ Htr
    ihave Hc := (ctok_split c XC (Ring.sl 2 (w.toNat + 1)) (nextB i v4 t.val) (nextT v4 t.val)) $$ Htc
    icases Hr with ⟨Hh0, Hr0⟩
    icases Hc with ⟨Hh1, Hr1⟩
    dsimp only [tripG]
    sl_unfold [k0_t1_body]
    sl_exec_parts
    have hr : tripA.sl.r c gS = w := hS
    rw [hr]
    sl_exec_parts (disch := first | exact chk2_of _ _ _ _ | assumption)
    sl_step
    isplitl [HO]; · iexists _; iexact HO
    isplitl [Hst]
    · iexists _; isplitr; rotate_left; · iexact Hst
      ipureintro; exact wd_write c gS _ _
    isplitl [Hsc]; · iexact Hsc
    isplitl [Hc0 Hc1 Hr0 Hr1]
    · isplitl [Hc0]; · iexists fr'; iexact Hc0
      isplitl [Hc1]; · iexists fc'; iexact Hc1
      isplitl [Hr0]; · iexact Hr0
      iexact Hr1
    isplitl [HFr]; · iexact HFr
    isplitl [HFc]; · iexact HFc
    isplitl [HFr_dst]; · iexists _; iexact HFr_dst
    isplitl [HFc_dst]; · iexists _; iexact HFc_dst
    isplitl [HFr_src Hrr]
    · iapply (rtok_join c XR (Ring.sl 2 w.toNat) (curB i) (curT t.val))
      isplitl [HFr_src]; · iexact HFr_src
      iexact Hrr
    iapply (ctok_join c XC (Ring.sl 2 w.toNat) (curB i) (curT t.val))
    isplitl [HFc_src]; · iexact HFc_src
    iexact Hrc
set_option maxHeartbeats 4000000 in
/-- The last trip of the last batch entry: no block is issued, the current one waited, ten tiles stored. -/
def tripB (hv : Cnt v4) (t : Fin (k0_t1_loop v4).trips) (hn : ¬ nxB v4 (i 0).val t.val < 52) (w : BitVec 32) :
    { L : List (View.Piece (Elt F) S363x48x128 .f32) // TripSpec c XR XC i arg1 harg1 arg2 harg2 arg3 harg3 arg6 harg6 arg7 harg7 arg0 v4 hw1 v22 v24 v26 t w L } := by
  refine ⟨?L, ?run⟩
  case run =>
    have hi : (i 0).val < 52 := (i 0).isLt
    unfold TripSpec slotsAt
    rw [if_pos hi, if_neg hn, sl_toNat_add, sl_toNat_add2]
    intro a gS hS gT W
    have hcond : ¬ k0_cond2 i v4 t = 1#1 := fun h => hn ((cond2_iff hv i t).1 h)
    unfold inflight free
    iintro ⟨HO, Hst, Hsc, ⟨⟨%fr, HFr⟩, ⟨%fc, HFc⟩, Hrr, Hrc⟩, Hc0, Hc1, ⟨%fr', Hs0⟩, ⟨%fc', Hs1⟩, Htr, Htc⟩
    dsimp only [tripG]
    sl_unfold [k0_t1_body]
    sl_exec_parts
    have hr : tripB.sl.r c gS = w := hS
    rw [hr]
    sl_exec_parts (disch := first | exact chk2_of _ _ _ _ | assumption)
    sl_step
    isplitl [HO]; · iexists _; iexact HO
    isplitl [Hst]
    · iexists _; isplitr; rotate_left; · iexact Hst
      ipureintro; exact wd_write c gS _ _
    isplitl [Hsc]; · iexact Hsc
    isplitl [Hc0 Hc1 Hs0 Hs1 Htr Htc]
    · isplitl [Hc0]; · iexact Hc0
      isplitl [Hc1]; · iexact Hc1
      isplitl [Hs0]; · iexists _; iexact Hs0
      isplitl [Hs1]; · iexists _; iexact Hs1
      isplitl [Htr]; · iexact Htr
      iexact Htc
    isplitl [HFr]; · iexact HFr
    isplitl [HFc]; · iexact HFc
    isplitl [HFr_dst]; · iexists _; iexact HFr_dst
    isplitl [HFc_dst]; · iexists _; iexact HFc_dst
    isplitl [HFr_src Hrr]
    · iapply (rtok_join c XR (Ring.sl 2 w.toNat) (curB i) (curT t.val))
      isplitl [HFr_src]; · iexact HFr_src
      iexact Hrr
    iapply (ctok_join c XC (Ring.sl 2 w.toNat) (curB i) (curT t.val))
    isplitl [HFc_src]; · iexact HFc_src
    iexact Hrc

/-- A trip, whether or not a next block exists. -/
def trip (hv : Cnt v4) (t : Fin (k0_t1_loop v4).trips) (w : BitVec 32) :
    { L : List (View.Piece (Elt F) S363x48x128 .f32) // TripSpec c XR XC i arg1 harg1 arg2 harg2 arg3 harg3 arg6 harg6 arg7 harg7 arg0 v4 hw1 v22 v24 v26 t w L } :=
  if hn : nxB v4 (i 0).val t.val < 52 then tripA c XR XC i arg1 harg1 arg2 harg2 arg3 harg3 arg6 harg6 arg7 harg7 arg0 v4 hw1 v22 v24 v26 hv t hn w else tripB c XR XC i arg1 harg1 arg2 harg2 arg3 harg3 arg6 harg6 arg7 harg7 arg0 v4 hw1 v22 v24 v26 hv t hn w
end Trip
end Cert.KernelIdeal.Hand
-- ==== Proof.KI.Loops.lean ====
/-
  The body's loops: the invariants of the block loop (and of the remainder loop behind it, which runs no trip),
  and one trip of each of the two loops over the documents.
-/
module

public import proofs.«01_k».proof.Proof.KI.Trip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XR : Buf (Elt F) (rowsM.view.loc (c : Thread nD τ))) (XC : Buf (Elt F) (codesM.view.loc (c : Thread nD τ)))
variable (i : grid0.Coords)
  (arg1 : Memref sig .tc .smem S52x257 .i32) (harg1 : arg1.IsWhole) (arg2 : Memref sig .tc .vmem S8x128 .f32) (harg2 : arg2.IsWhole)
  (arg3 : Memref sig .tc .vmem S1x48x128 .bf16) (harg3 : arg3.IsWhole) (arg6 : Memref sig .tc .vmem S1x48x256 .f32) (harg6 : arg6.IsWhole)
  (arg7 : Memref sig .tc .vmem S1x1x256 .f32) (harg7 : arg7.IsWhole)

section Blocks
variable (arg0 : BitVec 32) (v4 : BitVec 32) (hw1 : k0_chk1 i v4) (v22 : BitVec 32) (v24 : FVec F S48x128 .bf16) (v26 : FVec F S8x128 .f32)

/-- A pure fact in front of the resources may be assumed. -/
theorem pure_front {φ : Prop} {Q R : sProp 𝕄} (h : φ → Q ⊢ R) : iprop(⌜φ⌝ ∗ Q) ⊢ R := by
  iintro ⟨%hφ, H⟩
  iapply (h hφ) $$ H

/-- The pieces a trip stores. -/
@[irreducible] def tripL (hv : Cnt v4) (t : Fin (k0_t1_loop v4).trips) (w : BitVec 32) : List (View.Piece (Elt F) S363x48x128 .f32) :=
  (trip c XR XC i arg1 harg1 arg2 harg2 arg3 harg3 arg6 harg6 arg7 harg7 arg0 v4 hw1 v22 v24 v26 hv t w).1

/-- A trip stores those pieces and passes the ring on. -/
theorem tripL_spec (hv : Cnt v4) (t : Fin (k0_t1_loop v4).trips) (w : BitVec 32) :
    TripSpec c XR XC i arg1 harg1 arg2 harg2 arg3 harg3 arg6 harg6 arg7 harg7 arg0 v4 hw1 v22 v24 v26 t w (tripL c XR XC i arg1 harg1 arg2 harg2 arg3 harg3 arg6 harg6 arg7 harg7 arg0 v4 hw1 v22 v24 v26 hv t w) := by
  rw [tripL]
  exact (trip c XR XC i arg1 harg1 arg2 harg2 arg3 harg3 arg6 harg6 arg7 harg7 arg0 v4 hw1 v22 v24 v26 hv t w).2

/-- What the score tiles may hold before trip `t`: at the loop's entry anything, then each trip's pieces on top. -/
inductive Acc (hv : Cnt v4) : ℕ → Buf (Elt F) (scoreM.view.loc (c : Thread nD τ)) → Prop
  | zero (g) : Acc hv 0 g
  | succ (t : Fin (k0_t1_loop v4).trips) (w : BitVec 32) (g) (h : Acc hv t.val g) :
      Acc hv (t.val + 1) (scoreM.view.writes (Elt F) g (tripL c XR XC i arg1 harg1 arg2 harg2 arg3 harg3 arg6 harg6 arg7 harg7 arg0 v4 hw1 v22 v24 v26 hv t w))

/-- The block before trip `t`: past the last of entry `b`, the first of the next entry. -/
abbrev atB (v4 : BitVec 32) (b t : ℕ) : ℕ := if t < nb v4 then b else b + 1
/-- Its number in that entry. -/
abbrev atT (v4 : BitVec 32) (t : ℕ) : ℕ := if t < nb v4 then t else 0

/-- The block loop's resources before trip `t`. -/
@[irreducible] def blocksAt (hv : Cnt v4) (t : ℕ) : sProp 𝕄 :=
  iprop(∃ gS gT, ⌜Acc c XR XC i arg1 harg1 arg2 harg2 arg3 harg3 arg6 harg6 arg7 harg7 arg0 v4 hw1 v22 v24 v26 hv t gT⌝
    ∗ (∃ W, owes (c : Thread nD τ) 0 W) ∗ stP c gS ∗ scP c gT ∗ slotsAt c XR XC (wd c gS).toNat (atB v4 (i 0).val t) (atT v4 t))

/-- A trip that stores the pieces `L` takes the loop's resources before it to those after it. -/
theorem blocks_core (hv : Cnt v4) (t : Fin (k0_t1_loop v4).trips) (a : BitVec 32) (gS gT) (L : List (View.Piece (Elt F) S363x48x128 .f32))
    (hL : TripSpec c XR XC i arg1 harg1 arg2 harg2 arg3 harg3 arg6 harg6 arg7 harg7 arg0 v4 hw1 v22 v24 v26 t (wd c gS) L) (hA : Acc c XR XC i arg1 harg1 arg2 harg2 arg3 harg3 arg6 harg6 arg7 harg7 arg0 v4 hw1 v22 v24 v26 hv (t.val + 1) (scoreM.view.writes (Elt F) gT L)) :
    iprop((∃ W, owes (c : Thread nD τ) 0 W) ∗ stP c gS ∗ scP c gT ∗ slotsAt c XR XC (wd c gS).toNat (atB v4 (i 0).val t.val) (atT v4 t.val))
      ⊢ wp frame (wpE (defs₀ (F := F)) 𝒱₀ (c : Thread nD τ) none) Set.univ
        (tripG i arg1 harg1 arg2 harg2 arg3 harg3 arg6 harg6 arg7 harg7 arg0 v4 hw1 v22 v24 v26 t a)
        (fun _ => blocksAt c XR XC i arg1 harg1 arg2 harg2 arg3 harg3 arg6 harg6 arg7 harg7 arg0 v4 hw1 v22 v24 v26 hv (t.val + 1)) := by
  have ht := trip_lt hv t
  have e1 : atB v4 (i 0).val t.val = (i 0).val := if_pos ht
  have e2 : atT v4 t.val = t.val := if_pos ht
  rw [e1, e2]
  refine sep_exists_right.1.trans (exists_elim fun W => ?_)
  refine (hL a gS rfl gT W).trans (wp_mono _ _ _ fun _ => ?_)
  iintro ⟨⟨%W', HO⟩, ⟨%g, %hg, Hst⟩, Hsc, Hsl⟩
  unfold blocksAt
  iexists g, _
  isplitr; · ipureintro; exact hA
  isplitl [HO]; · iexists _; iexact HO
  isplitl [Hst]; · iexact Hst
  isplitl [Hsc]; · iexact Hsc
  rw [hg]; iexact Hsl

/-- What is true before a trip is true, one further, after it. -/
theorem blocks_step (hv : Cnt v4) (t : Fin (k0_t1_loop v4).trips) (a : BitVec 32) :
    blocksAt c XR XC i arg1 harg1 arg2 harg2 arg3 harg3 arg6 harg6 arg7 harg7 arg0 v4 hw1 v22 v24 v26 hv t.val
      ⊢ wp frame (wpE (defs₀ (F := F)) 𝒱₀ (c : Thread nD τ) none) Set.univ
        (tripG i arg1 harg1 arg2 harg2 arg3 harg3 arg6 harg6 arg7 harg7 arg0 v4 hw1 v22 v24 v26 t a)
        (fun _ => blocksAt c XR XC i arg1 harg1 arg2 harg2 arg3 harg3 arg6 harg6 arg7 harg7 arg0 v4 hw1 v22 v24 v26 hv (t.val + 1)) := by
  rw [blocksAt]
  refine exists_elim fun gS => exists_elim fun gT => ?_
  exact pure_front fun hA => (blocks_core c XR XC i arg1 harg1 arg2 harg2 arg3 harg3 arg6 harg6 arg7 harg7 arg0 v4 hw1 v22 v24 v26 hv t a gS gT _ (tripL_spec c XR XC i arg1 harg1 arg2 harg2 arg3 harg3 arg6 harg6 arg7 harg7 arg0 v4 hw1 v22 v24 v26 hv t (wd c gS)) (Acc.succ t (wd c gS) gT hA))

set_option warn.classDefReducibility false in
/-- The block loop's invariant. -/
@[sl_loop] def loopInv1 (hv : Cnt v4) :
    LoopInvTy_k0_t1 (F := F) Unit ℕ (UU nD τ) ℕ 𝒱₀ c none Set.univ i arg1 harg1 arg2 harg2 arg3 harg3 codesM (Memref.isWhole_whole _) rowsM (Memref.isWhole_whole _)
      arg6 harg6 arg7 harg7 rbufM (Memref.isWhole_whole _) cbufM (Memref.isWhole_whole _) scoreM (Memref.isWhole_whole _) stM (Memref.isWhole_whole _) cc0_scratch4
      arg0 v4 hw1 v22 v24 v26 0#32 where
  inv t _ := blocksAt c XR XC i arg1 harg1 arg2 harg2 arg3 harg3 arg6 harg6 arg7 harg7 arg0 v4 hw1 v22 v24 v26 hv t
  step := by
    intro t a
    iintro H
    iapply (wp_wand_r Idealize.ShloMosaic.frame (wpE (defs₀ (F := F)) 𝒱₀ (c : Thread nD τ) none) Set.univ)
    isplitl [H]
    · iapply (blocks_step c XR XC i arg1 harg1 arg2 harg2 arg3 harg3 arg6 harg6 arg7 harg7 arg0 v4 hw1 v22 v24 v26 hv t a); iexact H
    · iintro %_ H'
      iexact H'

set_option warn.classDefReducibility false in
/-- The remainder loop's invariant: the block loop's resources at its exit; it runs no trip. -/
@[sl_loop] def loopInv2 (hv : Cnt v4) (v31 init : BitVec 32) :
    LoopInvTy_k0_t2 (F := F) Unit ℕ (UU nD τ) ℕ 𝒱₀ c none Set.univ i arg1 harg1 arg2 harg2 arg3 harg3 codesM (Memref.isWhole_whole _) rowsM (Memref.isWhole_whole _)
      arg6 harg6 arg7 harg7 rbufM (Memref.isWhole_whole _) cbufM (Memref.isWhole_whole _) scoreM (Memref.isWhole_whole _) stM (Memref.isWhole_whole _) cc0_scratch4
      arg0 v4 hw1 v22 v24 v26 v31 init where
  inv _ _ := blocksAt c XR XC i arg1 harg1 arg2 harg2 arg3 harg3 arg6 harg6 arg7 harg7 arg0 v4 hw1 v22 v24 v26 hv (k0_t1_loop v4).trips
  step k _ := (Nat.not_lt_zero _ (Nat.lt_of_lt_of_eq k.isLt (trips2_eq hv))).elim
end Blocks

section Docs
variable (arg0 : BitVec 32) (v34 : IVec S48x128 32) (cst : F .f32)

/-- The offsets' staging buffer holds the entry's offsets, each at most 46080. -/
def OffOK (g : Buf (Elt F) (arg1.view.loc (c : Thread nD τ))) : Prop :=
  ∀ (off : Fin 2 → ℕ) (inb : ∀ a, off a + S1x1.size a ≤ S52x257.size a) (j),
    (arg1.view.readAt (Elt F) (Rect.unit (s := S52x257) off S1x1.size inb).toLoadRect g j : BitVec 32).toNat ≤ 46080

/-- Owning the staged offsets. -/
abbrev offP (g : Buf (Elt F) (arg1.view.loc (c : Thread nD τ))) : sProp 𝕄 := arg1.view.loc (c : Thread nD τ) ↦[arg1.view.set]{fullShare} g

set_option maxHeartbeats 4000000 in
/-- One document of the first half: the carried maxima with the document's put in. -/
def docA (g : Buf (Elt F) (arg1.view.loc (c : Thread nD τ))) (hg : OffOK c arg1 g) (gT : Buf (Elt F) (scoreM.view.loc (c : Thread nD τ))) (k : Fin k0_t3_loop.trips) (a : FVec F S48x128 .f32) :
    { f : FVec F S48x128 .f32 // iprop(offP c arg1 g ∗ scP c gT)
      ⊢ wp frame (wpE (defs₀ (F := F)) 𝒱₀ (c : Thread nD τ) none) Set.univ
        (k0_t3_body (F := F) i arg1 harg1 arg2 harg2 arg3 harg3 codesM (Memref.isWhole_whole _) rowsM (Memref.isWhole_whole _)
          arg6 harg6 arg7 harg7 rbufM (Memref.isWhole_whole _) cbufM (Memref.isWhole_whole _) scoreM (Memref.isWhole_whole _) stM (Memref.isWhole_whole _) cc0_scratch4 arg0 v34 cst k a)
        (fun r => iprop(⌜r = f⌝ ∗ offP c arg1 g ∗ scP c gT)) } := by
  refine ⟨?f, ?run⟩
  case run =>
    iintro ⟨Hof, Hsc⟩
    sl_unfold [k0_t3_body]
    sl_exec_parts (disch := first | exact chk4_of (hg _ _ _) | assumption)
    sl_step
    isplitr
    · ipureintro
      exact rfl
    isplitl [Hof]; · iexact Hof
    iexact Hsc

/-- The maxima carried before document `k` of the first half. -/
def docAccA (g : Buf (Elt F) (arg1.view.loc (c : Thread nD τ))) (hg : OffOK c arg1 g) (gT : Buf (Elt F) (scoreM.view.loc (c : Thread nD τ))) : ℕ → FVec F S48x128 .f32
  | 0 => k0_pay5
  | k + 1 => if h : k < k0_t3_loop.trips then
      (docA c i arg1 harg1 arg2 harg2 arg3 harg3 arg6 harg6 arg7 harg7 arg0 v34 cst g hg gT ⟨k, h⟩ (docAccA g hg gT k)).1
    else docAccA g hg gT k

/-- The first half's resources before document `k`, carrying `a`. -/
@[irreducible] def docsAtA (g : Buf (Elt F) (arg1.view.loc (c : Thread nD τ))) (gT : Buf (Elt F) (scoreM.view.loc (c : Thread nD τ))) (k : ℕ) (a : FVec F S48x128 .f32) : sProp 𝕄 :=
  iprop(⌜∃ hg : OffOK c arg1 g, a = docAccA c i arg1 harg1 arg2 harg2 arg3 harg3 arg6 harg6 arg7 harg7 arg0 v34 cst g hg gT k⌝ ∗ offP c arg1 g ∗ scP c gT)

set_option warn.classDefReducibility false in
/-- The invariant of the loop over the first half's documents. -/
@[sl_loop] def loopInv3 (g : Buf (Elt F) (arg1.view.loc (c : Thread nD τ))) (gT : Buf (Elt F) (scoreM.view.loc (c : Thread nD τ))) (init : FVec F S48x128 .f32) :
    LoopInvTy_k0_t3 (F := F) Unit ℕ (UU nD τ) ℕ 𝒱₀ c none Set.univ i arg1 harg1 arg2 harg2 arg3 harg3 codesM (Memref.isWhole_whole _) rowsM (Memref.isWhole_whole _)
      arg6 harg6 arg7 harg7 rbufM (Memref.isWhole_whole _) cbufM (Memref.isWhole_whole _) scoreM (Memref.isWhole_whole _) stM (Memref.isWhole_whole _) cc0_scratch4 arg0 v34 cst init where
  inv k a := docsAtA c i arg1 harg1 arg2 harg2 arg3 harg3 arg6 harg6 arg7 harg7 arg0 v34 cst g gT k a
  step k a := by
    rw [docsAtA]
    iintro ⟨%h, Hof, Hsc⟩
    obtain ⟨hg, rfl⟩ := h
    iapply (wp_wand_r Idealize.ShloMosaic.frame (wpE (defs₀ (F := F)) 𝒱₀ (c : Thread nD τ) none) Set.univ)
    isplitl [Hof Hsc]
    · iapply (docA c i arg1 harg1 arg2 harg2 arg3 harg3 arg6 harg6 arg7 harg7 arg0 v34 cst g hg gT k _).2
      isplitl [Hof]; · iexact Hof
      iexact Hsc
    · iintro %r ⟨%hr, Hof, Hsc⟩
      unfold docsAtA
      isplitr
      · ipureintro
        exact ⟨hg, hr.trans (by rw [docAccA, dif_pos k.isLt])⟩
      isplitl [Hof]; · iexact Hof
      iexact Hsc

set_option maxHeartbeats 4000000 in
/-- One document of the second half: the carried maxima with the document's put in. -/
def docB (g : Buf (Elt F) (arg1.view.loc (c : Thread nD τ))) (hg : OffOK c arg1 g) (gT : Buf (Elt F) (scoreM.view.loc (c : Thread nD τ))) (k : Fin k0_t4_loop.trips) (a : FVec F S48x128 .f32) :
    { f : FVec F S48x128 .f32 // iprop(offP c arg1 g ∗ scP c gT)
      ⊢ wp frame (wpE (defs₀ (F := F)) 𝒱₀ (c : Thread nD τ) none) Set.univ
        (k0_t4_body (F := F) i arg1 harg1 arg2 harg2 arg3 harg3 codesM (Memref.isWhole_whole _) rowsM (Memref.isWhole_whole _)
          arg6 harg6 arg7 harg7 rbufM (Memref.isWhole_whole _) cbufM (Memref.isWhole_whole _) scoreM (Memref.isWhole_whole _) stM (Memref.isWhole_whole _) cc0_scratch4 arg0 v34 cst k a)
        (fun r => iprop(⌜r = f⌝ ∗ offP c arg1 g ∗ scP c gT)) } := by
  refine ⟨?f, ?run⟩
  case run =>
    iintro ⟨Hof, Hsc⟩
    sl_unfold [k0_t4_body]
    sl_exec_parts (disch := first | exact chk5_of (hg _ _ _) | assumption)
    sl_step
    isplitr
    · ipureintro
      exact rfl
    isplitl [Hof]; · iexact Hof
    iexact Hsc

/-- The maxima carried before document `k` of the second half. -/
def docAccB (g : Buf (Elt F) (arg1.view.loc (c : Thread nD τ))) (hg : OffOK c arg1 g) (gT : Buf (Elt F) (scoreM.view.loc (c : Thread nD τ))) : ℕ → FVec F S48x128 .f32
  | 0 => k0_pay5
  | k + 1 => if h : k < k0_t4_loop.trips then
      (docB c i arg1 harg1 arg2 harg2 arg3 harg3 arg6 harg6 arg7 harg7 arg0 v34 cst g hg gT ⟨k, h⟩ (docAccB g hg gT k)).1
    else docAccB g hg gT k

/-- The second half's resources before document `k`, carrying `a`. -/
@[irreducible] def docsAtB (g : Buf (Elt F) (arg1.view.loc (c : Thread nD τ))) (gT : Buf (Elt F) (scoreM.view.loc (c : Thread nD τ))) (k : ℕ) (a : FVec F S48x128 .f32) : sProp 𝕄 :=
  iprop(⌜∃ hg : OffOK c arg1 g, a = docAccB c i arg1 harg1 arg2 harg2 arg3 harg3 arg6 harg6 arg7 harg7 arg0 v34 cst g hg gT k⌝ ∗ offP c arg1 g ∗ scP c gT)

set_option warn.classDefReducibility false in
/-- The invariant of the loop over the second half's documents. -/
@[sl_loop] def loopInv4 (g : Buf (Elt F) (arg1.view.loc (c : Thread nD τ))) (gT : Buf (Elt F) (scoreM.view.loc (c : Thread nD τ))) (init : FVec F S48x128 .f32) :
    LoopInvTy_k0_t4 (F := F) Unit ℕ (UU nD τ) ℕ 𝒱₀ c none Set.univ i arg1 harg1 arg2 harg2 arg3 harg3 codesM (Memref.isWhole_whole _) rowsM (Memref.isWhole_whole _)
      arg6 harg6 arg7 harg7 rbufM (Memref.isWhole_whole _) cbufM (Memref.isWhole_whole _) scoreM (Memref.isWhole_whole _) stM (Memref.isWhole_whole _) cc0_scratch4 arg0 v34 cst init where
  inv k a := docsAtB c i arg1 harg1 arg2 harg2 arg3 harg3 arg6 harg6 arg7 harg7 arg0 v34 cst g gT k a
  step k a := by
    rw [docsAtB]
    iintro ⟨%h, Hof, Hsc⟩
    obtain ⟨hg, rfl⟩ := h
    iapply (wp_wand_r Idealize.ShloMosaic.frame (wpE (defs₀ (F := F)) 𝒱₀ (c : Thread nD τ) none) Set.univ)
    isplitl [Hof Hsc]
    · iapply (docB c i arg1 harg1 arg2 harg2 arg3 harg3 arg6 harg6 arg7 harg7 arg0 v34 cst g hg gT k _).2
      isplitl [Hof]; · iexact Hof
      iexact Hsc
    · iintro %r ⟨%hr, Hof, Hsc⟩
      unfold docsAtB
      isplitr
      · ipureintro
        exact ⟨hg, hr.trans (by rw [docAccB, dif_pos k.isLt])⟩
      isplitl [Hof]; · iexact Hof
      iexact Hsc
end Docs
end Cert.KernelIdeal.Hand
-- ==== Proof.KI.Body.lean ====
/-
  One grid point's body, run from its entry to its exit on given staging memrefs.
-/
module

public import proofs.«01_k».proof.Proof.KI.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XR : Buf (Elt F) (rowsM.view.loc (c : Thread nD τ))) (XC : Buf (Elt F) (codesM.view.loc (c : Thread nD τ)))
variable (i : grid0.Coords)
  (arg1 : Memref sig .tc .smem S52x257 .i32) (harg1 : arg1.IsWhole) (arg2 : Memref sig .tc .vmem S8x128 .f32) (harg2 : arg2.IsWhole)
  (arg3 : Memref sig .tc .vmem S1x48x128 .bf16) (harg3 : arg3.IsWhole) (arg6 : Memref sig .tc .vmem S1x48x256 .f32) (harg6 : arg6.IsWhole)
  (arg7 : Memref sig .tc .vmem S1x1x256 .f32) (harg7 : arg7.IsWhole)

/-- The body on the given staging memrefs. -/
abbrev bodyG : Prog (TpuEff nD τ sig (Elt F) Λ₀ .tc) PUnit :=
  cc0_score (F := F) i arg1 harg1 arg2 harg2 arg3 harg3 codesM (Memref.isWhole_whole _) rowsM (Memref.isWhole_whole _)
    arg6 harg6 arg7 harg7 rbufM (Memref.isWhole_whole _) cbufM (Memref.isWhole_whole _) scoreM (Memref.isWhole_whole _) stM (Memref.isWhole_whole _) cc0_scratch4

/-- Owning the staged bucket weights. -/
abbrev wtP (g : Buf (Elt F) (arg2.view.loc (c : Thread nD τ))) : sProp 𝕄 := arg2.view.loc (c : Thread nD τ) ↦[arg2.view.set]{fullShare} g
/-- Owning the staged queries. -/
abbrev qP (g : Buf (Elt F) (arg3.view.loc (c : Thread nD τ))) : sProp 𝕄 := arg3.view.loc (c : Thread nD τ) ↦[arg3.view.set]{fullShare} g
/-- Owning the staged block of maxima. -/
abbrev tokP (g : Buf (Elt F) (arg6.view.loc (c : Thread nD τ))) : sProp 𝕄 := arg6.view.loc (c : Thread nD τ) ↦[arg6.view.set]{fullShare} g
/-- Owning the staged block of sums. -/
abbrev sumP (g : Buf (Elt F) (arg7.view.loc (c : Thread nD τ))) : sProp 𝕄 := arg7.view.loc (c : Thread nD τ) ↦[arg7.view.set]{fullShare} g

/-- The entry's row count, as the body reads it; -/
abbrev cntOf (g : Buf (Elt F) (arg1.view.loc (c : Thread nD τ))) : BitVec 32 :=
  arg1.view.readAt (Elt F) (Rect.unit (s := S52x257) (k0_off1 i) S1x1.size (k0_off1_inb i)).toLoadRect g (Shape.Idx.first (by show 0 < S1x1.numel; decide))
/-- its queries, -/
abbrev qOf (g : Buf (Elt F) (arg3.view.loc (c : Thread nD τ))) : FVec F S48x128 .bf16 :=
  shapeCast S48x128 (arg3.view.readAt (Elt F) (Rect.unit (s := S1x48x128) ![0, 0, 0] S1x48x128.size inb_S1x48x128_S1x48x128_0_0_0).toLoadRect g) shapeCasts_S1x48x128_S48x128
/-- and the bucket weights. -/
abbrev wtOf (g : Buf (Elt F) (arg2.view.loc (c : Thread nD τ))) : FVec F S8x128 .f32 :=
  shapeCast S8x128 (arg2.view.readAt (Elt F) (Rect.unit (s := S8x128) ![0, 0] S8x128.size inb_S8x128_S8x128_0_0).toLoadRect g) shapeCasts_S8x128_S8x128

/-- The first point alone starts the first copies. -/
theorem cond1_iff : k0_cond1 i = 1#1 ↔ (i 0).val = 0 := by
  have h : ∀ n : Fin 52, (Scalar.cmpi .ne (Scalar.extui (Scalar.cmpi .eq (BitVec.ofNat 32 n.val) 0#32) : BitVec 32) 0#32 = 1#1) ↔ n.val = 0 := by decide
  exact h (i 0)

/-- What the slots and the counter hold before entry `b`: at the first both slots are free, later the entry's first
    block is in flight. -/
def entry (b : ℕ) : sProp 𝕄 :=
  if b = 0 then iprop(free c XR XC 0 ∗ free c XR XC 1 ∗ ∃ g, stP c g) else iprop(∃ g, stP c g ∗ slotsAt c XR XC (wd c g).toNat b 0)

/-- The block loop's resources of an entry, at trip `t`. -/
abbrev blocksOf (gO : Buf (Elt F) (arg1.view.loc (c : Thread nD τ))) (hv : Cnt (cntOf c i arg1 gO)) (gW : Buf (Elt F) (arg2.view.loc (c : Thread nD τ))) (gQ : Buf (Elt F) (arg3.view.loc (c : Thread nD τ))) (t : ℕ) : sProp 𝕄 :=
  blocksAt c XR XC i arg1 harg1 arg2 harg2 arg3 harg3 arg6 harg6 arg7 harg7 (BitVec.ofNat 32 (i 0).val) (cntOf c i arg1 gO) (chk1_of i hv) (nbW (cntOf c i arg1 gO))
    (qOf c arg3 gQ) (wtOf c arg2 gW) hv t

/-- The body's first part on the given staging memrefs. -/
abbrev partG : Prog (TpuEff nD τ sig (Elt F) Λ₀ .tc) (Σ' (arg0 : BitVec 32) (v34 : IVec S48x128 32), F .f32) :=
  k0_part105 (F := F) i arg1 harg1 arg2 harg2 arg3 harg3 codesM (Memref.isWhole_whole _) rowsM (Memref.isWhole_whole _)
    arg6 harg6 arg7 harg7 rbufM (Memref.isWhole_whole _) cbufM (Memref.isWhole_whole _) scoreM (Memref.isWhole_whole _) stM (Memref.isWhole_whole _) cc0_scratch4

set_option maxHeartbeats 4000000 in
/-- The first part at a later entry: its first block is in flight already. -/
theorem prefixRun1 (h0 : (i 0).val ≠ 0) (gO : Buf (Elt F) (arg1.view.loc (c : Thread nD τ))) (hv : Cnt (cntOf c i arg1 gO)) (gW gQ gT) (W : Waits sig Unit) :
    iprop(offP c arg1 gO ∗ wtP c arg2 gW ∗ qP c arg3 gQ ∗ owes (c : Thread nD τ) 0 W ∗ scP c gT ∗ entry c XR XC (i 0).val)
      ⊢ wp frame (wpE (defs₀ (F := F)) 𝒱₀ (c : Thread nD τ) none) Set.univ (partG i arg1 harg1 arg2 harg2 arg3 harg3 arg6 harg6 arg7 harg7)
        (fun r => iprop(⌜r = ⟨BitVec.ofNat 32 (i 0).val, iota .tc S48x128 32 [1] iota_S48x128_d1_w32, FloatOps.ofBits .f32 0#32⟩⌝
          ∗ offP c arg1 gO ∗ wtP c arg2 gW ∗ qP c arg3 gQ
          ∗ blocksOf c XR XC i arg1 harg1 arg2 harg2 arg3 harg3 arg6 harg6 arg7 harg7 gO hv gW gQ (k0_t1_loop (cntOf c i arg1 gO)).trips)) := by
  have hc : ¬ k0_cond1 i = 1#1 := fun h => h0 ((cond1_iff i).1 h)
  rw [entry, if_neg h0]
  iintro ⟨Hof, Hwt, Hq, HW, Hsc, ⟨%gS, Hst, Hsl⟩⟩
  dsimp only [partG]
  sl_unfold [k0_part105]
  sl_exec_parts
  have hv' : Cnt (prefixRun1.sl.r c i arg1 gO) := hv
  have hchk : k0_chk1 i (prefixRun1.sl.r c i arg1 gO) := chk1_of i hv'
  sl_exec_parts
  have e0 : atB (prefixRun1.sl.r c i arg1 gO) (i 0).val 0 = (i 0).val := if_pos (nb_pos hv')
  have e1 : atT (prefixRun1.sl.r c i arg1 gO) 0 = 0 := if_pos (nb_pos hv')
  ihave HB : blocksAt c XR XC i arg1 harg1 arg2 harg2 arg3 harg3 arg6 harg6 arg7 harg7 (BitVec.ofNat 32 (i 0).val) (prefixRun1.sl.r c i arg1 gO) hchk (prefixRun1.sl.v22 c i arg1 gO)
    (prefixRun1.sl.v24 c arg3 gQ) (prefixRun1.sl.v26 c arg2 gW) hv' 0 $$ [HW Hsc Hst Hsl]
  · unfold blocksAt
    iexists gS, gT
    isplitr; · ipureintro; exact Acc.zero gT
    isplitl [HW]; · iexists _; iexact HW
    isplitl [Hst]; · iexact Hst
    isplitl [Hsc]; · iexact Hsc
    irw [e0, e1]
    iexact Hsl
  sl_exec_parts
  sl_step
  isplitr; · ipureintro; rfl
  isplitl [Hof]; · iexact Hof
  isplitl [Hwt]; · iexact Hwt
  isplitl [Hq]; · iexact Hq
  iexact HB
set_option maxHeartbeats 4000000 in
/-- The first part at the first entry: it issues the first block. -/
theorem prefixRun0 (h0 : (i 0).val = 0) (gO : Buf (Elt F) (arg1.view.loc (c : Thread nD τ))) (hv : Cnt (cntOf c i arg1 gO)) (gW gQ gT) (W : Waits sig Unit) :
    iprop(offP c arg1 gO ∗ wtP c arg2 gW ∗ qP c arg3 gQ ∗ owes (c : Thread nD τ) 0 W ∗ scP c gT ∗ entry c XR XC (i 0).val)
      ⊢ wp frame (wpE (defs₀ (F := F)) 𝒱₀ (c : Thread nD τ) none) Set.univ (partG i arg1 harg1 arg2 harg2 arg3 harg3 arg6 harg6 arg7 harg7)
        (fun r => iprop(⌜r = ⟨BitVec.ofNat 32 (i 0).val, iota .tc S48x128 32 [1] iota_S48x128_d1_w32, FloatOps.ofBits .f32 0#32⟩⌝
          ∗ offP c arg1 gO ∗ wtP c arg2 gW ∗ qP c arg3 gQ
          ∗ blocksOf c XR XC i arg1 harg1 arg2 harg2 arg3 harg3 arg6 harg6 arg7 harg7 gO hv gW gQ (k0_t1_loop (cntOf c i arg1 gO)).trips)) := by
  have hc : k0_cond1 i = 1#1 := (cond1_iff i).2 h0
  rw [entry, if_pos h0, free]
  iintro ⟨Hof, Hwt, Hq, HW, Hsc, ⟨Hc0, Hc1, ⟨%fr, Hs0⟩, ⟨%fc, Hs1⟩, Htr, Htc⟩, Hf1, ⟨%gS, Hst⟩⟩
  ihave Hr := (rtok_split (F := F) c XR 0 0 0) $$ Htr
  ihave Hc := (ctok_split (F := F) c XC 0 0 0) $$ Htc
  icases Hr with ⟨Hh0, Hr0⟩
  icases Hc with ⟨Hh1, Hr1⟩
  dsimp only [partG]
  sl_unfold [k0_part105]
  sl_exec_parts
  have hv' : Cnt (prefixRun0.sl.r_1 c i arg1 gO) := hv
  have hchk : k0_chk1 i (prefixRun0.sl.r_1 c i arg1 gO) := chk1_of i hv'
  sl_exec_parts
  have e0 : atB (prefixRun0.sl.r_1 c i arg1 gO) (i 0).val 0 = (i 0).val := if_pos (nb_pos hv')
  have e1 : atT (prefixRun0.sl.r_1 c i arg1 gO) 0 = 0 := if_pos (nb_pos hv')
  ihave HB : blocksAt c XR XC i arg1 harg1 arg2 harg2 arg3 harg3 arg6 harg6 arg7 harg7 (BitVec.ofNat 32 (i 0).val) (prefixRun0.sl.r_1 c i arg1 gO) hchk (prefixRun0.sl.v22 c i arg1 gO)
    (prefixRun0.sl.v24 c arg3 gQ) (prefixRun0.sl.v26 c arg2 gW) hv' 0 $$ [HW Hsc Hst Hc0 Hc1 Hr0 Hr1 Hf1]
  · unfold blocksAt
    iexists _, gT
    isplitr; · ipureintro; exact Acc.zero gT
    isplitl [HW]; · iexists _; iexact HW
    isplitl [Hst]; · iexact Hst
    isplitl [Hsc]; · iexact Hsc
    irw [e0, e1, h0, wd_write]
    unfold slotsAt
    rw [if_pos (by decide : (0 : ℕ) < 52)]
    isplitr [Hf1]
    · unfold inflight
      isplitl [Hc0]; · iexists fr; iexact Hc0
      isplitl [Hc1]; · iexists fc; iexact Hc1
      isplitl [Hr0]; · iexact Hr0
      iexact Hr1
    iexact Hf1
  sl_exec_parts
  sl_step
  isplitr; · ipureintro; rfl
  isplitl [Hof]; · iexact Hof
  isplitl [Hwt]; · iexact Hwt
  isplitl [Hq]; · iexact Hq
  iexact HB

/-- The first part of the body, at any entry. -/
theorem prefixRun (gO : Buf (Elt F) (arg1.view.loc (c : Thread nD τ))) (hv : Cnt (cntOf c i arg1 gO)) (gW gQ gT) (W : Waits sig Unit) :
    iprop(offP c arg1 gO ∗ wtP c arg2 gW ∗ qP c arg3 gQ ∗ owes (c : Thread nD τ) 0 W ∗ scP c gT ∗ entry c XR XC (i 0).val)
      ⊢ wp frame (wpE (defs₀ (F := F)) 𝒱₀ (c : Thread nD τ) none) Set.univ (partG i arg1 harg1 arg2 harg2 arg3 harg3 arg6 harg6 arg7 harg7)
        (fun r => iprop(⌜r = ⟨BitVec.ofNat 32 (i 0).val, iota .tc S48x128 32 [1] iota_S48x128_d1_w32, FloatOps.ofBits .f32 0#32⟩⌝
          ∗ offP c arg1 gO ∗ wtP c arg2 gW ∗ qP c arg3 gQ
          ∗ blocksOf c XR XC i arg1 harg1 arg2 harg2 arg3 harg3 arg6 harg6 arg7 harg7 gO hv gW gQ (k0_t1_loop (cntOf c i arg1 gO)).trips)) := by
  by_cases h0 : (i 0).val = 0
  · exact prefixRun0 c XR XC i arg1 harg1 arg2 harg2 arg3 harg3 arg6 harg6 arg7 harg7 h0 gO hv gW gQ gT W
  · exact prefixRun1 c XR XC i arg1 harg1 arg2 harg2 arg3 harg3 arg6 harg6 arg7 harg7 h0 gO hv gW gQ gT W

/-- The maxima of the two halves' documents, from the score tiles `gT`. -/
abbrev maxA (gO : Buf (Elt F) (arg1.view.loc (c : Thread nD τ))) (hO : OffOK c arg1 gO) (gT : Buf (Elt F) (scoreM.view.loc (c : Thread nD τ))) : FVec F S48x128 .f32 :=
  docAccA c i arg1 harg1 arg2 harg2 arg3 harg3 arg6 harg6 arg7 harg7 (BitVec.ofNat 32 (i 0).val) (iota .tc S48x128 32 [1] iota_S48x128_d1_w32) (FloatOps.ofBits .f32 4286578688#32) gO hO gT k0_t3_loop.trips
/-- The maxima of documents 128 to 255, one lane each. -/
abbrev maxB (gO : Buf (Elt F) (arg1.view.loc (c : Thread nD τ))) (hO : OffOK c arg1 gO) (gT : Buf (Elt F) (scoreM.view.loc (c : Thread nD τ))) : FVec F S48x128 .f32 :=
  docAccB c i arg1 harg1 arg2 harg2 arg3 harg3 arg6 harg6 arg7 harg7 (BitVec.ofNat 32 (i 0).val) (iota .tc S48x128 32 [1] iota_S48x128_d1_w32) (FloatOps.ofBits .f32 4286578688#32) gO hO gT k0_t4_loop.trips

/-- The two results' staging buffers at the body's exit. -/
abbrev tokOut (g6 : Buf (Elt F) (arg6.view.loc (c : Thread nD τ))) (x y : FVec F S48x128 .f32) : Buf (Elt F) (arg6.view.loc (c : Thread nD τ)) :=
  arg6.view.writes (Elt F) g6 [⟨Rect.unit ![0, 0, 128] S1x48x128.size inb_S1x48x256_S1x48x128_0_0_128, k0_pay7 y⟩, ⟨Rect.unit ![0, 0, 0] S1x48x128.size inb_S1x48x256_S1x48x128_0_0_0, k0_pay3 x⟩]
/-- The block of sums after both halves are stored. -/
abbrev sumOut (g7 : Buf (Elt F) (arg7.view.loc (c : Thread nD τ))) (x y : FVec F S48x128 .f32) : Buf (Elt F) (arg7.view.loc (c : Thread nD τ)) :=
  arg7.view.writes (Elt F) g7 [⟨Rect.unit ![0, 0, 128] S1x1x128.size inb_S1x1x256_S1x1x128_0_0_128, k0_pay8 y⟩, ⟨Rect.unit ![0, 0, 0] S1x1x128.size inb_S1x1x256_S1x1x128_0_0_0, k0_pay4 x⟩]

/-- The score tiles an entry's blocks can leave. -/
abbrev TilesOf (gO : Buf (Elt F) (arg1.view.loc (c : Thread nD τ))) (hv : Cnt (cntOf c i arg1 gO)) (gW : Buf (Elt F) (arg2.view.loc (c : Thread nD τ))) (gQ : Buf (Elt F) (arg3.view.loc (c : Thread nD τ)))
    (gT : Buf (Elt F) (scoreM.view.loc (c : Thread nD τ))) : Prop :=
  Acc c XR XC i arg1 harg1 arg2 harg2 arg3 harg3 arg6 harg6 arg7 harg7 (BitVec.ofNat 32 (i 0).val) (cntOf c i arg1 gO) (chk1_of i hv) (nbW (cntOf c i arg1 gO))
    (qOf c arg3 gQ) (wtOf c arg2 gW) hv (k0_t1_loop (cntOf c i arg1 gO)).trips gT

/-- What the body hands back. -/
def bodyPost (gO : Buf (Elt F) (arg1.view.loc (c : Thread nD τ))) (hO : OffOK c arg1 gO) (hv : Cnt (cntOf c i arg1 gO)) (gW : Buf (Elt F) (arg2.view.loc (c : Thread nD τ))) (gQ : Buf (Elt F) (arg3.view.loc (c : Thread nD τ)))
    (g6 : Buf (Elt F) (arg6.view.loc (c : Thread nD τ))) (g7 : Buf (Elt F) (arg7.view.loc (c : Thread nD τ))) : sProp 𝕄 :=
  iprop(offP c arg1 gO ∗ wtP c arg2 gW ∗ qP c arg3 gQ ∗ (∃ W, owes (c : Thread nD τ) 0 W) ∗ entry c XR XC ((i 0).val + 1)
    ∗ ∃ gT, ⌜TilesOf c XR XC i arg1 harg1 arg2 harg2 arg3 harg3 arg6 harg6 arg7 harg7 gO hv gW gQ gT⌝ ∗ scP c gT
      ∗ tokP c arg6 (tokOut c arg6 g6 (maxA c i arg1 harg1 arg2 harg2 arg3 harg3 arg6 harg6 arg7 harg7 gO hO gT) (maxB c i arg1 harg1 arg2 harg2 arg3 harg3 arg6 harg6 arg7 harg7 gO hO gT))
      ∗ sumP c arg7 (sumOut c arg7 g7 (maxA c i arg1 harg1 arg2 harg2 arg3 harg3 arg6 harg6 arg7 harg7 gO hO gT) (maxB c i arg1 harg1 arg2 harg2 arg3 harg3 arg6 harg6 arg7 harg7 gO hO gT)))

/-- After an entry's last block the next entry's first one is in flight. -/
theorem slots_end (gO : Buf (Elt F) (arg1.view.loc (c : Thread nD τ))) (hv : Cnt (cntOf c i arg1 gO)) (n : ℕ) :
    slotsAt c XR XC n (atB (cntOf c i arg1 gO) (i 0).val (k0_t1_loop (cntOf c i arg1 gO)).trips) (atT (cntOf c i arg1 gO) (k0_t1_loop (cntOf c i arg1 gO)).trips)
      ⊢ slotsAt (F := F) c XR XC n ((i 0).val + 1) 0 := by
  have ht : ¬ (k0_t1_loop (cntOf c i arg1 gO)).trips < nb (cntOf c i arg1 gO) := by rw [trips1_eq hv]; exact lt_irrefl _
  rw [show atB (cntOf c i arg1 gO) (i 0).val (k0_t1_loop (cntOf c i arg1 gO)).trips = (i 0).val + 1 from if_neg ht,
    show atT (cntOf c i arg1 gO) (k0_t1_loop (cntOf c i arg1 gO)).trips = 0 from if_neg ht]

set_option maxHeartbeats 4000000 in
/-- The body: its first part, the two loops over the documents, the two halves of both results stored. -/
theorem bodyRun (gO : Buf (Elt F) (arg1.view.loc (c : Thread nD τ))) (hO : OffOK c arg1 gO) (hv : Cnt (cntOf c i arg1 gO)) (gW gQ g6 g7 gT) (W : Waits sig Unit) (Q : PUnit → sProp 𝕄) :
    iprop((offP c arg1 gO ∗ wtP c arg2 gW ∗ qP c arg3 gQ ∗ tokP c arg6 g6 ∗ sumP c arg7 g7 ∗ owes (c : Thread nD τ) 0 W ∗ scP c gT
        ∗ entry c XR XC (i 0).val) ∗ (bodyPost c XR XC i arg1 harg1 arg2 harg2 arg3 harg3 arg6 harg6 arg7 harg7 gO hO hv gW gQ g6 g7 -∗ Q ⟨⟩))
      ⊢ wp frame (wpE (defs₀ (F := F)) 𝒱₀ (c : Thread nD τ) none) Set.univ (bodyG i arg1 harg1 arg2 harg2 arg3 harg3 arg6 harg6 arg7 harg7) Q := by
  dsimp only [bodyG]
  rw [cc0_score_eq_skeleton]
  unfold cc0_score_skel
  rw [wp_bind]
  iintro ⟨⟨Hof, Hwt, Hq, Htok, Hsum, HW, Hsc, He⟩, Hk⟩
  iapply (wp_wand_r Idealize.ShloMosaic.frame (wpE (defs₀ (F := F)) 𝒱₀ (c : Thread nD τ) none) Set.univ)
  isplitl [Hof Hwt Hq HW Hsc He]
  · iapply (prefixRun c XR XC i arg1 harg1 arg2 harg2 arg3 harg3 arg6 harg6 arg7 harg7 gO hv gW gQ gT W)
    isplitl [Hof]; · iexact Hof
    isplitl [Hwt]; · iexact Hwt
    isplitl [Hq]; · iexact Hq
    isplitl [HW]; · iexact HW
    isplitl [Hsc]; · iexact Hsc
    iexact He
  iintro %r ⟨%hr, Hof, Hwt, Hq, HB⟩
  subst hr
  dsimp only [blocksOf]
  unfold blocksAt
  icases HB with ⟨%gS, %gT, %hA, ⟨%W, HW⟩, Hst, Hsc, Hsl⟩
  ihave HD : docsAtA c i arg1 harg1 arg2 harg2 arg3 harg3 arg6 harg6 arg7 harg7 (BitVec.ofNat 32 (i 0).val) (iota .tc S48x128 32 [1] iota_S48x128_d1_w32)
    (FloatOps.ofBits .f32 4286578688#32) gO gT 0 (k0_pay1 (FloatOps.ofBits .f32 0#32)) $$ [Hof Hsc]
  · unfold docsAtA
    isplitr; · ipureintro; exact ⟨hO, by rw [docAccA]; rfl⟩
    isplitl [Hof]; · iexact Hof
    iexact Hsc
  sl_exec_parts
  unfold docsAtA
  icases HD with ⟨%hD, Hof, Hsc⟩
  obtain ⟨-, rfl⟩ := hD
  ihave HE : docsAtB c i arg1 harg1 arg2 harg2 arg3 harg3 arg6 harg6 arg7 harg7 (BitVec.ofNat 32 (i 0).val) (iota .tc S48x128 32 [1] iota_S48x128_d1_w32)
    (FloatOps.ofBits .f32 4286578688#32) gO gT 0 k0_pay5 $$ [Hof Hsc]
  · unfold docsAtB
    isplitr; · ipureintro; exact ⟨hO, by rw [docAccB]⟩
    isplitl [Hof]; · iexact Hof
    iexact Hsc
  sl_exec_parts
  unfold docsAtB
  icases HE with ⟨%hE, Hof, Hsc⟩
  obtain ⟨-, rfl⟩ := hE
  sl_step
  iapply Hk
  unfold bodyPost
  isplitl [Hof]; · iexact Hof
  isplitl [Hwt]; · iexact Hwt
  isplitl [Hq]; · iexact Hq
  isplitl [HW]; · iexists W; iexact HW
  isplitl [Hst Hsl]
  · unfold entry
    rw [if_neg (Nat.succ_ne_zero _)]
    iexists gS
    isplitl [Hst]; · iexact Hst
    iapply (slots_end c XR XC i arg1 gO hv)
    iexact Hsl
  iexists gT
  isplitr; · ipureintro; exact hA
  isplitl [Hsc]; · iexact Hsc
  isplitl [Htok]; · iexact Htok
  iexact Hsum
end Cert.KernelIdeal.Hand
-- ==== Proof.KI.Slots.lean ====
/-
  The kernel's buffers as its slots hold them: each of the two buffers is its two slots, each of the two arrays left in
  HBM is dealt to the two slots, the four transfer semaphores are the two streams' of the two slots.
-/
module

public import proofs.«01_k».proof.Proof.KI.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The indices of a slot of rows. -/
abbrev R2 (s : Fin 2) : Finset S2x640x128.Idx := (Rect.unit (s := S2x640x128) (slotOff s 0 0) S1x640x128.size (rslot_inb s)).set
/-- The indices of a slot of codes. -/
abbrev C2 (s : Fin 2) : Finset S2x32x1280.Idx := (Rect.unit (s := S2x32x1280) (slotOff s 0 0) S1x32x1280.size (cslot_inb s)).set

/-- A slot of rows reaches those indices. -/
theorem rslot_set (s : Fin 2) : (rslot s : Memref sig .tc .vmem _ _).view.set = R2 s := (View.set_reshape _ _).trans (View.set_slice_whole _ _)
/-- A slot of codes reaches those indices. -/
theorem cslot_set (s : Fin 2) : (cslot s : Memref sig .tc .vmem _ _).view.set = C2 s := (View.set_reshape _ _).trans (View.set_slice_whole _ _)

/-- An index is in the slot that its first coordinate names. -/
theorem mem_R2 (s : Fin 2) (y : S2x640x128.Idx) : y ∈ R2 s ↔ (y 0).val = s.val := by
  rw [Rect.mem_set_unit]
  have h1 : (y 1).val < 640 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 640; omega
    · show 0 ≤ (y 2).val ∧ (y 2).val < 0 + 128; omega
/-- The same for the codes. -/
theorem mem_C2 (s : Fin 2) (y : S2x32x1280.Idx) : y ∈ C2 s ↔ (y 0).val = s.val := by
  rw [Rect.mem_set_unit]
  have h1 : (y 1).val < 32 := (y 1).isLt
  have h2 : (y 2).val < 1280 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 32; omega
    · show 0 ≤ (y 2).val ∧ (y 2).val < 0 + 1280; omega
/-- The two slots of rows are apart. -/
theorem R2_disjoint : ∀ s s' : Fin 2, s ≠ s' → Disjoint (R2 s) (R2 s') := by
  intro s s' hne; rw [Finset.disjoint_left]; intro y hy hy'; rw [mem_R2] at hy hy'; exact hne (Fin.ext (hy.symm.trans hy'))
/-- The two slots of codes are apart. -/
theorem C2_disjoint : ∀ s s' : Fin 2, s ≠ s' → Disjoint (C2 s) (C2 s') := by
  intro s s' hne; rw [Finset.disjoint_left]; intro y hy hy'; rw [mem_C2] at hy hy'; exact hne (Fin.ext (hy.symm.trans hy'))
/-- They are all of the buffer of rows. -/
theorem R2_cover : (Finset.univ : Finset (Fin 2)).biUnion R2 = Finset.univ := by
  ext y; simp only [Finset.mem_biUnion, Finset.mem_univ, true_and, iff_true]; exact ⟨(y 0).cast (by decide), by rw [mem_R2]; rfl⟩
/-- They are all of the buffer of codes. -/
theorem C2_cover : (Finset.univ : Finset (Fin 2)).biUnion C2 = Finset.univ := by
  ext y; simp only [Finset.mem_biUnion, Finset.mem_univ, true_and, iff_true]; exact ⟨(y 0).cast (by decide), by rw [mem_C2]; rfl⟩

/-- A conjunction over the two slots. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

variable (c : Dev nD)

/-- Owning a slot of rows is owning its indices of the buffer. -/
theorem rslotP_eq (s : Fin 2) (f) : rslotP c s f = (((c : Thread nD τ).loc cc0_scratch0) ↦[R2 s]{fullShare} f : sProp 𝕄) :=
  congrArg (fun S => (_ ↦[S]{fullShare} f : sProp 𝕄)) (rslot_set s)
/-- Owning a slot of codes is owning its indices of the buffer. -/
theorem cslotP_eq (s : Fin 2) (f) : cslotP c s f = (((c : Thread nD τ).loc cc0_scratch1) ↦[C2 s]{fullShare} f : sProp 𝕄) :=
  congrArg (fun S => (_ ↦[S]{fullShare} f : sProp 𝕄)) (cslot_set s)

/-- The buffer of rows whole is its two slots, and back. -/
theorem rbuf_split : iprop(∃ f : Buf (Elt F) ((c : Thread nD τ).loc cc0_scratch0), ((c : Thread nD τ).loc cc0_scratch0) ↦{fullShare} f)
    ⊢ (iprop((∃ f, rslotP c 0 f) ∗ ∃ f, rslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) R2 R2_disjoint R2_cover f).trans (bigSep_fin2 _))) $$ H
  icases H2 with ⟨H0, H1⟩
  isplitl [H0]
  · iexists f; iapply (entails_of_eq (rslotP_eq c 0 f).symm); iexact H0
  · iexists f; iapply (entails_of_eq (rslotP_eq c 1 f).symm); iexact H1
/-- The two slots of rows make the buffer. -/
theorem rbuf_join : iprop((∃ f, rslotP c 0 f) ∗ ∃ f, rslotP c 1 f)
    ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) R2 R2_disjoint R2_cover f0)
  irw [bigSep_fin2]
  isplitl [H0]
  · iexists f0; iapply (entails_of_eq (rslotP_eq c 0 f0)); iexact H0
  · iexists f1; iapply (entails_of_eq (rslotP_eq c 1 f1)); iexact H1
/-- The buffer of codes whole is its two slots, and back. -/
theorem cbuf_split : iprop(∃ f : Buf (Elt F) ((c : Thread nD τ).loc cc0_scratch1), ((c : Thread nD τ).loc cc0_scratch1) ↦{fullShare} f)
    ⊢ (iprop((∃ f, cslotP c 0 f) ∗ ∃ f, cslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) C2 C2_disjoint C2_cover f).trans (bigSep_fin2 _))) $$ H
  icases H2 with ⟨H0, H1⟩
  isplitl [H0]
  · iexists f; iapply (entails_of_eq (cslotP_eq c 0 f).symm); iexact H0
  · iexists f; iapply (entails_of_eq (cslotP_eq c 1 f).symm); iexact H1
/-- The two slots of codes make the buffer. -/
theorem cbuf_join : iprop((∃ f, cslotP c 0 f) ∗ ∃ f, cslotP c 1 f)
    ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) C2 C2_disjoint C2_cover f0)
  irw [bigSep_fin2]
  isplitl [H0]
  · iexists f0; iapply (entails_of_eq (cslotP_eq c 0 f0)); iexact H0
  · iexists f1; iapply (entails_of_eq (cslotP_eq c 1 f1)); iexact H1

/-- The two arrays dealt to the two slots. -/
theorem rows_deal (XR : Buf (Elt F) (rowsM.view.loc (c : Thread nD τ))) :
    (((c : Thread nD τ).loc main_v22) ↦{fullShare} XR : sProp 𝕄) = iprop(rtok c XR 0 ∗ rtok c XR 1) := by
  rw [Transfers.pointsTo_deal (Finset.univ : Finset (Fin 2)) (Finset.univ_nonempty) fullShare, bigSep_fin2]; rfl
/-- The codes, dealt in two shares, one for each slot. -/
theorem codes_deal (XC : Buf (Elt F) (codesM.view.loc (c : Thread nD τ))) :
    (((c : Thread nD τ).loc main_v8) ↦{fullShare} XC : sProp 𝕄) = iprop(ctok c XC 0 ∗ ctok c XC 1) := by
  rw [Transfers.pointsTo_deal (Finset.univ : Finset (Fin 2)) (Finset.univ_nonempty) fullShare, bigSep_fin2]; rfl

/-! ## The kernel's own semaphores, and the buffers it reads in HBM -/

/-- The four semaphores of the copies. -/
abbrev osem0 : Fin 4 → SemLoc sig := fun j => (![SemLoc.dma 8, SemLoc.dma 9, SemLoc.dma 10, SemLoc.dma 11] : Fin 4 → SemLoc sig) j
/-- They are the call's own. -/
theorem ownSemFacts0 : Pipeline.OwnSemFacts spec0 osem0 := by decide
/-- The semaphores at zero, one by one. -/
theorem ownSems00_eq : (Pipeline.ownSems0 (Ix := Unit) (Name := ℕ) (U := UU nD τ) (Lvl := ℕ) (Val := Elt F) (τ := τ) osem0 c : sProp 𝕄)
    = iprop(cellP c 0 0 ∗ cellP c 0 1 ∗ cellP c 1 0 ∗ cellP c 1 1) := by
  rw [Pipeline.ownSems0_eq_of_list c osem0 [0, 1, 2, 3] (by decide) (by decide)]; rfl

/-- The arrays that the copies read. -/
def H0 : Finset (Ref sig .tc) := {main_v8, main_v22}
/-- No window stages them. -/
theorem H0_sub : H0 ⊆ Pipeline.restRefs sig spec0 := by decide
/-- Owning them, one by one. -/
theorem hbmPts0_eq (V : (b : Ref sig .tc) → Buf (Elt F) ((c : Thread nD τ).loc b)) :
    (bigSep H0 (fun b => ((c : Thread nD τ).loc b) ↦{fullShare} V b) : sProp 𝕄)
      = iprop((((c : Thread nD τ).loc main_v8) ↦{fullShare} V main_v8) ∗ (((c : Thread nD τ).loc main_v22) ↦{fullShare} V main_v22)) := by
  rw [show H0 = insert main_v8 {main_v22} from rfl, bigSep_insert (by decide), bigSep_singleton]; rfl

/-- The two slots by the counter's parity are the two slots. -/
theorem two_of_roles (P : Fin 2 → sProp 𝕄) (T : ℕ) : iprop(P (Ring.sl 2 T) ∗ P (Ring.sl 2 (T + 1))) ⊢ iprop(P 0 ∗ P 1) := by
  rcases Nat.mod_two_eq_zero_or_one T with h | h
  · have e0 : Ring.sl 2 T = 0 := Fin.ext (by simp [Ring.sl, Fin.ofNat, h])
    have e1 : Ring.sl 2 (T + 1) = 1 := Fin.ext (by simp [Ring.sl, Fin.ofNat]; omega)
    rw [e0, e1]
  · have e0 : Ring.sl 2 T = 1 := Fin.ext (by simp [Ring.sl, Fin.ofNat, h])
    have e1 : Ring.sl 2 (T + 1) = 0 := Fin.ext (by simp [Ring.sl, Fin.ofNat]; omega)
    rw [e0, e1]; iintro ⟨H1, H0⟩; isplitl [H0] <;> iassumption

end Cert.KernelIdeal.Hand
-- ==== Proof.KI.Launch.lean ====
/-
  The run: the call's 52 grid points one after the other, what each leaves in the two results' blocks stated as a
  relation (the score tiles past an entry's last block hold what earlier entries left there), the frame of the run.
-/
module

public import proofs.«01_k».proof.Proof.KI.Slots
public import proofs.«01_k».proof.Proof.Offs
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]
local notation "𝕄" => MT nD τ sig Unit (Elt F) ℕ (UU nD τ) ℕ
variable (m : (ℓ : Loc nD τ sig) → Buf (Elt F) ℓ) (ρ : Dev nD → PrngReg)

/-- The five windows' staging memrefs at a point. -/
abbrev a1 (t : Fin cfg0.N) : Memref sig .tc .smem S52x257 .i32 := win0_0.stage (cfg0.slots t 0)
/-- The buffer that holds the bucket weights of point `t`. -/
abbrev a2 (t : Fin cfg0.N) : Memref sig .tc .vmem S8x128 .f32 := win0_1.stage (cfg0.slots t 1)
/-- The buffer that holds the queries of point `t`. -/
abbrev a3 (t : Fin cfg0.N) : Memref sig .tc .vmem S1x48x128 .bf16 := win0_2.stage (cfg0.slots t 2)
/-- The buffer that holds the maxima of point `t`. -/
abbrev a6 (t : Fin cfg0.N) : Memref sig .tc .vmem S1x48x256 .f32 := win0_3.stage (cfg0.slots t 3)
/-- The buffer that holds the sums of point `t`. -/
abbrev a7 (t : Fin cfg0.N) : Memref sig .tc .vmem S1x1x256 .f32 := win0_4.stage (cfg0.slots t 4)
/-- It is a whole buffer. -/
abbrev h1 (t : Fin cfg0.N) : (a1 t).IsWhole := hstage0_0 ((cfg0.slots t 0).cast nbuf0_0)
/-- It is a whole buffer. -/
abbrev h2 (t : Fin cfg0.N) : (a2 t).IsWhole := hstage0_1 ((cfg0.slots t 1).cast nbuf0_1)
/-- It is a whole buffer. -/
abbrev h3 (t : Fin cfg0.N) : (a3 t).IsWhole := hstage0_2 ((cfg0.slots t 2).cast nbuf0_2)
/-- It is a whole buffer. -/
abbrev h6 (t : Fin cfg0.N) : (a6 t).IsWhole := hstage0_3 ((cfg0.slots t 3).cast nbuf0_3)
/-- It is a whole buffer. -/
abbrev h7 (t : Fin cfg0.N) : (a7 t).IsWhole := hstage0_4 ((cfg0.slots t 4).cast nbuf0_4)
/-- The two arrays left in HBM, as the region finds them. -/
abbrev XR (c : Dev nD) : Buf (Elt F) (rowsM.view.loc (c : Thread nD τ)) := V m c main_v22
/-- The codes as the call finds them. -/
abbrev XC (c : Dev nD) : Buf (Elt F) (codesM.view.loc (c : Thread nD τ)) := V m c main_v8
/-- The three inputs' staging buffers at a point. -/
abbrev gO (c : Dev nD) (t : Fin cfg0.N) : Buf (Elt F) ((a1 t).view.loc (c : Thread nD τ)) := (a1 t).view.rep (iblk m c 0 t)
/-- The staged weights of point `t`. -/
abbrev gW (c : Dev nD) (t : Fin cfg0.N) : Buf (Elt F) ((a2 t).view.loc (c : Thread nD τ)) := (a2 t).view.rep (iblk m c 1 t)
/-- The staged queries of point `t`. -/
abbrev gQ (c : Dev nD) (t : Fin cfg0.N) : Buf (Elt F) ((a3 t).view.loc (c : Thread nD τ)) := (a3 t).view.rep (iblk m c 2 t)

/-- The precondition as the proof uses it. -/
def PreOK : Prop := ∀ c : Dev nD, Cert.Offs.OK (m ((c : Thread nD τ).loc main_arg4))

/-- The grid has one axis: the coordinate of point `t` is `t`. -/
theorem coords_val (t : Fin cfg0.N) : ((grid0.coords t) 0).val = t.val := by
  have h : ∀ t : Fin 52, ((grid0.coords (t.cast N_0.symm)) 0).val = t.val := by decide
  exact h (t.cast N_0)

variable {m}

/-- A word of the offsets' block is the array's. -/
theorem gO_at (c : Dev nD) (t : Fin cfg0.N) (off : Fin 2 → ℕ) (inb : ∀ a, off a + S1x1.size a ≤ S52x257.size a) (j) (k : S52x257.Idx) (hk : ∀ a, (k a).val = off a) :
    ((a1 t).view.readAt (Elt F) (Rect.unit (s := S52x257) off S1x1.size inb).toLoadRect (gO m c t) j : BitVec 32) = m ((c : Thread nD τ).loc main_arg4) k := by
  rw [View.readAt_apply, View.read_rep]
  unfold iblk; rw [View.read_apply]
  have e := V_main_arg4 m c
  refine (congrFun e _).trans (congrArg (m ((c : Thread nD τ).loc main_arg4)) (funext fun a => Fin.ext ?_))
  have hj : (j a).val = 0 := Nat.lt_one_iff.1 (by have := (j a).isLt; fin_cases a <;> exact this)
  rw [hk a]
  fin_cases a
  · show 0 * 52 + 1 * (off 0 + 1 * (j 0).val) = off 0
    have : (j 0).val = 0 := hj
    omega
  · show 0 * 257 + 1 * (off 1 + 1 * (j 1).val) = off 1
    have : (j 1).val = 0 := hj
    omega

/-- The staged offsets are as the body needs them. -/
theorem offOK (h : PreOK m) (c : Dev nD) (t : Fin cfg0.N) : OffOK c (a1 t) (gO m c t) := by
  intro off inb j
  rw [gO_at c t off inb j (fun a => ⟨off a, by have := inb a; fin_cases a <;> exact this⟩) (fun _ => rfl)]
  exact (h c).le _
/-- An entry's row count is from 1 to 46080. -/
theorem cntOK (h : PreOK m) (c : Dev nD) (t : Fin cfg0.N) : Cnt (cntOf c (grid0.coords t) (a1 t) (gO m c t)) := by
  have hi : ((grid0.coords t) 0).val < 52 := ((grid0.coords t) 0).isLt
  have e : cntOf c (grid0.coords t) (a1 t) (gO m c t) = m ((c : Thread nD τ).loc main_arg4) (Cert.Offs.at2 ⟨_, hi⟩ (Fin.last 256)) :=
    gO_at c t _ _ _ _ (fun a => by
      have : ∀ n : Fin 52, (BitVec.ofNat 32 n.val).toNat = n.val := by decide
      fin_cases a
      · exact (this ⟨_, hi⟩).symm
      · rfl)
  rw [e]
  exact ⟨(h c).pos _, (h c).le _⟩

variable (m)
/-- The score tiles the body may leave at a point. -/
abbrev Tiles (h : PreOK m) (c : Dev nD) (t : Fin cfg0.N) (gT : Buf (Elt F) (scoreM.view.loc (c : Thread nD τ))) : Prop :=
  TilesOf c (XR m c) (XC m c) (grid0.coords t) (a1 t) (h1 t) (a2 t) (h2 t) (a3 t) (h3 t) (a6 t) (h6 t) (a7 t) (h7 t) (gO m c t) (cntOK h c t) (gW m c t) (gQ m c t) gT
/-- The maxima of documents 0 to 127 at point `t`, from given tiles. -/
abbrev mA (h : PreOK m) (c : Dev nD) (t : Fin cfg0.N) (gT : Buf (Elt F) (scoreM.view.loc (c : Thread nD τ))) : FVec F S48x128 .f32 :=
  maxA c (grid0.coords t) (a1 t) (h1 t) (a2 t) (h2 t) (a3 t) (h3 t) (a6 t) (h6 t) (a7 t) (h7 t) (gO m c t) (offOK h c t) gT
/-- The maxima of documents 128 to 255 at point `t`, from given tiles. -/
abbrev mB (h : PreOK m) (c : Dev nD) (t : Fin cfg0.N) (gT : Buf (Elt F) (scoreM.view.loc (c : Thread nD τ))) : FVec F S48x128 .f32 :=
  maxB c (grid0.coords t) (a1 t) (h1 t) (a2 t) (h2 t) (a3 t) (h3 t) (a6 t) (h6 t) (a7 t) (h7 t) (gO m c t) (offOK h c t) gT

/-- What the body may leave in the two results' staging buffers at a point. -/
def TokRel (h : PreOK m) (c : Dev nD) (t : Fin cfg0.N) (X : S1x48x256.Idx → Elt F .f32) : Prop :=
  ∃ gT g6, Tiles m h c t gT ∧ X = (a6 t).view.read (Elt F) (tokOut c (a6 t) g6 (mA m h c t gT) (mB m h c t gT))
/-- What point `t` leaves in the block of sums, from the same tiles. -/
def SumRel (h : PreOK m) (c : Dev nD) (t : Fin cfg0.N) (X : S1x1x256.Idx → Elt F .f32) : Prop :=
  ∃ gT g7, Tiles m h c t gT ∧ X = (a7 t).view.read (Elt F) (sumOut c (a7 t) g7 (mA m h c t gT) (mB m h c t gT))

/-- What the kernel holds of its own before entry `b`. -/
def Φ (c : Dev nD) (b : ℕ) : sProp 𝕄 := iprop(entry c (XR m c) (XC m c) b ∗ (∃ g, scP c g) ∗ (∃ r, prngReg c r))

/-- The data of the run: the arrays, what each window may hold after a point, and what is carried from point to point. -/
def rdat (h : PreOK m) (c : Dev nD) : RDat τ (Elt F) Unit ℕ (UU nD τ) ℕ cfg0 c where
  A w := V m c (Pipeline.arrRef spec0 w)
  after w t _ X := match w with
    | ⟨0, _⟩ => X = iblk m c 0 t
    | ⟨1, _⟩ => X = iblk m c 1 t
    | ⟨2, _⟩ => X = iblk m c 2 t
    | ⟨3, _⟩ => TokRel m h c t X
    | ⟨4, _⟩ => SumRel m h c t X
  Φ t := Φ m c t.val
  q _ := fullShare
  owed _ := 0

/-- A point finds the offsets in window 0. -/
theorem finds_0 (h : PreOK m) (c : Dev nD) (t : Fin cfg0.N) (Y) (hY : (rdat m h c).Finds 0 t Y) : Y = iblk m c 0 t := by
  by_cases hf : (cfg0.win 0).fetch t = true
  · obtain ⟨d, rfl⟩ := ((rdat m h c).finds_of_fetch hf Y).1 hY
    rfl
  · have hf' : (cfg0.win 0).fetch t = false := by simpa using hf
    have ht : t.val ≠ 0 := fun e => hf ((fetch0_0 t).2 (by rw [e]))
    rcases ((rdat m h c).finds_of_pos hf' ht Y).1 hY with e | ⟨_, _, e⟩
    · exact absurd e (by simp [Window.flush])
    · exact e
/-- A point finds the weights in window 1. -/
theorem finds_1 (h : PreOK m) (c : Dev nD) (t : Fin cfg0.N) (Y) (hY : (rdat m h c).Finds 1 t Y) : Y = iblk m c 1 t := by
  by_cases hf : (cfg0.win 1).fetch t = true
  · obtain ⟨d, rfl⟩ := ((rdat m h c).finds_of_fetch hf Y).1 hY
    rfl
  · have hf' : (cfg0.win 1).fetch t = false := by simpa using hf
    have ht : t.val ≠ 0 := fun e => hf ((fetch0_1 t).2 (by rw [e]))
    rcases ((rdat m h c).finds_of_pos hf' ht Y).1 hY with e | ⟨_, _, e⟩
    · exact absurd e (by simp [Window.flush])
    · exact e
/-- A point finds the entry's queries in window 2. -/
theorem finds_2 (h : PreOK m) (c : Dev nD) (t : Fin cfg0.N) (Y) (hY : (rdat m h c).Finds 2 t Y) : Y = iblk m c 2 t := by
  obtain ⟨d, rfl⟩ := ((rdat m h c).finds_of_fetch (fetch0_2 t) Y).1 hY
  rfl

/-- The body of point `t`, with its buffers as arguments. -/
theorem defs₀_row (t : Fin cfg0.N) : (defs₀ (F := F)) .tc cfg0.body (cfg0.bodyArgs t (cfg0.slots t))
    = bodyG (grid0.coords t) (a1 t) (h1 t) (a2 t) (h2 t) (a3 t) (h3 t) (a6 t) (h6 t) (a7 t) (h7 t) := by
  unfold defs₀; rw [Defs.onTc_tc]

set_option backward.isDefEq.respectTransparency.types false in
/-- A point, run from what it finds and what is carried to it, leaves what the data says. -/
theorem body_obligation (h : PreOK m) (c : Dev nD) : (rdat (F := F) m h c).BodyObligation (defs₀ (F := F)) 𝒱₀ () Set.univ := fun t Y hY => by
  rw [bigSep_W0, bigSep_W0, defs₀_row]
  dsimp only
  have e0 := finds_0 m h c t (Y 0) (hY 0)
  have e1 := finds_1 m h c t (Y 1) (hY 1)
  have e2 := finds_2 m h c t (Y 2) (hY 2)
  rw [e0, e1, e2]
  rw [show (rdat m h c).Φ t.castSucc = Φ m c t.val from rfl, show (rdat m h c).Φ t.succ = Φ m c (t.val + 1) from rfl]
  unfold RDat.owesAt Pipeline.owesWithin
  rw [show (rdat m h c).owed t.castSucc = 0 from rfl, show (rdat m h c).owed t.succ = 0 from rfl]
  unfold owns Φ
  have hc := coords_val t
  iintro ⟨⟨He, ⟨%gT, Hsc⟩, Hp⟩, ⟨%W, -, HW⟩, ⟨%g1, %hg1, Hof⟩, ⟨%g2, %hg2, Hwt⟩, ⟨%g3, %hg3, Hq⟩, ⟨%g6, -, Htok⟩, ⟨%g7, -, Hsum⟩⟩
  ihave Hof' := (pointsTo_rep_entails (c : Thread nD τ) (a1 t) g1 fullShare) $$ Hof
  ihave Hwt' := (pointsTo_rep_entails (c : Thread nD τ) (a2 t) g2 fullShare) $$ Hwt
  ihave Hq' := (pointsTo_rep_entails (c : Thread nD τ) (a3 t) g3 fullShare) $$ Hq
  rw [hg1, hg2, hg3]
  rw [← hc]
  iapply (bodyRun c (XR m c) (XC m c) (grid0.coords t) (a1 t) (h1 t) (a2 t) (h2 t) (a3 t) (h3 t) (a6 t) (h6 t) (a7 t) (h7 t) (gO m c t) (offOK h c t) (cntOK h c t) (gW m c t) (gQ m c t) g6 g7 gT W)
  isplitl [Hof' Hwt' Hq' Htok Hsum HW Hsc He]
  · isplitl [Hof']; · iexact Hof'
    isplitl [Hwt']; · iexact Hwt'
    isplitl [Hq']; · iexact Hq'
    isplitl [Htok]; · iexact Htok
    isplitl [Hsum]; · iexact Hsum
    isplitl [HW]; · iexact HW
    isplitl [Hsc]; · iexact Hsc
    iexact He
  unfold bodyPost
  iintro ⟨Hof, Hwt, Hq, ⟨%W', HW⟩, He, ⟨%gT', %hT, Hsc, Htok, Hsum⟩⟩
  isplitl [He Hsc Hp]
  · isplitl [He]; · iexact He
    isplitl [Hsc]; · iexists gT'; iexact Hsc
    iexact Hp
  isplitl [HW]
  · iexists W'; isplitr; · ipureintro; exact fun _ _ => Or.inl trivial
    iexact HW
  isplitl [Hof]
  · iexists (iblk m c 0 t)
    isplitr; · ipureintro; exact rfl
    iexists _; isplitr; rotate_left
    · iexact Hof
    · ipureintro; exact View.read_rep _ _
  isplitl [Hwt]
  · iexists (iblk m c 1 t)
    isplitr; · ipureintro; exact rfl
    iexists _; isplitr; rotate_left
    · iexact Hwt
    · ipureintro; exact View.read_rep _ _
  isplitl [Hq]
  · iexists (iblk m c 2 t)
    isplitr; · ipureintro; exact rfl
    iexists _; isplitr; rotate_left
    · iexact Hq
    · ipureintro; exact View.read_rep _ _
  isplitl [Htok]
  · iexists ((a6 t).view.read (Elt F) (tokOut c (a6 t) g6 (mA m h c t gT') (mB m h c t gT')))
    isplitr; · ipureintro; exact ⟨gT', g6, hT, rfl⟩
    iexists _; isplitr; rotate_left
    · iexact Htok
    · ipureintro; rfl
  iexists ((a7 t).view.read (Elt F) (sumOut c (a7 t) g7 (mA m h c t gT') (mB m h c t gT')))
  isplitr; · ipureintro; exact ⟨gT', g7, hT, rfl⟩
  iexists _; isplitr; rotate_left
  · iexact Hsum
  · ipureintro; rfl

/-! ## The run -/

/-- @main up to the region, at this algebra. -/
theorem hmainD (𝒱₀ : Variants) : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The counter's cells are the whole of its buffer. -/
theorem st_whole (c : Dev nD) : ((∃ f, ((c.tc : Thread nD τ).loc cc0_scratch3 ↦{fullShare} f) : sProp 𝕄) ⊢ ∃ g, stP c g)
    ∧ ((∃ g, stP c g) ⊢ (∃ f, ((c.tc : Thread nD τ).loc cc0_scratch3 ↦{fullShare} f) : sProp 𝕄)) := by
  have e : (stM.view).set = Finset.univ := View.set_whole _
  exact ⟨exists_mono fun g => entails_of_eq (congrArg (fun S => ((c.tc : Thread nD τ).loc cc0_scratch3 ↦[S]{fullShare} g : sProp 𝕄)) e.symm),
    exists_mono fun g => entails_of_eq (congrArg (fun S => ((c.tc : Thread nD τ).loc cc0_scratch3 ↦[S]{fullShare} g : sProp 𝕄)) e)⟩

/-- The tiles' cells are the whole of their buffer. -/
theorem sc_whole (c : Dev nD) : ((∃ f, ((c.tc : Thread nD τ).loc cc0_scratch2 ↦{fullShare} f) : sProp 𝕄) ⊢ ∃ g, scP c g)
    ∧ ((∃ g, scP c g) ⊢ (∃ f, ((c.tc : Thread nD τ).loc cc0_scratch2 ↦{fullShare} f) : sProp 𝕄)) := by
  have e : (scoreM.view).set = Finset.univ := View.set_whole _
  exact ⟨exists_mono fun g => entails_of_eq (congrArg (fun S => ((c.tc : Thread nD τ).loc cc0_scratch2 ↦[S]{fullShare} g : sProp 𝕄)) e.symm),
    exists_mono fun g => entails_of_eq (congrArg (fun S => ((c.tc : Thread nD τ).loc cc0_scratch2 ↦[S]{fullShare} g : sProp 𝕄)) e)⟩

/-- What the launch hands the kernel is its slots free, its counter and its tiles at anything. -/
theorem Φ_in (c : Dev nD) : Pipeline.ΦD osem0 spec0 H0 (V m) c ⊢ Φ m c 0 := by
  rw [Pipeline.ΦD_eq, scopedRest0_eq, ownSems00_eq, hbmPts0_eq, rows_deal, codes_deal]
  unfold Φ entry free
  rw [if_pos rfl]
  iintro ⟨⟨Hr, Hc, Hsc, Hst⟩, Hp, ⟨Ha0, Ha1, Hb0, Hb1⟩, ⟨⟨Htc0, Htc1⟩, ⟨Htr0, Htr1⟩⟩⟩
  ihave Hr2 := (rbuf_split c) $$ Hr
  ihave Hc2 := (cbuf_split c) $$ Hc
  icases Hr2 with ⟨Hr0, Hr1⟩
  icases Hc2 with ⟨Hc0, Hc1⟩
  isplitl [Hr0 Hr1 Hc0 Hc1 Hst Ha0 Ha1 Hb0 Hb1 Htc0 Htc1 Htr0 Htr1]
  · isplitl [Hr0 Hc0 Ha0 Hb0 Htc0 Htr0]
    · isplitl [Ha0]; · iexact Ha0
      isplitl [Hb0]; · iexact Hb0
      isplitl [Hr0]; · iexact Hr0
      isplitl [Hc0]; · iexact Hc0
      isplitl [Htr0]; · iexact Htr0
      iexact Htc0
    isplitl [Hr1 Hc1 Ha1 Hb1 Htc1 Htr1]
    · isplitl [Ha1]; · iexact Ha1
      isplitl [Hb1]; · iexact Hb1
      isplitl [Hr1]; · iexact Hr1
      isplitl [Hc1]; · iexact Hc1
      isplitl [Htr1]; · iexact Htr1
      iexact Htc1
    iapply (st_whole c).1
    iexact Hst
  isplitl [Hsc]
  · iapply (sc_whole c).1
    iexact Hsc
  iexact Hp

/-- After the last entry it hands the same back. -/
theorem Φ_out (c : Dev nD) : Φ m c 52 ⊢ Pipeline.ΦD osem0 spec0 H0 (V m) c := by
  rw [Pipeline.ΦD_eq, scopedRest0_eq, ownSems00_eq, hbmPts0_eq, rows_deal, codes_deal]
  unfold Φ entry slotsAt
  rw [if_neg (by decide)]
  simp only [if_neg (lt_irrefl 52)]
  iintro ⟨⟨%gS, Hst, Hsl⟩, Hsc, Hp⟩
  ihave Hf := (two_of_roles (fun s => free c (XR m c) (XC m c) s) _) $$ Hsl
  unfold free
  icases Hf with ⟨⟨Ha0, Hb0, Hr0, Hc0, Htr0, Htc0⟩, ⟨Ha1, Hb1, Hr1, Hc1, Htr1, Htc1⟩⟩
  isplitl [Hr0 Hr1 Hc0 Hc1 Hsc Hst]
  · isplitl [Hr0 Hr1]
    · iapply (rbuf_join c)
      isplitl [Hr0]; · iexact Hr0
      iexact Hr1
    isplitl [Hc0 Hc1]
    · iapply (cbuf_join c)
      isplitl [Hc0]; · iexact Hc0
      iexact Hc1
    isplitl [Hsc]
    · iapply (sc_whole c).2
      iexact Hsc
    iapply (st_whole c).2
    iexists gS; iexact Hst
  isplitl [Hp]; · iexact Hp
  isplitl [Ha0 Ha1 Hb0 Hb1]
  · isplitl [Ha0]; · iexact Ha0
    isplitl [Ha1]; · iexact Ha1
    isplitl [Hb0]; · iexact Hb0
    iexact Hb1
  isplitl [Htc0 Htc1]
  · isplitl [Htc0]; · iexact Htc0
    iexact Htc1
  isplitl [Htr0]; · iexact Htr0
  iexact Htr1

set_option backward.isDefEq.respectTransparency.types false in
/-- Every run of @main ends, nothing faulting, with the two results' arrays at contents their blocks' relations allow, every other
    buffer of @main as the region found it, every semaphore at zero. -/
theorem run_main (h : PreOK m) : θ_run defs (onTc (τ := τ) (main (F := F))) (s₀ m ρ)
    (fun r => Pipeline.RDat.FramePost (cfgs 0) (rdat m h) (V m) r ∧ r.2.sem = fun _ => 0) :=
  Pipeline.RDat.θ_run_frame_dma (Q' := _) cfgs (0 : Fin 1) launch0 osem0 defs₀ 𝒱₀ (rdat m h) ownSemFacts0 H0 H0_sub m ρ main
    (hbody := body_obligation m h) (hshare := fun c w => (rdat m h c).share_full (fun _ => rfl) w) (howed := fun _ _ => rfl)
    (V := V m) (hmain := hmainD m 𝒱₀) (hA := fun _ _ => rfl) (hin := Φ_in m) (hout := Φ_out m)

/-- The arguments are as they were. -/
theorem args_kept (h : PreOK m) (r) (hh : Pipeline.RDat.FramePost (cfgs 0) (rdat m h) (V m) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  fun c => ⟨((hh c).2 main_arg0 (Pipeline.mem_restRefs_of main_arg0 (by decide) (by decide))).trans (V_main_arg0 m c),
      ((hh c).2 main_arg1 (Pipeline.mem_restRefs_of main_arg1 (by decide) (by decide))).trans (V_main_arg1 m c),
      ((hh c).2 main_arg2 (Pipeline.mem_restRefs_of main_arg2 (by decide) (by decide))).trans (V_main_arg2 m c),
      ((hh c).2 main_arg3 (Pipeline.mem_restRefs_of main_arg3 (by decide) (by decide))).trans (V_main_arg3 m c),
      (by have := (hh c).1 0
          rw [Pipeline.RDat.ArrAt_in (rdat m h c) 0 rfl] at this
          exact this.trans (V_main_arg4 m c))⟩

/-- The frame. -/
theorem frame_main (h : PreOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r hh => ⟨args_kept m h r hh.1, hh.2⟩) (run_main m ρ h)

end Cert.KernelIdeal.Hand
-- ==== Proof.KI.Tile.lean ====
/-
  One tile of scores: the packed words of 128 tokens and their codes to the tokens' residual rows, the
  queries times them, and each token's column divided by its row's length.
-/
module

public import proofs.«01_k».proof.Proof.KI.Loops

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The low halves of packed words, as floats. -/
def loF (w : IVec S8x128 32) : FVec F S8x128 .f32 := bitcastToFloat .f32 (shli w (broadcast S8x128 16#32))
/-- The high halves. -/
def hiF (w : IVec S8x128 32) : FVec F S8x128 .f32 := bitcastToFloat .f32 (andi w (broadcast S8x128 4294901760#32))
/-- The bucket weights the two bits at position `p` of the code words choose. -/
def look (v26 : FVec F S8x128 .f32) (cw : IVec S8x128 32) (p : BitVec 32) : FVec F S8x128 .f32 :=
  dynamicGather 0 v26 (shapeCast S8x128 (shapeCast S8x128x1 (andi (shrui cw (broadcast S8x128 p)) (broadcast S8x128 3#32)) shapeCasts_S8x128_S8x128x1) shapeCasts_S8x128x1_S8x128)
/-- Eight dimensions of the residuals, from low halves; -/
def pLo (v26 : FVec F S8x128 .f32) (cw w : IVec S8x128 32) (p : BitVec 32) : FVec F S8x128 .f32 := addf (loF w) (look v26 cw p)
/-- and from high halves. -/
def pHi (v26 : FVec F S8x128 .f32) (cw w : IVec S8x128 32) (p : BitVec 32) : FVec F S8x128 .f32 := addf (hiF w) (look v26 cw p)
/-- The sixteen parts of the residuals, in the order they are stacked. -/
def parts (v26 : FVec F S8x128 .f32) (cw : IVec S8x128 32) (w0 w1 w2 w3 w4 w5 w6 w7 : IVec S8x128 32) : Fin 16 → FVec F S8x128 .f32 :=
  ![pLo v26 cw w0 0#32, pHi v26 cw w0 16#32, pLo v26 cw w1 2#32, pHi v26 cw w1 18#32, pLo v26 cw w2 4#32, pHi v26 cw w2 20#32,
    pLo v26 cw w3 6#32, pHi v26 cw w3 22#32, pLo v26 cw w4 8#32, pHi v26 cw w4 24#32, pLo v26 cw w5 10#32, pHi v26 cw w5 26#32,
    pLo v26 cw w6 12#32, pHi v26 cw w6 28#32, pLo v26 cw w7 14#32, pHi v26 cw w7 30#32]
/-- The sum of the parts' squares. -/
def sqSum (p : Fin 16 → FVec F S8x128 .f32) : FVec F S8x128 .f32 :=
  let s (k : Fin 16) := mulf (p k) (p k)
  addf (addf (addf (addf (addf (addf (addf (addf (addf (addf (addf (addf (addf (addf (addf (s 0) (s 1)) (s 2)) (s 3)) (s 4)) (s 5)) (s 6)) (s 7)) (s 8)) (s 9)) (s 10)) (s 11)) (s 12)) (s 13)) (s 14)) (s 15)
/-- The parts stacked: a column is a token's residual row, in the packed order. -/
def stack (p : Fin 16 → FVec F S8x128 .f32) : FVec F S128x128 .f32 :=
  concatenate S128x128 0 [⟨S8x128, p 0⟩, ⟨S8x128, p 1⟩, ⟨S8x128, p 2⟩, ⟨S8x128, p 3⟩, ⟨S8x128, p 4⟩, ⟨S8x128, p 5⟩, ⟨S8x128, p 6⟩, ⟨S8x128, p 7⟩, ⟨S8x128, p 8⟩, ⟨S8x128, p 9⟩, ⟨S8x128, p 10⟩, ⟨S8x128, p 11⟩, ⟨S8x128, p 12⟩, ⟨S8x128, p 13⟩, ⟨S8x128, p 14⟩, ⟨S8x128, p 15⟩] concatenates_S8x128_S8x128_S8x128_S8x128_S8x128_S8x128_S8x128_S8x128_S8x128_S8x128_S8x128_S8x128_S8x128_S8x128_S8x128_S8x128_S128x128_d0
/-- The tile. -/
def tileV (v24 : FVec F S48x128 .bf16) (p : Fin 16 → FVec F S8x128 .f32) : FVec F S48x128 .f32 :=
  mulf (matmul dot_S48x128_S128x128_S48x128_1_0_0_1_n_n none v24 (truncf .bf16 (stack p) bitsLt_bf16_f32) (constant S48x128 .f32 0x00000000#32))
    (broadcastTo S48x128 (rsqrt (shapeCast S1x128 (multiReduction .add [0] S128 (sqSum p) 0x00000000#32 reduces_S8x128_S128 (.inl rfl) rfl) shapeCasts_S128_S1x128)) broadcasts_S1x128_S48x128)
/-- The code words of 128 tokens. -/
def codeW (y : IVec S1x32x128 8) : IVec S8x128 32 := bitcast S8x128 32 (shapeCast S32x128 y shapeCasts_S1x32x128_S32x128) bitcasts_S32x128_w8_S8x128_w32
/-- The words of 256 tokens, a token's down a column. -/
def wordsT (x : IVec S1x128x128 32) : IVec S128x128 32 := transpose S128x128 [1, 0] (shapeCast S128x128 x shapeCasts_S1x128x128_S128x128) transposes_S128x128_p1_0_S128x128
/-- The residual parts of the first 128 tokens of a chunk; -/
def parts0 (v26 : FVec F S8x128 .f32) (x : IVec S1x128x128 32) (y : IVec S1x32x128 8) : Fin 16 → FVec F S8x128 .f32 :=
  parts v26 (codeW y) (extractStridedSlice S8x128 ![0, 0] (wordsT x) slices_S128x128_o0_0_S8x128) (extractStridedSlice S8x128 ![8, 0] (wordsT x) slices_S128x128_o8_0_S8x128)
    (extractStridedSlice S8x128 ![16, 0] (wordsT x) slices_S128x128_o16_0_S8x128) (extractStridedSlice S8x128 ![24, 0] (wordsT x) slices_S128x128_o24_0_S8x128)
    (extractStridedSlice S8x128 ![32, 0] (wordsT x) slices_S128x128_o32_0_S8x128) (extractStridedSlice S8x128 ![40, 0] (wordsT x) slices_S128x128_o40_0_S8x128)
    (extractStridedSlice S8x128 ![48, 0] (wordsT x) slices_S128x128_o48_0_S8x128) (extractStridedSlice S8x128 ![56, 0] (wordsT x) slices_S128x128_o56_0_S8x128)
/-- and of the last 128. -/
def parts1 (v26 : FVec F S8x128 .f32) (x : IVec S1x128x128 32) (y : IVec S1x32x128 8) : Fin 16 → FVec F S8x128 .f32 :=
  parts v26 (codeW y) (extractStridedSlice S8x128 ![64, 0] (wordsT x) slices_S128x128_o64_0_S8x128) (extractStridedSlice S8x128 ![72, 0] (wordsT x) slices_S128x128_o72_0_S8x128)
    (extractStridedSlice S8x128 ![80, 0] (wordsT x) slices_S128x128_o80_0_S8x128) (extractStridedSlice S8x128 ![88, 0] (wordsT x) slices_S128x128_o88_0_S8x128)
    (extractStridedSlice S8x128 ![96, 0] (wordsT x) slices_S128x128_o96_0_S8x128) (extractStridedSlice S8x128 ![104, 0] (wordsT x) slices_S128x128_o104_0_S8x128)
    (extractStridedSlice S8x128 ![112, 0] (wordsT x) slices_S128x128_o112_0_S8x128) (extractStridedSlice S8x128 ![120, 0] (wordsT x) slices_S128x128_o120_0_S8x128)
/-- A tile as it is stored. -/
def tileS (v24 : FVec F S48x128 .bf16) (p : Fin 16 → FVec F S8x128 .f32) : FVec F S1x48x128 .f32 := shapeCast S1x48x128 (tileV v24 p) shapeCasts_S48x128_S1x48x128

section Loads
variable (c : Dev nD) (XR : Buf (Elt F) (rowsM.view.loc (c : Thread nD τ))) (XC : Buf (Elt F) (codesM.view.loc (c : Thread nD τ)))
  (i : grid0.Coords) {v4 : BitVec 32}

/-- The rows of a chunk lie in the buffer. -/
theorem xoff_inb {off : Fin 3 → ℕ} {s : Fin 2} {C : Fin 5} (e : off = slotOff s (128 * C.val) 0) : ∀ a, off a + S1x128x128.size a ≤ S2x640x128.size a := by
  subst e; have := s.isLt; have := C.isLt; intro a; fin_cases a
  · show s.val + 1 ≤ 2; omega
  · show 128 * C.val + 128 ≤ 640; omega
  · show 0 + 128 ≤ 128; omega
/-- The codes of a tile lie in the buffer. -/
theorem yoff_inb {off : Fin 3 → ℕ} {s : Fin 2} {T : Fin 10} (e : off = slotOff s 0 (128 * T.val)) : ∀ a, off a + S1x32x128.size a ≤ S2x32x1280.size a := by
  subst e; have := s.isLt; have := T.isLt; intro a; fin_cases a
  · show s.val + 1 ≤ 2; omega
  · show 0 + 32 ≤ 32; omega
  · show 128 * T.val + 128 ≤ 1280; omega

/-- Chunk `C`'s words as a trip loads them from its slot; -/
def xRd (t : Fin (k0_t1_loop v4).trips) (w : BitVec 32) (C : Fin 5) (off : Fin 3 → ℕ) (e : off = slotOff (Ring.sl 2 w.toNat) (128 * C.val) 0) : IVec S1x128x128 32 :=
  rbufM.view.readAt (Elt F) (Rect.unit (s := S2x640x128) off S1x128x128.size (xoff_inb e)).toLoadRect (rland c XR (Ring.sl 2 w.toNat) (curB i) (curT t.val) (rslot (Ring.sl 2 w.toNat)).view.junk)
/-- and the codes of the block's tile `T`. -/
def yRd (t : Fin (k0_t1_loop v4).trips) (w : BitVec 32) (T : Fin 10) (off : Fin 3 → ℕ) (e : off = slotOff (Ring.sl 2 w.toNat) 0 (128 * T.val)) : IVec S1x32x128 8 :=
  cbufM.view.readAt (Elt F) (Rect.unit (s := S2x32x1280) off S1x32x128.size (yoff_inb e)).toLoadRect (cland c XC (Ring.sl 2 w.toNat) (curB i) (curT t.val) (cslot (Ring.sl 2 w.toNat)).view.junk)

variable (hw1 : k0_chk1 i v4) (v24 : FVec F S48x128 .bf16) (v26 : FVec F S8x128 .f32)
/-- Tile `h` of chunk `C` of trip `t`, as a piece stored into the tiles. -/
def tileP (t : Fin (k0_t1_loop v4).trips) (C : Fin 5) (h : Fin 2) (p : Fin 16 → FVec F S8x128 .f32) : View.Piece (Elt F) S363x48x128 .f32 :=
  ⟨Rect.unit (s := S363x48x128) (k0_off16 v4 t (BitVec.ofNat 32 C.val) (BitVec.ofNat 32 h.val)) S1x48x128.size (hw1.2.2.2.2.2.2.2.2.2.2.2.1 t C h), tileS v24 p⟩
/-- The pieces of a trip. -/
def tilesL (t : Fin (k0_t1_loop v4).trips) (w : BitVec 32) : List (View.Piece (Elt F) S363x48x128 .f32) :=
  [tileP i hw1 v24 t 4 1 (parts1 v26 (xRd c XR i t w 4 (k0_off27 w) (off27_eq w)) (yRd c XC i t w 9 (k0_off29 w) (off29_eq w))),
   tileP i hw1 v24 t 4 0 (parts0 v26 (xRd c XR i t w 4 (k0_off27 w) (off27_eq w)) (yRd c XC i t w 8 (k0_off28 w) (off28_eq w))),
   tileP i hw1 v24 t 3 1 (parts1 v26 (xRd c XR i t w 3 (k0_off24 w) (off24_eq w)) (yRd c XC i t w 7 (k0_off26 w) (off26_eq w))),
   tileP i hw1 v24 t 3 0 (parts0 v26 (xRd c XR i t w 3 (k0_off24 w) (off24_eq w)) (yRd c XC i t w 6 (k0_off25 w) (off25_eq w))),
   tileP i hw1 v24 t 2 1 (parts1 v26 (xRd c XR i t w 2 (k0_off21 w) (off21_eq w)) (yRd c XC i t w 5 (k0_off23 w) (off23_eq w))),
   tileP i hw1 v24 t 2 0 (parts0 v26 (xRd c XR i t w 2 (k0_off21 w) (off21_eq w)) (yRd c XC i t w 4 (k0_off22 w) (off22_eq w))),
   tileP i hw1 v24 t 1 1 (parts1 v26 (xRd c XR i t w 1 (k0_off18 w) (off18_eq w)) (yRd c XC i t w 3 (k0_off20 w) (off20_eq w))),
   tileP i hw1 v24 t 1 0 (parts0 v26 (xRd c XR i t w 1 (k0_off18 w) (off18_eq w)) (yRd c XC i t w 2 (k0_off19 w) (off19_eq w))),
   tileP i hw1 v24 t 0 1 (parts1 v26 (xRd c XR i t w 0 (k0_off14 w) (off14_eq w)) (yRd c XC i t w 1 (k0_off17 w) (off17_eq w))),
   tileP i hw1 v24 t 0 0 (parts0 v26 (xRd c XR i t w 0 (k0_off14 w) (off14_eq w)) (yRd c XC i t w 0 (k0_off15 w) (off15_eq w)))]

variable
  (arg1 : Memref sig .tc .smem S52x257 .i32) (harg1 : arg1.IsWhole) (arg2 : Memref sig .tc .vmem S8x128 .f32) (harg2 : arg2.IsWhole)
  (arg3 : Memref sig .tc .vmem S1x48x128 .bf16) (harg3 : arg3.IsWhole) (arg6 : Memref sig .tc .vmem S1x48x256 .f32) (harg6 : arg6.IsWhole)
  (arg7 : Memref sig .tc .vmem S1x1x256 .f32) (harg7 : arg7.IsWhole) (arg0 : BitVec 32) (v22 : BitVec 32)

set_option maxHeartbeats 4000000 in
/-- A trip stores those pieces. -/
theorem tripA_pieces (hv : Cnt v4) (t : Fin (k0_t1_loop v4).trips) (hn : nxB v4 (i 0).val t.val < 52) (w : BitVec 32) :
    (tripA c XR XC i arg1 harg1 arg2 harg2 arg3 harg3 arg6 harg6 arg7 harg7 arg0 v4 hw1 v22 v24 v26 hv t hn w).1 = tilesL c XR XC i hw1 v24 v26 t w := rfl
set_option maxHeartbeats 4000000 in
/-- The same for a trip with no block after it. -/
theorem tripB_pieces (hv : Cnt v4) (t : Fin (k0_t1_loop v4).trips) (hn : ¬ nxB v4 (i 0).val t.val < 52) (w : BitVec 32) :
    (tripB c XR XC i arg1 harg1 arg2 harg2 arg3 harg3 arg6 harg6 arg7 harg7 arg0 v4 hw1 v22 v24 v26 hv t hn w).1 = tilesL c XR XC i hw1 v24 v26 t w := rfl
/-- The same for a trip, whichever it is. -/
theorem tripL_pieces (hv : Cnt v4) (t : Fin (k0_t1_loop v4).trips) (w : BitVec 32) :
    tripL c XR XC i arg1 harg1 arg2 harg2 arg3 harg3 arg6 harg6 arg7 harg7 arg0 v4 hw1 v22 v24 v26 hv t w = tilesL c XR XC i hw1 v24 v26 t w := by
  rw [tripL, trip]
  split
  · exact tripA_pieces ..
  · exact tripB_pieces ..
end Loads
end Cert.KernelIdeal.Hand
-- ==== Proof.KI.Tiles.lean ====
/-
  The tiles of scores after a loop over blocks: each tile holds the products of its 128 rows with the queries, each
  over the length of its row, and keeps them through the later blocks.
-/
module
public import proofs.«01_k».proof.Proof.KI.Tile
public import Idealize.ShloMosaic.Lib.ValueLayout
public import Idealize.ShloMosaic.Lib.Pipeline.Value
public import Idealize.ShloMosaic.Lib.WritesUnit
@[expose] public section
noncomputable section
namespace Cert.KernelIdeal.Hand
open Cert.KernelIdeal Cert.KernelIdeal.Gen
open Idealize.ShloMosaic Idealize.ShloMosaic.TcCoe Idealize.ShloMosaic.Tactic
open Idealize.ShloMosaic.ValueIdx
variable {F : FTy → Type} [FloatOps F]
  (c : Dev nD) (XR : Buf (Elt F) (rowsM.view.loc (c : Thread nD τ))) (XC : Buf (Elt F) (codesM.view.loc (c : Thread nD τ)))
  (i : grid0.Coords) {v4 : BitVec 32}

/-- The words of chunk `R` of entry `b`. -/
def xBlk (b : Fin 52) (R : Fin 180) : IVec S1x128x128 32 := fun j => (XR : S52x23040x128.Idx → BitVec 32) (ix3 b ⟨128 * R.val + (j 1).val, by have := R.isLt; have : (j 1).val < 128 := (j 1).isLt; omega⟩ (j 2))
/-- The codes of tile `T` of entry `b`. -/
def yBlk (b : Fin 52) (T : Fin 360) : IVec S1x32x128 8 := fun j => (XC : S52x32x46080.Idx → BitVec 8) (ix3 b (j 1) ⟨128 * T.val + (j 2).val, by have := T.isLt; have : (j 2).val < 128 := (j 2).isLt; omega⟩)

/-- Slot `s` of the buffer of rows reads the buffer at `s`; -/
theorem rslot_read (s : Fin 2) (f : rbufM.view.ty.Contents (Elt F)) (p : Fin 640) (l : Fin 128) :
    (rslot s).view.read (Elt F) f (ix2 p l) = rbufM.view.read (Elt F) f (ix3 s p l) :=
  (congrFun (Memref.read_squeeze_slice rbufM (Rect.unit (s := S2x640x128) (slotOff s 0 0) S1x640x128.size (rslot_inb s)) (fun _ => rfl) squeezes_S1x640x128_S640x128 (by decide : S1x640x128.ShapeCasts S640x128) f) (ix2 p l)).trans
    ((shapeCast_1ab_ab_apply (a := 640) (b := 128) _ (by decide) p l).trans (congrArg (rbufM.view.read (Elt F) f) (funext fun a => Fin.ext (by
      fin_cases a
      · show s.val + 1 * 0 = s.val; omega
      · show 0 + 1 * p.val = p.val; omega
      · show 0 + 1 * l.val = l.val; omega))))
/-- slot `s` of the buffer of codes likewise; -/
theorem cslot_read (s : Fin 2) (f : cbufM.view.ty.Contents (Elt F)) (p : Fin 32) (l : Fin 1280) :
    (cslot s).view.read (Elt F) f (ix2 p l) = cbufM.view.read (Elt F) f (ix3 s p l) :=
  (congrFun (Memref.read_squeeze_slice cbufM (Rect.unit (s := S2x32x1280) (slotOff s 0 0) S1x32x1280.size (cslot_inb s)) (fun _ => rfl) squeezes_S1x32x1280_S32x1280 (by decide : S1x32x1280.ShapeCasts S32x1280) f) (ix2 p l)).trans
    ((shapeCast_1ab_ab_apply (a := 32) (b := 1280) _ (by decide) p l).trans (congrArg (cbufM.view.read (Elt F) f) (funext fun a => Fin.ext (by
      fin_cases a
      · show s.val + 1 * 0 = s.val; omega
      · show 0 + 1 * p.val = p.val; omega
      · show 0 + 1 * l.val = l.val; omega))))
/-- block `t` of entry `b` of the rows, -/
theorem rblk_read (b : Fin 52) (t : Fin 36) (p : Fin 640) (l : Fin 128) :
    (rblk b t).view.read (Elt F) XR (ix2 p l) = (XR : S52x23040x128.Idx → BitVec 32) (ix3 b ⟨640 * t.val + p.val, by omega⟩ l) :=
  (congrFun (Memref.read_squeeze_slice rowsM (Rect.unit (s := S52x23040x128) (rowOff b.val t.val) S1x640x128.size (rowOff_inb b t)) (fun _ => rfl) squeezes_S1x640x128_S640x128 (by decide : S1x640x128.ShapeCasts S640x128) XR) (ix2 p l)).trans
    ((shapeCast_1ab_ab_apply (a := 640) (b := 128) _ (by decide) p l).trans (congrArg (XR : S52x23040x128.Idx → BitVec 32) (funext fun a => Fin.ext (by
      fin_cases a
      · show b.val + 1 * 0 = b.val; omega
      · show 640 * t.val + 1 * p.val = 640 * t.val + p.val; omega
      · show 0 + 1 * l.val = l.val; omega))))
/-- and of the codes. -/
theorem cblk_read (b : Fin 52) (t : Fin 36) (p : Fin 32) (l : Fin 1280) :
    (cblk b t).view.read (Elt F) XC (ix2 p l) = (XC : S52x32x46080.Idx → BitVec 8) (ix3 b p ⟨1280 * t.val + l.val, by omega⟩) :=
  (congrFun (Memref.read_squeeze_slice codesM (Rect.unit (s := S52x32x46080) (codeOff b.val t.val) S1x32x1280.size (codeOff_inb b t)) (fun _ => rfl) squeezes_S1x32x1280_S32x1280 (by decide : S1x32x1280.ShapeCasts S32x1280) XC) (ix2 p l)).trans
    ((shapeCast_1ab_ab_apply (a := 32) (b := 1280) _ (by decide) p l).trans (congrArg (XC : S52x32x46080.Idx → BitVec 8) (funext fun a => Fin.ext (by
      fin_cases a
      · show b.val + 1 * 0 = b.val; omega
      · show 0 + 1 * p.val = p.val; omega
      · show 1280 * t.val + 1 * l.val = 1280 * t.val + l.val; omega))))

/-- A landed block, read in its slot; -/
theorem rland_read (s : Fin 2) (b : Fin 52) (t : Fin 36) (f : Buf (Elt F) ((rslot s).view.loc (c : Thread nD τ))) (p : Fin 640) (l : Fin 128) :
    rbufM.view.read (Elt F) (rland c XR s b t f) (ix3 s p l) = (XR : S52x23040x128.Idx → BitVec 32) (ix3 b ⟨640 * t.val + p.val, by omega⟩ l) :=
  (rslot_read s (rland c XR s b t f) p l).symm.trans ((congrFun (View.read_writes_whole (rslot s).view f (rpay c XR b t)) (ix2 p l)).trans (rblk_read c XR b t p l))
/-- codes likewise. -/
theorem cland_read (s : Fin 2) (b : Fin 52) (t : Fin 36) (f : Buf (Elt F) ((cslot s).view.loc (c : Thread nD τ))) (p : Fin 32) (l : Fin 1280) :
    cbufM.view.read (Elt F) (cland c XC s b t f) (ix3 s p l) = (XC : S52x32x46080.Idx → BitVec 8) (ix3 b p ⟨1280 * t.val + l.val, by omega⟩) :=
  (cslot_read s (cland c XC s b t f) p l).symm.trans ((congrFun (View.read_writes_whole (cslot s).view f (cpay c XC b t)) (ix2 p l)).trans (cblk_read c XC b t p l))

/-- A load of 128 packed rows from the buffer, at an element; -/
theorem rAt (s : Fin 2) (L : rbufM.view.ty.Contents (Elt F)) (C : Fin 5) (j : S1x128x128.Idx) (hj : 128 * C.val + (j 1).val < 640) :
    rbufM.view.readAt (Elt F) (Rect.unit (s := S2x640x128) (slotOff s (128 * C.val) 0) S1x128x128.size (xoff_inb rfl)).toLoadRect L j = rbufM.view.read (Elt F) L (ix3 s ⟨128 * C.val + (j 1).val, hj⟩ (j 2)) :=
  have hj0 : (j 0).val < 1 := (j 0).isLt
  congrArg (rbufM.view.read (Elt F) L) (funext fun a => Fin.ext (by
    fin_cases a
    · show s.val + 1 * (j 0).val = s.val; omega
    · show 128 * C.val + 1 * (j 1).val = 128 * C.val + (j 1).val; omega
    · show 0 + 1 * (j 2).val = (j 2).val; omega))
/-- a load of 128 tokens' codes likewise. -/
theorem cAt (s : Fin 2) (L : cbufM.view.ty.Contents (Elt F)) (K : Fin 10) (j : S1x32x128.Idx) (hj : 128 * K.val + (j 2).val < 1280) :
    cbufM.view.readAt (Elt F) (Rect.unit (s := S2x32x1280) (slotOff s 0 (128 * K.val)) S1x32x128.size (yoff_inb rfl)).toLoadRect L j = cbufM.view.read (Elt F) L (ix3 s (j 1) ⟨128 * K.val + (j 2).val, hj⟩) :=
  have hj0 : (j 0).val < 1 := (j 0).isLt
  congrArg (cbufM.view.read (Elt F) L) (funext fun a => Fin.ext (by
    fin_cases a
    · show s.val + 1 * (j 0).val = s.val; omega
    · show 0 + 1 * (j 1).val = (j 1).val; omega
    · show 128 * K.val + 1 * (j 2).val = 128 * K.val + (j 2).val; omega))

/-- A trip's words are its chunk's of the array; -/
theorem xRd_eq (hv : Cnt v4) (t : Fin (k0_t1_loop v4).trips) (w : BitVec 32) (C : Fin 5) (off : Fin 3 → ℕ) (e : off = slotOff (Ring.sl 2 w.toNat) (128 * C.val) 0) (R : Fin 180) (hR : R.val = 5 * t.val + C.val) :
    xRd c XR i t w C off e = xBlk c XR (curB i) R := by
  subst e
  have ht : t.val < 36 := Nat.lt_of_lt_of_le (trip_lt hv t) (nb_le hv)
  have hC := C.isLt
  funext j
  have hj0 : (j 0).val < 1 := (j 0).isLt
  have hj1 : (j 1).val < 128 := (j 1).isLt
  have e2 : (curT t.val).val = t.val := Ring.bk_val ht
  have h1 := rland_read c XR (Ring.sl 2 w.toNat) (curB i) (curT t.val) (rslot (Ring.sl 2 w.toNat)).view.junk ⟨128 * C.val + (j 1).val, by omega⟩ (j 2)
  unfold xRd xBlk
  have hb : (ix3 (curB i) ⟨640 * (curT t.val).val + (128 * C.val + (j 1).val), by omega⟩ (j 2) : S52x23040x128.Idx) = ix3 (curB i) ⟨128 * R.val + (j 1).val, by omega⟩ (j 2) := by
    congr 2; omega
  exact (rAt (Ring.sl 2 w.toNat) (rland c XR (Ring.sl 2 w.toNat) (curB i) (curT t.val) (rslot (Ring.sl 2 w.toNat)).view.junk) C j (by omega)).trans (h1.trans (congrArg (XR : S52x23040x128.Idx → BitVec 32) hb))
/-- its codes its tile's. -/
theorem yRd_eq (hv : Cnt v4) (t : Fin (k0_t1_loop v4).trips) (w : BitVec 32) (K : Fin 10) (off : Fin 3 → ℕ) (e : off = slotOff (Ring.sl 2 w.toNat) 0 (128 * K.val)) (T : Fin 360) (hT : T.val = 10 * t.val + K.val) :
    yRd c XC i t w K off e = yBlk c XC (curB i) T := by
  subst e
  have ht : t.val < 36 := Nat.lt_of_lt_of_le (trip_lt hv t) (nb_le hv)
  have hC := K.isLt
  funext j
  have hj0 : (j 0).val < 1 := (j 0).isLt
  have hj2 : (j 2).val < 128 := (j 2).isLt
  have e2 : (curT t.val).val = t.val := Ring.bk_val ht
  have h1 := cland_read c XC (Ring.sl 2 w.toNat) (curB i) (curT t.val) (cslot (Ring.sl 2 w.toNat)).view.junk (j 1) ⟨128 * K.val + (j 2).val, by omega⟩
  unfold yRd yBlk
  have hb : (ix3 (curB i) (j 1) ⟨1280 * (curT t.val).val + (128 * K.val + (j 2).val), by omega⟩ : S52x32x46080.Idx) = ix3 (curB i) (j 1) ⟨128 * T.val + (j 2).val, by omega⟩ :=
    congrArg (fun z : Fin 46080 => (ix3 (curB i) (j 1) z : S52x32x46080.Idx)) (Fin.ext (by show 1280 * (curT t.val).val + (128 * K.val + (j 2).val) = 128 * T.val + (j 2).val; omega))
  exact (cAt (Ring.sl 2 w.toNat) (cland c XC (Ring.sl 2 w.toNat) (curB i) (curT t.val) (cslot (Ring.sl 2 w.toNat)).view.junk) K j (by omega)).trans (h1.trans (congrArg (XC : S52x32x46080.Idx → BitVec 8) hb))

/-- The residual parts of tile `T` of entry `b`. -/
def partsAt (v26 : FVec F S8x128 .f32) (b : Fin 52) (T : Fin 360) : Fin 16 → FVec F S8x128 .f32 :=
  if T.val % 2 = 0 then parts0 v26 (xBlk c XR b ⟨T.val / 2, by omega⟩) (yBlk c XC b T) else parts1 v26 (xBlk c XR b ⟨T.val / 2, by omega⟩) (yBlk c XC b T)

/-- The decoded vectors of the first half of a chunk. -/
theorem parts0_at (v26 : FVec F S8x128 .f32) (hv : Cnt v4) (t : Fin (k0_t1_loop v4).trips) (w : BitVec 32) (C : Fin 5) (K : Fin 10) (o o' : Fin 3 → ℕ) (e e') (hK : K.val = 2 * C.val)
    (T : Fin 360) (hT : T.val = 10 * t.val + K.val) :
    parts0 v26 (xRd c XR i t w C o e) (yRd c XC i t w K o' e') = partsAt c XR XC v26 (curB i) T := by
  have hC := C.isLt
  rw [xRd_eq c XR i hv t w C o e ⟨T.val / 2, by omega⟩ (by show T.val / 2 = _; omega), yRd_eq c XC i hv t w K o' e' T hT, partsAt, if_pos (by omega)]
/-- The decoded vectors of the second half of a chunk. -/
theorem parts1_at (v26 : FVec F S8x128 .f32) (hv : Cnt v4) (t : Fin (k0_t1_loop v4).trips) (w : BitVec 32) (C : Fin 5) (K : Fin 10) (o o' : Fin 3 → ℕ) (e e') (hK : K.val = 2 * C.val + 1)
    (T : Fin 360) (hT : T.val = 10 * t.val + K.val) :
    parts1 v26 (xRd c XR i t w C o e) (yRd c XC i t w K o' e') = partsAt c XR XC v26 (curB i) T := by
  have hC := C.isLt
  rw [xRd_eq c XR i hv t w C o e ⟨T.val / 2, by omega⟩ (by show T.val / 2 = _; omega), yRd_eq c XC i hv t w K o' e' T hT, partsAt, if_neg (by omega)]

/-! ## What the tiles hold after the trips -/

section Acc
variable (hw1 : k0_chk1 i v4) (v24 : FVec F S48x128 .bf16) (v26 : FVec F S8x128 .f32)
/-- A store of a tile, read at that tile, is what was stored. -/
theorem tileP_hit (hv : Cnt v4) (t : Fin (k0_t1_loop v4).trips) (C : Fin 5) (h : Fin 2) (p) (g : scoreM.view.ty.Contents (Elt F)) (L) (T : Fin 363) (hT : T.val = 10 * t.val + (2 * C.val + h.val)) (q : Fin 48) (l : Fin 128) :
    scoreM.view.read (Elt F) (scoreM.view.writes (Elt F) g (tileP i hw1 v24 t C h p :: L)) (ix3 T q l) = tileV v24 p (ix2 q l) :=
  (View.read_writes_cons_unit_of_mem scoreM.view g _ _ L (ix3 T q l) (ix3 (0 : Fin 1) q l) (off16_eq hv t C h) (fun a => by
    fin_cases a
    · show T.val = (t.val * 5 + C.val) * 2 + h.val + 0; omega
    · show q.val = 0 + q.val; omega
    · show l.val = 0 + l.val; omega)).trans (shapeCast_ab_1ab_apply _ _ 0 q l)
/-- Read at another tile it is what was there. -/
theorem tileP_miss (hv : Cnt v4) (t : Fin (k0_t1_loop v4).trips) (C : Fin 5) (h : Fin 2) (p) (g : scoreM.view.ty.Contents (Elt F)) (L) (T : Fin 363) (hT : T.val ≠ 10 * t.val + (2 * C.val + h.val)) (q : Fin 48) (l : Fin 128) :
    scoreM.view.read (Elt F) (scoreM.view.writes (Elt F) g (tileP i hw1 v24 t C h p :: L)) (ix3 T q l) = scoreM.view.read (Elt F) (scoreM.view.writes (Elt F) g L) (ix3 T q l) :=
  View.read_writes_cons_unit_of_not_mem scoreM.view g _ _ L (ix3 T q l) (off16_eq hv t C h) (0 : Fin 3) (by
    show T.val < (t.val * 5 + C.val) * 2 + h.val ∨ (t.val * 5 + C.val) * 2 + h.val + 1 ≤ T.val
    omega)

/-- A trip's pieces, read at one of its tiles; -/
theorem tilesL_hit (hv : Cnt v4) (t : Fin (k0_t1_loop v4).trips) (w : BitVec 32) (g : scoreM.view.ty.Contents (Elt F)) (T : Fin 363) (hT : 10 * t.val ≤ T.val ∧ T.val < 10 * t.val + 10) (T' : Fin 360) (e : T'.val = T.val) (q : Fin 48) (l : Fin 128) :
    scoreM.view.read (Elt F) (scoreM.view.writes (Elt F) g (tilesL c XR XC i hw1 v24 v26 t w)) (ix3 T q l) = tileV v24 (partsAt c XR XC v26 (curB i) T') (ix2 q l) := by
  have hlt := trip_lt hv t
  unfold tilesL
  by_cases h9 : T.val = 10 * t.val + 9
  · exact (tileP_hit i hw1 v24 hv t 4 1 _ g _ T h9 q l).trans (congrArg (fun p => tileV v24 p (ix2 q l)) (parts1_at c XR XC i v26 hv t w 4 9 _ _ _ _ rfl T' (e.trans h9)))
  refine (tileP_miss i hw1 v24 hv t 4 1 _ g _ T h9 q l).trans ?_
  by_cases h8 : T.val = 10 * t.val + 8
  · exact (tileP_hit i hw1 v24 hv t 4 0 _ g _ T h8 q l).trans (congrArg (fun p => tileV v24 p (ix2 q l)) (parts0_at c XR XC i v26 hv t w 4 8 _ _ _ _ rfl T' (e.trans h8)))
  refine (tileP_miss i hw1 v24 hv t 4 0 _ g _ T h8 q l).trans ?_
  by_cases h7 : T.val = 10 * t.val + 7
  · exact (tileP_hit i hw1 v24 hv t 3 1 _ g _ T h7 q l).trans (congrArg (fun p => tileV v24 p (ix2 q l)) (parts1_at c XR XC i v26 hv t w 3 7 _ _ _ _ rfl T' (e.trans h7)))
  refine (tileP_miss i hw1 v24 hv t 3 1 _ g _ T h7 q l).trans ?_
  by_cases h6 : T.val = 10 * t.val + 6
  · exact (tileP_hit i hw1 v24 hv t 3 0 _ g _ T h6 q l).trans (congrArg (fun p => tileV v24 p (ix2 q l)) (parts0_at c XR XC i v26 hv t w 3 6 _ _ _ _ rfl T' (e.trans h6)))
  refine (tileP_miss i hw1 v24 hv t 3 0 _ g _ T h6 q l).trans ?_
  by_cases h5 : T.val = 10 * t.val + 5
  · exact (tileP_hit i hw1 v24 hv t 2 1 _ g _ T h5 q l).trans (congrArg (fun p => tileV v24 p (ix2 q l)) (parts1_at c XR XC i v26 hv t w 2 5 _ _ _ _ rfl T' (e.trans h5)))
  refine (tileP_miss i hw1 v24 hv t 2 1 _ g _ T h5 q l).trans ?_
  by_cases h4 : T.val = 10 * t.val + 4
  · exact (tileP_hit i hw1 v24 hv t 2 0 _ g _ T h4 q l).trans (congrArg (fun p => tileV v24 p (ix2 q l)) (parts0_at c XR XC i v26 hv t w 2 4 _ _ _ _ rfl T' (e.trans h4)))
  refine (tileP_miss i hw1 v24 hv t 2 0 _ g _ T h4 q l).trans ?_
  by_cases h3 : T.val = 10 * t.val + 3
  · exact (tileP_hit i hw1 v24 hv t 1 1 _ g _ T h3 q l).trans (congrArg (fun p => tileV v24 p (ix2 q l)) (parts1_at c XR XC i v26 hv t w 1 3 _ _ _ _ rfl T' (e.trans h3)))
  refine (tileP_miss i hw1 v24 hv t 1 1 _ g _ T h3 q l).trans ?_
  by_cases h2 : T.val = 10 * t.val + 2
  · exact (tileP_hit i hw1 v24 hv t 1 0 _ g _ T h2 q l).trans (congrArg (fun p => tileV v24 p (ix2 q l)) (parts0_at c XR XC i v26 hv t w 1 2 _ _ _ _ rfl T' (e.trans h2)))
  refine (tileP_miss i hw1 v24 hv t 1 0 _ g _ T h2 q l).trans ?_
  by_cases h1 : T.val = 10 * t.val + 1
  · exact (tileP_hit i hw1 v24 hv t 0 1 _ g _ T h1 q l).trans (congrArg (fun p => tileV v24 p (ix2 q l)) (parts1_at c XR XC i v26 hv t w 0 1 _ _ _ _ rfl T' (e.trans h1)))
  refine (tileP_miss i hw1 v24 hv t 0 1 _ g _ T h1 q l).trans ?_
  by_cases h0 : T.val = 10 * t.val + 0
  · exact (tileP_hit i hw1 v24 hv t 0 0 _ g _ T h0 q l).trans (congrArg (fun p => tileV v24 p (ix2 q l)) (parts0_at c XR XC i v26 hv t w 0 0 _ _ _ _ rfl T' (e.trans h0)))
  refine (tileP_miss i hw1 v24 hv t 0 0 _ g _ T h0 q l).trans ?_
  exact absurd hT (by omega)
/-- elsewhere they leave what was there. -/
theorem tilesL_miss (hv : Cnt v4) (t : Fin (k0_t1_loop v4).trips) (w : BitVec 32) (g : scoreM.view.ty.Contents (Elt F)) (T : Fin 363) (hT : T.val < 10 * t.val) (q : Fin 48) (l : Fin 128) :
    scoreM.view.read (Elt F) (scoreM.view.writes (Elt F) g (tilesL c XR XC i hw1 v24 v26 t w)) (ix3 T q l) = scoreM.view.read (Elt F) g (ix3 T q l) := by
  unfold tilesL
  refine (tileP_miss i hw1 v24 hv t 4 1 _ g _ T (by show T.val ≠ 10 * t.val + 9; omega) q l).trans ?_
  refine (tileP_miss i hw1 v24 hv t 4 0 _ g _ T (by show T.val ≠ 10 * t.val + 8; omega) q l).trans ?_
  refine (tileP_miss i hw1 v24 hv t 3 1 _ g _ T (by show T.val ≠ 10 * t.val + 7; omega) q l).trans ?_
  refine (tileP_miss i hw1 v24 hv t 3 0 _ g _ T (by show T.val ≠ 10 * t.val + 6; omega) q l).trans ?_
  refine (tileP_miss i hw1 v24 hv t 2 1 _ g _ T (by show T.val ≠ 10 * t.val + 5; omega) q l).trans ?_
  refine (tileP_miss i hw1 v24 hv t 2 0 _ g _ T (by show T.val ≠ 10 * t.val + 4; omega) q l).trans ?_
  refine (tileP_miss i hw1 v24 hv t 1 1 _ g _ T (by show T.val ≠ 10 * t.val + 3; omega) q l).trans ?_
  refine (tileP_miss i hw1 v24 hv t 1 0 _ g _ T (by show T.val ≠ 10 * t.val + 2; omega) q l).trans ?_
  refine (tileP_miss i hw1 v24 hv t 0 1 _ g _ T (by show T.val ≠ 10 * t.val + 1; omega) q l).trans ?_
  refine (tileP_miss i hw1 v24 hv t 0 0 _ g _ T (by show T.val ≠ 10 * t.val + 0; omega) q l).trans ?_
  rfl

variable
  (arg1 : Memref sig .tc .smem S52x257 .i32) (harg1 : arg1.IsWhole) (arg2 : Memref sig .tc .vmem S8x128 .f32) (harg2 : arg2.IsWhole)
  (arg3 : Memref sig .tc .vmem S1x48x128 .bf16) (harg3 : arg3.IsWhole) (arg6 : Memref sig .tc .vmem S1x48x256 .f32) (harg6 : arg6.IsWhole)
  (arg7 : Memref sig .tc .vmem S1x1x256 .f32) (harg7 : arg7.IsWhole) (arg0 : BitVec 32) (v22 : BitVec 32)
/-- After `n` trips the first `10 n` tiles hold the scores of their rows. -/
theorem acc_read (hv : Cnt v4) {n : ℕ} {g : Buf (Elt F) (scoreM.view.loc (c : Thread nD τ))}
    (hA : Acc c XR XC i arg1 harg1 arg2 harg2 arg3 harg3 arg6 harg6 arg7 harg7 arg0 v4 hw1 v22 v24 v26 hv n g)
    (T : Fin 363) (T' : Fin 360) (e : T'.val = T.val) (hT : T.val < 10 * n) (q : Fin 48) (l : Fin 128) :
    scoreM.view.read (Elt F) g (ix3 T q l) = tileV v24 (partsAt c XR XC v26 (curB i) T') (ix2 q l) := by
  induction hA with
  | zero g => exact absurd hT (by omega)
  | succ t w g h ih =>
    rw [tripL_pieces]
    by_cases hlt : T.val < 10 * t.val
    · exact (tilesL_miss c XR XC i hw1 v24 v26 hv t w g T hlt q l).trans (ih hlt)
    · exact tilesL_hit c XR XC i hw1 v24 v26 hv t w g T ⟨by omega, by omega⟩ T' e q l

end Acc
end Cert.KernelIdeal.Hand
-- ==== Proof.Spec.lean ====
/-
  The scores as one formula, of the five arguments read as arrays of extended reals, bytes and words: nothing here names
  a program. A row's vector is its centroid's plus the bucket weights its codes choose; a query's score against a row is
  their product over the row's length; a document's is the greatest of its rows'.
-/
module

public import Idealize.ShloMosaic.PureOps.Ideal
public import Idealize.ShloMosaic.Lib.ValueIdxCore
public import proofs.«01_k».proof.Proof.Offs

@[expose] public section

noncomputable section

namespace Cert.Spec

open Idealize.ShloMosaic Idealize.ShloMosaic.ValueIdx

/-- The queries. -/
abbrev Q : Type := (⟨3, ![52, 48, 128]⟩ : Shape).Idx → EReal
/-- The centroid rows, as 16-bit words. -/
abbrev C : Type := (⟨3, ![52, 46080, 128]⟩ : Shape).Idx → BitVec 16
/-- The bucket weights. -/
abbrev W : Type := (⟨1, ![4]⟩ : Shape).Idx → EReal
/-- The codes, four to a byte. -/
abbrev Y : Type := (⟨3, ![52, 46080, 32]⟩ : Shape).Idx → BitVec 8
/-- The row offsets of the documents. -/
abbrev O : Type := (⟨2, ![52, 257]⟩ : Shape).Idx → BitVec 32

/-- The number a 16-bit pattern is, read as the upper half of a float's. -/
def cen (x : BitVec 16) : EReal := FloatOps.ofBits (F := Ideal) .f32 (x.setWidth 32 <<< 16)
/-- The two-bit field `f` of a byte. -/
def field (y : BitVec 8) (f : ℕ) : Fin 4 := ⟨(y >>> (2 * f)).toNat % 4, Nat.mod_lt _ (by decide)⟩
/-- Row `r`'s residual vector: its centroid plus the chosen weights. -/
def res (x1 : C) (x2 : W) (x3 : Y) (b : Fin 52) (r : Fin 46080) (d : Fin 128) : EReal :=
  cen (x1 (ix3 b r d)) + x2 (ix1 (field (x3 (ix3 b r (⟨d.val / 4, by omega⟩ : Fin 32))) (d.val % 4)))
/-- The squared length of row `r`. -/
def sq (x1 : C) (x2 : W) (x3 : Y) (b : Fin 52) (r : Fin 46080) : EReal := ∑ d : Fin 128, res x1 x2 x3 b r d * res x1 x2 x3 b r d
/-- Query `q`'s product with it. -/
def dot (x0 : Q) (x1 : C) (x2 : W) (x3 : Y) (b : Fin 52) (q : Fin 48) (r : Fin 46080) : EReal := ∑ d : Fin 128, x0 (ix3 b q d) * res x1 x2 x3 b r d
/-- The score. -/
def score (x0 : Q) (x1 : C) (x2 : W) (x3 : Y) (b : Fin 52) (q : Fin 48) (r : Fin 46080) : EReal :=
  Ideal.div (dot x0 x1 x2 x3 b q r) (Ideal.sqrt (sq x1 x2 x3 b r))
/-- Row `r` is one of document `d`'s. -/
def InDoc (x4 : O) (b : Fin 52) (d : Fin 256) (r : Fin 46080) : Prop :=
  (x4 (Cert.Offs.at2 b d.castSucc)).toNat ≤ r.val ∧ r.val < (x4 (Cert.Offs.at2 b d.succ)).toNat
/-- Query `q`'s best score in document `d`; -/
def tok (x0 : Q) (x1 : C) (x2 : W) (x3 : Y) (x4 : O) (b : Fin 52) (q : Fin 48) (d : Fin 256) : EReal :=
  ⨆ (r : Fin 46080) (_ : InDoc x4 b d r), score x0 x1 x2 x3 b q r
/-- their sum over the queries. -/
def tot (x0 : Q) (x1 : C) (x2 : W) (x3 : Y) (x4 : O) (b : Fin 52) (d : Fin 256) : EReal := ∑ q : Fin 48, tok x0 x1 x2 x3 x4 b q d

/-- The best score is the one number that bounds exactly what every row's score is bounded by. -/
theorem eq_tok {x0 : Q} {x1 : C} {x2 : W} {x3 : Y} {x4 : O} {b : Fin 52} {q : Fin 48} {d : Fin 256} {a : EReal}
    (h : ∀ x, a ≤ x ↔ ∀ r, InDoc x4 b d r → score x0 x1 x2 x3 b q r ≤ x) : a = tok x0 x1 x2 x3 x4 b q d :=
  eq_of_forall_ge_iff fun x => (h x).trans (by unfold tok; simp only [iSup_le_iff])

/-- Dividing by the length is multiplying with its inverse, of a length above zero. -/
theorem mul_rsqrt {x y : EReal} (hy : 0 < y) : x * Ideal.rsqrt y = Ideal.div x (Ideal.sqrt y) := by
  induction y with
  | bot => exact absurd hy (by simp)
  | top => rw [Ideal.rsqrt_top, Ideal.sqrt_top]; simp [Ideal.div]
  | coe y =>
    have hy' : 0 < y := by exact_mod_cast hy
    have hs : 0 < Real.sqrt y := Real.sqrt_pos.2 hy'
    have hz : ((Real.sqrt y : ℝ) : EReal) ≠ 0 := by exact_mod_cast hs.ne'
    rw [Ideal.rsqrt_coe, Ideal.sqrt_coe, if_neg (not_lt.2 hy'.le), if_neg hy'.ne', if_neg (not_lt.2 hy'.le), Ideal.div, if_neg hz, EReal.coe_inv]

/-- A sum over the 128 dimensions in the order the packed rows have them. -/
theorem sum_perm (f : Fin 128 → EReal) : ∑ s : Fin 8, ∑ n : Fin 16, f ⟨16 * s.val + 8 * (n.val % 2) + n.val / 2, by omega⟩ = ∑ d : Fin 128, f d := by
  rw [← Finset.sum_product']
  refine Finset.sum_bij' (fun p _ => ⟨16 * p.1.val + 8 * (p.2.val % 2) + p.2.val / 2, by have := p.1.isLt; have := p.2.isLt; omega⟩)
    (fun d _ => (⟨d.val / 16, by omega⟩, ⟨2 * (d.val % 8) + d.val % 16 / 8, by omega⟩)) ?_ ?_ ?_ ?_ ?_
  · simp
  · simp
  · rintro ⟨s, n⟩ _
    have := s.isLt; have := n.isLt
    refine Prod.ext (Fin.ext ?_) (Fin.ext ?_)
    · show (16 * s.val + 8 * (n.val % 2) + n.val / 2) / 16 = s.val; omega
    · have h1 : (16 * s.val + 8 * (n.val % 2) + n.val / 2) % 8 = n.val / 2 := by omega
      have h2 : (16 * s.val + 8 * (n.val % 2) + n.val / 2) % 16 / 8 = n.val % 2 := by
        have h3 : (16 * s.val + 8 * (n.val % 2) + n.val / 2) % 16 = 8 * (n.val % 2) + n.val / 2 := by omega
        rw [h3]; omega
      show 2 * ((16 * s.val + 8 * (n.val % 2) + n.val / 2) % 8) + (16 * s.val + 8 * (n.val % 2) + n.val / 2) % 16 / 8 = n.val; rw [h1, h2]; omega
  · intro d _
    refine Fin.ext ?_
    have h1 : (2 * (d.val % 8) + d.val % 16 / 8) % 2 = d.val % 16 / 8 := by omega
    have h2 : (2 * (d.val % 8) + d.val % 16 / 8) / 2 = d.val % 8 := by omega
    show 16 * (d.val / 16) + 8 * ((2 * (d.val % 8) + d.val % 16 / 8) % 2) + (2 * (d.val % 8) + d.val % 16 / 8) / 2 = d.val; rw [h1, h2]; omega
  · intros; rfl
/-- The four fields' sums make the whole one. -/
theorem sum_fields (f : Fin 128 → EReal) :
    ∑ k : Fin 32, f ⟨4 * k.val, by omega⟩ + ∑ k : Fin 32, f ⟨4 * k.val + 1, by omega⟩ + ∑ k : Fin 32, f ⟨4 * k.val + 2, by omega⟩ + ∑ k : Fin 32, f ⟨4 * k.val + 3, by omega⟩ = ∑ d : Fin 128, f d := by
  rw [← Finset.sum_add_distrib, ← Finset.sum_add_distrib, ← Finset.sum_add_distrib]
  have e : ∀ k : Fin 32, f ⟨4 * k.val, by omega⟩ + f ⟨4 * k.val + 1, by omega⟩ + f ⟨4 * k.val + 2, by omega⟩ + f ⟨4 * k.val + 3, by omega⟩ = ∑ j : Fin 4, f ⟨4 * k.val + j.val, by omega⟩ := fun k => by
    rw [Fin.sum_univ_four]; rfl
  rw [Finset.sum_congr rfl fun k _ => e k, ← Finset.sum_product']
  refine Finset.sum_bij' (fun p _ => ⟨4 * p.1.val + p.2.val, by have := p.1.isLt; have := p.2.isLt; omega⟩)
    (fun d _ => (⟨d.val / 4, by omega⟩, ⟨d.val % 4, by omega⟩)) ?_ ?_ ?_ ?_ ?_
  · simp
  · simp
  · rintro ⟨s, n⟩ _
    have := s.isLt; have := n.isLt
    refine Prod.ext (Fin.ext ?_) (Fin.ext ?_)
    · show (4 * s.val + n.val) / 4 = s.val; omega
    · show (4 * s.val + n.val) % 4 = n.val; omega
  · intro d _
    refine Fin.ext ?_
    show 4 * (d.val / 4) + d.val % 4 = d.val; omega
  · intros; rfl

end Cert.Spec
end
-- ==== Proof.KI.TileVal.lean ====
/-
  A tile of scores in the real-number semantics: from packed words and bytes to residual rows, and from those to each
  query's product with the row over the row's length.
-/
module

public import proofs.«01_k».proof.Proof.KI.Tiles
public import proofs.«01_k».proof.Proof.Spec
public import Idealize.ShloMosaic.Lib.BitcastFour
public import Idealize.ShloMosaic.Lib.MatmulPlain
public import Idealize.ShloMosaic.Lib.ValueLayout
public import Idealize.ShloMosaic.Lib.Pipeline.Value
public import Idealize.ShloMosaic.Lib.Pointwise.ElementwiseCore
public import Idealize.ShloMosaic.PureOps.Ideal.Laws

@[expose] public section

noncomputable section

namespace Cert.KernelIdeal.Hand

open Cert.KernelIdeal Cert.KernelIdeal.Gen Idealize.ShloMosaic.ValueIdx
open Idealize.ShloMosaic

/-- Two 16-bit patterns packed in a word: the low half and the high half. -/
def packW (lo hi : BitVec 16) : BitVec 32 := lo.setWidth 32 ||| hi.setWidth 32 <<< 16
/-- Shifting the low half up leaves the low pattern as a float's upper half; -/
theorem packW_lo (lo hi : BitVec 16) : packW lo hi <<< 16 = lo.setWidth 32 <<< 16 := by
  apply BitVec.eq_of_getLsbD_eq
  intro i hi'
  simp only [packW, BitVec.getLsbD_shiftLeft, BitVec.getLsbD_or, BitVec.getLsbD_setWidth]
  by_cases h : i < 16
  · simp [h]
  · have : i - 16 < 16 := by omega
    simp [this]
/-- masking leaves the high one. -/
theorem packW_hi (lo hi : BitVec 16) : packW lo hi &&& 4294901760#32 = hi.setWidth 32 <<< 16 := by
  apply BitVec.eq_of_getLsbD_eq
  intro i hi'
  have hm : (4294901760#32 : BitVec 32).getLsbD i = decide (16 ≤ i) := by
    have : ∀ n : Fin 32, (4294901760#32 : BitVec 32).getLsbD n.val = decide (16 ≤ n.val) := by decide
    exact this ⟨i, hi'⟩
  simp only [packW, BitVec.getLsbD_and, BitVec.getLsbD_shiftLeft, BitVec.getLsbD_or, BitVec.getLsbD_setWidth, hm]
  by_cases h : i < 16
  · have : ¬ 16 ≤ i := by omega
    simp [h, this]
  · have h1 : 16 ≤ i := by omega
    have h2 : lo.getLsbD i = false := BitVec.getLsbD_of_ge _ _ h1
    have h3 : i - 16 < 32 := by omega
    simp [h, h1, h2, h3, hi']
/-- Two bits of a word that are a byte's two bits are the byte's field. -/
theorem two_bits (W : BitVec 32) (y : BitVec 8) (n k : ℕ) (hn : n + 1 < 32) (hk : k + 1 < 8) (h0 : W.getLsbD n = y.getLsbD k) (h1 : W.getLsbD (n + 1) = y.getLsbD (k + 1)) :
    ((W >>> n) &&& 3#32).toNat = (y >>> k).toNat % 4 := by
  have hb : ∀ i, (3#32 : BitVec 32).getLsbD i = decide (i < 2) := fun i => by
    by_cases hi : i < 32
    · have : ∀ n : Fin 32, (3#32 : BitVec 32).getLsbD n.val = decide (n.val < 2) := by decide
      exact this ⟨i, hi⟩
    · rw [BitVec.getLsbD_of_ge _ _ (by omega)]; simp; omega
  have hb8 : ∀ i, (3#8 : BitVec 8).getLsbD i = decide (i < 2) := fun i => by
    by_cases hi : i < 8
    · have : ∀ n : Fin 8, (3#8 : BitVec 8).getLsbD n.val = decide (n.val < 2) := by decide
      exact this ⟨i, hi⟩
    · rw [BitVec.getLsbD_of_ge _ _ (by omega)]; simp; omega
  have e : (W >>> n) &&& 3#32 = ((y >>> k) &&& 3#8).setWidth 32 := by
    apply BitVec.eq_of_getLsbD_eq
    intro i hi
    rw [BitVec.getLsbD_and, hb, BitVec.getLsbD_ushiftRight, BitVec.getLsbD_setWidth, BitVec.getLsbD_and, hb8, BitVec.getLsbD_ushiftRight]
    match i with
    | 0 => simp [h0]
    | 1 => simp [h1]
    | (j + 2) => simp
  rw [e, BitVec.toNat_setWidth, BitVec.toNat_and, show (3#8).toNat = 2 ^ 2 - 1 from rfl, Nat.and_two_pow_sub_one_eq_mod]
  omega

section Parts
variable {x1 : Cert.Spec.C} {x2 : Cert.Spec.W} {x3 : Cert.Spec.Y} (b : Fin 52)
/-- Dimension `16 s + e`. -/
abbrev dimE (s : Fin 8) (e : Fin 16) : Fin 128 := ⟨16 * s.val + e.val, by omega⟩
/-- The weight looked up at position `e` of the code words is that of the dimension's field. -/
theorem look_apply (v26 : FVec Ideal S8x128 .f32) (hW : ∀ (k : Fin 8) (l : Fin 128), v26 (ix2 k l) = x2 (ix1 (⟨k.val % 4, by omega⟩ : Fin 4)))
    (y : IVec S1x32x128 8) (e : Fin 16) (s : Fin 8) (l : Fin 128) (r : Fin 46080) (hy : ∀ k : Fin 32, y (ix3 (0 : Fin 1) k l) = x3 (ix3 b r k)) :
    look v26 (codeW y) (BitVec.ofNat 32 (2 * e.val)) (ix2 s l) = x2 (ix1 (Cert.Spec.field (x3 (ix3 b r (⟨(dimE s e).val / 4, by omega⟩ : Fin 32))) ((dimE s e).val % 4))) := by
  have he := e.isLt
  have hs := s.isLt
  unfold look
  rw [shapeCast_shapeCast, dynamicGather_apply]
  have hidx : ∀ (k : Fin 8), (fun a : Fin 2 => if a = 0 then (⟨k.val % S8x128.size a, Nat.mod_lt _ (Fin.pos ((ix2 s l : S8x128.Idx) a))⟩ : Fin (S8x128.size a)) else (ix2 s l : S8x128.Idx) a) = (ix2 k l : S8x128.Idx) := fun k =>
    funext fun a => Fin.ext (by
      match a with
      | ⟨0, _⟩ => exact Nat.mod_eq_of_lt k.isLt
      | ⟨1, _⟩ => rfl)
  have hw : (andi (shrui (codeW y) (broadcast S8x128 (BitVec.ofNat 32 (2 * e.val)))) (broadcast S8x128 3#32) (ix2 s l)).toNat
      = (Cert.Spec.field (x3 (ix3 b r (⟨(dimE s e).val / 4, by omega⟩ : Fin 32))) ((dimE s e).val % 4)).val := by
    have h32 : (BitVec.ofNat 32 (2 * e.val)).toNat = 2 * e.val := by rw [BitVec.toNat_ofNat, Nat.mod_eq_of_lt (by omega)]
    show (IntOp.andi (IntOp.shrui .vector (codeW y (ix2 s l)) (BitVec.ofNat 32 (2 * e.val))) 3#32).toNat = _
    unfold IntOp.shrui IntOp.andi
    rw [if_pos (by rw [h32]; omega)]
    have hsh : codeW y (ix2 s l) >>> BitVec.ofNat 32 (2 * e.val) = codeW y (ix2 s l) >>> (2 * e.val) := by
      rw [BitVec.ushiftRight_eq', h32]
    rw [hsh]
    have hbit : ∀ q : ℕ, q < 32 → ∀ p : Fin 32, p.val = 4 * s.val + q / 8 → (codeW y (ix2 s l)).getLsbD q = (x3 (ix3 b r p)).getLsbD (q % 8) := fun q hq p hp => by
      unfold codeW
      rw [bitcast_8_32_getLsbD_ix2 _ _ s l q hq p hp, shapeCast_1ab_ab_apply, hy]
    have hd : (dimE s e).val / 4 = 4 * s.val + e.val / 4 := by show (16 * s.val + e.val) / 4 = _; omega
    have hm : (dimE s e).val % 4 = e.val % 4 := by show (16 * s.val + e.val) % 4 = _; omega
    have e1 : (2 * e.val) / 8 = e.val / 4 := by omega
    have e2 : (2 * e.val + 1) / 8 = e.val / 4 := by omega
    have e3 : (2 * e.val) % 8 = 2 * (e.val % 4) := by omega
    have e4 : (2 * e.val + 1) % 8 = 2 * (e.val % 4) + 1 := by omega
    have b0 := hbit (2 * e.val) (by omega) (⟨(dimE s e).val / 4, by omega⟩ : Fin 32) (by rw [e1]; exact hd)
    have b1 := hbit (2 * e.val + 1) (by omega) (⟨(dimE s e).val / 4, by omega⟩ : Fin 32) (by rw [e2]; exact hd)
    rw [e3] at b0; rw [e4] at b1
    rw [two_bits _ _ _ _ (by omega) (by omega) b0 b1]
    unfold Cert.Spec.field
    rw [hm]
  have key : ∀ (k : ℕ) (f : Fin 4), k = f.val → v26 (fun a : Fin 2 => if a = 0 then (⟨k % S8x128.size a, Nat.mod_lt _ (Fin.pos ((ix2 s l : S8x128.Idx) a))⟩ : Fin (S8x128.size a)) else (ix2 s l : S8x128.Idx) a) = x2 (ix1 f) := fun k f hk => by
    subst hk
    rw [hidx ⟨f.val, by omega⟩, hW]
    exact congrArg (fun z : Fin 4 => x2 (ix1 z)) (Fin.ext (Nat.mod_eq_of_lt f.isLt))
  exact key _ _ hw

/-- The sixteen parts hold the residuals, dimension `16 s + 8 (n % 2) + n / 2` in row `s` of part `n`. -/
theorem parts_apply (v26 : FVec Ideal S8x128 .f32) (hW : ∀ (k : Fin 8) (l : Fin 128), v26 (ix2 k l) = x2 (ix1 (⟨k.val % 4, by omega⟩ : Fin 4)))
    (y : IVec S1x32x128 8) (w : Fin 8 → IVec S8x128 32) (s : Fin 8) (l : Fin 128) (r : Fin 46080) (hy : ∀ k : Fin 32, y (ix3 (0 : Fin 1) k l) = x3 (ix3 b r k))
    (hw : ∀ m : Fin 8, w m (ix2 s l) = packW (x1 (ix3 b r (⟨16 * s.val + m.val, by omega⟩ : Fin 128))) (x1 (ix3 b r (⟨16 * s.val + (m.val + 8), by omega⟩ : Fin 128)))) (n : Fin 16) :
    parts v26 (codeW y) (w 0) (w 1) (w 2) (w 3) (w 4) (w 5) (w 6) (w 7) n (ix2 s l) = Cert.Spec.res x1 x2 x3 b r ⟨16 * s.val + 8 * (n.val % 2) + n.val / 2, by omega⟩ := by
  have hlo : ∀ m : Fin 8, pLo v26 (codeW y) (w m) (BitVec.ofNat 32 (2 * m.val)) (ix2 s l) = Cert.Spec.res x1 x2 x3 b r (dimE s ⟨m.val, by omega⟩) := fun m => by
    refine congrArg₂ (· + ·) ?_ (look_apply b v26 hW y ⟨m.val, by omega⟩ s l r hy)
    show FloatOps.ofBits (F := Ideal) .f32 (IntOp.shli .vector (w m (ix2 s l)) 16#32) = _
    rw [hw, show IntOp.shli .vector (packW (x1 (ix3 b r (⟨16 * s.val + m.val, by omega⟩ : Fin 128))) (x1 (ix3 b r (⟨16 * s.val + (m.val + 8), by omega⟩ : Fin 128)))) 16#32 = packW _ _ <<< 16 from rfl, packW_lo]
    rfl
  have hhi : ∀ m : Fin 8, pHi v26 (codeW y) (w m) (BitVec.ofNat 32 (2 * (m.val + 8))) (ix2 s l) = Cert.Spec.res x1 x2 x3 b r (dimE s ⟨m.val + 8, by omega⟩) := fun m => by
    refine congrArg₂ (· + ·) ?_ (look_apply b v26 hW y ⟨m.val + 8, by omega⟩ s l r hy)
    show FloatOps.ofBits (F := Ideal) .f32 (IntOp.andi (w m (ix2 s l)) 4294901760#32) = _
    rw [hw, show IntOp.andi (packW (x1 (ix3 b r (⟨16 * s.val + m.val, by omega⟩ : Fin 128))) (x1 (ix3 b r (⟨16 * s.val + (m.val + 8), by omega⟩ : Fin 128)))) 4294901760#32 = packW _ _ &&& 4294901760#32 from rfl, packW_hi]
    rfl
  have hd : ∀ (d d' : Fin 128), d.val = d'.val → Cert.Spec.res x1 x2 x3 b r d = Cert.Spec.res x1 x2 x3 b r d' := fun d d' e => by rw [Fin.ext e]
  fin_cases n
  · exact (hlo 0).trans (hd _ _ rfl)
  · exact (hhi 0).trans (hd _ _ rfl)
  · exact (hlo 1).trans (hd _ _ rfl)
  · exact (hhi 1).trans (hd _ _ rfl)
  · exact (hlo 2).trans (hd _ _ rfl)
  · exact (hhi 2).trans (hd _ _ rfl)
  · exact (hlo 3).trans (hd _ _ rfl)
  · exact (hhi 3).trans (hd _ _ rfl)
  · exact (hlo 4).trans (hd _ _ rfl)
  · exact (hhi 4).trans (hd _ _ rfl)
  · exact (hlo 5).trans (hd _ _ rfl)
  · exact (hhi 5).trans (hd _ _ rfl)
  · exact (hlo 6).trans (hd _ _ rfl)
  · exact (hhi 6).trans (hd _ _ rfl)
  · exact (hlo 7).trans (hd _ _ rfl)
  · exact (hhi 7).trans (hd _ _ rfl)
end Parts

/-- The sum of the squares, part by part. -/
theorem sqSum_apply (p : Fin 16 → FVec Ideal S8x128 .f32) (j : S8x128.Idx) : sqSum p j = ∑ n : Fin 16, (p n j : EReal) * p n j := by
  simp only [Fin.sum_univ_castSucc, Finset.univ_eq_empty, Finset.sum_empty, zero_add]
  rfl
/-- The stacked parts. -/
theorem stack_apply (p : Fin 16 → FVec Ideal S8x128 .f32) (n : Fin 16) (s : Fin 8) (l : Fin 128) :
    stack p (ix2 (⟨8 * n.val + s.val, by omega⟩ : Fin 128) l) = p n (ix2 s l) := by
  have hs := s.isLt
  exact concatenate_ofFn_apply (t := S128x128) (s₁ := S8x128) (0 : Fin 2) p _ rfl 8 rfl (ix2 (⟨8 * n.val + s.val, by omega⟩ : Fin 128) l) n
    (by show (8 * n.val + s.val) / 8 = n.val; omega) (ix2 s l) (by show s.val = (8 * n.val + s.val) % 8; omega)
    (fun b hb => by
      match b with
      | ⟨0, _⟩ => exact absurd rfl hb
      | ⟨1, _⟩ => rfl)
/-- A sum over 128 by eights. -/
theorem sum_eights (g : Fin 128 → EReal) : ∑ k : Fin 128, g k = ∑ s : Fin 8, ∑ n : Fin 16, g ⟨8 * n.val + s.val, by omega⟩ := by
  rw [Finset.sum_comm, ← Finset.sum_product']
  symm
  refine Finset.sum_bij' (fun p _ => ⟨8 * p.1.val + p.2.val, by have := p.1.isLt; have := p.2.isLt; omega⟩)
    (fun d _ => (⟨d.val / 8, by omega⟩, ⟨d.val % 8, by omega⟩)) ?_ ?_ ?_ ?_ ?_
  · simp
  · simp
  · rintro ⟨n, s⟩ _
    have := s.isLt
    refine Prod.ext (Fin.ext ?_) (Fin.ext ?_)
    · show (8 * n.val + s.val) / 8 = n.val; omega
    · show (8 * n.val + s.val) % 8 = s.val; omega
  · intro d _
    refine Fin.ext ?_
    show 8 * (d.val / 8) + d.val % 8 = d.val; omega
  · intros; rfl

/-- A tile's element: the query's product with the row, times the inverse of the row's length. -/
theorem tileV_apply {x0 : Cert.Spec.Q} {x1 : Cert.Spec.C} {x2 : Cert.Spec.W} {x3 : Cert.Spec.Y} (b : Fin 52) (r : Fin 46080)
    (v24 : FVec Ideal S48x128 .bf16) (p : Fin 16 → FVec Ideal S8x128 .f32) (q : Fin 48) (l : Fin 128)
    (hq : ∀ (n : Fin 16) (s : Fin 8), v24 (ix2 q (⟨8 * n.val + s.val, by omega⟩ : Fin 128)) = x0 (ix3 b q (⟨16 * s.val + 8 * (n.val % 2) + n.val / 2, by omega⟩ : Fin 128)))
    (hp : ∀ (n : Fin 16) (s : Fin 8), p n (ix2 s l) = Cert.Spec.res x1 x2 x3 b r ⟨16 * s.val + 8 * (n.val % 2) + n.val / 2, by omega⟩) :
    tileV v24 p (ix2 q l) = Cert.Spec.dot x0 x1 x2 x3 b q r * Ideal.rsqrt (Cert.Spec.sq x1 x2 x3 b r) := by
  unfold tileV
  refine congrArg₂ (· * ·) ?_ ?_
  · show FloatOps.matmul (DotDims.plain 48 128 128) none v24 (truncf .bf16 (stack p) bitsLt_bf16_f32) (constant S48x128 .f32 0x00000000#32) (ix2 q l) = _
    rw [Ideal.matmul_plain_apply, show (constant (F := Ideal) S48x128 .f32 0x00000000#32) (ix2 q l) = 0 from Ideal.ofBits_zero_f32, zero_add, sum_eights]
    unfold Cert.Spec.dot
    rw [← Cert.Spec.sum_perm]
    refine Finset.sum_congr rfl fun s _ => Finset.sum_congr rfl fun n _ => ?_
    rw [hq, show truncf (F := Ideal) .bf16 (stack p) bitsLt_bf16_f32 (ix2 (⟨8 * n.val + s.val, by omega⟩ : Fin 128) l) = stack p (ix2 (⟨8 * n.val + s.val, by omega⟩ : Fin 128) l) from rfl, stack_apply, hp]
  · refine (broadcastTo_1b_ab_apply _ _ q l).trans ?_
    show Ideal.rsqrt _ = _
    refine congrArg Ideal.rsqrt ((shapeCast_a_1a_apply _ _ 0 l).trans ((Ideal.multiReduction_add_single _ _ reduces_S8x128_S128 _ _ _).trans ?_))
    unfold Cert.Spec.sq
    rw [← Cert.Spec.sum_perm]
    refine Finset.sum_congr rfl fun s _ => ?_
    have e : reduces_S8x128_S128.lift (ix1 l) s = (ix2 s l : S8x128.Idx) := funext fun a => Fin.ext (by match a with | ⟨0, _⟩ => rfl | ⟨1, _⟩ => rfl)
    rw [e, sqSum_apply]
    exact Finset.sum_congr rfl fun n _ => congrArg₂ (· * ·) (hp n s) (hp n s)

end Cert.KernelIdeal.Hand

end
-- ==== Proof.KI.HostArrays.lean ====
/-
  What the host lines lay out in front of the call, element by element: the queries in the packed rows' order of
  dimensions, the weights repeated down eight rows, the codes with their rows last, and the centroid rows two halves
  to a word, 256 rows to 128 lines.
-/
module

public import proofs.«01_k».proof.Proof.KI.TileVal
public import proofs.«01_k».proof.Proof.Gen.KernelIdeal.Frame

@[expose] public section

noncomputable section

namespace Cert.KernelIdeal.Hand

open Cert.KernelIdeal Cert.KernelIdeal.Gen Idealize.ShloMosaic.ValueIdx
open Idealize.ShloMosaic Idealize.ShloMosaic.TcCoe

/-- The queries' layout. -/
def qArr (x : FVec Ideal S52x48x128 .bf16) : FVec Ideal S52x48x128 .bf16 :=
  shapeCast S52x48x128 (transpose S52x48x8x2x8 [0, 1, 4, 3, 2] (shapeCast S52x48x8x2x8 x shapeCasts_S52x48x128_S52x48x8x2x8) transposes_S52x48x8x2x8_S52x48x8x2x8_0_1_4_3_2) shapeCasts_S52x48x8x2x8_S52x48x128
/-- The weights' layout. -/
def wArr (x : FVec Ideal S4 .f32) : FVec Ideal S8x128 .f32 :=
  broadcastInDim S8x128 ![0, 1] bcast_S8x1_S8x128_0_1 (broadcastInDim S8x1 ![0] bcast_S8_S8x1_0
    (shapeCast S8 (broadcastInDim S2x4 ![0, 1] bcast_S1x4_S2x4_0_1 (shapeCast S1x4 x shapeCasts_S4_S1x4)) shapeCasts_S2x4_S8))
/-- The centroid rows' words, eight by eight. -/
def pairArr (x : IVec S52x46080x128 16) : IVec S52x46080x8x8 32 :=
  let y := extui 32 (shapeCast S52x46080x8x2x8 x shapeCasts_S52x46080x128_S52x46080x8x2x8) natLt_16_32
  ori (shapeCast S52x46080x8x8 (extractStridedSlice S52x46080x8x1x8 ![0, 0, 0, 0, 0] y slices_S52x46080x8x2x8_S52x46080x8x1x8_0_0_0_0_0) shapeCasts_S52x46080x8x1x8_S52x46080x8x8)
    (Host.shli (shapeCast S52x46080x8x8 (extractStridedSlice S52x46080x8x1x8 ![0, 0, 0, 1, 0] y slices_S52x46080x8x2x8_S52x46080x8x1x8_0_0_0_1_0) shapeCasts_S52x46080x8x1x8_S52x46080x8x8)
      (broadcastInDim S52x46080x8x8 ![] bcast_S_S52x46080x8x8 (constantI S_ 32 16#32)))
/-- The words' layout. -/
def rowArr (y : IVec S52x46080x8x8 32) : IVec S52x23040x128 32 :=
  shapeCast S52x23040x128 (transpose S52x180x128x2x64 [0, 1, 3, 2, 4]
    (shapeCast S52x180x2x128x64 (transpose S52x46080x8x8 [0, 1, 3, 2] y transposes_S52x46080x8x8_S52x46080x8x8_0_1_3_2) shapeCasts_S52x46080x8x8_S52x180x2x128x64)
    transposes_S52x180x2x128x64_S52x180x128x2x64_0_1_3_2_4) shapeCasts_S52x180x128x2x64_S52x23040x128

variable (m : (ℓ : Loc nD τ sig) → Buf (Elt Ideal) ℓ) (c : Dev nD)

/-- The queries as the call finds them. -/
theorem V_main_v2 : V m c main_v2 = qArr (m ((c : Thread nD τ).loc main_arg0)) := by
  unfold V; after_results_simp; rfl
/-- The weights as the call finds them. -/
theorem V_main_v7 : V m c main_v7 = wArr (m ((c : Thread nD τ).loc main_arg2)) := by
  unfold V; after_results_simp; rfl
/-- The codes as the call finds them. -/
theorem V_main_v8 : V m c main_v8 = transpose S52x32x46080 [0, 2, 1] (m ((c : Thread nD τ).loc main_arg3)) transposes_S52x46080x32_S52x32x46080_0_2_1 := by
  unfold V; after_results_simp
/-- The rows as the call finds them. -/
theorem V_main_v22 : V m c main_v22 = rowArr (pairArr (m ((c : Thread nD τ).loc main_arg1))) := by
  unfold V; after_results_simp; rfl

/-! ## Element by element -/

/-- The queries' dimensions, put in the order in which the body takes a row apart. -/
theorem qArr_apply (x : FVec Ideal S52x48x128 .bf16) (b : Fin 52) (q : Fin 48) (n : Fin 16) (s : Fin 8) :
    qArr x (ix3 b q (⟨8 * n.val + s.val, by omega⟩ : Fin 128)) = x (ix3 b q (⟨16 * s.val + 8 * (n.val % 2) + n.val / 2, by omega⟩ : Fin 128)) := by
  unfold qArr
  rw [shapeCast_apply _ shapeCasts_S52x48x8x2x8_S52x48x128 _ (ix5 b q (⟨n.val / 2, by omega⟩ : Fin 8) (⟨n.val % 2, by omega⟩ : Fin 2) s) (by
      rw [Shape.rowMajor_val_five, Shape.rowMajor_val_three]
      show (((b.val * 48 + q.val) * 8 + n.val / 2) * 2 + n.val % 2) * 8 + s.val = (b.val * 48 + q.val) * 128 + (8 * n.val + s.val); omega),
    transpose_apply _ _ transposes_S52x48x8x2x8_S52x48x8x2x8_0_1_4_3_2 _ (ix5 b q s (⟨n.val % 2, by omega⟩ : Fin 2) (⟨n.val / 2, by omega⟩ : Fin 8)) (fun a => by
      match a with | ⟨0, _⟩ => rfl | ⟨1, _⟩ => rfl | ⟨2, _⟩ => rfl | ⟨3, _⟩ => rfl | ⟨4, _⟩ => rfl),
    shapeCast_apply _ shapeCasts_S52x48x128_S52x48x8x2x8 _ (ix3 b q (⟨16 * s.val + 8 * (n.val % 2) + n.val / 2, by omega⟩ : Fin 128)) (by
      rw [Shape.rowMajor_val_five, Shape.rowMajor_val_three]
      show (b.val * 48 + q.val) * 128 + (16 * s.val + 8 * (n.val % 2) + n.val / 2) = (((b.val * 48 + q.val) * 8 + s.val) * 2 + n.val % 2) * 8 + n.val / 2; omega)]

/-- The weights, twice over the rows, the same in all lanes. -/
theorem wArr_apply (x : FVec Ideal S4 .f32) (k : Fin 8) (l : Fin 128) : wArr x (ix2 k l) = x (ix1 (⟨k.val % 4, by omega⟩ : Fin 4)) := by
  unfold wArr
  rw [broadcastInDim_apply _ bcast_S8x1_S8x128_0_1 _ _ (ix2 k (0 : Fin 1)) (fun a => by match a with | ⟨0, _⟩ => rfl | ⟨1, _⟩ => rfl),
    broadcastInDim_apply _ bcast_S8_S8x1_0 _ _ (ix1 k) (fun a => by match a with | ⟨0, _⟩ => rfl),
    shapeCast_apply _ shapeCasts_S2x4_S8 _ (ix2 (⟨k.val / 4, by omega⟩ : Fin 2) (⟨k.val % 4, by omega⟩ : Fin 4)) (by
      rw [Shape.rowMajor_val_two, Shape.rowMajor_val_one]
      show k.val / 4 * 4 + k.val % 4 = k.val; omega),
    broadcastInDim_apply _ bcast_S1x4_S2x4_0_1 _ _ (ix2 (0 : Fin 1) (⟨k.val % 4, by omega⟩ : Fin 4)) (fun a => by match a with | ⟨0, _⟩ => rfl | ⟨1, _⟩ => rfl),
    shapeCast_apply _ shapeCasts_S4_S1x4 _ (ix1 (⟨k.val % 4, by omega⟩ : Fin 4)) (by
      rw [Shape.rowMajor_val_two, Shape.rowMajor_val_one]
      show k.val % 4 = 0 * 4 + k.val % 4; omega)]

/-- Two dimensions, eight apart, in one word. -/
theorem pairArr_apply (x : IVec S52x46080x128 16) (b : Fin 52) (r : Fin 46080) (i j : Fin 8) :
    pairArr x (ix4 b r i j) = packW (x (ix3 b r (⟨16 * i.val + j.val, by omega⟩ : Fin 128))) (x (ix3 b r (⟨16 * i.val + (j.val + 8), by omega⟩ : Fin 128))) := by
  have key : ∀ (h : Fin 2) (o : Fin 5 → ℕ) (_ : o = ![0, 0, 0, h.val, 0]) (hs : S52x46080x8x2x8.Slices o S52x46080x8x1x8),
      shapeCast S52x46080x8x8 (extractStridedSlice S52x46080x8x1x8 o (extui 32 (shapeCast S52x46080x8x2x8 x shapeCasts_S52x46080x128_S52x46080x8x2x8) natLt_16_32) hs) shapeCasts_S52x46080x8x1x8_S52x46080x8x8 (ix4 b r i j)
        = (x (ix3 b r (⟨16 * i.val + 8 * h.val + j.val, by omega⟩ : Fin 128))).setWidth 32 := by
    intro h o ho hs
    subst ho
    rw [shapeCast_apply _ shapeCasts_S52x46080x8x1x8_S52x46080x8x8 _ (ix5 b r i (0 : Fin 1) j) (by
        rw [Shape.rowMajor_val_five, Shape.rowMajor_val_four]
        show (((b.val * 46080 + r.val) * 8 + i.val) * 1 + 0) * 8 + j.val = ((b.val * 46080 + r.val) * 8 + i.val) * 8 + j.val; omega),
      extractStridedSlice_apply _ _ hs _ (ix5 b r i h j) (fun a => by
        match a with | ⟨0, _⟩ => exact (Nat.zero_add _).symm | ⟨1, _⟩ => exact (Nat.zero_add _).symm | ⟨2, _⟩ => exact (Nat.zero_add _).symm | ⟨3, _⟩ => rfl | ⟨4, _⟩ => exact (Nat.zero_add _).symm)]
    refine congrArg (BitVec.setWidth 32) (shapeCast_apply x shapeCasts_S52x46080x128_S52x46080x8x2x8 _ _ (by
      rw [Shape.rowMajor_val_five, Shape.rowMajor_val_three]
      show (b.val * 46080 + r.val) * 128 + (16 * i.val + 8 * h.val + j.val) = (((b.val * 46080 + r.val) * 8 + i.val) * 2 + h.val) * 8 + j.val; omega))
  have k0 := key 0 ![0, 0, 0, 0, 0] rfl slices_S52x46080x8x2x8_S52x46080x8x1x8_0_0_0_0_0
  have k1 := key 1 ![0, 0, 0, 1, 0] rfl slices_S52x46080x8x2x8_S52x46080x8x1x8_0_0_0_1_0
  have a0 : (⟨16 * i.val + 8 * (0 : Fin 2).val + j.val, by omega⟩ : Fin 128) = ⟨16 * i.val + j.val, by omega⟩ := Fin.ext (by show 16 * i.val + 8 * 0 + j.val = 16 * i.val + j.val; omega)
  have a1 : (⟨16 * i.val + 8 * (1 : Fin 2).val + j.val, by omega⟩ : Fin 128) = ⟨16 * i.val + (j.val + 8), by omega⟩ := Fin.ext (by show 16 * i.val + 8 * 1 + j.val = 16 * i.val + (j.val + 8); omega)
  rw [a0] at k0
  rw [a1] at k1
  have hsh : ∀ z : BitVec 32, IntOp.shli .host z 16#32 = z <<< 16 := fun z => if_pos (by decide)
  dsimp only [pairArr, ori, Host.shli]
  rw [k0, k1]
  exact congrArg (fun v : BitVec 32 => _ ||| v) (hsh _)

/-- Where the words of a row are in the array of rows. -/
theorem rowArr_apply (y : IVec S52x46080x8x8 32) (b : Fin 52) (T : Fin 360) (l : Fin 128) (m s : Fin 8) :
    rowArr y (ix3 b (⟨128 * (T.val / 2) + l.val, by omega⟩ : Fin 23040) (⟨64 * (T.val % 2) + (8 * m.val + s.val), by omega⟩ : Fin 128))
      = y (ix4 b (⟨128 * T.val + l.val, by omega⟩ : Fin 46080) s m) := by
  unfold rowArr
  rw [shapeCast_apply _ shapeCasts_S52x180x128x2x64_S52x23040x128 _ (ix5 b (⟨T.val / 2, by omega⟩ : Fin 180) l (⟨T.val % 2, by omega⟩ : Fin 2) (⟨8 * m.val + s.val, by omega⟩ : Fin 64)) (by
      rw [Shape.rowMajor_val_five, Shape.rowMajor_val_three]
      show (((b.val * 180 + T.val / 2) * 128 + l.val) * 2 + T.val % 2) * 64 + (8 * m.val + s.val) = (b.val * 23040 + (128 * (T.val / 2) + l.val)) * 128 + (64 * (T.val % 2) + (8 * m.val + s.val)); omega),
    transpose_apply _ _ transposes_S52x180x2x128x64_S52x180x128x2x64_0_1_3_2_4 _ (ix5 b (⟨T.val / 2, by omega⟩ : Fin 180) (⟨T.val % 2, by omega⟩ : Fin 2) l (⟨8 * m.val + s.val, by omega⟩ : Fin 64)) (fun a => by
      match a with | ⟨0, _⟩ => rfl | ⟨1, _⟩ => rfl | ⟨2, _⟩ => rfl | ⟨3, _⟩ => rfl | ⟨4, _⟩ => rfl),
    shapeCast_apply _ shapeCasts_S52x46080x8x8_S52x180x2x128x64 _ (ix4 b (⟨128 * T.val + l.val, by omega⟩ : Fin 46080) m s) (by
      rw [Shape.rowMajor_val_five, Shape.rowMajor_val_four]
      show ((b.val * 46080 + (128 * T.val + l.val)) * 8 + m.val) * 8 + s.val = (((b.val * 180 + T.val / 2) * 2 + T.val % 2) * 128 + l.val) * 64 + (8 * m.val + s.val)
      have := Nat.div_add_mod T.val 2
      omega),
    transpose_apply _ _ transposes_S52x46080x8x8_S52x46080x8x8_0_1_3_2 _ (ix4 b (⟨128 * T.val + l.val, by omega⟩ : Fin 46080) s m) (fun a => by
      match a with | ⟨0, _⟩ => rfl | ⟨1, _⟩ => rfl | ⟨2, _⟩ => rfl | ⟨3, _⟩ => rfl)]

end Cert.KernelIdeal.Hand
end
-- ==== Proof.KI.Scores.lean ====
/-
  What a grid point finds in its blocks, and so what its score tiles hold: the scores of the entry's rows.
-/
module

public import proofs.«01_k».proof.Proof.KI.Launch
public import proofs.«01_k».proof.Proof.KI.HostArrays

@[expose] public section

noncomputable section

namespace Cert.KernelIdeal.Hand

open Cert.KernelIdeal Cert.KernelIdeal.Gen Idealize.ShloMosaic.ValueIdx
open Idealize.ShloMosaic Idealize.ShloMosaic.TcCoe

variable (m : (ℓ : Loc nD τ sig) → Buf (Elt Ideal) ℓ) (c : Dev nD) (t : Fin cfg0.N)

/-- The five arguments. -/
abbrev x0A : Cert.Spec.Q := m ((c : Thread nD τ).loc main_arg0)
/-- The centroid rows. -/
abbrev x1A : Cert.Spec.C := m ((c : Thread nD τ).loc main_arg1)
/-- The bucket weights. -/
abbrev x2A : Cert.Spec.W := m ((c : Thread nD τ).loc main_arg2)
/-- The codes. -/
abbrev x3A : Cert.Spec.Y := m ((c : Thread nD τ).loc main_arg3)
/-- The offsets. -/
abbrev x4A : Cert.Spec.O := m ((c : Thread nD τ).loc main_arg4)
/-- The entry a point works on. -/
abbrev bT : Fin 52 := curB (grid0.coords t)

/-- It has the same number. -/
theorem bT_val : (bT t).val = t.val := by
  have : t.val < 52 := t.isLt
  have e : (bT t).val = ((grid0.coords t) 0).val := Ring.bk_val ((grid0.coords t) 0).isLt
  rw [e, coords_val]
/-- The block index along the first axis is the entry. -/
theorem word_val : (BitVec.ofNat 32 ((grid0.coords t) 0).val).toNat = (bT t).val := by
  have e : (bT t).val = ((grid0.coords t) 0).val := Ring.bk_val ((grid0.coords t) 0).isLt
  have h : ((grid0.coords t) 0).val < 52 := ((grid0.coords t) 0).isLt
  rw [e, BitVec.toNat_ofNat]; omega

/-- The queries' block is the entry's queries, permuted. -/
theorem qOf_apply (q : Fin 48) (j : Fin 128) : qOf c (a3 t) (gQ m c t) (ix2 q j) = qArr (x0A m c) (ix3 (bT t) q j) := by
  unfold qOf
  refine (shapeCast_1ab_ab_apply _ _ q j).trans ?_
  rw [View.readAt_apply, View.read_rep]
  unfold iblk; rw [View.read_apply]
  refine (congrFun (V_main_v2 m c) _).trans (congrArg (qArr (x0A m c)) (funext fun a => Fin.ext ?_))
  match a with
  | ⟨0, _⟩ => show (BitVec.ofNat 32 ((grid0.coords t) 0).val).toNat * 1 + 1 * (0 + 1 * 0) = (bT t).val; rw [word_val]; omega
  | ⟨1, _⟩ => show 0 * 48 + 1 * (0 + 1 * q.val) = q.val; omega
  | ⟨2, _⟩ => show 0 * 128 + 1 * (0 + 1 * j.val) = j.val; omega
/-- The weights' block is the weights, twice down eight rows. -/
theorem wtOf_apply (k : Fin 8) (l : Fin 128) : wtOf c (a2 t) (gW m c t) (ix2 k l) = x2A m c (ix1 (⟨k.val % 4, by omega⟩ : Fin 4)) := by
  refine Eq.trans ?_ (wArr_apply (x2A m c) k l)
  unfold wtOf
  refine (congrFun (shapeCast_self _ _) _).trans ?_
  rw [View.readAt_apply, View.read_rep]
  unfold iblk; rw [View.read_apply]
  refine (congrFun (V_main_v7 m c) _).trans (congrArg (wArr (x2A m c)) (funext fun a => Fin.ext ?_))
  match a with
  | ⟨0, _⟩ => show 0 * 8 + 1 * (0 + 1 * k.val) = k.val; omega
  | ⟨1, _⟩ => show 0 * 128 + 1 * (0 + 1 * l.val) = l.val; omega

/-- A row of eight words of tile `T`'s, cut from the chunk's. -/
theorem words_apply (b : Fin 52) (T : Fin 360) (s : Fin 8) (l : Fin 128) (k : Fin 8) (o : ℕ) (ho : o = 64 * (T.val % 2) + 8 * k.val) (hs : S128x128.Slices ![o, 0] S8x128) :
    extractStridedSlice S8x128 ![o, 0] (wordsT (xBlk c (XR m c) b ⟨T.val / 2, by omega⟩)) hs (ix2 s l)
      = packW (x1A m c (ix3 b (⟨128 * T.val + l.val, by omega⟩ : Fin 46080) (⟨16 * s.val + k.val, by omega⟩ : Fin 128)))
          (x1A m c (ix3 b (⟨128 * T.val + l.val, by omega⟩ : Fin 46080) (⟨16 * s.val + (k.val + 8), by omega⟩ : Fin 128))) := by
  rw [slice2_axis0_apply o _ hs s l (⟨64 * (T.val % 2) + (8 * k.val + s.val), by omega⟩ : Fin 128) (by show _ = _; simp only []; omega)]
  unfold wordsT
  rw [transpose_ix2_apply, shapeCast_1ab_ab_apply]
  unfold xBlk
  refine (congrFun (V_main_v22 m c) _).trans ?_
  exact (rowArr_apply (pairArr (x1A m c)) b T l k s).trans (pairArr_apply (x1A m c) b _ s k)
/-- The codes of tile `T`, token by token. -/
theorem yBlk_apply (b : Fin 52) (T : Fin 360) (k : Fin 32) (l : Fin 128) :
    yBlk c (XC m c) b T (ix3 (0 : Fin 1) k l) = x3A m c (ix3 b (⟨128 * T.val + l.val, by omega⟩ : Fin 46080) k) := by
  unfold yBlk
  exact (congrFun (V_main_v8 m c) _).trans (transpose_ix3_021_apply _ _ b k _)

/-- The residual parts of tile `T`. -/
theorem partsAt_apply (b : Fin 52) (T : Fin 360) (n : Fin 16) (s : Fin 8) (l : Fin 128) :
    partsAt c (XR m c) (XC m c) (wtOf c (a2 t) (gW m c t)) b T n (ix2 s l)
      = Cert.Spec.res (x1A m c) (x2A m c) (x3A m c) b ⟨128 * T.val + l.val, by omega⟩ ⟨16 * s.val + 8 * (n.val % 2) + n.val / 2, by omega⟩ := by
  have hW := wtOf_apply m c t
  unfold partsAt
  split
  · rename_i h
    exact parts_apply b _ hW _ ![_, _, _, _, _, _, _, _] s l _ (fun k => yBlk_apply m c b T k l) (fun k => by
      fin_cases k <;> exact words_apply m c b T s l _ _ (by rw [h]; rfl) (by decide)) n
  · rename_i h
    have h1 : T.val % 2 = 1 := by omega
    exact parts_apply b _ hW _ ![_, _, _, _, _, _, _, _] s l _ (fun k => yBlk_apply m c b T k l) (fun k => by
      fin_cases k <;> exact words_apply m c b T s l _ _ (by rw [h1]; rfl) (by decide)) n

/-- What a point's score tiles hold, of the tiles it fills: each query's product with the row, over the row's length. -/
theorem tiles_read (h : PreOK m) (gT) (hT : Tiles m h c t gT) (T : Fin 363) (T' : Fin 360) (e : T'.val = T.val)
    (hlt : T.val < 10 * nb (cntOf c (grid0.coords t) (a1 t) (gO m c t))) (q : Fin 48) (l : Fin 128) :
    scoreM.view.read (Elt Ideal) gT (ix3 T q l)
      = Cert.Spec.dot (x0A m c) (x1A m c) (x2A m c) (x3A m c) (bT t) q ⟨128 * T'.val + l.val, by omega⟩
        * Ideal.rsqrt (Cert.Spec.sq (x1A m c) (x2A m c) (x3A m c) (bT t) ⟨128 * T'.val + l.val, by omega⟩) := by
  refine (acc_read c _ _ _ _ _ _ _ _ _ _ _ _ _ _ _ _ _ _ _ hT T T' e (by rw [trips1_eq (cntOK h c t)]; exact hlt) q l).trans ?_
  exact tileV_apply (bT t) _ _ _ q l (fun n s => (qOf_apply m c t q _).trans (qArr_apply (x0A m c) (bT t) q n s)) (fun n s => partsAt_apply m c t (bT t) T' n s l)

end Cert.KernelIdeal.Hand
-- ==== Proof.KI.DocVal.lean ====
/-
  One document's turn in the real-number semantics: of the three tiles read, the greatest score per query over the
  lanes whose rows are the document's, put into the document's lane of the carried array.
-/
module

public import proofs.«01_k».proof.Proof.KI.Loops
public import Idealize.ShloMosaic.Lib.ValueLayout
public import Idealize.ShloMosaic.Lib.ValueLayoutCasts
public import Idealize.ShloMosaic.Lib.WordCmp
public import Idealize.ShloMosaic.Lib.Pipeline.Value
public import Idealize.ShloMosaic.PureOps.Ideal.Laws

@[expose] public section

noncomputable section

namespace Cert.KernelIdeal.Hand

open Cert.KernelIdeal Cert.KernelIdeal.Gen Idealize.ShloMosaic.ValueIdx
open Idealize.ShloMosaic Idealize.ShloMosaic.Affine

/-- The lanes' numbers. -/
abbrev laneV : IVec S48x128 32 := iota .tc S48x128 32 [1] iota_S48x128_d1_w32

/-- The word minus infinity is the least extended real. -/
theorem ninf_bits : (Scalar.ofBits (F := Ideal) .f32 0xFF800000#32 : Ideal .f32) = (⊥ : EReal) := by
  show Ideal.ofBits .f32 0xFF800000#32 = ⊥
  simp [Ideal.ofBits, Ideal.ieee]

/-- The lanes `l` of a tile at row `e` on that lie between two offsets. -/
theorem member_iff {w0 w1 rw : BitVec 32} {e : ℕ} (h0 : w0.toNat ≤ 46080) (h1 : w1.toNat ≤ 46080) (hr : IsInt rw (e : ℕ)) (he : e ≤ 50000) (q : Fin 48) (l : Fin 128) :
    andi (cmpi .sge (addi laneV (broadcast S48x128 rw)) (broadcast S48x128 w0)) (cmpi .slt (addi laneV (broadcast S48x128 rw)) (broadcast S48x128 w1)) (ix2 q l) = 1#1
      ↔ w0.toNat ≤ e + l.val ∧ e + l.val < w1.toNat := by
  have hl := l.isLt
  have el : laneV (ix2 q l) = BitVec.ofNat 32 l.val := iota_single_apply _ _ _ _ _ _
  have a : IsInt (IntOp.addi (laneV (ix2 q l)) rw) (e + l.val : ℕ) := by
    rw [el]
    exact addi (ofNat (e := l.val) l.val ⟨rfl, by omega⟩) hr ⟨by push_cast; ring, by omega, by omega⟩
  have i0 : IsInt w0 w0.toNat := isInt_toNat (by omega)
  have i1 : IsInt w1 w1.toNat := isInt_toNat (by omega)
  show IntOp.andi (IntOp.cmpi .sge (IntOp.addi (laneV (ix2 q l)) rw) w0) (IntOp.cmpi .slt (IntOp.addi (laneV (ix2 q l)) rw) w1) = 1#1 ↔ _
  rw [IntOp.andi_eq_one, IntOp.cmpi_sge, IntOp.cmpi_slt, toInt_of_isInt a, toInt_of_isInt i0, toInt_of_isInt i1]
  omega

/-- Choosing the tile's scores there bounds them there only. -/
theorem masked_le {w0 w1 rw : BitVec 32} {e : ℕ} (h0 : w0.toNat ≤ 46080) (h1 : w1.toNat ≤ 46080) (hr : IsInt rw (e : ℕ)) (he : e ≤ 50000)
    (t : Vec Ideal S1x48x128 .f32) (q : Fin 48) (l : Fin 128) (x : EReal) :
    (select (andi (cmpi .sge (addi laneV (broadcast S48x128 rw)) (broadcast S48x128 w0)) (cmpi .slt (addi laneV (broadcast S48x128 rw)) (broadcast S48x128 w1)))
      (shapeCast S48x128 t shapeCasts_S1x48x128_S48x128) (broadcast S48x128 (Scalar.ofBits (F := Ideal) .f32 0xFF800000#32)) (ix2 q l) : EReal) ≤ x
      ↔ (w0.toNat ≤ e + l.val ∧ e + l.val < w1.toNat → (t (ix3 0 q l) : EReal) ≤ x) := by
  have m := member_iff h0 h1 hr he q l
  show (Scalar.select (andi (cmpi .sge (addi laneV (broadcast S48x128 rw)) (broadcast S48x128 w0)) (cmpi .slt (addi laneV (broadcast S48x128 rw)) (broadcast S48x128 w1)) (ix2 q l))
    (shapeCast S48x128 t shapeCasts_S1x48x128_S48x128 (ix2 q l)) (Scalar.ofBits (F := Ideal) .f32 0xFF800000#32 : Ideal .f32) : EReal) ≤ x ↔ _
  generalize andi (cmpi .sge (addi laneV (broadcast S48x128 rw)) (broadcast S48x128 w0)) (cmpi .slt (addi laneV (broadcast S48x128 rw)) (broadcast S48x128 w1)) (ix2 q l) = y at m ⊢
  rw [shapeCast_1ab_ab_apply, ← m, ninf_bits]
  rcases BitVec.eq_zero_or_eq_one y with hy | hy <;> subst hy
  · exact ⟨fun _ h => absurd h (by decide), fun _ => bot_le⟩
  · exact ⟨fun h _ => h, fun h => h rfl⟩

/-- The greatest over three tiles' lanes, with the chosen ones bounded. -/
theorem fold3_le {n : ℕ} (f : Fin n → EReal) (x : EReal) : (Finset.univ : Finset (Fin n)).fold max (⊥ : EReal) f ≤ x ↔ ∀ l, f l ≤ x := by
  refine (Finset.fold_max_le (s := (Finset.univ : Finset (Fin n))) (f := f) (b := ⊥) x).trans ?_
  simp only [Finset.mem_univ, forall_const, bot_le, true_and]

/-- The greatest along the lanes, put in every lane. -/
theorem rowMax_le (y : FVec Ideal S48x128 .f32) (q : Fin 48) (l : Fin 128) (x : EReal) :
    (broadcastTo S48x128 (shapeCast S48x1 (shapeCast S48x1 (multiReduction .maximumf [1] S48 y 0xFF800000#32 reduces_S48x128_S48 (.inl rfl) rfl) shapeCasts_S48_S48x1) shapeCasts_S48x1_S48x1) broadcasts_S48x1_S48x128 (ix2 q l) : EReal) ≤ x
      ↔ ∀ k : Fin 128, (y (ix2 q k) : EReal) ≤ x := by
  rw [broadcastTo_apply _ broadcasts_S48x1_S48x128 (ix2 q l) (ix2 q (0 : Fin 1)) (fun a => by match a with | ⟨0, _⟩ => rfl | ⟨1, _⟩ => rfl), shapeCast_self, shapeCast_a_a1_apply]
  have e := Ideal.multiReduction_maximumf_single (a := (1 : Fin 2)) y 0xFF800000#32 reduces_S48x128_S48 (.inl rfl) rfl (ix1 q)
  have el : ∀ k : Fin 128, (y ∘ reduces_S48x128_S48.lift (ix1 q)) k = y (ix2 q k) := fun k =>
    congrArg y (funext fun a => Fin.ext (by match a with | ⟨0, _⟩ => rfl | ⟨1, _⟩ => rfl))
  refine (iff_of_eq (congrArg (· ≤ x) (e.trans ?_))).trans (fold3_le (fun k : Fin 128 => y (ix2 q k)) x)
  exact congrArg₂ (fun (b : EReal) (f : Fin 128 → EReal) => (Finset.univ : Finset (Fin 128)).fold max b f) ninf_bits (funext el)

/-- A document's turn in its own lane: the greatest of its rows' scores, for an offset `w0`, the next one `w1` and the
    three tiles from `w0`'s on. -/
theorem pay2_hit {w0 w1 d : BitVec 32} (h0 : w0.toNat ≤ 46080) (h1 : w1.toNat ≤ 46080) (a : FVec Ideal S48x128 .f32)
    (t0 t1 t2 : Vec Ideal S1x48x128 .f32) (q : Fin 48) (l : Fin 128) (hd : d = BitVec.ofNat 32 l.val) (x : EReal) :
    (k0_pay2 laneV a d w0 w1 (tileW w0) (k0_pay719 laneV (Scalar.ofBits (F := Ideal) .f32 0xFF800000#32) w0 w1 t0) (Scalar.muli (Scalar.addi (tileW w0) 1#32) 128#32) t1 t2 (ix2 q l) : EReal) ≤ x
      ↔ ∀ k : Fin 128, (w0.toNat ≤ 128 * (w0.toNat / 128 + 0) + k.val ∧ 128 * (w0.toNat / 128 + 0) + k.val < w1.toNat → (t0 (ix3 0 q k) : EReal) ≤ x)
        ∧ (w0.toNat ≤ 128 * (w0.toNat / 128 + 1) + k.val ∧ 128 * (w0.toNat / 128 + 1) + k.val < w1.toNat → (t1 (ix3 0 q k) : EReal) ≤ x)
        ∧ (w0.toNat ≤ 128 * (w0.toNat / 128 + 2) + k.val ∧ 128 * (w0.toNat / 128 + 2) + k.val < w1.toNat → (t2 (ix3 0 q k) : EReal) ≤ x) := by
  have ht := isInt_tileW h0
  have hr : ∀ r : Fin 3, IsInt (Scalar.muli (Scalar.addi (tileW w0) (BitVec.ofNat 32 r.val)) 128#32) (128 * (w0.toNat / 128 + r.val) : ℕ) := fun r => by
    have := r.isLt
    exact muli (e := 128 * (w0.toNat / 128 + r.val)) (addi (e := (w0.toNat / 128 + r.val : ℕ)) ht (ofNat (e := r.val) _ ⟨rfl, by omega⟩) ⟨by push_cast; rfl, by omega, by omega⟩)
      (ofNat (e := 128) 128 ⟨rfl, by decide⟩) ⟨by push_cast; ring, by omega, by omega⟩
  have hc : (cmpi .eq laneV (broadcast S48x128 d)) (ix2 q l) = 1#1 := by
    subst hd
    show IntOp.cmpi .eq (laneV (ix2 q l)) _ = 1#1
    rw [show laneV (ix2 q l) = BitVec.ofNat 32 l.val from iota_single_apply _ _ _ _ _ _, IntOp.cmpi_eq]; rfl
  have m0 := fun k => masked_le h0 h1 (hr 0) (by show 128 * (w0.toNat / 128 + 0) ≤ 50000; omega) t0 q k x
  have m1 := fun k => masked_le h0 h1 (hr 1) (by show 128 * (w0.toNat / 128 + 1) ≤ 50000; omega) t1 q k x
  have m2 := fun k => masked_le h0 h1 (hr 2) (by show 128 * (w0.toNat / 128 + 2) ≤ 50000; omega) t2 q k x
  have hs : ∀ (c : BitVec 1) (u v : EReal), c = 1#1 → Scalar.select c u v = u := fun c u v h => by subst h; rfl
  unfold k0_pay2
  refine (iff_of_eq (congrArg (· ≤ x) (hs _ _ _ hc))).trans ((rowMax_le _ q l x).trans (forall_congr' fun k => ?_))
  refine (max_le_iff (a := (_ : EReal))).trans ((and_congr ((max_le_iff (a := (_ : EReal))).trans (and_congr (m0 k) (m1 k))) (m2 k)).trans and_assoc)

/-- In the other lanes it leaves the carried array as it was. -/
theorem pay2_miss {w0 w1 d v81 v98 : BitVec 32} {v96 : FVec Ideal S48x128 .f32} (a : FVec Ideal S48x128 .f32)
    (t1 t2 : Vec Ideal S1x48x128 .f32) (q : Fin 48) (l : Fin 128) (hd : d ≠ BitVec.ofNat 32 l.val) :
    k0_pay2 laneV a d w0 w1 v81 v96 v98 t1 t2 (ix2 q l) = a (ix2 q l) := by
  have hc : (cmpi .eq laneV (broadcast S48x128 d)) (ix2 q l) = 0#1 := by
    refine (BitVec.eq_zero_or_eq_one _).resolve_right fun h => hd ?_
    have h' : IntOp.cmpi .eq (laneV (ix2 q l)) d = 1#1 := h
    rw [show laneV (ix2 q l) = BitVec.ofNat 32 l.val from iota_single_apply _ _ _ _ _ _, IntOp.cmpi_eq] at h'
    exact h'.symm
  have hs : ∀ (c : BitVec 1) (u v : EReal), c = 0#1 → Scalar.select c u v = v := fun c u v h => by subst h; rfl
  unfold k0_pay2
  exact hs _ _ _ hc

end Cert.KernelIdeal.Hand
end
-- ==== Proof.KI.Docs.lean ====
/-
  The two loops over the documents in the real-number semantics: after them a document's lane holds, for every query,
  the greatest of its rows' entries of the score tiles.
-/
module

public import proofs.«01_k».proof.Proof.KI.DocVal

@[expose] public section

noncomputable section

namespace Cert.KernelIdeal.Hand

open Cert.KernelIdeal Cert.KernelIdeal.Gen Idealize.ShloMosaic.ValueIdx
open Idealize.ShloMosaic Idealize.ShloMosaic.TcCoe

variable (c : Dev nD) (i : grid0.Coords)
  (arg1 : Memref sig .tc .smem S52x257 .i32) (harg1 : arg1.IsWhole) (arg2 : Memref sig .tc .vmem S8x128 .f32) (harg2 : arg2.IsWhole)
  (arg3 : Memref sig .tc .vmem S1x48x128 .bf16) (harg3 : arg3.IsWhole) (arg6 : Memref sig .tc .vmem S1x48x256 .f32) (harg6 : arg6.IsWhole)
  (arg7 : Memref sig .tc .vmem S1x1x256 .f32) (harg7 : arg7.IsWhole) (arg0 : BitVec 32)

/-- The offset at a place. -/
abbrev offW (g : Buf (Elt Ideal) (arg1.view.loc (c : Thread nD τ))) (off : Fin 2 → ℕ) (inb : ∀ a, off a + S1x1.size a ≤ S52x257.size a) : BitVec 32 :=
  arg1.view.readAt (Elt Ideal) (Rect.unit (s := S52x257) off S1x1.size inb).toLoadRect g (Shape.Idx.first (by show 0 < S1x1.numel; decide))
/-- The tile `r` of the three from offset `w` on. -/
abbrev tileR (gT : Buf (Elt Ideal) (scoreM.view.loc (c : Thread nD τ))) (w : BitVec 32) (h : w.toNat ≤ 46080) (r : Fin 3) : Vec Ideal S1x48x128 .f32 :=
  scoreM.view.readAt (Elt Ideal) (Rect.unit (s := S363x48x128) (k0_off60 w (BitVec.ofNat 32 r.val)) S1x48x128.size (k0_off60_inb w (chk4_of h) r)).toLoadRect gT

/-- One document's turn, from its number, its two offsets and the score tiles. -/
abbrev turn (gT : Buf (Elt Ideal) (scoreM.view.loc (c : Thread nD τ))) (d w0 w1 : BitVec 32) (h : w0.toNat ≤ 46080) (a : FVec Ideal S48x128 .f32) : FVec Ideal S48x128 .f32 :=
  k0_pay2 laneV a d w0 w1 (tileW w0) (k0_pay719 laneV (Scalar.ofBits (F := Ideal) .f32 0xFF800000#32) w0 w1 (tileR c gT w0 h 0)) (Scalar.muli (Scalar.addi (tileW w0) 1#32) 128#32)
    (tileR c gT w0 h 1) (tileR c gT w0 h 2)

/-- The body of the first half's loop is a turn; -/
theorem docA_eq (g : Buf (Elt Ideal) (arg1.view.loc (c : Thread nD τ))) (hg : OffOK c arg1 g) (gT : Buf (Elt Ideal) (scoreM.view.loc (c : Thread nD τ))) (k : Fin k0_t3_loop.trips) (a : FVec Ideal S48x128 .f32) :
    (docA c i arg1 harg1 arg2 harg2 arg3 harg3 arg6 harg6 arg7 harg7 arg0 laneV (FloatOps.ofBits .f32 4286578688#32) g hg gT k a).1
      = turn c gT (Scf.iv 0#32 1#32 k.val) (offW c arg1 g (k0_off58 i k) (k0_off58_inb i k)) (offW c arg1 g (k0_off59 i k) (k0_off59_inb i k)) (hg _ _ _) a := by
  dsimp only [docA]
  rfl
/-- and so is the second's. -/
theorem docB_eq (g : Buf (Elt Ideal) (arg1.view.loc (c : Thread nD τ))) (hg : OffOK c arg1 g) (gT : Buf (Elt Ideal) (scoreM.view.loc (c : Thread nD τ))) (k : Fin k0_t4_loop.trips) (a : FVec Ideal S48x128 .f32) :
    (docB c i arg1 harg1 arg2 harg2 arg3 harg3 arg6 harg6 arg7 harg7 arg0 laneV (FloatOps.ofBits .f32 4286578688#32) g hg gT k a).1
      = turn c gT (Scf.iv 0#32 1#32 k.val) (offW c arg1 g (k0_off61 i k) (k0_off61_inb i k)) (offW c arg1 g (k0_off62 i k) (k0_off62_inb i k)) (hg _ _ _) a := by
  dsimp only [docB]
  rfl

/-- A tile read at a query and a lane. -/
theorem tileR_apply (gT : Buf (Elt Ideal) (scoreM.view.loc (c : Thread nD τ))) (w : BitVec 32) (h : w.toNat ≤ 46080) (r : Fin 3) (T : Fin 363) (hT : T.val = w.toNat / 128 + r.val) (q : Fin 48) (l : Fin 128) :
    tileR c gT w h r (ix3 0 q l) = scoreM.view.read (Elt Ideal) gT (ix3 T q l) := by
  have e := off60_eq h r
  refine congrArg (scoreM.view.read (Elt Ideal) gT) (funext fun a => Fin.ext ?_)
  match a with
  | ⟨0, _⟩ => show k0_off60 w (BitVec.ofNat 32 r.val) 0 + 0 * 1 = T.val; rw [e, hT]; rfl
  | ⟨1, _⟩ => show k0_off60 w (BitVec.ofNat 32 r.val) 1 + 1 * q.val = q.val; rw [e]; show 0 + 1 * q.val = q.val; omega
  | ⟨2, _⟩ => show k0_off60 w (BitVec.ofNat 32 r.val) 2 + 1 * l.val = l.val; rw [e]; show 0 + 1 * l.val = l.val; omega

/-- A document's turn in its lane: bounded exactly by what bounds its rows' scores. -/
theorem turn_hit (gT : Buf (Elt Ideal) (scoreM.view.loc (c : Thread nD τ))) (w0 w1 : BitVec 32) (h : w0.toNat ≤ 46080) (h1 : w1.toNat ≤ 46080) (h2 : w1.toNat ≤ w0.toNat + 180) (a : FVec Ideal S48x128 .f32)
    (q : Fin 48) (l : Fin 128) (x : EReal) :
    (turn c gT (BitVec.ofNat 32 l.val) w0 w1 h a (ix2 q l) : EReal) ≤ x
      ↔ ∀ (T : Fin 363) (k : Fin 128), w0.toNat ≤ 128 * T.val + k.val → 128 * T.val + k.val < w1.toNat → (scoreM.view.read (Elt Ideal) gT (ix3 T q k) : EReal) ≤ x := by
  have hw : ∀ r : Fin 3, w0.toNat / 128 + r.val < 363 := fun r => by have := r.isLt; omega
  have et := fun (r : Fin 3) k => tileR_apply c gT w0 h r ⟨_, hw r⟩ rfl q k
  refine (pay2_hit h h1 a _ _ _ q l rfl x).trans ?_
  constructor
  · intro H T k ha hb
    obtain ⟨H0, H1, H2⟩ := H k
    have hk := k.isLt
    have hc : T.val = w0.toNat / 128 + 0 ∨ T.val = w0.toNat / 128 + 1 ∨ T.val = w0.toNat / 128 + 2 := by omega
    rcases hc with hc | hc | hc
    · have := H0 (by omega); rw [tileR_apply c gT w0 h 0 T hc] at this; exact this
    · have := H1 (by omega); rw [tileR_apply c gT w0 h 1 T hc] at this; exact this
    · have := H2 (by omega); rw [tileR_apply c gT w0 h 2 T hc] at this; exact this
  · intro H k
    refine ⟨fun hh => ?_, fun hh => ?_, fun hh => ?_⟩
    · exact (le_of_eq (et 0 k)).trans (H ⟨_, hw 0⟩ k hh.1 hh.2)
    · exact (le_of_eq (et 1 k)).trans (H ⟨_, hw 1⟩ k hh.1 hh.2)
    · exact (le_of_eq (et 2 k)).trans (H ⟨_, hw 2⟩ k hh.1 hh.2)

/-- The counter of a loop over the documents, as a word. -/
theorem iv_eq : ∀ k : Fin 128, Scf.iv 0#32 1#32 k.val = BitVec.ofNat 32 k.val := by decide
/-- Different lanes have different words. -/
theorem iv_ne : ∀ k l : Fin 128, k ≠ l → BitVec.ofNat 32 k.val ≠ BitVec.ofNat 32 l.val := fun k l h e => h (Fin.ext (by
  have := congrArg BitVec.toNat e
  rw [BitVec.toNat_ofNat, BitVec.toNat_ofNat] at this
  have := k.isLt; have := l.isLt; omega))

variable (g : Buf (Elt Ideal) (arg1.view.loc (c : Thread nD τ))) (hg : OffOK c arg1 g) (gT : Buf (Elt Ideal) (scoreM.view.loc (c : Thread nD τ)))

/-- What a document's lane is bounded by: the entries of its rows. -/
def RowsLe (w0 w1 : BitVec 32) (q : Fin 48) (x : EReal) : Prop :=
  ∀ (T : Fin 363) (k : Fin 128), w0.toNat ≤ 128 * T.val + k.val → 128 * T.val + k.val < w1.toNat → (scoreM.view.read (Elt Ideal) gT (ix3 T q k) : EReal) ≤ x

/-- After the first half's loop lane `l` holds document `l`'s greatest scores. -/
theorem docAccA_le (o : ℕ → BitVec 32) (ho : ∀ (off : Fin 2 → ℕ) (inb) (n : ℕ), off = ![(i 0).val, n] → offW c arg1 g off inb = o n)
    (h1 : ∀ n ≤ 256, (o n).toNat ≤ 46080) (h2 : ∀ n < 256, (o (n + 1)).toNat ≤ (o n).toNat + 180) (q : Fin 48) (l : Fin 128) (x : EReal) :
    ∀ n ≤ 128, l.val < n → ((docAccA c i arg1 harg1 arg2 harg2 arg3 harg3 arg6 harg6 arg7 harg7 arg0 laneV (FloatOps.ofBits .f32 4286578688#32) g hg gT n (ix2 q l) : EReal) ≤ x
      ↔ RowsLe c gT (o l.val) (o (l.val + 1)) q x) := by
  intro n
  induction n with
  | zero => intro _ h; omega
  | succ n ih =>
    intro hn hl
    have ht : n < k0_t3_loop.trips := by rw [trips3_eq]; omega
    rw [docAccA, dif_pos ht, docA_eq]
    have hk : n < 128 := by omega
    have e0 := ho _ (k0_off58_inb i ⟨n, ht⟩) n (off58_eq i ⟨n, ht⟩)
    have e1 := ho _ (k0_off59_inb i ⟨n, ht⟩) (n + 1) (off59_eq i ⟨n, ht⟩)
    have ev : Scf.iv 0#32 1#32 n = BitVec.ofNat 32 n := iv_eq ⟨n, hk⟩
    by_cases hc : l.val = n
    · have key := turn_hit c gT (o n) (o (n + 1)) (h1 n (by omega)) (h1 _ (by omega)) (h2 n (by omega)) (docAccA c i arg1 harg1 arg2 harg2 arg3 harg3 arg6 harg6 arg7 harg7 arg0 laneV (FloatOps.ofBits .f32 4286578688#32) g hg gT n) q l x
      unfold RowsLe
      rw [hc] at key ⊢
      simp only [e0, e1, ev]
      exact key
    · refine Iff.trans (iff_of_eq (congrArg (· ≤ x) (pay2_miss _ _ _ q l ?_))) (ih (by omega) (by omega))
      rw [ev]
      exact iv_ne ⟨n, hk⟩ l (fun h => hc (by rw [← h]))

/-- After the second half's loop lane `l` holds document `128 + l`'s. -/
theorem docAccB_le (o : ℕ → BitVec 32) (ho : ∀ (off : Fin 2 → ℕ) (inb) (n : ℕ), off = ![(i 0).val, n] → offW c arg1 g off inb = o n)
    (h1 : ∀ n ≤ 256, (o n).toNat ≤ 46080) (h2 : ∀ n < 256, (o (n + 1)).toNat ≤ (o n).toNat + 180) (q : Fin 48) (l : Fin 128) (x : EReal) :
    ∀ n ≤ 128, l.val < n → ((docAccB c i arg1 harg1 arg2 harg2 arg3 harg3 arg6 harg6 arg7 harg7 arg0 laneV (FloatOps.ofBits .f32 4286578688#32) g hg gT n (ix2 q l) : EReal) ≤ x
      ↔ RowsLe c gT (o (128 + l.val)) (o (128 + l.val + 1)) q x) := by
  intro n
  induction n with
  | zero => intro _ h; omega
  | succ n ih =>
    intro hn hl
    have ht : n < k0_t4_loop.trips := by rw [trips4_eq]; omega
    rw [docAccB, dif_pos ht, docB_eq]
    have hk : n < 128 := by omega
    have e0 := ho _ (k0_off61_inb i ⟨n, ht⟩) (128 + n) (off61_eq i ⟨n, ht⟩)
    have e1 := ho _ (k0_off62_inb i ⟨n, ht⟩) (128 + n + 1) (off62_eq i ⟨n, ht⟩)
    have ev : Scf.iv 0#32 1#32 n = BitVec.ofNat 32 n := iv_eq ⟨n, hk⟩
    by_cases hc : l.val = n
    · have key := turn_hit c gT (o (128 + n)) (o (128 + n + 1)) (h1 _ (by omega)) (h1 _ (by omega)) (h2 _ (by omega)) (docAccB c i arg1 harg1 arg2 harg2 arg3 harg3 arg6 harg6 arg7 harg7 arg0 laneV (FloatOps.ofBits .f32 4286578688#32) g hg gT n) q l x
      unfold RowsLe
      rw [hc] at key ⊢
      simp only [e0, e1, ev]
      exact key
    · refine Iff.trans (iff_of_eq (congrArg (· ≤ x) (pay2_miss _ _ _ q l ?_))) (ih (by omega) (by omega))
      rw [ev]
      exact iv_ne ⟨n, hk⟩ l (fun h => hc (by rw [← h]))

end Cert.KernelIdeal.Hand
end
-- ==== Proof.KI.Best.lean ====
/-
  The two running maxima at the end of a grid point: every query's best score in every document.
-/
module

public import proofs.«01_k».proof.Proof.KI.Scores
public import proofs.«01_k».proof.Proof.KI.Docs

@[expose] public section

noncomputable section

namespace Cert.KernelIdeal.Hand

open Cert.KernelIdeal Cert.KernelIdeal.Gen Idealize.ShloMosaic.ValueIdx
open Idealize.ShloMosaic Idealize.ShloMosaic.TcCoe

variable (m : (ℓ : Loc nD τ sig) → Buf (Elt Ideal) ℓ) (c : Dev nD) (t : Fin cfg0.N)

/-- Every row of a document is longer than zero. -/
def Pos : Prop := ∀ (c : Dev nD) (b : Fin 52) (r : Fin 46080), (x4A m c (Cert.Offs.at2 b 0)).toNat ≤ r.val → r.val < (x4A m c (Cert.Offs.at2 b (Fin.last 256))).toNat →
  0 < Cert.Spec.sq (x1A m c) (x2A m c) (x3A m c) b r

/-- Offset `n` of an entry. -/
def offN (b : Fin 52) (n : ℕ) : BitVec 32 := x4A m c (Cert.Offs.at2 b ⟨min n 256, by omega⟩)

variable {m}

/-- Every offset is at most 46080. -/
theorem offN_le (h : PreOK m) (b : Fin 52) (n : ℕ) : (offN m c b n).toNat ≤ 46080 := (h c).le _
/-- It is the array's. -/
theorem offN_eq (b : Fin 52) (n : ℕ) (k : Fin 257) (e : k.val = n) : offN m c b n = x4A m c (Cert.Offs.at2 b k) := by
  unfold offN
  exact congrArg (fun z => x4A m c (Cert.Offs.at2 b z)) (Fin.ext (by show min n 256 = k.val; have := k.isLt; omega))
/-- A document has from 0 to 180 rows. -/
theorem offN_step (h : PreOK m) (b : Fin 52) (n : ℕ) (hn : n < 256) : (offN m c b n).toNat ≤ (offN m c b (n + 1)).toNat ∧ (offN m c b (n + 1)).toNat ≤ (offN m c b n).toNat + 180 := by
  rw [offN_eq c b n (⟨n, hn⟩ : Fin 256).castSucc rfl, offN_eq c b (n + 1) (⟨n, hn⟩ : Fin 256).succ rfl]
  exact (h c).step b ⟨n, hn⟩
/-- The offsets go up. -/
theorem offN_mono (h : PreOK m) (b : Fin 52) (n k : ℕ) (hk : n + k ≤ 256) : (offN m c b n).toNat ≤ (offN m c b (n + k)).toNat := by
  induction k with
  | zero => exact le_rfl
  | succ k ih => exact (ih (by omega)).trans (offN_step c h b (n + k) (by omega)).1

/-- The word read at a place of a point's entry is the offset there. -/
theorem offW_eq (off : Fin 2 → ℕ) (inb) (n : ℕ) (e : off = ![((grid0.coords t) 0).val, n]) : offW c (a1 t) (gO m c t) off inb = offN m c (bT t) n := by
  have hb : (bT t).val = ((grid0.coords t) 0).val := Ring.bk_val ((grid0.coords t) 0).isLt
  have hn : n < 257 := by
    have h1 : off 1 + 1 ≤ 257 := inb 1
    rw [e] at h1; exact h1
  rw [offN_eq c (bT t) n ⟨n, hn⟩ rfl]
  refine gO_at c t off inb _ (Cert.Offs.at2 (bT t) ⟨n, hn⟩) fun a => ?_
  rw [e]
  match a with
  | ⟨0, _⟩ => exact hb
  | ⟨1, _⟩ => rfl
/-- The count of an entry's rows is its last offset. -/
theorem cntOf_eq : cntOf c (grid0.coords t) (a1 t) (gO m c t) = offN m c (bT t) 256 :=
  offW_eq c t _ _ 256 (funext fun a => by
    match a with
    | ⟨0, _⟩ =>
      have hb : (bT t).val = ((grid0.coords t) 0).val := Ring.bk_val ((grid0.coords t) 0).isLt
      exact (word_val t).trans hb
    | ⟨1, _⟩ => rfl)

variable {t}

/-- A document's tiles are bounded by what bounds its rows' scores. -/
theorem rowsLe_iff (h : PreOK m) (hp : Pos m) (gT) (hT : Tiles m h c t gT) (d : Fin 256) (q : Fin 48) (x : EReal) :
    RowsLe c gT (offN m c (bT t) d.val) (offN m c (bT t) (d.val + 1)) q x
      ↔ ∀ r : Fin 46080, Cert.Spec.InDoc (x4A m c) (bT t) d r → Cert.Spec.score (x0A m c) (x1A m c) (x2A m c) (x3A m c) (bT t) q r ≤ x := by
  have e0 := offN_eq (m := m) c (bT t) d.val d.castSucc rfl
  have e1 := offN_eq (m := m) c (bT t) (d.val + 1) d.succ rfl
  have hd := d.isLt
  have hlo := offN_mono c h (bT t) 0 d.val (by omega)
  rw [Nat.zero_add] at hlo
  have hhi := offN_mono c h (bT t) (d.val + 1) (255 - d.val) (by omega)
  rw [show d.val + 1 + (255 - d.val) = 256 by omega] at hhi
  have hle := offN_le c h (bT t) 256
  have key : ∀ (T : Fin 363) (k : Fin 128) (r : Fin 46080), r.val = 128 * T.val + k.val → Cert.Spec.InDoc (x4A m c) (bT t) d r →
      (scoreM.view.read (Elt Ideal) gT (ix3 T q k) : EReal) = Cert.Spec.score (x0A m c) (x1A m c) (x2A m c) (x3A m c) (bT t) q r := by
    intro T k r hr hin
    have i0 : (offN m c (bT t) d.val).toNat ≤ r.val := by rw [e0]; exact hin.1
    have i1 : r.val < (offN m c (bT t) (d.val + 1)).toNat := by rw [e1]; exact hin.2
    have hk := k.isLt
    have hr' := r.isLt
    have er : (⟨128 * T.val + k.val, by omega⟩ : Fin 46080) = r := Fin.ext hr.symm
    refine (tiles_read m c t h gT hT T ⟨T.val, by omega⟩ rfl (by rw [cntOf_eq]; unfold nb; omega) q k).trans ?_
    show Cert.Spec.dot _ _ _ _ _ q ⟨128 * T.val + k.val, _⟩ * Ideal.rsqrt (Cert.Spec.sq _ _ _ _ ⟨128 * T.val + k.val, _⟩) = _
    rw [er]
    refine Cert.Spec.mul_rsqrt (hp c (bT t) r ?_ ?_)
    · rw [← offN_eq c (bT t) 0 0 rfl]; omega
    · rw [← offN_eq c (bT t) 256 (Fin.last 256) rfl]; omega
  constructor
  · intro hx r hin
    have hr := r.isLt
    rw [← key ⟨r.val / 128, by omega⟩ ⟨r.val % 128, by omega⟩ r (by show r.val = 128 * (r.val / 128) + r.val % 128; omega) hin]
    refine hx _ _ ?_ ?_
    · rw [e0]; show _ ≤ 128 * (r.val / 128) + r.val % 128; have := hin.1; omega
    · rw [e1]; show 128 * (r.val / 128) + r.val % 128 < _; have := hin.2; omega
  · intro hx T k h0 h1
    have hr : 128 * T.val + k.val < 46080 := by omega
    have hin : Cert.Spec.InDoc (x4A m c) (bT t) d ⟨128 * T.val + k.val, hr⟩ := by
      rw [e0] at h0; rw [e1] at h1; exact ⟨h0, h1⟩
    exact (key T k ⟨128 * T.val + k.val, hr⟩ rfl hin).le.trans (hx _ hin)

/-- The first half's maxima are the first 128 documents' best scores, -/
theorem mA_apply (h : PreOK m) (hp : Pos m) (gT) (hT : Tiles m h c t gT) (q : Fin 48) (l : Fin 128) :
    mA m h c t gT (ix2 q l) = Cert.Spec.tok (x0A m c) (x1A m c) (x2A m c) (x3A m c) (x4A m c) (bT t) q ⟨l.val, by omega⟩ := by
  refine Cert.Spec.eq_tok fun x => ?_
  refine (docAccA_le c (grid0.coords t) (a1 t) (h1 t) (a2 t) (h2 t) (a3 t) (h3 t) (a6 t) (h6 t) (a7 t) (h7 t) _ (gO m c t) (offOK h c t) gT (offN m c (bT t)) (offW_eq c t)
    (fun n _ => offN_le c h _ n) (fun n hn => (offN_step c h _ n hn).2) q l x k0_t3_loop.trips (by rw [trips3_eq]) (by rw [trips3_eq]; exact l.isLt)).trans ?_
  exact rowsLe_iff c h hp gT hT ⟨l.val, by omega⟩ q x
/-- the second half's the last 128 documents'. -/
theorem mB_apply (h : PreOK m) (hp : Pos m) (gT) (hT : Tiles m h c t gT) (q : Fin 48) (l : Fin 128) :
    mB m h c t gT (ix2 q l) = Cert.Spec.tok (x0A m c) (x1A m c) (x2A m c) (x3A m c) (x4A m c) (bT t) q ⟨128 + l.val, by omega⟩ := by
  refine Cert.Spec.eq_tok fun x => ?_
  refine (docAccB_le c (grid0.coords t) (a1 t) (h1 t) (a2 t) (h2 t) (a3 t) (h3 t) (a6 t) (h6 t) (a7 t) (h7 t) _ (gO m c t) (offOK h c t) gT (offN m c (bT t)) (offW_eq c t)
    (fun n _ => offN_le c h _ n) (fun n hn => (offN_step c h _ n hn).2) q l x k0_t4_loop.trips (by rw [trips4_eq]) (by rw [trips4_eq]; exact l.isLt)).trans ?_
  exact rowsLe_iff c h hp gT hT ⟨128 + l.val, by omega⟩ q x

end Cert.KernelIdeal.Hand
-- ==== Proof.KI.Results.lean ====
/-
  What the run leaves in the two result arrays: the best scores and their sums over the queries.
-/
module

public import proofs.«01_k».proof.Proof.KI.Best
public import Idealize.ShloMosaic.Lib.Pipeline.ArrRel
public import Idealize.ShloMosaic.Lib.Pipeline.ValueKit

@[expose] public section

noncomputable section

namespace Cert.KernelIdeal.Hand

open Cert.KernelIdeal Cert.KernelIdeal.Gen Idealize.ShloMosaic.ValueIdx
open Idealize.ShloMosaic hiding ix1 ix2 ix3
open Idealize.ShloMosaic.TcCoe
open Idealize.SL.Sem

/-- A half's sums over the queries, as they are stored; -/
theorem pay4_apply (x : FVec Ideal S48x128 .f32) (l : Fin 128) : k0_pay4 x (ix3 (0 : Fin 1) (0 : Fin 1) l) = ∑ q : Fin 48, x (ix2 q l) := by
  unfold k0_pay4
  refine (shapeCast_ab_1ab_apply _ _ 0 0 l).trans ((shapeCast_a_1a_apply _ _ 0 l).trans ?_)
  refine (Ideal.multiReduction_add_single x _ _ _ _ (ix1 l)).trans ?_
  exact Finset.sum_congr rfl fun q _ => congrArg x (funext fun a => Fin.ext (by match a with | ⟨0, _⟩ => rfl | ⟨1, _⟩ => rfl))
/-- The sum over the queries that the body stores. -/
theorem pay8_apply (x : FVec Ideal S48x128 .f32) (l : Fin 128) : k0_pay8 x (ix3 (0 : Fin 1) (0 : Fin 1) l) = ∑ q : Fin 48, x (ix2 q l) := pay4_apply x l

section Out
variable (c : Dev nD) (x y : FVec Ideal S48x128 .f32)
/-- The stored halves of the best scores, read back; -/
theorem tokOut_lo (arg6 : Memref sig .tc .vmem S1x48x256 .f32) (g) (q : Fin 48) (l : Fin 128) (d : Fin 256) (e : d.val = l.val) :
    arg6.view.read (Elt Ideal) (tokOut c arg6 g x y) (ix3 (0 : Fin 1) q d) = x (ix2 q l) :=
  (View.read_writes_cons_unit_of_not_mem arg6.view g _ _ _ (ix3 (0 : Fin 1) q d) rfl (2 : Fin 3) (by
      show d.val < 128 ∨ 128 + 128 ≤ d.val; have := l.isLt; omega)).trans
    ((View.read_writes_cons_unit_of_mem arg6.view g _ _ _ (ix3 (0 : Fin 1) q d) (ix3 (0 : Fin 1) q l) rfl (fun a => by
      match a with
      | ⟨0, _⟩ => rfl
      | ⟨1, _⟩ => show q.val = 0 + q.val; omega
      | ⟨2, _⟩ => show d.val = 0 + l.val; omega)).trans (shapeCast_ab_1ab_apply _ _ 0 q l))
/-- The same for the second half of the documents. -/
theorem tokOut_hi (arg6 : Memref sig .tc .vmem S1x48x256 .f32) (g) (q : Fin 48) (l : Fin 128) (d : Fin 256) (e : d.val = 128 + l.val) :
    arg6.view.read (Elt Ideal) (tokOut c arg6 g x y) (ix3 (0 : Fin 1) q d) = y (ix2 q l) :=
  (View.read_writes_cons_unit_of_mem arg6.view g _ _ _ (ix3 (0 : Fin 1) q d) (ix3 (0 : Fin 1) q l) rfl (fun a => by
      match a with
      | ⟨0, _⟩ => rfl
      | ⟨1, _⟩ => show q.val = 0 + q.val; omega
      | ⟨2, _⟩ => show d.val = 128 + l.val; omega)).trans (shapeCast_ab_1ab_apply _ _ 0 q l)
/-- of the sums. -/
theorem sumOut_lo (arg7 : Memref sig .tc .vmem S1x1x256 .f32) (g) (l : Fin 128) (d : Fin 256) (e : d.val = l.val) :
    arg7.view.read (Elt Ideal) (sumOut c arg7 g x y) (ix3 (0 : Fin 1) (0 : Fin 1) d) = ∑ q : Fin 48, x (ix2 q l) :=
  (View.read_writes_cons_unit_of_not_mem arg7.view g _ _ _ (ix3 (0 : Fin 1) (0 : Fin 1) d) rfl (2 : Fin 3) (by
      show d.val < 128 ∨ 128 + 128 ≤ d.val; have := l.isLt; omega)).trans
    ((View.read_writes_cons_unit_of_mem arg7.view g _ _ _ (ix3 (0 : Fin 1) (0 : Fin 1) d) (ix3 (0 : Fin 1) (0 : Fin 1) l) rfl (fun a => by
      match a with
      | ⟨0, _⟩ => rfl
      | ⟨1, _⟩ => rfl
      | ⟨2, _⟩ => show d.val = 0 + l.val; omega)).trans (pay4_apply x l))
/-- The same for the second half of the documents. -/
theorem sumOut_hi (arg7 : Memref sig .tc .vmem S1x1x256 .f32) (g) (l : Fin 128) (d : Fin 256) (e : d.val = 128 + l.val) :
    arg7.view.read (Elt Ideal) (sumOut c arg7 g x y) (ix3 (0 : Fin 1) (0 : Fin 1) d) = ∑ q : Fin 48, y (ix2 q l) :=
  (View.read_writes_cons_unit_of_mem arg7.view g _ _ _ (ix3 (0 : Fin 1) (0 : Fin 1) d) (ix3 (0 : Fin 1) (0 : Fin 1) l) rfl (fun a => by
      match a with
      | ⟨0, _⟩ => rfl
      | ⟨1, _⟩ => rfl
      | ⟨2, _⟩ => show d.val = 128 + l.val; omega)).trans (pay8_apply y l)
end Out

variable (m : (ℓ : Loc nD τ sig) → Buf (Elt Ideal) ℓ) (c : Dev nD)

/-- The two results. -/
def tokG : Buf (Elt Ideal) ((c : Thread nD τ).loc main_v23_0) :=
  fun (i : S52x48x256.Idx) => Cert.Spec.tok (x0A m c) (x1A m c) (x2A m c) (x3A m c) (x4A m c) (i 0) (i 1) (i 2)
/-- The array of sums. -/
def totG : Buf (Elt Ideal) ((c : Thread nD τ).loc main_v23_1) :=
  fun (i : S52x1x256.Idx) => Cert.Spec.tot (x0A m c) (x1A m c) (x2A m c) (x3A m c) (x4A m c) (i 0) (i 2)

variable {m}

/-- What a point leaves in the first result's block is its entry's best scores; -/
theorem tokRel_apply (h : PreOK m) (hp : Pos m) (t : Fin cfg0.N) (X) (hX : TokRel m h c t X) (q : Fin 48) (d : Fin 256) :
    X (ix3 (0 : Fin 1) q d) = Cert.Spec.tok (x0A m c) (x1A m c) (x2A m c) (x3A m c) (x4A m c) (bT t) q d := by
  obtain ⟨gT, g6, hT, rfl⟩ := hX
  by_cases hd : d.val < 128
  · exact (tokOut_lo c _ _ (a6 t) g6 q ⟨d.val, hd⟩ d rfl).trans (mA_apply c h hp gT hT q ⟨d.val, hd⟩)
  · obtain ⟨l, hl⟩ : ∃ l : Fin 128, d.val = 128 + l.val := ⟨⟨d.val - 128, by have := d.isLt; omega⟩, (Nat.add_sub_cancel' (Nat.le_of_not_lt hd)).symm⟩
    have e : (⟨128 + l.val, hl ▸ d.isLt⟩ : Fin 256) = d := Fin.ext hl.symm
    exact (tokOut_hi c _ _ (a6 t) g6 q l d hl).trans ((mB_apply c h hp gT hT q l).trans (congrArg (Cert.Spec.tok _ _ _ _ _ _ q) e))
/-- in the second's their sums. -/
theorem sumRel_apply (h : PreOK m) (hp : Pos m) (t : Fin cfg0.N) (X) (hX : SumRel m h c t X) (d : Fin 256) :
    X (ix3 (0 : Fin 1) (0 : Fin 1) d) = Cert.Spec.tot (x0A m c) (x1A m c) (x2A m c) (x3A m c) (x4A m c) (bT t) d := by
  obtain ⟨gT, g7, hT, rfl⟩ := hX
  by_cases hd : d.val < 128
  · exact (sumOut_lo c _ _ (a7 t) g7 ⟨d.val, hd⟩ d rfl).trans (Finset.sum_congr rfl fun q _ => mA_apply c h hp gT hT q ⟨d.val, hd⟩)
  · obtain ⟨l, hl⟩ : ∃ l : Fin 128, d.val = 128 + l.val := ⟨⟨d.val - 128, by have := d.isLt; omega⟩, (Nat.add_sub_cancel' (Nat.le_of_not_lt hd)).symm⟩
    have e : (⟨128 + l.val, hl ▸ d.isLt⟩ : Fin 256) = d := Fin.ext hl.symm
    exact (sumOut_hi c _ _ (a7 t) g7 l d hl).trans (Finset.sum_congr rfl fun q _ => (mB_apply c h hp gT hT q l).trans (congrArg (Cert.Spec.tok _ _ _ _ _ _ q) e))

/-- The same at any index of the block. -/
theorem tokRel_idx (h : PreOK m) (hp : Pos m) (t : Fin cfg0.N) (X) (hX : TokRel m h c t X) (k : S1x48x256.Idx) :
    X k = Cert.Spec.tok (x0A m c) (x1A m c) (x2A m c) (x3A m c) (x4A m c) (bT t) (k 1) (k 2) := by
  have e : k = ix3 (0 : Fin 1) (k 1) (k 2) := funext fun a => Fin.ext (by
    match a with
    | ⟨0, _⟩ => exact Nat.lt_one_iff.1 (k 0).isLt
    | ⟨1, _⟩ => rfl
    | ⟨2, _⟩ => rfl)
  exact (congrArg X e).trans (tokRel_apply c h hp t X hX (k 1) (k 2))
/-- The same for the sums. -/
theorem sumRel_idx (h : PreOK m) (hp : Pos m) (t : Fin cfg0.N) (X) (hX : SumRel m h c t X) (k : S1x1x256.Idx) :
    X k = Cert.Spec.tot (x0A m c) (x1A m c) (x2A m c) (x3A m c) (x4A m c) (bT t) (k 2) := by
  have e : k = ix3 (0 : Fin 1) (0 : Fin 1) (k 2) := funext fun a => Fin.ext (by
    match a with
    | ⟨0, _⟩ => exact Nat.lt_one_iff.1 (k 0).isLt
    | ⟨1, _⟩ => exact Nat.lt_one_iff.1 (k 1).isLt
    | ⟨2, _⟩ => rfl)
  exact (congrArg X e).trans (sumRel_apply c h hp t X hX (k 2))

/-- The result arrays after the run. -/
theorem results (h : PreOK m) (hp : Pos m) (r) (hr : Pipeline.RDat.FramePost (cfgs 0) (rdat m h) (V m) r) :
    r.2.mem ((c.tc : Thread nD τ).loc main_v23_0) = tokG m c ∧ r.2.mem ((c.tc : Thread nD τ).loc main_v23_1) = totG m c := by
  obtain ⟨after, hL, hA⟩ := hr.exists_exact c
  constructor
  · refine (hA 3).trans (((rdat m h c).withAfter after).arrAt_eq_of_covers 3 (tokG m c) (by decide +kernel) fun t hf y => ?_)
    obtain ⟨Y, _, hX⟩ := hL 3 t hf
    refine (tokRel_idx c h hp t (after 3 t) hX _).trans ?_
    have hy : (y 0).val < 1 := (y 0).isLt
    have e0 : bT t = (((cfg0.win 3).blk t).view.emb y : S52x48x256.Idx) 0 := Fin.ext (by
      show (bT t).val = (BitVec.ofNat 32 ((grid0.coords t) 0).val).toNat * 1 + 1 * (y 0).val; rw [word_val]; omega)
    have e1 : (((cfg0.win 3).xinj (grid0.coords t) y : S1x48x256.Idx) 1 : Fin 48) = (((cfg0.win 3).blk t).view.emb y : S52x48x256.Idx) 1 := Fin.ext (by
      show (y 1).val = 0 * 48 + 1 * (y 1).val; omega)
    have e2 : (((cfg0.win 3).xinj (grid0.coords t) y : S1x48x256.Idx) 2 : Fin 256) = (((cfg0.win 3).blk t).view.emb y : S52x48x256.Idx) 2 := Fin.ext (by
      show (y 2).val = 0 * 256 + 1 * (y 2).val; omega)
    exact congr (congr (congrArg (Cert.Spec.tok (x0A m c) (x1A m c) (x2A m c) (x3A m c) (x4A m c)) e0) e1) e2
  · refine (hA 4).trans (((rdat m h c).withAfter after).arrAt_eq_of_covers 4 (totG m c) (by decide +kernel) fun t hf y => ?_)
    obtain ⟨Y, _, hX⟩ := hL 4 t hf
    refine (sumRel_idx c h hp t (after 4 t) hX _).trans ?_
    have hy : (y 0).val < 1 := (y 0).isLt
    have e0 : bT t = (((cfg0.win 4).blk t).view.emb y : S52x1x256.Idx) 0 := Fin.ext (by
      show (bT t).val = (BitVec.ofNat 32 ((grid0.coords t) 0).val).toNat * 1 + 1 * (y 0).val; rw [word_val]; omega)
    have e2 : (((cfg0.win 4).xinj (grid0.coords t) y : S1x1x256.Idx) 2 : Fin 256) = (((cfg0.win 4).blk t).view.emb y : S52x1x256.Idx) 2 := Fin.ext (by
      show (y 2).val = 0 * 256 + 1 * (y 2).val; omega)
    exact congr (congrArg (Cert.Spec.tot (x0A m c) (x1A m c) (x2A m c) (x3A m c) (x4A m c)) e0) e2

omit c in
/-- The run, with what it leaves of the arguments. -/
theorem run_args (m) (ρ) (h : PreOK m) : θ_run defs (onTc (τ := τ) (main (F := Ideal))) ⟨m, fun _ => 0, ρ⟩ (fun r =>
      Pipeline.RDat.FramePost (cfgs 0) (rdat m h) (V m) r ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hh => ⟨hh.1, fun c => args_kept m h r hh.1 c⟩) (run_main m ρ h)

end Cert.KernelIdeal.Hand
-- ==== Proof.RefRow.lean ====
/-
  The reference's scores before the maximum: the four strided slices, the two bits of a code that choose a weight, and
  the sums over each field's 32 dimensions put together are `Spec.score`.
-/
module

public import proofs.«01_k».proof.Proof.Gen.ReferenceIdeal.Read
public import proofs.«01_k».proof.Proof.Spec
public import Idealize.ShloMosaic.Lib.Pointwise.ShapeOpsCore

@[expose] public section

noncomputable section

namespace Cert.ReferenceIdeal.Hand

open Cert.ReferenceIdeal Cert.ReferenceIdeal.Gen Cert.ReferenceIdeal.Read Idealize.ShloMosaic.ValueIdx Idealize.ShloMosaic.StableHlo
open Idealize.ShloMosaic hiding ix1 ix2 ix3

/-- Bit `n` of a byte, as the reference tests it. -/
abbrev bit (y : BitVec 8) (n : BitVec 32) : BitVec 1 := IntOp.cmpi .ne (IntOp.andi (IntOp.shrui .host (y.setWidth 32) n) 1#32) 0#32
/-- A field's two bits are its number's. -/
theorem bits_field : ∀ (n : Fin 256) (f : Fin 4),
    ∃ k : Fin 4, Cert.Spec.field (BitVec.ofFin (w := 8) n) f.val = k ∧ bit (BitVec.ofFin (w := 8) n) (BitVec.ofNat 32 (2 * f.val + 1)) = BitVec.ofNat 1 (k.val / 2)
      ∧ bit (BitVec.ofFin (w := 8) n) (BitVec.ofNat 32 (2 * f.val)) = BitVec.ofNat 1 (k.val % 2) := by
  decide +kernel
/-- The weight the two bits select is the field's. -/
theorem pick (y : BitVec 8) (f : Fin 4) (g : Fin 4 → EReal) :
    Scalar.select (bit y (BitVec.ofNat 32 (2 * f.val + 1)))
      (Scalar.select (bit y (BitVec.ofNat 32 (2 * f.val))) (g 3) (g 2)) (Scalar.select (bit y (BitVec.ofNat 32 (2 * f.val))) (g 1) (g 0))
      = g (Cert.Spec.field y f.val) := by
  obtain ⟨k, hk, h1, h0⟩ := bits_field y.toFin f
  rw [show BitVec.ofFin y.toFin = y from rfl] at hk h1 h0
  rw [hk, h1, h0]
  fin_cases k <;> rfl
/-- A weight taken out of the four and spread over an array. -/
theorem weight (x2 : Cert.Spec.W) (o : Fin 4) (h : S4.Slices ![o.val] S1) (hc : S1.ShapeCasts S_) (hb : S_.BroadcastsInDim S52x46080x32 ![]) (i : S52x46080x32.Idx) :
    broadcastInDim S52x46080x32 ![] hb (shapeCast S_ (extractStridedSlice S1 ![o.val] x2 h) hc) i = x2 (ix1 o) := by
  rw [broadcastInDim_apply _ hb _ i (fun a => a.elim0) (fun a => a.elim0)]
  show extractStridedSlice S1 ![o.val] x2 h _ = _
  have hz : ∀ z : S1.Idx, (z 0).val = 0 := fun z => by have : (z 0).val < 1 := (z 0).isLt; omega
  refine extractStridedSlice_apply _ _ _ _ _ (fun a => ?_)
  match a with
  | ⟨0, _⟩ => exact (Nat.add_zero _).symm.trans (congrArg (o.val + ·) (hz _).symm)
/-- A strided slice's centroid. -/
theorem slice_cen (x1 : Cert.Spec.C) (f : Fin 4) (h : S52x46080x128.SlicesBy ![0, 0, f.val] ![1, 1, 4] S52x46080x32) (i : S52x46080x32.Idx) :
    Host.slice S52x46080x32 ![0, 0, f.val] ![1, 1, 4] (val_main_v3 (F := Ideal) x1) h i
      = Cert.Spec.cen (x1 (ix3 (i 0) (i 1) ⟨4 * (i 2).val + f.val, by have : (i 2).val < 32 := (i 2).isLt; have := f.isLt; omega⟩)) := by
  rw [Host.slice_apply]
  have hi : ∀ j j' : S52x46080x128.Idx, j = j' → val_main_v3 (F := Ideal) x1 j = Cert.Spec.cen (x1 j') := fun j j' e => by rw [e]; rfl
  refine hi _ _ (funext fun a => Fin.ext ?_)
  match a with
  | ⟨0, _⟩ => show 0 + 1 * (i 0).val = (i 0).val; omega
  | ⟨1, _⟩ => show 0 + 1 * (i 1).val = (i 1).val; omega
  | ⟨2, _⟩ => show f.val + 4 * (i 2).val = 4 * (i 2).val + f.val; omega
/-- A strided slice's query. -/
theorem slice_q (x0 : Cert.Spec.Q) (f : Fin 4) (h : S52x48x128.SlicesBy ![0, 0, f.val] ![1, 1, 4] S52x48x32) (i : S52x48x32.Idx) :
    Host.slice S52x48x32 ![0, 0, f.val] ![1, 1, 4] x0 h i
      = x0 (ix3 (i 0) (i 1) ⟨4 * (i 2).val + f.val, by have : (i 2).val < 32 := (i 2).isLt; have := f.isLt; omega⟩) := by
  rw [Host.slice_apply]
  refine congrArg x0 (funext fun a => Fin.ext ?_)
  match a with
  | ⟨0, _⟩ => show 0 + 1 * (i 0).val = (i 0).val; omega
  | ⟨1, _⟩ => show 0 + 1 * (i 1).val = (i 1).val; omega
  | ⟨2, _⟩ => show f.val + 4 * (i 2).val = 4 * (i 2).val + f.val; omega

/-- Dimension `4 k + f`. -/
abbrev dim (f : Fin 4) (k : Fin 32) : Fin 128 := ⟨4 * k.val + f.val, by omega⟩
/-- A field's part of the residual vector: the sliced centroid plus the weight the bits of the row's byte select. -/
theorem residual (x1 : Cert.Spec.C) (x2 : Cert.Spec.W) (x3 : Cert.Spec.Y) (f : Fin 4) (h : S52x46080x128.SlicesBy ![0, 0, f.val] ![1, 1, 4] S52x46080x32)
    (i : S52x46080x32.Idx) (w : Fin 4 → EReal) (hw : ∀ k, w k = x2 (ix1 k)) :
    FloatOps.addf (F := Ideal) (φ := .f32) (Host.slice S52x46080x32 ![0, 0, f.val] ![1, 1, 4] (val_main_v3 (F := Ideal) x1) h i)
      (Scalar.select (bit (x3 i) (BitVec.ofNat 32 (2 * f.val + 1)))
        (Scalar.select (bit (x3 i) (BitVec.ofNat 32 (2 * f.val))) (w 3) (w 2)) (Scalar.select (bit (x3 i) (BitVec.ofNat 32 (2 * f.val))) (w 1) (w 0)))
      = Cert.Spec.res x1 x2 x3 (i 0) (i 1) (dim f (i 2)) := by
  rw [slice_cen, pick, hw]
  have h2 : (i 2).val < 32 := (i 2).isLt
  have hf := f.isLt
  have e1 : (4 * (i 2).val + f.val) / 4 = (i 2).val := by omega
  have e2 : (4 * (i 2).val + f.val) % 4 = f.val := by omega
  have e3 : x3 i = x3 (ix3 (i 0) (i 1) (⟨(dim f (i 2)).val / 4, by omega⟩ : Fin 32)) := congrArg x3 (funext fun a => Fin.ext (by
    match a with
    | ⟨0, _⟩ => rfl
    | ⟨1, _⟩ => rfl
    | ⟨2, _⟩ => exact e1.symm))
  unfold Cert.Spec.res
  rw [← e3]
  show _ + _ = _ + x2 (ix1 (Cert.Spec.field (x3 i) ((4 * (i 2).val + f.val) % 4)))
  rw [e2]
/-- The four fields' residuals. -/
theorem res0 (x1 : Cert.Spec.C) (x2 : Cert.Spec.W) (x3 : Cert.Spec.Y) (i : S52x46080x32.Idx) :
    val_main_v29 (F := Ideal) x1 x2 x3 i = Cert.Spec.res x1 x2 x3 (i 0) (i 1) (dim 0 (i 2)) :=
  residual x1 x2 x3 0 slicesBy_S52x46080x128_S52x46080x32_0s1_0s1_0s4 i
    ![val_main_call1_v1 (F := Ideal) x2 i, val_main_call1_v0 (F := Ideal) x2 i, val_main_call0_v1 (F := Ideal) x2 i, val_main_call0_v0 (F := Ideal) x2 i]
    (fun k => match k with | 0 => weight x2 0 slices_S4_S1_0 shapeCasts_S1_S_ bcast_S_S52x46080x32 i | 1 => weight x2 1 slices_S4_S1_1 shapeCasts_S1_S_ bcast_S_S52x46080x32 i | 2 => weight x2 2 slices_S4_S1_2 shapeCasts_S1_S_ bcast_S_S52x46080x32 i | 3 => weight x2 3 slices_S4_S1_3 shapeCasts_S1_S_ bcast_S_S52x46080x32 i)
/-- The decoded dimensions of field 1. -/
theorem res1 (x1 : Cert.Spec.C) (x2 : Cert.Spec.W) (x3 : Cert.Spec.Y) (i : S52x46080x32.Idx) :
    val_main_v60 (F := Ideal) x1 x2 x3 i = Cert.Spec.res x1 x2 x3 (i 0) (i 1) (dim 1 (i 2)) :=
  residual x1 x2 x3 1 slicesBy_S52x46080x128_S52x46080x32_0s1_0s1_1s4 i
    ![val_main_call4_v1 (F := Ideal) x2 i, val_main_call4_v0 (F := Ideal) x2 i, val_main_call3_v1 (F := Ideal) x2 i, val_main_call3_v0 (F := Ideal) x2 i]
    (fun k => match k with | 0 => weight x2 0 slices_S4_S1_0 shapeCasts_S1_S_ bcast_S_S52x46080x32 i | 1 => weight x2 1 slices_S4_S1_1 shapeCasts_S1_S_ bcast_S_S52x46080x32 i | 2 => weight x2 2 slices_S4_S1_2 shapeCasts_S1_S_ bcast_S_S52x46080x32 i | 3 => weight x2 3 slices_S4_S1_3 shapeCasts_S1_S_ bcast_S_S52x46080x32 i)
/-- The decoded dimensions of field 2. -/
theorem res2 (x1 : Cert.Spec.C) (x2 : Cert.Spec.W) (x3 : Cert.Spec.Y) (i : S52x46080x32.Idx) :
    val_main_v93 (F := Ideal) x1 x2 x3 i = Cert.Spec.res x1 x2 x3 (i 0) (i 1) (dim 2 (i 2)) :=
  residual x1 x2 x3 2 slicesBy_S52x46080x128_S52x46080x32_0s1_0s1_2s4 i
    ![val_main_call7_v1 (F := Ideal) x2 i, val_main_call7_v0 (F := Ideal) x2 i, val_main_call6_v1 (F := Ideal) x2 i, val_main_call6_v0 (F := Ideal) x2 i]
    (fun k => match k with | 0 => weight x2 0 slices_S4_S1_0 shapeCasts_S1_S_ bcast_S_S52x46080x32 i | 1 => weight x2 1 slices_S4_S1_1 shapeCasts_S1_S_ bcast_S_S52x46080x32 i | 2 => weight x2 2 slices_S4_S1_2 shapeCasts_S1_S_ bcast_S_S52x46080x32 i | 3 => weight x2 3 slices_S4_S1_3 shapeCasts_S1_S_ bcast_S_S52x46080x32 i)
/-- The decoded dimensions of field 3. -/
theorem res3 (x1 : Cert.Spec.C) (x2 : Cert.Spec.W) (x3 : Cert.Spec.Y) (i : S52x46080x32.Idx) :
    val_main_v126 (F := Ideal) x1 x2 x3 i = Cert.Spec.res x1 x2 x3 (i 0) (i 1) (dim 3 (i 2)) :=
  residual x1 x2 x3 3 slicesBy_S52x46080x128_S52x46080x32_0s1_0s1_3s4 i
    ![val_main_call10_v1 (F := Ideal) x2 i, val_main_call10_v0 (F := Ideal) x2 i, val_main_call9_v1 (F := Ideal) x2 i, val_main_call9_v0 (F := Ideal) x2 i]
    (fun k => match k with | 0 => weight x2 0 slices_S4_S1_0 shapeCasts_S1_S_ bcast_S_S52x46080x32 i | 1 => weight x2 1 slices_S4_S1_1 shapeCasts_S1_S_ bcast_S_S52x46080x32 i | 2 => weight x2 2 slices_S4_S1_2 shapeCasts_S1_S_ bcast_S_S52x46080x32 i | 3 => weight x2 3 slices_S4_S1_3 shapeCasts_S1_S_ bcast_S_S52x46080x32 i)

/-- The row's squared length, summed field by field. -/
theorem sq_apply (x1 : Cert.Spec.C) (x2 : Cert.Spec.W) (x3 : Cert.Spec.Y) (b : Fin 52) (r : Fin 46080) :
    val_main_v132 (F := Ideal) x1 x2 x3 (ix2 b r) = Cert.Spec.sq x1 x2 x3 b r := by
  rw [val_main_v132_apply, val_main_v99_apply, val_main_v66_apply, val_main_v31_apply, val_main_v62_apply, val_main_v95_apply, val_main_v128_apply]
  have hz : ∀ x : EReal, FloatOps.ofBits (F := Ideal) .f32 0x00000000#32 + x = x := fun x => by
    rw [Ideal.ofBits_def, Ideal.ofBits_zero_f32, zero_add]
  have h : ∀ (f : Fin 4) (v : S52x46080x32.Idx → EReal) (w : Fin 32 → S52x46080x32.Idx)
      (_ : ∀ i, v i = Cert.Spec.res x1 x2 x3 (i 0) (i 1) (dim f (i 2))) (_ : ∀ k, w k = ix3 b r k),
      (∑ k : Fin 32, v (w k) * v (w k)) = ∑ k : Fin 32, Cert.Spec.res x1 x2 x3 b r (dim f k) * Cert.Spec.res x1 x2 x3 b r (dim f k) :=
    fun f v w hv hw => Finset.sum_congr rfl fun k _ => by rw [hw, hv]
  have hi : ∀ (k : Fin 32) (j : S52x46080x32.Idx), (∀ a, (j a).val = ((ix3 b r k : S52x46080x32.Idx) a).val) → j = ix3 b r k := fun k j e => funext fun a => Fin.ext (e a)
  refine Eq.trans ?_ (Cert.Spec.sum_fields fun d => Cert.Spec.res x1 x2 x3 b r d * Cert.Spec.res x1 x2 x3 b r d)
  refine congrArg₂ (· + ·) (congrArg₂ (· + ·) (congrArg₂ (· + ·) ?_ ?_) ?_) ?_
  · exact (hz _).trans (h 0 _ _ (res0 x1 x2 x3) fun k => hi k _ fun a => by match a with | ⟨0, _⟩ => rfl | ⟨1, _⟩ => rfl | ⟨2, _⟩ => rfl)
  · exact (hz _).trans (h 1 _ _ (res1 x1 x2 x3) fun k => hi k _ fun a => by match a with | ⟨0, _⟩ => rfl | ⟨1, _⟩ => rfl | ⟨2, _⟩ => rfl)
  · exact (hz _).trans (h 2 _ _ (res2 x1 x2 x3) fun k => hi k _ fun a => by match a with | ⟨0, _⟩ => rfl | ⟨1, _⟩ => rfl | ⟨2, _⟩ => rfl)
  · exact (hz _).trans (h 3 _ _ (res3 x1 x2 x3) fun k => hi k _ fun a => by match a with | ⟨0, _⟩ => rfl | ⟨1, _⟩ => rfl | ⟨2, _⟩ => rfl)
/-- The row's product with a query, summed field by field. -/
theorem dot_apply (x0 : Cert.Spec.Q) (x1 : Cert.Spec.C) (x2 : Cert.Spec.W) (x3 : Cert.Spec.Y) (b : Fin 52) (q : Fin 48) (r : Fin 46080) :
    val_main_v133 (F := Ideal) x0 x1 x2 x3 (ix3 b r q) = Cert.Spec.dot x0 x1 x2 x3 b q r := by
  rw [val_main_v133_apply, val_main_v100_apply, val_main_v67_apply, val_main_v34_apply, val_main_v65_apply, val_main_v98_apply, val_main_v131_apply]
  have h : ∀ (f : Fin 4) (v : S52x46080x32.Idx → EReal) (w : Fin 32 → S52x46080x32.Idx) (hs : S52x48x128.SlicesBy ![0, 0, f.val] ![1, 1, 4] S52x48x32)
      (u : Fin 32 → S52x48x32.Idx) (_ : ∀ i, v i = Cert.Spec.res x1 x2 x3 (i 0) (i 1) (dim f (i 2))) (_ : ∀ k, w k = ix3 b r k) (_ : ∀ k, u k = ix3 b q k),
      (∑ k : Fin 32, v (w k) * Host.slice S52x48x32 ![0, 0, f.val] ![1, 1, 4] x0 hs (u k)) = ∑ k : Fin 32, x0 (ix3 b q (dim f k)) * Cert.Spec.res x1 x2 x3 b r (dim f k) :=
    fun f v w hs u hv hw hu => Finset.sum_congr rfl fun k _ => by rw [hw, hv, hu, slice_q, mul_comm]
  have hi : ∀ (k : Fin 32) (j : S52x46080x32.Idx), (∀ a, (j a).val = ((ix3 b r k : S52x46080x32.Idx) a).val) → j = ix3 b r k := fun k j e => funext fun a => Fin.ext (e a)
  have hu : ∀ (k : Fin 32) (j : S52x48x32.Idx), (∀ a, (j a).val = ((ix3 b q k : S52x48x32.Idx) a).val) → j = ix3 b q k := fun k j e => funext fun a => Fin.ext (e a)
  refine Eq.trans ?_ (Cert.Spec.sum_fields fun d => x0 (ix3 b q d) * Cert.Spec.res x1 x2 x3 b r d)
  refine congrArg₂ (· + ·) (congrArg₂ (· + ·) (congrArg₂ (· + ·) ?_ ?_) ?_) ?_
  · exact h 0 _ _ _ _ (res0 x1 x2 x3) (fun k => hi k _ fun a => by match a with | ⟨0, _⟩ => rfl | ⟨1, _⟩ => rfl | ⟨2, _⟩ => rfl) (fun k => hu k _ fun a => by match a with | ⟨0, _⟩ => rfl | ⟨1, _⟩ => rfl | ⟨2, _⟩ => rfl)
  · exact h 1 _ _ _ _ (res1 x1 x2 x3) (fun k => hi k _ fun a => by match a with | ⟨0, _⟩ => rfl | ⟨1, _⟩ => rfl | ⟨2, _⟩ => rfl) (fun k => hu k _ fun a => by match a with | ⟨0, _⟩ => rfl | ⟨1, _⟩ => rfl | ⟨2, _⟩ => rfl)
  · exact h 2 _ _ _ _ (res2 x1 x2 x3) (fun k => hi k _ fun a => by match a with | ⟨0, _⟩ => rfl | ⟨1, _⟩ => rfl | ⟨2, _⟩ => rfl) (fun k => hu k _ fun a => by match a with | ⟨0, _⟩ => rfl | ⟨1, _⟩ => rfl | ⟨2, _⟩ => rfl)
  · exact h 3 _ _ _ _ (res3 x1 x2 x3) (fun k => hi k _ fun a => by match a with | ⟨0, _⟩ => rfl | ⟨1, _⟩ => rfl | ⟨2, _⟩ => rfl) (fun k => hu k _ fun a => by match a with | ⟨0, _⟩ => rfl | ⟨1, _⟩ => rfl | ⟨2, _⟩ => rfl)
/-- The score of a row. -/
theorem score_apply (x0 : Cert.Spec.Q) (x1 : Cert.Spec.C) (x2 : Cert.Spec.W) (x3 : Cert.Spec.Y) (b : Fin 52) (q : Fin 48) (r : Fin 46080) :
    val_main_v137 (F := Ideal) x0 x1 x2 x3 (ix3 b r q) = Cert.Spec.score x0 x1 x2 x3 b q r := by
  rw [val_main_v137_apply, dot_apply, val_main_v136_apply, val_main_v135_apply, val_main_v134_apply]
  have e : ∀ j : S52x46080.Idx, (∀ a, (j a).val = ((ix2 b r : S52x46080.Idx) a).val) → j = ix2 b r := fun j e => funext fun a => Fin.ext (e a)
  rw [e (idx_main_v135 _) (fun a => by match a with | ⟨0, _⟩ => rfl | ⟨1, _⟩ => rfl), sq_apply]
  rfl

end Cert.ReferenceIdeal.Hand

end
-- ==== Proof.PreValue.lean ====
/-
  The precondition of the value claim: its side conditions, and what it says of the arguments. The offsets are such as
  the frames ask, and the rows that lie in a document have squared lengths above zero.
-/
module

public import proofs.«01_k».proof.Pre_pre_value
public import proofs.«01_k».proof.Proof.Offs
public import proofs.«01_k».proof.Proof.PreFacts
public import proofs.«01_k».proof.Proof.RefRow

@[expose] public section

namespace Cert.Pre_pre_value

/-- The precondition's stated facts, each decided. -/
theorem facts : Facts where
  natLt_16_32 := by decide
  bcast_S_S52x46080x128 := by decide
  natLt_8_32 := by decide
  bcast_S_S52x46080x32 := by decide
  slices_S4_S1_0 := by decide
  shapeCasts_S1_S_ := by decide
  slices_S4_S1_1 := by decide
  slices_S4_S1_2 := by decide
  slices_S4_S1_3 := by decide
  slicesBy_S52x46080x128_S52x46080x32_0s1_0s1_0s4 := by decide
  reducesTo_S52x46080x32_S52x46080_d2 := by decide
  h_S_ := by decide
  slicesBy_S52x46080x128_S52x46080x32_0s1_0s1_1s4 := by decide
  slicesBy_S52x46080x128_S52x46080x32_0s1_0s1_2s4 := by decide
  slicesBy_S52x46080x128_S52x46080x32_0s1_0s1_3s4 := by decide
  bcast_S46080_S1x46080_1 := by decide
  slices_S52x257_S52x1_0_0 := by decide
  bcast_S1x46080_S52x46080_0_1 := by decide
  bcast_S52x1_S52x46080_0_1 := by decide
  slices_S52x257_S52x1_0_256 := by decide
  slices_S52x257_S52x256_0_1 := by decide
  slices_S52x257_S52x256_0_0 := by decide
  shapeCasts_S52x1_S52 := by decide
  bcast_S_S52 := by decide
  reducesTo_S52_S_d0 := by decide
  bcast_S_S52x256 := by decide
  reducesTo_S52x256_S_d0_1 := by decide
  bcast_S_S52x46080 := by decide
  reducesTo_S52x46080_S_d0_1 := by decide

end Cert.Pre_pre_value

namespace Cert.PreValue

open Cert.Pre_pre_value Cert.Pre_pre_value.Facts Idealize.ShloMosaic.ValueIdx
open Idealize.ShloMosaic hiding ix1 ix2 ix3

variable [Cert.Pre_pre_value.Facts] [Cert.Pre_pre.Facts]
variable (x0 : Cert.Spec.Q) (x1 : Cert.Spec.C) (x2 : Cert.Spec.W) (x3 : Cert.Spec.Y) (x4 : Cert.Spec.O)

/-- Each row's number. -/
noncomputable def rows : IVec S52x46080 32 :=
  broadcastInDim S52x46080 ![0, 1] bcast_S1x46080_S52x46080_0_1 (broadcastInDim S1x46080 ![1] bcast_S46080_S1x46080_1 (iotaInDim S46080 32 0))
/-- The rows that lie in no document. -/
noncomputable def outside : IVec S52x46080 1 :=
  ori (cmpi .slt rows (broadcastInDim S52x46080 ![0, 1] bcast_S52x1_S52x46080_0_1 (extractStridedSlice S52x1 ![0, 0] x4 slices_S52x257_S52x1_0_0)))
    (cmpi .sge rows (broadcastInDim S52x46080 ![0, 1] bcast_S52x1_S52x46080_0_1 (extractStridedSlice S52x1 ![0, 256] x4 slices_S52x257_S52x1_0_256)))

/-- The precondition is the frames' and the rows'. -/
theorem split : Cert.Pre_pre_value.fn (F := Ideal) x0 x1 x2 x3 x4 = andi (Cert.Pre_pre.fn (F := Ideal) x0 x1 x2 x3 x4)
    (Host.reduce IntOp.andi (ori (outside x4) (cmpf .ogt (Cert.ReferenceIdeal.Read.val_main_v132 (F := Ideal) x1 x2 x3)
      (broadcastInDim S52x46080 ![] bcast_S_S52x46080 (constant (F := Ideal) S_ .f32 0x00000000#32)))) (constantI S_ 1 1#1) reducesTo_S52x46080_S_d0_1 h_S_) := rfl

/-- Of two bits whose or is one, one is one. -/
theorem ori_one {x y : BitVec 1} (h : IntOp.ori x y = 1#1) : x = 1#1 ∨ y = 1#1 := by
  revert x y; decide

/-- The comparison `x > y` of two extended reals gives one only if `y < x`. -/
theorem cmpf_ogt {x y : EReal} (h : FloatOps.cmpf (F := Ideal) (φ := .f32) .ogt x y = 1#1) : y < x := by
  by_contra hn
  simp [Ideal.cmpf_def, Ideal.cmp, hn] at h

/-- What the precondition of the value claim says: the row offsets are as the frames need them, and every row between the
first and the last offset of a centroid has a positive sum of squares. -/
theorem of_pre (h : Cert.Pre_pre_value.fn (F := Ideal) x0 x1 x2 x3 x4 = fun _ => 1#1) :
    Cert.Offs.OK x4 ∧ ∀ (b : Fin 52) (r : Fin 46080), (x4 (Cert.Offs.at2 b 0)).toNat ≤ r.val → r.val < (x4 (Cert.Offs.at2 b (Fin.last 256))).toNat → 0 < Cert.Spec.sq x1 x2 x3 b r := by
  rw [split] at h
  have hs := fun j => Cert.Offs.andi_one (congrFun h j)
  have hOK : Cert.Offs.OK x4 := Cert.Offs.ok_of_pre (F := Ideal) x0 x1 x2 x3 x4 (funext fun j => (hs j).1)
  refine ⟨hOK, fun b r h0 h1 => ?_⟩
  have hr := Host.reduce_andi_all _ _ _ _ _ (hs (fun a => a.elim0)).2 (ix2 b r)
  have er : rows (ix2 b r) = BitVec.ofNat 32 r.val := rfl
  have hb (n : Fin 257) (k : Nat) (hk : k = n.val) (hsl : S52x257.Slices ![0, k] S52x1) : broadcastInDim S52x46080 ![0, 1] bcast_S52x1_S52x46080_0_1 (extractStridedSlice S52x1 ![0, k] x4 hsl) (ix2 b r) = x4 (Cert.Offs.at2 b n) := by
    rw [broadcastInDim_apply _ _ _ _ (ix2 b (0 : Fin 1)) (fun a => by match a with | ⟨0, _⟩ => rfl | ⟨1, _⟩ => rfl)]
    refine extractStridedSlice_apply _ _ _ _ _ fun a => ?_
    match a with
    | ⟨0, _⟩ => show b.val = 0 + b.val; omega
    | ⟨1, _⟩ => exact hk.symm
  have hlt := r.isLt
  rcases ori_one hr with hr | hr
  · exfalso
    rcases ori_one hr with hr | hr
    · have := IntOp.cmpi_slt.1 hr
      rw [er, hb 0 0 rfl] at this
      have hle := hOK.le (Cert.Offs.at2 b 0)
      have e1 := BitVec.toInt_eq_toNat_cond (x4 (Cert.Offs.at2 b 0))
      have e2 := BitVec.toInt_eq_toNat_cond (BitVec.ofNat 32 r.val)
      rw [BitVec.toNat_ofNat] at e2
      split at e1 <;> split at e2 <;> omega
    · have := IntOp.cmpi_sge.1 hr
      rw [er, hb (Fin.last 256) 256 rfl] at this
      have hle := hOK.le (Cert.Offs.at2 b (Fin.last 256))
      have e1 := BitVec.toInt_eq_toNat_cond (x4 (Cert.Offs.at2 b (Fin.last 256)))
      have e2 := BitVec.toInt_eq_toNat_cond (BitVec.ofNat 32 r.val)
      rw [BitVec.toNat_ofNat] at e2
      split at e1 <;> split at e2 <;> omega
  · have := cmpf_ogt hr
    rw [Cert.ReferenceIdeal.Hand.sq_apply] at this
    exact lt_of_eq_of_lt Ideal.ofBits_zero_f32.symm this

end Cert.PreValue
-- ==== Proof.RefDocs.lean ====
/-
  The reference's results: a row belongs to the document whose number is one less than the count of offsets up to it,
  which, the offsets rising, is the document the row lies in; so the maxima are the documents' best scores.
-/
module

public import proofs.«01_k».proof.Proof.RefRow
public import Idealize.ShloMosaic.Lib.IndicatorCount

@[expose] public section

noncomputable section

namespace Cert.ReferenceIdeal.Hand

open Cert.ReferenceIdeal Cert.ReferenceIdeal.Gen Cert.ReferenceIdeal.Read Idealize.ShloMosaic.ValueIdx Idealize.ShloMosaic.StableHlo
open Idealize.ShloMosaic hiding ix1 ix2 ix3 ix4
open Cert.Offs (at2)

/-- A lower set of offsets ends at `d` exactly if it has `d + 1` members. -/
theorem card_iff (p : Fin 257 → Prop) [DecidablePred p] (hp : ∀ n n' : Fin 257, n ≤ n' → p n' → p n) (d : Fin 256) :
    (Finset.univ.filter p).card = d.val + 1 ↔ p d.castSucc ∧ ¬ p d.succ := by
  constructor
  · intro h
    constructor
    · by_contra hn
      have : Finset.univ.filter p ⊆ Finset.Iio d.castSucc := fun n hm => by
        rw [Finset.mem_Iio]; by_contra hl
        exact hn (hp _ _ (not_lt.1 hl) (Finset.mem_filter.1 hm).2)
      have := Finset.card_le_card this
      rw [h, Fin.card_Iio] at this
      simp at this
    · intro hs
      have : Finset.Iic d.succ ⊆ Finset.univ.filter p := fun n hm => Finset.mem_filter.2 ⟨Finset.mem_univ _, hp _ _ (Finset.mem_Iic.1 hm) hs⟩
      have := Finset.card_le_card this
      rw [h, Fin.card_Iic] at this
      simp at this
  · rintro ⟨h1, h2⟩
    have : Finset.univ.filter p = Finset.Iic d.castSucc := by
      ext n
      rw [Finset.mem_filter, Finset.mem_Iic]
      refine ⟨fun h => ?_, fun h => ⟨Finset.mem_univ _, hp _ _ h h1⟩⟩
      by_contra hl
      have : d.succ ≤ n := by
        have := not_le.1 hl
        rw [Fin.lt_def] at this; rw [Fin.le_def]; simp at this ⊢; omega
      exact h2 (hp _ _ this h.2)
    rw [this, Fin.card_Iic]; simp

/-- A row number as a word is its number. -/
theorem sle_row {x : BitVec 32} {r : ℕ} (hx : x.toNat ≤ 46080) (hr : r < 46080) : x.toInt ≤ (BitVec.ofNat 32 r).toInt ↔ x.toNat ≤ r := by
  rw [BitVec.toInt_eq_toNat_of_lt (by omega), BitVec.toInt_eq_toNat_of_lt (by rw [BitVec.toNat_ofNat]; omega), BitVec.toNat_ofNat, Nat.mod_eq_of_lt (by omega)]
  omega
/-- The count of offsets up to a row. -/
theorem count_apply (x4 : Cert.Spec.O) (h : Cert.Offs.OK x4) (b : Fin 52) (r : Fin 46080) :
    val_main_v139 (F := Ideal) x4 (ix2 b r) = BitVec.ofNat 32 (Finset.univ.filter fun n : Fin 257 => (x4 (at2 b n)).toNat ≤ r.val).card := by
  unfold val_main_v139
  have hR : S52x257x46080.Reduces [1] S52x46080 := by decide
  rw [Host.reduce_eq_fold_single _ _ _ _ hR]
  have e : (val_main_call12_call0_v6 (F := Ideal) x4) ∘ hR.lift (ix2 b r) = fun n : Fin 257 => (val_main_call12_call0_v5 (F := Ideal) x4 (ix3 b n r)).setWidth 32 := by
    funext n
    show val_main_call12_call0_v6 (F := Ideal) x4 _ = val_main_call12_call0_v6 (F := Ideal) x4 _
    exact congrArg _ (funext fun a => Fin.ext (by match a with | ⟨0, _⟩ => rfl | ⟨1, _⟩ => rfl | ⟨2, _⟩ => rfl))
  rw [e]
  refine (IndicatorCount.fold_addi_setWidth_eq_card (w := 32) (fun n : Fin 257 => val_main_call12_call0_v5 (F := Ideal) x4 (ix3 b n r)) Finset.univ).trans ?_
  refine congrArg (fun s : Finset (Fin 257) => BitVec.ofNat 32 s.card) (Finset.filter_congr fun n _ => ?_)
  rw [val_main_call12_call0_v5_apply, val_main_call12_call0_v3_apply, val_main_call12_call0_v1_apply, val_main_call12_call0_v4_apply, val_main_call12_call0_v2_apply,
    val_main_call12_call0_v0_apply, val_main_v138_apply, IntOp.cmpi_sle]
  have ej : ∀ j : S52x257.Idx, (j 0).val = b.val → (j 1).val = n.val → x4 j = x4 (at2 b n) := fun j h0 h1 =>
    congrArg x4 (funext fun a => Fin.ext (by match a with | ⟨0, _⟩ => exact h0 | ⟨1, _⟩ => exact h1))
  rw [ej _ rfl rfl]
  exact sle_row (h.le _) r.isLt

/-- The offsets rise. -/
theorem mono {x4 : Cert.Spec.O} (h : Cert.Offs.OK x4) (b : Fin 52) : Monotone fun n : Fin 257 => (x4 (at2 b n)).toNat :=
  Fin.monotone_iff_le_succ.2 fun d => (h.step b d).1
/-- The reference's membership is the row's lying in the document. -/
theorem member_apply (x4 : Cert.Spec.O) (h : Cert.Offs.OK x4) (b : Fin 52) (d : Fin 256) (r : Fin 46080) :
    val_main_v147 (F := Ideal) x4 (ix3 b d r) = 1#1 ↔ Cert.Spec.InDoc x4 b d r := by
  rw [val_main_v147_apply, val_main_v145_apply, val_main_v142_apply, val_main_v141_apply, val_main_v140_apply, val_main_c_27_apply,
    val_main_v146_apply, val_main_v144_apply, val_main_v143_apply]
  have e : ∀ j : S52x46080.Idx, (j 0).val = b.val → (j 1).val = r.val → j = ix2 b r := fun j h0 h1 =>
    funext fun a => Fin.ext (by match a with | ⟨0, _⟩ => exact h0 | ⟨1, _⟩ => exact h1)
  rw [e (idx_main_v142 _) rfl rfl, count_apply x4 h, IntOp.cmpi_eq]
  have hc := Finset.card_filter_le (Finset.univ : Finset (Fin 257)) (fun n => (x4 (at2 b n)).toNat ≤ r.val)
  rw [Finset.card_univ, Fintype.card_fin] at hc
  have key : ∀ N : ℕ, N ≤ 257 → (IntOp.subi (BitVec.ofNat 32 N) 1#32 = BitVec.ofNat 32 d.val ↔ N = d.val + 1) := fun N hN => by
    have hd := d.isLt
    constructor
    · intro e
      have e' := congrArg BitVec.toNat e
      simp only [IntOp.subi, BitVec.toNat_sub, BitVec.toNat_ofNat] at e'
      omega
    · rintro rfl
      apply BitVec.eq_of_toNat_eq
      simp only [IntOp.subi, BitVec.toNat_sub, BitVec.toNat_ofNat]
      omega
  refine (key _ hc).trans ((card_iff _ (fun n n' hn hp => le_trans (mono h b hn) hp) d).trans ?_)
  unfold Cert.Spec.InDoc
  rw [not_le]

/-- The word of minus infinity is the least number. -/
theorem ofBits_ninf : FloatOps.ofBits (F := Ideal) .f32 0xFF800000#32 = ⊥ := by simp [Ideal.ofBits, Ideal.ieee]

/-- A maximum is at most what every element and the start are. -/
theorem fold_le {n : ℕ} (f : Fin n → EReal) (b x : EReal) :
    (Finset.univ : Finset (Fin n)).fold (FloatOps.maximumf (F := Ideal) (φ := .f32)) b f ≤ x ↔ b ≤ x ∧ ∀ r, f r ≤ x := by
  refine (Finset.fold_max_le (s := (Finset.univ : Finset (Fin n))) (f := f) (b := b) x).trans ?_
  simp only [Finset.mem_univ, forall_const]

/-- Folding the greater over choices between a value and the least number is bounded by what bounds the values chosen. -/
theorem fold_select_le {n : ℕ} (f : Fin n → EReal) (p : Fin n → BitVec 1) (v : Fin n → EReal) (hf : ∀ r, f r = Scalar.select (p r) (v r) ⊥) (b x : EReal) (hb : b = ⊥) :
    (Finset.univ : Finset (Fin n)).fold (FloatOps.maximumf (F := Ideal) (φ := .f32)) b f ≤ x ↔ ∀ r, p r = 1#1 → v r ≤ x := by
  rw [fold_le, hb]
  constructor
  · rintro ⟨_, hx⟩ r hd
    have := hx r
    rw [hf, hd] at this
    exact this
  · intro hx
    refine ⟨bot_le, fun r => ?_⟩
    rw [hf]
    rcases BitVec.eq_zero_or_eq_one (p r) with hm | hm
    · rw [hm]; exact bot_le
    · rw [hm]; exact hx _ hm

/-- A row's score where the row is the document's, the least number elsewhere. -/
theorem masked_apply (x0 : Cert.Spec.Q) (x1 : Cert.Spec.C) (x2 : Cert.Spec.W) (x3 : Cert.Spec.Y) (x4 : Cert.Spec.O)
    (b : Fin 52) (d : Fin 256) (q : Fin 48) (r : Fin 46080) :
    val_main_v150 (F := Ideal) x0 x1 x2 x3 x4 (ix4 b d r q)
      = Scalar.select (val_main_v147 (F := Ideal) x4 (ix3 b d r)) (Cert.Spec.score x0 x1 x2 x3 b q r) ⊥ := by
  rw [val_main_v150_apply, val_main_call13_v1_apply, val_main_v148_apply, val_main_call13_v2_apply, val_main_v149_apply, val_main_call13_v3_apply,
    val_main_call13_v0_apply, val_main_cst_28_apply, ofBits_ninf, ← score_apply]
  have e1 : ∀ j : S52x256x46080.Idx, (∀ a, (j a).val = ((ix3 b d r : S52x256x46080.Idx) a).val) → j = ix3 b d r := fun j e => funext fun a => Fin.ext (e a)
  have e2 : ∀ j : S52x46080x48.Idx, (∀ a, (j a).val = ((ix3 b r q : S52x46080x48.Idx) a).val) → j = ix3 b r q := fun j e => funext fun a => Fin.ext (e a)
  rw [e1 (idx_main_v148 _) (fun a => by match a with | ⟨0, _⟩ => rfl | ⟨1, _⟩ => rfl | ⟨2, _⟩ => rfl),
    e2 (idx_main_v149 _) (fun a => by match a with | ⟨0, _⟩ => rfl | ⟨1, _⟩ => rfl | ⟨2, _⟩ => rfl)]

/-- Taking the greatest along the third of four axes, as a fold. -/
theorem reduce_apply {A B n D : ℕ} {u : Shape} (y : FVec Ideal ⟨4, ![A, B, n, D]⟩ .f32) (z : FVec Ideal u .f32)
    (h' : Shape.ReducesTo ⟨4, ![A, B, n, D]⟩ [2] ⟨3, ![A, B, D]⟩) (hR : Shape.Reduces ⟨4, ![A, B, n, D]⟩ [2] ⟨3, ![A, B, D]⟩) (hu : 0 < u.numel)
    (b : Fin A) (d : Fin B) (q : Fin D) :
    Host.reduce FloatOps.maximumf y z h' hu (ix3 b d q)
      = (Finset.univ : Finset (Fin n)).fold (FloatOps.maximumf (F := Ideal) (φ := .f32)) (z (Shape.Idx.first hu)) (fun r => y (ix4 b d r q)) := by
  rw [Host.reduce_eq_fold_single _ _ _ _ hR]
  have el : ∀ r : Fin n, hR.lift (ix3 b d q) r = (ix4 b d r q : (⟨4, ![A, B, n, D]⟩ : Shape).Idx) := fun r =>
    funext fun a => Fin.ext (by match a with | ⟨0, _⟩ => rfl | ⟨1, _⟩ => rfl | ⟨2, _⟩ => rfl | ⟨3, _⟩ => rfl)
  exact congrArg (fun f : Fin n → EReal => (Finset.univ : Finset (Fin n)).fold (FloatOps.maximumf (F := Ideal) (φ := .f32)) (z (Shape.Idx.first hu)) f)
    (funext fun r => congrArg y (el r))

/-- The documents' best scores. -/
theorem tok_apply (x0 : Cert.Spec.Q) (x1 : Cert.Spec.C) (x2 : Cert.Spec.W) (x3 : Cert.Spec.Y) (x4 : Cert.Spec.O) (h : Cert.Offs.OK x4)
    (b : Fin 52) (d : Fin 256) (q : Fin 48) :
    val_main_v151 (F := Ideal) x0 x1 x2 x3 x4 (ix3 b d q) = Cert.Spec.tok x0 x1 x2 x3 x4 b q d := by
  refine Cert.Spec.eq_tok fun x => ?_
  have hr := masked_apply x0 x1 x2 x3 x4 b d q
  unfold val_main_v151
  generalize val_main_v150 (F := Ideal) x0 x1 x2 x3 x4 = y at hr ⊢
  have hR : S52x256x46080x48.Reduces [2] S52x256x48 := by decide
  rw [reduce_apply _ _ _ hR, fold_select_le _ _ _ hr _ _ (by rw [val_main_cst_29_apply, ofBits_ninf])]
  exact forall_congr' fun r => imp_congr_left (member_apply x4 h b d r)
/-- The first result. -/
theorem ref_tok (x0 : Cert.Spec.Q) (x1 : Cert.Spec.C) (x2 : Cert.Spec.W) (x3 : Cert.Spec.Y) (x4 : Cert.Spec.O) (h : Cert.Offs.OK x4)
    (i : S52x48x256.Idx) : val_main_v153 (F := Ideal) x0 x1 x2 x3 x4 i = Cert.Spec.tok x0 x1 x2 x3 x4 (i 0) (i 1) (i 2) := by
  rw [val_main_v153_apply]
  exact Eq.trans (congrArg (val_main_v151 (F := Ideal) x0 x1 x2 x3 x4) (funext fun a => Fin.ext (by match a with | ⟨0, _⟩ => rfl | ⟨1, _⟩ => rfl | ⟨2, _⟩ => rfl))) (tok_apply x0 x1 x2 x3 x4 h (i 0) (i 2) (i 1))
/-- The second result. -/
theorem ref_tot (x0 : Cert.Spec.Q) (x1 : Cert.Spec.C) (x2 : Cert.Spec.W) (x3 : Cert.Spec.Y) (x4 : Cert.Spec.O) (h : Cert.Offs.OK x4)
    (i : S52x1x256.Idx) : val_main_v154 (F := Ideal) x0 x1 x2 x3 x4 i = Cert.Spec.tot x0 x1 x2 x3 x4 (i 0) (i 2) := by
  rw [val_main_v154_apply, val_main_v152_apply, val_main_cst_30_apply, Ideal.ofBits_def, Ideal.ofBits_zero_f32, zero_add]
  refine Finset.sum_congr rfl fun q _ => ?_
  exact Eq.trans (congrArg (val_main_v151 (F := Ideal) x0 x1 x2 x3 x4) (funext fun a => Fin.ext (by match a with | ⟨0, _⟩ => rfl | ⟨1, _⟩ => rfl | ⟨2, _⟩ => rfl))) (tok_apply x0 x1 x2 x3 x4 h (i 0) (i 2) q)

end Cert.ReferenceIdeal.Hand

end
-- ==== Proof.lean ====
/-
  The claims, put together from the runs of the kernel (at the bits and at the ideal floats) and of the reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.PreFacts
public import proofs.«01_k».proof.Proof.K.Launch
public import proofs.«01_k».proof.Proof.KI.Launch
public import proofs.«01_k».proof.Proof.KI.Results
public import proofs.«01_k».proof.Proof.PreValue
public import proofs.«01_k».proof.Proof.RefDocs
public import Idealize.ShloMosaic.Adequacy
public import Idealize.ShloMosaic.Init

@[expose] public section

noncomputable section

namespace Cert.Proof

open Idealize.ShloMosaic Idealize.SL.Sem

/-- The precondition's stated facts. -/
instance : Cert.Pre_pre.Facts := Cert.Pre_pre.facts

/-- The stated facts of the value claim's precondition. -/
instance : Cert.Pre_pre_value.Facts := Cert.Pre_pre_value.facts

/-- The precondition, as the kernel's run uses it (at the bits). -/
theorem pre_K (m : (ℓ : Loc Cert.Kernel.nD Cert.Kernel.τ Cert.Kernel.sig) → Buf (Elt Bits) ℓ) (h : Cert.Pre_Kernel m) :
    Cert.Kernel.Hand.PreOK m :=
  fun c => Cert.Offs.ok_of_pre _ _ _ _ _ (h c)

/-- The precondition, as the kernel's run uses it (at the ideal floats). -/
theorem pre_KI (m : (ℓ : Loc Cert.KernelIdeal.nD Cert.KernelIdeal.τ Cert.KernelIdeal.sig) → Buf (Elt Ideal) ℓ) (h : Cert.Pre_KernelIdeal m) :
    Cert.KernelIdeal.Hand.PreOK m :=
  fun c => Cert.Offs.ok_of_pre _ _ _ _ _ (h c)

/-- The kernel's frame. -/
theorem frame_K : Cert.quiescent_Kernel := fun m g h => Cert.Kernel.Hand.frame_main m g (pre_K m h)

/-- The idealized kernel's frame. -/
theorem frame_KI : Cert.quiescent_KernelIdeal := fun m g h => Cert.KernelIdeal.Hand.frame_main m g (pre_KI m h)

/-- The reference's frame: it is a straight line of host operations and declares no semaphore. -/
theorem frame_RI : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The value claim's precondition gives the offsets as the kernel's run uses them. -/
theorem preValue_KI (m : (ℓ : Loc Cert.KernelIdeal.nD Cert.KernelIdeal.τ Cert.KernelIdeal.sig) → Buf (Elt Ideal) ℓ)
    (h : Cert.Pre_KernelIdeal_pre_value m) : Cert.KernelIdeal.Hand.PreOK m :=
  fun c => (Cert.PreValue.of_pre _ _ _ _ _ (h c)).1

/-- The value claim's precondition gives the rows of the documents squared lengths above zero. -/
theorem pos_KI (m : (ℓ : Loc Cert.KernelIdeal.nD Cert.KernelIdeal.τ Cert.KernelIdeal.sig) → Buf (Elt Ideal) ℓ)
    (h : Cert.Pre_KernelIdeal_pre_value m) : Cert.KernelIdeal.Hand.Pos m :=
  fun c => (Cert.PreValue.of_pre _ _ _ _ _ (h c)).2

/-- The idealized kernel's frame under the value claim's precondition. -/
theorem frame_KI_value : Cert.quiescent_KernelIdeal_pre_pre_value :=
  fun m g h => Cert.KernelIdeal.Hand.frame_main m g (preValue_KI m h)

/-- The reference's frame under the value claim's precondition, which it does not need. -/
theorem frame_RI_value : Cert.quiescent_ReferenceIdeal_pre_pre_value := fun m ρ _ => frame_RI m ρ trivial

section Values

variable (m : (ℓ : Loc Cert.KernelIdeal.nD Cert.KernelIdeal.τ Cert.KernelIdeal.sig) → Buf (Elt Ideal) ℓ)
  (h : Cert.Pre_KernelIdeal_pre_value m)

include h in
/-- The reference's first result, from arguments equal to the kernel's: the maximum of each document for each query
token, as the kernel leaves it. -/
theorem tok_eq (c : Dev Cert.KernelIdeal.nD) :
    Cert.ReferenceIdeal.Read.val_main_v153 (F := Ideal) (m (c.tc.loc Cert.KernelIdeal.main_arg0)) (m (c.tc.loc Cert.KernelIdeal.main_arg1))
        (m (c.tc.loc Cert.KernelIdeal.main_arg2)) (m (c.tc.loc Cert.KernelIdeal.main_arg3)) (m (c.tc.loc Cert.KernelIdeal.main_arg4))
      = Cert.KernelIdeal.Hand.tokG m c :=
  funext fun i => Cert.ReferenceIdeal.Hand.ref_tok _ _ _ _ _ (preValue_KI m h c) i

include h in
/-- The reference's second result likewise: the sum of the maxima over the query's tokens. -/
theorem tot_eq (c : Dev Cert.KernelIdeal.nD) :
    Cert.ReferenceIdeal.Read.val_main_v154 (F := Ideal) (m (c.tc.loc Cert.KernelIdeal.main_arg0)) (m (c.tc.loc Cert.KernelIdeal.main_arg1))
        (m (c.tc.loc Cert.KernelIdeal.main_arg2)) (m (c.tc.loc Cert.KernelIdeal.main_arg3)) (m (c.tc.loc Cert.KernelIdeal.main_arg4))
      = Cert.KernelIdeal.Hand.totG m c :=
  funext fun i => Cert.ReferenceIdeal.Hand.ref_tot _ _ _ _ _ (preValue_KI m h c) i

end Values

/-- The value claim: the kernel's two results are the reference's. -/
theorem algebraic : Cert.algebraic_KernelIdeal_ReferenceIdeal_pre_pre_value := by
  intro m g m' g' hpre hargs
  refine ⟨Cert.KernelIdeal.Hand.tokG m, Cert.KernelIdeal.Hand.totG m, ?_, ?_⟩
  · refine (θ_run Cert.KernelIdeal.defs _ _).mono (fun r hh c => ?_) (Cert.KernelIdeal.Hand.run_args m g (preValue_KI m hpre))
    obtain ⟨e0, e1⟩ := Cert.KernelIdeal.Hand.results c (preValue_KI m hpre) (pos_KI m hpre) r hh.1
    exact ⟨e0, e1, hh.2 c⟩
  · refine (θ_run Cert.ReferenceIdeal.defs _ _).mono (fun r hh c => ?_) (Cert.ReferenceIdeal.Value.run (F := Ideal) m' g')
    obtain ⟨a0, a1, a2, a3, a4⟩ := hargs c
    obtain ⟨e0, e1, hrest⟩ := hh c
    refine ⟨(e0.trans (Cert.ReferenceIdeal.Read.val_main_v153_eq _)).trans ?_, (e1.trans (Cert.ReferenceIdeal.Read.val_main_v154_eq _)).trans ?_, hrest⟩
    · refine Eq.trans ?_ (tok_eq m hpre c)
      exact congr (congr (congr (congr (congrArg (Cert.ReferenceIdeal.Read.val_main_v153 (F := Ideal)) a0) a1) a2) a3) a4
    · refine Eq.trans ?_ (tot_eq m hpre c)
      exact congr (congr (congr (congr (congrArg (Cert.ReferenceIdeal.Read.val_main_v154 (F := Ideal)) a0) a1) a2) a3) a4

/-- All the claims. -/
theorem claim : Cert.Claim :=
  ⟨Cert.Kernel.Gen.facts, Cert.KernelIdeal.Gen.facts, Cert.ReferenceIdeal.Gen.facts, Cert.Pre_pre.facts,
    Cert.Pre_pre_value.facts, frame_K, frame_KI, frame_KI_value, frame_RI, frame_RI_value, trivial, algebraic⟩

end Cert.Proof

end
